-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_on_whole_blocks [hKernel10Ideal : Cert.Kernel10Ideal.Facts] [hReference10Ideal : Cert.Reference10Ideal.Facts] [hOn_whole_blocks : Cert.On_whole_blocks.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          (∀ i : (⟨3, ![2, 512, 512]⟩ : Shape).Idx, (Cert.On_whole_blocks.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) i = 1#1 → r.2.mem ((c.tc : Thread Cert.Kernel10Ideal.nD Cert.Kernel10Ideal.τ).loc Cert.Kernel10Ideal.main_v7) i = v0 c i)
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          (∀ i : (⟨3, ![2, 512, 512]⟩ : Shape).Idx, (Cert.On_whole_blocks.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) i = 1#1 → r.2.mem ((c.tc : Thread Cert.Reference10Ideal.nD Cert.Reference10Ideal.τ).loc Cert.Reference10Ideal.main_v39) i = v0 c i)
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_on_whole_blocks [hKernel11Ideal : Cert.Kernel11Ideal.Facts] [hReference11Ideal : Cert.Reference11Ideal.Facts] [hOn_whole_blocks : Cert.On_whole_blocks.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          (∀ i : (⟨3, ![2, 512, 512]⟩ : Shape).Idx, (Cert.On_whole_blocks.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) i = 1#1 → r.2.mem ((c.tc : Thread Cert.Kernel11Ideal.nD Cert.Kernel11Ideal.τ).loc Cert.Kernel11Ideal.main_v7) i = v0 c i)
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          (∀ i : (⟨3, ![2, 512, 512]⟩ : Shape).Idx, (Cert.On_whole_blocks.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) i = 1#1 → r.2.mem ((c.tc : Thread Cert.Reference11Ideal.nD Cert.Reference11Ideal.τ).loc Cert.Reference11Ideal.main_v39) i = v0 c i)
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hOn_whole_blocks : Cert.On_whole_blocks.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_on_whole_blocks (hKernel10Ideal := hKernel10Ideal) (hReference10Ideal := hReference10Ideal) (hOn_whole_blocks := hOn_whole_blocks)
    ∧ preserves_Kernel11_Kernel11Ideal
    ∧ algebraic_Kernel11Ideal_Reference11Ideal_on_whole_blocks (hKernel11Ideal := hKernel11Ideal) (hReference11Ideal := hReference11Ideal) (hOn_whole_blocks := hOn_whole_blocks)
    ∧ preserves_Kernel12_Kernel12Ideal
    ∧ algebraic_Kernel12Ideal_Reference12Ideal (hKernel12Ideal := hKernel12Ideal) (hReference12Ideal := hReference12Ideal)
-- ==== On_whole_blocks.lean ====
abbrev S16384x5120 : Shape := ⟨2, ![16384, 5120]⟩
abbrev S32x128 : Shape := ⟨2, ![32, 128]⟩
abbrev S32x128x128 : Shape := ⟨3, ![32, 128, 128]⟩
abbrev S128x128 : Shape := ⟨2, ![128, 128]⟩
abbrev S2x512x512 : Shape := ⟨3, ![2, 512, 512]⟩
abbrev S_ : Shape := ⟨0, ![]⟩

class Facts : Prop where
  bcast_S_S2x512x512 : S_.BroadcastsInDim S2x512x512 (![] : Fin 0 → Fin S2x512x512.rank)

variable [Facts]

def fn {F : FTy → Type} [FloatOps F] (main_arg0 : FVec F S16384x5120 .f32) (main_arg1 : FVec F S32x128 .f32) (main_arg2 : FVec F S32x128x128 .f32) (main_arg3 : FVec F S128x128 .f32) : IVec S2x512x512 1 :=
  let main_v0 : IVec S2x512x512 32 := iotaInDim S2x512x512 32 1
  let main_c : IVec S_ 32 := constantI S_ 32 511#32
  let main_v1 : IVec S2x512x512 32 := broadcastInDim S2x512x512 ![] bcast_S_S2x512x512 main_c
  let main_v2 : IVec S2x512x512 1 := cmpi .slt main_v0 main_v1
  main_v2
-- ==== Kernel.lean ====
abbrev S36864x2048 : Shape := ⟨2, ![36864, 2048]⟩
abbrev S8x2048x7168 : Shape := ⟨3, ![8, 2048, 7168]⟩
abbrev S8 : Shape := ⟨1, ![8]⟩
abbrev S_ : Shape := ⟨0, ![]⟩
abbrev S72 : Shape := ⟨1, ![72]⟩
abbrev S1x8 : Shape := ⟨2, ![1, 8]⟩
abbrev S72x1 : Shape := ⟨2, ![72, 1]⟩
abbrev S72x8 : Shape := ⟨2, ![72, 8]⟩
abbrev S1 : Shape := ⟨1, ![1]⟩
abbrev S36864x7168 : Shape := ⟨2, ![36864, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 54
  | .vmem => 8
  | .smem => 2
  | _ => 0

abbrev bufTy : (tb : Table) → Fin (tcTables nBuf tb) → BufTy
  | .hbm, ⟨0, _⟩ => ⟨S36864x2048, .f32⟩
  | .hbm, ⟨1, _⟩ => ⟨S8x2048x7168, .f32⟩
  | .hbm, ⟨2, _⟩ => ⟨S8x2048x7168, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S_, .i32⟩
  | .hbm, ⟨33, _⟩ => ⟨S8, .i32⟩
  | .hbm, ⟨34, _⟩ => ⟨S72, .i32⟩
  | .hbm, ⟨35, _⟩ => ⟨S_, .i32⟩
  | .hbm, ⟨36, _⟩ => ⟨S72, .i32⟩
  | .hbm, ⟨37, _⟩ => ⟨S72, .i32⟩
  | .hbm, ⟨38, _⟩ => ⟨S1x8, .i32⟩
  | .hbm, ⟨39, _⟩ => ⟨S72x1, .i32⟩
  | .hbm, ⟨40, _⟩ => ⟨S72x8, .i32⟩
  | .hbm, ⟨41, _⟩ => ⟨S72x8, .i32⟩
  | .hbm, ⟨42, _⟩ => ⟨S72x8, .i1⟩
  | .hbm, ⟨43, _⟩ => ⟨S72x8, .i32⟩
  | .hbm, ⟨44, _⟩ => ⟨S_, .i32⟩
  | .hbm, ⟨45, _⟩ => ⟨S72, .i32⟩
  | .hbm, ⟨46, _⟩ => ⟨S_, .i32⟩
  | .hbm, ⟨47, _⟩ => ⟨S72, .i32⟩
  | .hbm, ⟨48, _⟩ => ⟨S1, .i32⟩
  | .hbm, ⟨49, _⟩ => ⟨S_, .i32⟩
  | .hbm, ⟨50, _⟩ => ⟨S72, .i32⟩
  | .hbm, ⟨51, _⟩ => ⟨S72, .i1⟩
  | .hbm, ⟨52, _⟩ => ⟨S36864x2048, .bf16⟩
  | .hbm, ⟨53, _⟩ => ⟨S36864x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .smem, ⟨0, _⟩ => ⟨S72, .i32⟩
  | .local _ .smem, ⟨1, _⟩ => ⟨S72, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v25 : Ref sig .tc := ⟨.hbm, 52, rfl⟩
abbrev main_v26 : Ref sig .tc := ⟨.hbm, 53, rfl⟩
abbrev main_v19 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 72], ![false, false]⟩

abbrev pre0 : Pipeline.Prefetch sig := ⟨2, ![main_v19.idx, main_v24.idx], fun | 0 => main_v19.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S36864x2048 : Shape := ⟨2, ![36864, 2048]⟩
abbrev S8x2048x7168 : Shape := ⟨3, ![8, 2048, 7168]⟩
abbrev S8 : Shape := ⟨1, ![8]⟩
abbrev S_ : Shape := ⟨0, ![]⟩
abbrev S72 : Shape := ⟨1, ![72]⟩
abbrev S1x8 : Shape := ⟨2, ![1, 8]⟩
abbrev S72x1 : Shape := ⟨2, ![72, 1]⟩
abbrev S72x8 : Shape := ⟨2, ![72, 8]⟩
abbrev S1 : Shape := ⟨1, ![1]⟩
abbrev S72x512x2048 : Shape := ⟨3, ![72, 512, 2048]⟩
abbrev S72x2048x7168 : Shape := ⟨3, ![72, 2048, 7168]⟩
abbrev S72x512x7168 : Shape := ⟨3, ![72, 512, 7168]⟩
abbrev S72x1x1 : Shape := ⟨3, ![72, 1, 1]⟩
abbrev S36864x7168 : Shape := ⟨2, ![36864, 7168]⟩

abbrev nBuf : Space → Nat
  | .hbm => 92
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S8x2048x7168, .f32⟩
  | .hbm, ⟨2, _⟩ => ⟨S8x2048x7168, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S_, .i32⟩
  | .hbm, ⟨33, _⟩ => ⟨S8, .i32⟩
  | .hbm, ⟨34, _⟩ => ⟨S72, .i32⟩
  | .hbm, ⟨35, _⟩ => ⟨S_, .i32⟩
  | .hbm, ⟨36, _⟩ => ⟨S72, .i32⟩
  | .hbm, ⟨37, _⟩ => ⟨S72, .i32⟩
  | .hbm, ⟨38, _⟩ => ⟨S1x8, .i32⟩
  | .hbm, ⟨39, _⟩ => ⟨S72x1, .i32⟩
  | .hbm, ⟨40, _⟩ => ⟨S72x8, .i32⟩
  | .hbm, ⟨41, _⟩ => ⟨S72x8, .i32⟩
  | .hbm, ⟨42, _⟩ => ⟨S72x8, .i1⟩
  | .hbm, ⟨43, _⟩ => ⟨S72x8, .i32⟩
  | .hbm, ⟨44, _⟩ => ⟨S_, .i32⟩
  | .hbm, ⟨45, _⟩ => ⟨S72, .i32⟩
  | .hbm, ⟨46, _⟩ => ⟨S_, .i32⟩
  | .hbm, ⟨47, _⟩ => ⟨S72, .i32⟩
  | .hbm, ⟨48, _⟩ => ⟨S72, .i32⟩
  | .hbm, ⟨49, _⟩ => ⟨S1, .i32⟩
  | .hbm, ⟨50, _⟩ => ⟨S_, .i32⟩
  | .hbm, ⟨51, _⟩ => ⟨S72, .i32⟩
  | .hbm, ⟨52, _⟩ => ⟨S72, .i1⟩
  | .hbm, ⟨53, _⟩ => ⟨S72x512x2048, .f32⟩
  | .hbm, ⟨54, _⟩ => ⟨S_, .i32⟩
  | .hbm, ⟨55, _⟩ => ⟨S72, .i32⟩
  | .hbm, ⟨56, _⟩ => ⟨S72, .i1⟩
  | .hbm, ⟨57, _⟩ => ⟨S_, .i32⟩
  | .hbm, ⟨58, _⟩ => ⟨S72, .i32⟩
  | .hbm, ⟨59, _⟩ => ⟨S72, .i32⟩
  | .hbm, ⟨60, _⟩ => ⟨S72, .i32⟩
  | .hbm, ⟨61, _⟩ => ⟨S72x1, .i32⟩
  | .hbm, ⟨62, _⟩ => ⟨S72x2048x7168, .f32⟩
  | .hbm, ⟨63, _⟩ => ⟨S72x512x7168, .f32⟩
  | .hbm, ⟨64, _⟩ => ⟨S_, .i32⟩
  | .hbm, ⟨65, _⟩ => ⟨S72, .i32⟩
  | .hbm, ⟨66, _⟩ => ⟨S72, .i1⟩
  | .hbm, ⟨67, _⟩ => ⟨S_, .i32⟩
  | .hbm, ⟨68, _⟩ => ⟨S72, .i32⟩
  | .hbm, ⟨69, _⟩ => ⟨S72, .i32⟩
  | .hbm, ⟨70, _⟩ => ⟨S72, .i32⟩
  | .hbm, ⟨71, _⟩ => ⟨S72x1, .i32⟩
  | .hbm, ⟨72, _⟩ => ⟨S72x2048x7168, .f32⟩
  | .hbm, ⟨73, _⟩ => ⟨S72x512x7168, .f32⟩
  | .hbm, ⟨74, _⟩ => ⟨S72x512x7168, .f32⟩
  | .hbm, ⟨75, _⟩ => ⟨S72x512x7168, .f32⟩
  | .hbm, ⟨76, _⟩ => ⟨S_, .f32⟩
  | .hbm, ⟨77, _⟩ => ⟨S72x512x7168, .f32⟩
  | .hbm, ⟨78, _⟩ => ⟨S72x512x7168, .f32⟩
  | .hbm, ⟨79, _⟩ => ⟨S_, .f32⟩
  | .hbm, ⟨80, _⟩ => ⟨S72x512x7168, .f32⟩
  | .hbm, ⟨81, _⟩ => ⟨S72x512x7168, .f32⟩
  | .hbm, ⟨82, _⟩ => ⟨S72x512x7168, .f32⟩
  | .hbm, ⟨83, _⟩ => ⟨S72x512x7168, .f32⟩
  | .hbm, ⟨84, _⟩ => ⟨S72x1x1, .i1⟩
  | .hbm, ⟨85, _⟩ => ⟨S_, .f32⟩
  | .hbm, ⟨86, _⟩ => ⟨S_, .f32⟩
  | .hbm, ⟨87, _⟩ => ⟨S72x512x7168, .i1⟩
  | .hbm, ⟨88, _⟩ => ⟨S72x512x7168, .f32⟩
  | .hbm, ⟨89, _⟩ => ⟨S72x512x7168, .f32⟩
  | .hbm, ⟨90, _⟩ => ⟨S36864x7168, .f32⟩
  | .hbm, ⟨91, _⟩ => ⟨S36864x7168, .bf16⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_8 : Ref sig .tc := ⟨.hbm, 64, rfl⟩
abbrev main_v33 : Ref sig .tc := ⟨.hbm, 65, rfl⟩
abbrev main_v34 : Ref sig .tc := ⟨.hbm, 66, rfl⟩
abbrev main_c_9 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩

abbrev nD : Nat := 1
abbrev τ : Topo := Topo.v7x

variable {F : FTy → Type} [FloatOps F]
-- ==== Kernel2.lean ====
abbrev S36864x7168 : Shape := ⟨2, ![36864, 7168]⟩
abbrev S8x7168x2048 : Shape := ⟨3, ![8, 7168, 2048]⟩
abbrev S8 : Shape := ⟨1, ![8]⟩
abbrev S_ : Shape := ⟨0, ![]⟩
abbrev S72 : Shape := ⟨1, ![72]⟩
abbrev S1x8 : Shape := ⟨2, ![1, 8]⟩
abbrev S72x1 : Shape := ⟨2, ![72, 1]⟩
abbrev S72x8 : Shape := ⟨2, ![72, 8]⟩
abbrev S1 : Shape := ⟨1, ![1]⟩
abbrev S36864x2048 : Shape := ⟨2, ![36864, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩

abbrev nBuf : Space → Nat
  | .hbm => 53
  | .vmem => 6
  | .smem => 2
  | _ => 0

abbrev bufTy : (tb : Table) → Fin (tcTables nBuf tb) → BufTy
  | .hbm, ⟨0, _⟩ => ⟨S36864x7168, .f32⟩
  | .hbm, ⟨1, _⟩ => ⟨S8x7168x2048, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S_, .i32⟩
  | .hbm, ⟨32, _⟩ => ⟨S8, .i32⟩
  | .hbm, ⟨33, _⟩ => ⟨S72, .i32⟩
  | .hbm, ⟨34, _⟩ => ⟨S_, .i32⟩
  | .hbm, ⟨35, _⟩ => ⟨S72, .i32⟩
  | .hbm, ⟨36, _⟩ => ⟨S72, .i32⟩
  | .hbm, ⟨37, _⟩ => ⟨S1x8, .i32⟩
  | .hbm, ⟨38, _⟩ => ⟨S72x1, .i32⟩
  | .hbm, ⟨39, _⟩ => ⟨S72x8, .i32⟩
  | .hbm, ⟨40, _⟩ => ⟨S72x8, .i32⟩
  | .hbm, ⟨41, _⟩ => ⟨S72x8, .i1⟩
  | .hbm, ⟨42, _⟩ => ⟨S72x8, .i32⟩
  | .hbm, ⟨43, _⟩ => ⟨S_, .i32⟩
  | .hbm, ⟨44, _⟩ => ⟨S72, .i32⟩
  | .hbm, ⟨45, _⟩ => ⟨S_, .i32⟩
  | .hbm, ⟨46, _⟩ => ⟨S72, .i32⟩
  | .hbm, ⟨47, _⟩ => ⟨S1, .i32⟩
  | .hbm, ⟨48, _⟩ => ⟨S_, .i32⟩
  | .hbm, ⟨49, _⟩ => ⟨S72, .i32⟩
  | .hbm, ⟨50, _⟩ => ⟨S72, .i1⟩
  | .hbm, ⟨51, _⟩ => ⟨S36864x7168, .bf16⟩
  | .hbm, ⟨52, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .smem, ⟨0, _⟩ => ⟨S72, .i32⟩
  | .local _ .smem, ⟨1, _⟩ => ⟨S72, .i32⟩
  | _, _ => ⟨S36864x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_call1_call0_c : Ref sig .tc := ⟨.hbm, 30, rfl⟩
abbrev main_call1_call0_v0 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_c_5 : Ref sig .tc := ⟨.hbm, 45, rfl⟩
abbrev main_v18 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v25 : Ref sig .tc := ⟨.hbm, 51, rfl⟩
abbrev main_v26 : Ref sig .tc := ⟨.hbm, 52, rfl⟩
abbrev main_v19 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_v19.idx, main_v24.idx], fun | 0 => main_v19.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S36864x7168 : Shape := ⟨2, ![36864, 7168]⟩
abbrev S8x7168x2048 : Shape := ⟨3, ![8, 7168, 2048]⟩
abbrev S8 : Shape := ⟨1, ![8]⟩
abbrev S_ : Shape := ⟨0, ![]⟩
abbrev S72 : Shape := ⟨1, ![72]⟩
abbrev S1x8 : Shape := ⟨2, ![1, 8]⟩
abbrev S72x1 : Shape := ⟨2, ![72, 1]⟩
abbrev S72x8 : Shape := ⟨2, ![72, 8]⟩
abbrev S1 : Shape := ⟨1, ![1]⟩
abbrev S72x512x7168 : Shape := ⟨3, ![72, 512, 7168]⟩
abbrev S72x7168x2048 : Shape := ⟨3, ![72, 7168, 2048]⟩
abbrev S72x512x2048 : Shape := ⟨3, ![72, 512, 2048]⟩
abbrev S72x1x1 : Shape := ⟨3, ![72, 1, 1]⟩
abbrev S36864x2048 : Shape := ⟨2, ![36864, 2048]⟩

abbrev nBuf : Space → Nat
  | .hbm => 70
  | .vmem => 0
  | .smem => 0
  | _ => 0

abbrev bufTy : (tb : Table) → Fin (tcTables nBuf tb) → BufTy
  | .hbm, ⟨0, _⟩ => ⟨S36864x7168, .f32⟩
  | .hbm, ⟨1, _⟩ => ⟨S8x7168x2048, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S_, .i32⟩
  | .hbm, ⟨32, _⟩ => ⟨S8, .i32⟩
  | .hbm, ⟨33, _⟩ => ⟨S72, .i32⟩
  | .hbm, ⟨34, _⟩ => ⟨S_, .i32⟩
  | .hbm, ⟨35, _⟩ => ⟨S72, .i32⟩
  | .hbm, ⟨36, _⟩ => ⟨S72, .i32⟩
  | .hbm, ⟨37, _⟩ => ⟨S1x8, .i32⟩
  | .hbm, ⟨38, _⟩ => ⟨S72x1, .i32⟩
  | .hbm, ⟨39, _⟩ => ⟨S72x8, .i32⟩
  | .hbm, ⟨40, _⟩ => ⟨S72x8, .i32⟩
  | .hbm, ⟨41, _⟩ => ⟨S72x8, .i1⟩
  | .hbm, ⟨42, _⟩ => ⟨S72x8, .i32⟩
  | .hbm, ⟨43, _⟩ => ⟨S_, .i32⟩
  | .hbm, ⟨44, _⟩ => ⟨S72, .i32⟩
  | .hbm, ⟨45, _⟩ => ⟨S_, .i32⟩
  | .hbm, ⟨46, _⟩ => ⟨S72, .i32⟩
  | .hbm, ⟨47, _⟩ => ⟨S72, .i32⟩
  | .hbm, ⟨48, _⟩ => ⟨S1, .i32⟩
  | .hbm, ⟨49, _⟩ => ⟨S_, .i32⟩
  | .hbm, ⟨50, _⟩ => ⟨S72, .i32⟩
  | .hbm, ⟨51, _⟩ => ⟨S72, .i1⟩
  | .hbm, ⟨52, _⟩ => ⟨S72x512x7168, .f32⟩
  | .hbm, ⟨53, _⟩ => ⟨S_, .i32⟩
  | .hbm, ⟨54, _⟩ => ⟨S72, .i32⟩
  | .hbm, ⟨55, _⟩ => ⟨S72, .i1⟩
  | .hbm, ⟨56, _⟩ => ⟨S_, .i32⟩
  | .hbm, ⟨57, _⟩ => ⟨S72, .i32⟩
  | .hbm, ⟨58, _⟩ => ⟨S72, .i32⟩
  | .hbm, ⟨59, _⟩ => ⟨S72, .i32⟩
  | .hbm, ⟨60, _⟩ => ⟨S72x1, .i32⟩
  | .hbm, ⟨61, _⟩ => ⟨S72x7168x2048, .f32⟩
  | .hbm, ⟨62, _⟩ => ⟨S72x512x2048, .f32⟩
  | .hbm, ⟨63, _⟩ => ⟨S72x1x1, .i1⟩
  | .hbm, ⟨64, _⟩ => ⟨S_, .f32⟩
  | .hbm, ⟨65, _⟩ => ⟨S_, .f32⟩
  | .hbm, ⟨66, _⟩ => ⟨S72x512x2048, .i1⟩
  | .hbm, ⟨67, _⟩ => ⟨S72x512x2048, .f32⟩
  | .hbm, ⟨68, _⟩ => ⟨S72x512x2048, .f32⟩
  | .hbm, ⟨69, _⟩ => ⟨S36864x2048, .f32⟩
  | _, _ => ⟨S36864x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_c_2 : Ref sig .tc := ⟨.hbm, 27, rfl⟩
abbrev main_v5 : Ref sig .tc := ⟨.hbm, 28, rfl⟩
abbrev main_v6 : Ref sig .tc := ⟨.hbm, 29, rfl⟩
abbrev main_call1_call0_c : Ref sig .tc := ⟨.hbm, 30, rfl⟩
abbrev main_call1_call0_v0 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_c_5 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_c_7 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v34 : Ref sig .tc := ⟨.hbm, 68, rfl⟩
abbrev main_v35 : Ref sig .tc := ⟨.hbm, 69, rfl⟩

abbrev nD : Nat := 1
abbrev τ : Topo := Topo.v7x

variable {F : FTy → Type} [FloatOps F]
-- ==== Kernel3.lean ====
abbrev S16384x2048 : Shape := ⟨2, ![16384, 2048]⟩
abbrev S2048x5632 : Shape := ⟨2, ![2048, 5632]⟩
abbrev S16384x5632 : Shape := ⟨2, ![16384, 5632]⟩
abbrev S512x2048 : Shape := ⟨2, ![512, 2048]⟩
abbrev S2048x1408 : Shape := ⟨2, ![2048, 1408]⟩
abbrev S512x1408 : Shape := ⟨2, ![512, 1408]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S16384x2048, .bf16⟩
  | .hbm, ⟨4, _⟩ => ⟨S2048x5632, .bf16⟩
  | .hbm, ⟨5, _⟩ => ⟨S2048x5632, .bf16⟩
  | .hbm, ⟨6, _⟩ => ⟨S16384x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S512x1408, .bf16⟩
  | .local _ .vmem, ⟨7, _⟩ => ⟨S512x1408, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2048x5632 : Shape := ⟨2, ![2048, 5632]⟩
abbrev S16384x5632 : Shape := ⟨2, ![16384, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S16384x5632, .f32⟩
  | .hbm, ⟨4, _⟩ => ⟨S16384x5632, .f32⟩
  | .hbm, ⟨5, _⟩ => ⟨S16384x5632, .f32⟩
  | .hbm, ⟨6, _⟩ => ⟨S_, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S16384x5632, .f32⟩
  | .hbm, ⟨13, _⟩ => ⟨S16384x5632, .f32⟩
  | .hbm, ⟨14, _⟩ => ⟨S16384x5632, .f32⟩
  | .hbm, ⟨15, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel4.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S1x2048 : Shape := ⟨2, ![1, 2048]⟩
abbrev S256x2816 : Shape := ⟨2, ![256, 2816]⟩
abbrev S2816x2048 : Shape := ⟨2, ![2816, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x5632, .f32⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x5632, .bf16⟩
  | .hbm, ⟨6, _⟩ => ⟨S5632x2048, .bf16⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S256x2816, .bf16⟩
  | .local _ .vmem, ⟨1, _⟩ => ⟨S256x2816, .bf16⟩
  | .local _ .vmem, ⟨2, _⟩ => ⟨S2816x2048, .bf16⟩
  | .local _ .vmem, ⟨3, _⟩ => ⟨S2816x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S16384x5632 : Shape := ⟨2, ![16384, 5632]⟩
abbrev S5632x2048 : Shape := ⟨2, ![5632, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel5.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel6.lean ====
abbrev S16384x2048 : Shape := ⟨2, ![16384, 2048]⟩
abbrev S2048x5168 : Shape := ⟨2, ![2048, 5168]⟩
abbrev S5120 : Shape := ⟨1, ![5120]⟩
abbrev S2048x5120 : Shape := ⟨2, ![2048, 5120]⟩
abbrev S1x5120 : Shape := ⟨2, ![1, 5120]⟩
abbrev S16384x5120 : Shape := ⟨2, ![16384, 5120]⟩
abbrev S512x2048 : Shape := ⟨2, ![512, 2048]⟩
abbrev S2048x1280 : Shape := ⟨2, ![2048, 1280]⟩
abbrev S1x1280 : Shape := ⟨2, ![1, 1280]⟩
abbrev S512x1280 : Shape := ⟨2, ![512, 1280]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x5168, .f32⟩
  | .hbm, ⟨2, _⟩ => ⟨S5120, .f32⟩
  | .hbm, ⟨3, _⟩ => ⟨S16384x2048, .bf16⟩
  | .hbm, ⟨4, _⟩ => ⟨S2048x5120, .f32⟩
  | .hbm, ⟨5, _⟩ => ⟨S2048x5120, .bf16⟩
  | .hbm, ⟨6, _⟩ => ⟨S1x5120, .f32⟩
  | .hbm, ⟨7, _⟩ => ⟨S16384x5120, .bf16⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1x1280, .f32⟩
  | .local _ .vmem, ⟨5, _⟩ => ⟨S1x1280, .f32⟩
  | .local _ .vmem, ⟨6, _⟩ => ⟨S512x1280, .bf16⟩
  | .local _ .vmem, ⟨7, _⟩ => ⟨S512x1280, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x2048 : Shape := ⟨2, ![16384, 2048]⟩
abbrev S2048x5168 : Shape := ⟨2, ![2048, 5168]⟩
abbrev S5120 : Shape := ⟨1, ![5120]⟩
abbrev S16384x5168 : Shape := ⟨2, ![16384, 5168]⟩
abbrev S16384x5120 : Shape := ⟨2, ![16384, 5120]⟩
abbrev S1x5120 : Shape := ⟨2, ![1, 5120]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x5168, .f32⟩
  | .hbm, ⟨2, _⟩ => ⟨S5120, .f32⟩
  | .hbm, ⟨3, _⟩ => ⟨S16384x5168, .f32⟩
  | .hbm, ⟨4, _⟩ => ⟨S16384x5120, .f32⟩
  | .hbm, ⟨5, _⟩ => ⟨S1x5120, .f32⟩
  | .hbm, ⟨6, _⟩ => ⟨S16384x5120, .f32⟩
  | .hbm, ⟨7, _⟩ => ⟨S16384x5120, .f32⟩
  | .hbm, ⟨8, _⟩ => ⟨S16384x5120, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x2048 : Shape := ⟨2, ![16384, 2048]⟩
abbrev S2048x2888 : Shape := ⟨2, ![2048, 2888]⟩
abbrev S2560 : Shape := ⟨1, ![2560]⟩
abbrev S2048x2048 : Shape := ⟨2, ![2048, 2048]⟩
abbrev S2048x512 : Shape := ⟨2, ![2048, 512]⟩
abbrev S2048x2560 : Shape := ⟨2, ![2048, 2560]⟩
abbrev S1x2560 : Shape := ⟨2, ![1, 2560]⟩
abbrev S16384x2560 : Shape := ⟨2, ![16384, 2560]⟩
abbrev S512x2048 : Shape := ⟨2, ![512, 2048]⟩
abbrev S2048x1280 : Shape := ⟨2, ![2048, 1280]⟩
abbrev S1x1280 : Shape := ⟨2, ![1, 1280]⟩
abbrev S512x1280 : Shape := ⟨2, ![512, 1280]⟩

abbrev nBuf : Space → Nat
  | .hbm => 10
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x2888, .f32⟩
  | .hbm, ⟨2, _⟩ => ⟨S2560, .f32⟩
  | .hbm, ⟨3, _⟩ => ⟨S2048x2048, .f32⟩
  | .hbm, ⟨4, _⟩ => ⟨S2048x512, .f32⟩
  | .hbm, ⟨5, _⟩ => ⟨S2048x2560, .f32⟩
  | .hbm, ⟨6, _⟩ => ⟨S2048x2560, .bf16⟩
  | .hbm, ⟨7, _⟩ => ⟨S16384x2048, .bf16⟩
  | .hbm, ⟨8, _⟩ => ⟨S1x2560, .f32⟩
  | .hbm, ⟨9, _⟩ => ⟨S16384x2560, .bf16⟩
  | .local _ .vmem, ⟨0, _⟩ => ⟨S512x2048, .bf16⟩
  | .local _ .vmem, ⟨1, _⟩ => ⟨S512x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1x1280, .f32⟩
  | .local _ .vmem, ⟨5, _⟩ => ⟨S1x1280, .f32⟩
  | .local _ .vmem, ⟨6, _⟩ => ⟨S512x1280, .bf16⟩
  | .local _ .vmem, ⟨7, _⟩ => ⟨S512x1280, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x2048 : Shape := ⟨2, ![16384, 2048]⟩
abbrev S2048x2888 : Shape := ⟨2, ![2048, 2888]⟩
abbrev S2560 : Shape := ⟨1, ![2560]⟩
abbrev S16384x2888 : Shape := ⟨2, ![16384, 2888]⟩
abbrev S16384x512 : Shape := ⟨2, ![16384, 512]⟩
abbrev S16384x2560 : Shape := ⟨2, ![16384, 2560]⟩
abbrev S1x2560 : Shape := ⟨2, ![1, 2560]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2888, .f32⟩
  | .hbm, ⟨2, _⟩ => ⟨S2560, .f32⟩
  | .hbm, ⟨3, _⟩ => ⟨S16384x2888, .f32⟩
  | .hbm, ⟨4, _⟩ => ⟨S16384x2048, .f32⟩
  | .hbm, ⟨5, _⟩ => ⟨S16384x512, .f32⟩
  | .hbm, ⟨6, _⟩ => ⟨S16384x2560, .f32⟩
  | .hbm, ⟨7, _⟩ => ⟨S1x2560, .f32⟩
  | .hbm, ⟨8, _⟩ => ⟨S16384x2560, .f32⟩
  | .hbm, ⟨9, _⟩ => ⟨S16384x2560, .f32⟩
  | .hbm, ⟨10, _⟩ => ⟨S16384x2560, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S16384x2048 : Shape := ⟨2, ![16384, 2048]⟩
abbrev S2048x2888 : Shape := ⟨2, ![2048, 2888]⟩
abbrev S256 : Shape := ⟨1, ![256]⟩
abbrev S2048x256 : Shape := ⟨2, ![2048, 256]⟩
abbrev S1x256 : Shape := ⟨2, ![1, 256]⟩
abbrev S16384x256 : Shape := ⟨2, ![16384, 256]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2888, .f32⟩
  | .hbm, ⟨2, _⟩ => ⟨S256, .f32⟩
  | .hbm, ⟨3, _⟩ => ⟨S16384x2048, .bf16⟩
  | .hbm, ⟨4, _⟩ => ⟨S2048x256, .f32⟩
  | .hbm, ⟨5, _⟩ => ⟨S2048x256, .bf16⟩
  | .hbm, ⟨6, _⟩ => ⟨S1x256, .f32⟩
  | .hbm, ⟨7, _⟩ => ⟨S16384x256, .bf16⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S1x256, .f32⟩
  | .local _ .vmem, ⟨4, _⟩ => ⟨S512x256, .bf16⟩
  | .local _ .vmem, ⟨5, _⟩ => ⟨S512x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16384x2048 : Shape := ⟨2, ![16384, 2048]⟩
abbrev S2048x2888 : Shape := ⟨2, ![2048, 2888]⟩
abbrev S256 : Shape := ⟨1, ![256]⟩
abbrev S16384x2888 : Shape := ⟨2, ![16384, 2888]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2888, .f32⟩
  | .hbm, ⟨2, _⟩ => ⟨S256, .f32⟩
  | .hbm, ⟨3, _⟩ => ⟨S16384x2888, .f32⟩
  | .hbm, ⟨4, _⟩ => ⟨S16384x256, .f32⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x256, .f32⟩
  | .hbm, ⟨17, _⟩ => ⟨S16384x256, .f32⟩
  | .hbm, ⟨18, _⟩ => ⟨S1x256, .f32⟩
  | .hbm, ⟨19, _⟩ => ⟨S16384x256, .f32⟩
  | .hbm, ⟨20, _⟩ => ⟨S16384x256, .f32⟩
  | .hbm, ⟨21, _⟩ => ⟨S16384x256, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S16384x2048 : Shape := ⟨2, ![16384, 2048]⟩
abbrev S2048x2888 : Shape := ⟨2, ![2048, 2888]⟩
abbrev S128 : Shape := ⟨1, ![128]⟩
abbrev S2048x72 : Shape := ⟨2, ![2048, 72]⟩
abbrev S_ : Shape := ⟨0, ![]⟩
abbrev S2048x128 : Shape := ⟨2, ![2048, 128]⟩
abbrev S1x128 : Shape := ⟨2, ![1, 128]⟩
abbrev S16384x128 : Shape := ⟨2, ![16384, 128]⟩
abbrev S512x2048 : Shape := ⟨2, ![512, 2048]⟩
abbrev S512x128 : Shape := ⟨2, ![512, 128]⟩

abbrev nBuf : Space → Nat
  | .hbm => 11
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2888, .f32⟩
  | .hbm, ⟨2, _⟩ => ⟨S128, .f32⟩
  | .hbm, ⟨3, _⟩ => ⟨S2048x72, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S16384x2048, .bf16⟩
  | .hbm, ⟨9, _⟩ => ⟨S1x128, .f32⟩
  | .hbm, ⟨10, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16384x2048 : Shape := ⟨2, ![16384, 2048]⟩
abbrev S2048x2888 : Shape := ⟨2, ![2048, 2888]⟩
abbrev S128 : Shape := ⟨1, ![128]⟩
abbrev S16384x2888 : Shape := ⟨2, ![16384, 2888]⟩
abbrev S16384x72 : Shape := ⟨2, ![16384, 72]⟩
abbrev S_ : Shape := ⟨0, ![]⟩
abbrev S16384x128 : Shape := ⟨2, ![16384, 128]⟩
abbrev S1x128 : Shape := ⟨2, ![1, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2888, .f32⟩
  | .hbm, ⟨2, _⟩ => ⟨S128, .f32⟩
  | .hbm, ⟨3, _⟩ => ⟨S16384x2888, .f32⟩
  | .hbm, ⟨4, _⟩ => ⟨S16384x72, .f32⟩
  | .hbm, ⟨5, _⟩ => ⟨S_, .i32⟩
  | .hbm, ⟨6, _⟩ => ⟨S_, .f32⟩
  | .hbm, ⟨7, _⟩ => ⟨S16384x128, .f32⟩
  | .hbm, ⟨8, _⟩ => ⟨S1x128, .f32⟩
  | .hbm, ⟨9, _⟩ => ⟨S16384x128, .f32⟩
  | .hbm, ⟨10, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel10.lean ====
abbrev S16384x5120 : Shape := ⟨2, ![16384, 5120]⟩
abbrev S32x128 : Shape := ⟨2, ![32, 128]⟩
abbrev S32x128x128 : Shape := ⟨3, ![32, 128, 128]⟩
abbrev S128x128 : Shape := ⟨2, ![128, 128]⟩
abbrev S2x512x81920 : Shape := ⟨3, ![2, 512, 81920]⟩
abbrev S1x32x1x128 : Shape := ⟨4, ![1, 32, 1, 128]⟩
abbrev S1x32x4x128 : Shape := ⟨4, ![1, 32, 4, 128]⟩
abbrev S32x512 : Shape := ⟨2, ![32, 512]⟩
abbrev S2x512x512 : Shape := ⟨3, ![2, 512, 512]⟩
abbrev S1x512x512 : Shape := ⟨3, ![1, 512, 512]⟩
abbrev S512x128 : Shape := ⟨2, ![512, 128]⟩
abbrev S512x512 : Shape := ⟨2, ![512, 512]⟩
abbrev S1x512 : Shape := ⟨2, ![1, 512]⟩
abbrev S1x128x128 : Shape := ⟨3, ![1, 128, 128]⟩
abbrev S1x512x128 : Shape := ⟨3, ![1, 512, 128]⟩

abbrev nBuf : Space → Nat
  | .hbm => 12
  | .vmem => 37
  | .smem => 0
  | _ => 0

abbrev bufTy : (tb : Table) → Fin (tcTables nBuf tb) → BufTy
  | .hbm, ⟨0, _⟩ => ⟨S16384x5120, .f32⟩
  | .hbm, ⟨1, _⟩ => ⟨S32x128, .f32⟩
  | .hbm, ⟨2, _⟩ => ⟨S32x128x128, .f32⟩
  | .hbm, ⟨3, _⟩ => ⟨S128x128, .f32⟩
  | .hbm, ⟨4, _⟩ => ⟨S16384x5120, .bf16⟩
  | .hbm, ⟨5, _⟩ => ⟨S2x512x81920, .bf16⟩
  | .hbm, ⟨6, _⟩ => ⟨S1x32x1x128, .f32⟩
  | .hbm, ⟨7, _⟩ => ⟨S1x32x4x128, .f32⟩
  | .hbm, ⟨8, _⟩ => ⟨S32x512, .f32⟩
  | .hbm, ⟨9, _⟩ => ⟨S32x128x128, .bf16⟩
  | .hbm, ⟨10, _⟩ => ⟨S128x128, .bf16⟩
  | .hbm, ⟨11, _⟩ => ⟨S2x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S32x512, .f32⟩
  | .local _ .vmem, ⟨33, _⟩ => ⟨S32x128x128, .bf16⟩
  | .local _ .vmem, ⟨34, _⟩ => ⟨S128x128, .bf16⟩
  | .local _ .vmem, ⟨35, _⟩ => ⟨S1x512x512, .bf16⟩
  | .local _ .vmem, ⟨36, _⟩ => ⟨S1x512x512, .bf16⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_1 (i : grid0.Coords) : Fin 3 → Nat :=
  let arg0 : BitVec 32 := BitVec.ofNat 32 (i 0).val
  let c0_i32 : BitVec 32 := 0#32
  let c14_i32 : BitVec 32 := 14#32
  let c0_i32_0 : BitVec 32 := 0#32
  ![arg0.toNat, c0_i32.toNat, c14_i32.toNat]

def cc0_transform_2 (i : grid0.Coords) : Fin 3 → Nat :=
  let arg0 : BitVec 32 := BitVec.ofNat 32 (i 0).val
  let c0_i32 : BitVec 32 := 0#32
  let c24_i32 : BitVec 32 := 24#32
  let c0_i32_0 : BitVec 32 := 0#32
  ![arg0.toNat, c0_i32.toNat, c24_i32.toNat]

def cc0_transform_3 (i : grid0.Coords) : Fin 3 → Nat :=
  let arg0 : BitVec 32 := BitVec.ofNat 32 (i 0).val
  let c0_i32 : BitVec 32 := 0#32
  let c34_i32 : BitVec 32 := 34#32
  let c0_i32_0 : BitVec 32 := 0#32
  ![arg0.toNat, c0_i32.toNat, c34_i32.toNat]

def cc0_transform_4 (i : grid0.Coords) : Fin 3 → Nat :=
  let arg0 : BitVec 32 := BitVec.ofNat 32 (i 0).val
  let c0_i32 : BitVec 32 := 0#32
  let c44_i32 : BitVec 32 := 44#32
  let c0_i32_0 : BitVec 32 := 0#32
  ![arg0.toNat, c0_i32.toNat, c44_i32.toNat]

def cc0_transform_5 (i : grid0.Coords) : Fin 3 → Nat :=
  let arg0 : BitVec 32 := BitVec.ofNat 32 (i 0).val
  let c0_i32 : BitVec 32 := 0#32
  let c54_i32 : BitVec 32 := 54#32
  let c0_i32_0 : BitVec 32 := 0#32
  ![arg0.toNat, c0_i32.toNat, c54_i32.toNat]

def cc0_transform_6 (i : grid0.Coords) : Fin 3 → Nat :=
  let arg0 : BitVec 32 := BitVec.ofNat 32 (i 0).val
  let c0_i32 : BitVec 32 := 0#32
  let c64_i32 : BitVec 32 := 64#32
  let c0_i32_0 : BitVec 32 := 0#32
  ![arg0.toNat, c0_i32.toNat, c64_i32.toNat]

def cc0_transform_7 (i : grid0.Coords) : Fin 3 → Nat :=
  let arg0 : BitVec 32 := BitVec.ofNat 32 (i 0).val
  let c0_i32 : BitVec 32 := 0#32
  let c74_i32 : BitVec 32 := 74#32
  let c0_i32_0 : BitVec 32 := 0#32
  ![arg0.toNat, c0_i32.toNat, c74_i32.toNat]

def cc0_transform_8 (i : grid0.Coords) : Fin 3 → Nat :=
  let arg0 : BitVec 32 := BitVec.ofNat 32 (i 0).val
  let c0_i32 : BitVec 32 := 0#32
  let c84_i32 : BitVec 32 := 84#32
  let c0_i32_0 : BitVec 32 := 0#32
  ![arg0.toNat, c0_i32.toNat, c84_i32.toNat]

def cc0_transform_9 (i : grid0.Coords) : Fin 3 → Nat :=
  let arg0 : BitVec 32 := BitVec.ofNat 32 (i 0).val
  let c0_i32 : BitVec 32 := 0#32
  let c94_i32 : BitVec 32 := 94#32
  let c0_i32_0 : BitVec 32 := 0#32
  ![arg0.toNat, c0_i32.toNat, c94_i32.toNat]

def cc0_transform_10 (i : grid0.Coords) : Fin 3 → Nat :=
  let arg0 : BitVec 32 := BitVec.ofNat 32 (i 0).val
  let c0_i32 : BitVec 32 := 0#32
  let c104_i32 : BitVec 32 := 104#32
  let c0_i32_0 : BitVec 32 := 0#32
  ![arg0.toNat, c0_i32.toNat, c104_i32.toNat]

def cc0_transform_11 (i : grid0.Coords) : Fin 3 → Nat :=
  let arg0 : BitVec 32 := BitVec.ofNat 32 (i 0).val
  let c0_i32 : BitVec 32 := 0#32
  let c114_i32 : BitVec 32 := 114#32
  let c0_i32_0 : BitVec 32 := 0#32
  ![arg0.toNat, c0_i32.toNat, c114_i32.toNat]

def cc0_transform_12 (i : grid0.Coords) : Fin 3 → Nat :=
  let arg0 : BitVec 32 := BitVec.ofNat 32 (i 0).val
  let c0_i32 : BitVec 32 := 0#32
  let c124_i32 : BitVec 32 := 124#32
  let c0_i32_0 : BitVec 32 := 0#32
  ![arg0.toNat, c0_i32.toNat, c124_i32.toNat]

def cc0_transform_13 (i : grid0.Coords) : Fin 3 → Nat :=
  let arg0 : BitVec 32 := BitVec.ofNat 32 (i 0).val
  let c0_i32 : BitVec 32 := 0#32
  let c134_i32 : BitVec 32 := 134#32
  let c0_i32_0 : BitVec 32 := 0#32
  ![arg0.toNat, c0_i32.toNat, c134_i32.toNat]

def cc0_transform_14 (i : grid0.Coords) : Fin 3 → Nat :=
  let arg0 : BitVec 32 := BitVec.ofNat 32 (i 0).val
  let c0_i32 : BitVec 32 := 0#32
  let c144_i32 : BitVec 32 := 144#32
  let c0_i32_0 : BitVec 32 := 0#32
  ![arg0.toNat, c0_i32.toNat, c144_i32.toNat]

def cc0_transform_15 (i : grid0.Coords) : Fin 3 → Nat :=
  let arg0 : BitVec 32 := BitVec.ofNat 32 (i 0).val
  let c0_i32 : BitVec 32 := 0#32
  let c154_i32 : BitVec 32 := 154#32
  let c0_i32_0 : BitVec 32 := 0#32
  ![arg0.toNat, c0_i32.toNat, c154_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference10Ideal.lean ====
abbrev S16384x5120 : Shape := ⟨2, ![16384, 5120]⟩
abbrev S32x128 : Shape := ⟨2, ![32, 128]⟩
abbrev S32x128x128 : Shape := ⟨3, ![32, 128, 128]⟩
abbrev S128x128 : Shape := ⟨2, ![128, 128]⟩
abbrev S16384x512 : Shape := ⟨2, ![16384, 512]⟩
abbrev S2x8192x4x128 : Shape := ⟨4, ![2, 8192, 4, 128]⟩
abbrev S511 : Shape := ⟨1, ![511]⟩
abbrev S511x1 : Shape := ⟨2, ![511, 1]⟩
abbrev S_ : Shape := ⟨0, ![]⟩
abbrev S32 : Shape := ⟨1, ![32]⟩
abbrev S1x32 : Shape := ⟨2, ![1, 32]⟩
abbrev S511x32 : Shape := ⟨2, ![511, 32]⟩
abbrev S511x32x1 : Shape := ⟨3, ![511, 32, 1]⟩
abbrev S2x511x32x4x128 : Shape := ⟨5, ![2, 511, 32, 4, 128]⟩
abbrev S32x1x128 : Shape := ⟨3, ![32, 1, 128]⟩
abbrev S1x1x32x1x128 : Shape := ⟨5, ![1, 1, 32, 1, 128]⟩
abbrev S2x511x4x128 : Shape := ⟨4, ![2, 511, 4, 128]⟩
abbrev S2x511x512 : Shape := ⟨3, ![2, 511, 512]⟩
abbrev S2x512x512 : Shape := ⟨3, ![2, 512, 512]⟩

abbrev nBuf : Space → Nat
  | .hbm => 53
  | .vmem => 0
  | .smem => 0
  | _ => 0

abbrev bufTy : (tb : Table) → Fin (tcTables nBuf tb) → BufTy
  | .hbm, ⟨0, _⟩ => ⟨S16384x5120, .f32⟩
  | .hbm, ⟨1, _⟩ => ⟨S32x128, .f32⟩
  | .hbm, ⟨2, _⟩ => ⟨S32x128x128, .f32⟩
  | .hbm, ⟨3, _⟩ => ⟨S128x128, .f32⟩
  | .hbm, ⟨4, _⟩ => ⟨S16384x512, .f32⟩
  | .hbm, ⟨5, _⟩ => ⟨S2x8192x4x128, .f32⟩
  | .hbm, ⟨6, _⟩ => ⟨S511, .i32⟩
  | .hbm, ⟨7, _⟩ => ⟨S511x1, .i32⟩
  | .hbm, ⟨8, _⟩ => ⟨S_, .i32⟩
  | .hbm, ⟨9, _⟩ => ⟨S511x1, .i32⟩
  | .hbm, ⟨10, _⟩ => ⟨S511x1, .i32⟩
  | .hbm, ⟨11, _⟩ => ⟨S32, .i32⟩
  | .hbm, ⟨12, _⟩ => ⟨S1x32, .i32⟩
  | .hbm, ⟨13, _⟩ => ⟨S511x32, .i32⟩
  | .hbm, ⟨14, _⟩ => ⟨S511x32, .i32⟩
  | .hbm, ⟨15, _⟩ => ⟨S511x32, .i32⟩
  | .hbm, ⟨16, _⟩ => ⟨S_, .i32⟩
  | .hbm, ⟨17, _⟩ => ⟨S511x32, .i32⟩
  | .hbm, ⟨18, _⟩ => ⟨S511x32, .i1⟩
  | .hbm, ⟨19, _⟩ => ⟨S_, .i32⟩
  | .hbm, ⟨20, _⟩ => ⟨S511x32, .i32⟩
  | .hbm, ⟨21, _⟩ => ⟨S511x32, .i32⟩
  | .hbm, ⟨22, _⟩ => ⟨S511x32, .i32⟩
  | .hbm, ⟨23, _⟩ => ⟨S511x32x1, .i32⟩
  | .hbm, ⟨24, _⟩ => ⟨S2x511x32x4x128, .f32⟩
  | .hbm, ⟨25, _⟩ => ⟨S32x1x128, .f32⟩
  | .hbm, ⟨26, _⟩ => ⟨S1x1x32x1x128, .f32⟩
  | .hbm, ⟨27, _⟩ => ⟨S2x511x32x4x128, .f32⟩
  | .hbm, ⟨28, _⟩ => ⟨S2x511x32x4x128, .f32⟩
  | .hbm, ⟨29, _⟩ => ⟨S2x511x4x128, .f32⟩
  | .hbm, ⟨30, _⟩ => ⟨S2x511x4x128, .f32⟩
  | .hbm, ⟨31, _⟩ => ⟨S2x511x4x128, .f32⟩
  | .hbm, ⟨32, _⟩ => ⟨S_, .f32⟩
  | .hbm, ⟨33, _⟩ => ⟨S2x511x4x128, .f32⟩
  | .hbm, ⟨34, _⟩ => ⟨S2x511x4x128, .f32⟩
  | .hbm, ⟨35, _⟩ => ⟨S2x511x4x128, .f32⟩
  | .hbm, ⟨36, _⟩ => ⟨S_, .f32⟩
  | .hbm, ⟨37, _⟩ => ⟨S2x511x4x128, .f32⟩
  | .hbm, ⟨38, _⟩ => ⟨S2x511x4x128, .f32⟩
  | .hbm, ⟨39, _⟩ => ⟨S2x511x4x128, .f32⟩
  | .hbm, ⟨40, _⟩ => ⟨S_, .f32⟩
  | .hbm, ⟨41, _⟩ => ⟨S2x511x4x128, .f32⟩
  | .hbm, ⟨42, _⟩ => ⟨S2x511x4x128, .f32⟩
  | .hbm, ⟨43, _⟩ => ⟨S_, .f32⟩
  | .hbm, ⟨44, _⟩ => ⟨S2x511x4x128, .f32⟩
  | .hbm, ⟨45, _⟩ => ⟨S2x511x4x128, .f32⟩
  | .hbm, ⟨46, _⟩ => ⟨S2x511x4x128, .f32⟩
  | .hbm, ⟨47, _⟩ => ⟨S2x511x4x128, .f32⟩
  | .hbm, ⟨48, _⟩ => ⟨S2x511x512, .f32⟩
  | .hbm, ⟨49, _⟩ => ⟨S_, .i32⟩
  | .hbm, ⟨50, _⟩ => ⟨S_, .f32⟩
  | .hbm, ⟨51, _⟩ => ⟨S2x512x512, .f32⟩
  | .hbm, ⟨52, _⟩ => ⟨S2x512x512, .bf16⟩
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_call0_v0 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel11.lean ====
abbrev S16384x5120 : Shape := ⟨2, ![16384, 5120]⟩
abbrev S32x128 : Shape := ⟨2, ![32, 128]⟩
abbrev S32x128x128 : Shape := ⟨3, ![32, 128, 128]⟩
abbrev S128x128 : Shape := ⟨2, ![128, 128]⟩
abbrev S2x512x81920 : Shape := ⟨3, ![2, 512, 81920]⟩
abbrev S1x32x1x128 : Shape := ⟨4, ![1, 32, 1, 128]⟩
abbrev S1x32x4x128 : Shape := ⟨4, ![1, 32, 4, 128]⟩
abbrev S32x512 : Shape := ⟨2, ![32, 512]⟩
abbrev S2x512x512 : Shape := ⟨3, ![2, 512, 512]⟩
abbrev S1x512x512 : Shape := ⟨3, ![1, 512, 512]⟩
abbrev S512x128 : Shape := ⟨2, ![512, 128]⟩
abbrev S512x512 : Shape := ⟨2, ![512, 512]⟩
abbrev S1x512 : Shape := ⟨2, ![1, 512]⟩
abbrev S1x128x128 : Shape := ⟨3, ![1, 128, 128]⟩
abbrev S1x512x128 : Shape := ⟨3, ![1, 512, 128]⟩

abbrev nBuf : Space → Nat
  | .hbm => 12
  | .vmem => 37
  | .smem => 0
  | _ => 0

abbrev bufTy : (tb : Table) → Fin (tcTables nBuf tb) → BufTy
  | .hbm, ⟨0, _⟩ => ⟨S16384x5120, .f32⟩
  | .hbm, ⟨1, _⟩ => ⟨S32x128, .f32⟩
  | .hbm, ⟨2, _⟩ => ⟨S32x128x128, .f32⟩
  | .hbm, ⟨3, _⟩ => ⟨S128x128, .f32⟩
  | .hbm, ⟨4, _⟩ => ⟨S16384x5120, .bf16⟩
  | .hbm, ⟨5, _⟩ => ⟨S2x512x81920, .bf16⟩
  | .hbm, ⟨6, _⟩ => ⟨S1x32x1x128, .f32⟩
  | .hbm, ⟨7, _⟩ => ⟨S1x32x4x128, .f32⟩
  | .hbm, ⟨8, _⟩ => ⟨S32x512, .f32⟩
  | .hbm, ⟨9, _⟩ => ⟨S32x128x128, .bf16⟩
  | .hbm, ⟨10, _⟩ => ⟨S128x128, .bf16⟩
  | .hbm, ⟨11, _⟩ => ⟨S2x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S32x512, .f32⟩
  | .local _ .vmem, ⟨33, _⟩ => ⟨S32x128x128, .bf16⟩
  | .local _ .vmem, ⟨34, _⟩ => ⟨S128x128, .bf16⟩
  | .local _ .vmem, ⟨35, _⟩ => ⟨S1x512x512, .bf16⟩
  | .local _ .vmem, ⟨36, _⟩ => ⟨S1x512x512, .bf16⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_1 (i : grid0.Coords) : Fin 3 → Nat :=
  let arg0 : BitVec 32 := BitVec.ofNat 32 (i 0).val
  let c0_i32 : BitVec 32 := 0#32
  let c15_i32 : BitVec 32 := 15#32
  let c0_i32_0 : BitVec 32 := 0#32
  ![arg0.toNat, c0_i32.toNat, c15_i32.toNat]

def cc0_transform_2 (i : grid0.Coords) : Fin 3 → Nat :=
  let arg0 : BitVec 32 := BitVec.ofNat 32 (i 0).val
  let c0_i32 : BitVec 32 := 0#32
  let c25_i32 : BitVec 32 := 25#32
  let c0_i32_0 : BitVec 32 := 0#32
  ![arg0.toNat, c0_i32.toNat, c25_i32.toNat]

def cc0_transform_3 (i : grid0.Coords) : Fin 3 → Nat :=
  let arg0 : BitVec 32 := BitVec.ofNat 32 (i 0).val
  let c0_i32 : BitVec 32 := 0#32
  let c35_i32 : BitVec 32 := 35#32
  let c0_i32_0 : BitVec 32 := 0#32
  ![arg0.toNat, c0_i32.toNat, c35_i32.toNat]

def cc0_transform_4 (i : grid0.Coords) : Fin 3 → Nat :=
  let arg0 : BitVec 32 := BitVec.ofNat 32 (i 0).val
  let c0_i32 : BitVec 32 := 0#32
  let c45_i32 : BitVec 32 := 45#32
  let c0_i32_0 : BitVec 32 := 0#32
  ![arg0.toNat, c0_i32.toNat, c45_i32.toNat]

def cc0_transform_5 (i : grid0.Coords) : Fin 3 → Nat :=
  let arg0 : BitVec 32 := BitVec.ofNat 32 (i 0).val
  let c0_i32 : BitVec 32 := 0#32
  let c55_i32 : BitVec 32 := 55#32
  let c0_i32_0 : BitVec 32 := 0#32
  ![arg0.toNat, c0_i32.toNat, c55_i32.toNat]

def cc0_transform_6 (i : grid0.Coords) : Fin 3 → Nat :=
  let arg0 : BitVec 32 := BitVec.ofNat 32 (i 0).val
  let c0_i32 : BitVec 32 := 0#32
  let c65_i32 : BitVec 32 := 65#32
  let c0_i32_0 : BitVec 32 := 0#32
  ![arg0.toNat, c0_i32.toNat, c65_i32.toNat]

def cc0_transform_7 (i : grid0.Coords) : Fin 3 → Nat :=
  let arg0 : BitVec 32 := BitVec.ofNat 32 (i 0).val
  let c0_i32 : BitVec 32 := 0#32
  let c75_i32 : BitVec 32 := 75#32
  let c0_i32_0 : BitVec 32 := 0#32
  ![arg0.toNat, c0_i32.toNat, c75_i32.toNat]

def cc0_transform_8 (i : grid0.Coords) : Fin 3 → Nat :=
  let arg0 : BitVec 32 := BitVec.ofNat 32 (i 0).val
  let c0_i32 : BitVec 32 := 0#32
  let c85_i32 : BitVec 32 := 85#32
  let c0_i32_0 : BitVec 32 := 0#32
  ![arg0.toNat, c0_i32.toNat, c85_i32.toNat]

def cc0_transform_9 (i : grid0.Coords) : Fin 3 → Nat :=
  let arg0 : BitVec 32 := BitVec.ofNat 32 (i 0).val
  let c0_i32 : BitVec 32 := 0#32
  let c95_i32 : BitVec 32 := 95#32
  let c0_i32_0 : BitVec 32 := 0#32
  ![arg0.toNat, c0_i32.toNat, c95_i32.toNat]

def cc0_transform_10 (i : grid0.Coords) : Fin 3 → Nat :=
  let arg0 : BitVec 32 := BitVec.ofNat 32 (i 0).val
  let c0_i32 : BitVec 32 := 0#32
  let c105_i32 : BitVec 32 := 105#32
  let c0_i32_0 : BitVec 32 := 0#32
  ![arg0.toNat, c0_i32.toNat, c105_i32.toNat]

def cc0_transform_11 (i : grid0.Coords) : Fin 3 → Nat :=
  let arg0 : BitVec 32 := BitVec.ofNat 32 (i 0).val
  let c0_i32 : BitVec 32 := 0#32
  let c115_i32 : BitVec 32 := 115#32
  let c0_i32_0 : BitVec 32 := 0#32
  ![arg0.toNat, c0_i32.toNat, c115_i32.toNat]

def cc0_transform_12 (i : grid0.Coords) : Fin 3 → Nat :=
  let arg0 : BitVec 32 := BitVec.ofNat 32 (i 0).val
  let c0_i32 : BitVec 32 := 0#32
  let c125_i32 : BitVec 32 := 125#32
  let c0_i32_0 : BitVec 32 := 0#32
  ![arg0.toNat, c0_i32.toNat, c125_i32.toNat]

def cc0_transform_13 (i : grid0.Coords) : Fin 3 → Nat :=
  let arg0 : BitVec 32 := BitVec.ofNat 32 (i 0).val
  let c0_i32 : BitVec 32 := 0#32
  let c135_i32 : BitVec 32 := 135#32
  let c0_i32_0 : BitVec 32 := 0#32
  ![arg0.toNat, c0_i32.toNat, c135_i32.toNat]

def cc0_transform_14 (i : grid0.Coords) : Fin 3 → Nat :=
  let arg0 : BitVec 32 := BitVec.ofNat 32 (i 0).val
  let c0_i32 : BitVec 32 := 0#32
  let c145_i32 : BitVec 32 := 145#32
  let c0_i32_0 : BitVec 32 := 0#32
  ![arg0.toNat, c0_i32.toNat, c145_i32.toNat]

def cc0_transform_15 (i : grid0.Coords) : Fin 3 → Nat :=
  let arg0 : BitVec 32 := BitVec.ofNat 32 (i 0).val
  let c0_i32 : BitVec 32 := 0#32
  let c155_i32 : BitVec 32 := 155#32
  let c0_i32_0 : BitVec 32 := 0#32
  ![arg0.toNat, c0_i32.toNat, c155_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference11Ideal.lean ====
abbrev S16384x5120 : Shape := ⟨2, ![16384, 5120]⟩
abbrev S32x128 : Shape := ⟨2, ![32, 128]⟩
abbrev S32x128x128 : Shape := ⟨3, ![32, 128, 128]⟩
abbrev S128x128 : Shape := ⟨2, ![128, 128]⟩
abbrev S16384x512 : Shape := ⟨2, ![16384, 512]⟩
abbrev S2x8192x4x128 : Shape := ⟨4, ![2, 8192, 4, 128]⟩
abbrev S511 : Shape := ⟨1, ![511]⟩
abbrev S511x1 : Shape := ⟨2, ![511, 1]⟩
abbrev S_ : Shape := ⟨0, ![]⟩
abbrev S32 : Shape := ⟨1, ![32]⟩
abbrev S1x32 : Shape := ⟨2, ![1, 32]⟩
abbrev S511x32 : Shape := ⟨2, ![511, 32]⟩
abbrev S511x32x1 : Shape := ⟨3, ![511, 32, 1]⟩
abbrev S2x511x32x4x128 : Shape := ⟨5, ![2, 511, 32, 4, 128]⟩
abbrev S32x1x128 : Shape := ⟨3, ![32, 1, 128]⟩
abbrev S1x1x32x1x128 : Shape := ⟨5, ![1, 1, 32, 1, 128]⟩
abbrev S2x511x4x128 : Shape := ⟨4, ![2, 511, 4, 128]⟩
abbrev S2x511x512 : Shape := ⟨3, ![2, 511, 512]⟩
abbrev S2x512x512 : Shape := ⟨3, ![2, 512, 512]⟩

abbrev nBuf : Space → Nat
  | .hbm => 53
  | .vmem => 0
  | .smem => 0
  | _ => 0

abbrev bufTy : (tb : Table) → Fin (tcTables nBuf tb) → BufTy
  | .hbm, ⟨0, _⟩ => ⟨S16384x5120, .f32⟩
  | .hbm, ⟨1, _⟩ => ⟨S32x128, .f32⟩
  | .hbm, ⟨2, _⟩ => ⟨S32x128x128, .f32⟩
  | .hbm, ⟨3, _⟩ => ⟨S128x128, .f32⟩
  | .hbm, ⟨4, _⟩ => ⟨S16384x512, .f32⟩
  | .hbm, ⟨5, _⟩ => ⟨S2x8192x4x128, .f32⟩
  | .hbm, ⟨6, _⟩ => ⟨S511, .i32⟩
  | .hbm, ⟨7, _⟩ => ⟨S511x1, .i32⟩
  | .hbm, ⟨8, _⟩ => ⟨S_, .i32⟩
  | .hbm, ⟨9, _⟩ => ⟨S511x1, .i32⟩
  | .hbm, ⟨10, _⟩ => ⟨S511x1, .i32⟩
  | .hbm, ⟨11, _⟩ => ⟨S32, .i32⟩
  | .hbm, ⟨12, _⟩ => ⟨S1x32, .i32⟩
  | .hbm, ⟨13, _⟩ => ⟨S511x32, .i32⟩
  | .hbm, ⟨14, _⟩ => ⟨S511x32, .i32⟩
  | .hbm, ⟨15, _⟩ => ⟨S511x32, .i32⟩
  | .hbm, ⟨16, _⟩ => ⟨S_, .i32⟩
  | .hbm, ⟨17, _⟩ => ⟨S511x32, .i32⟩
  | .hbm, ⟨18, _⟩ => ⟨S511x32, .i1⟩
  | .hbm, ⟨19, _⟩ => ⟨S_, .i32⟩
  | .hbm, ⟨20, _⟩ => ⟨S511x32, .i32⟩
  | .hbm, ⟨21, _⟩ => ⟨S511x32, .i32⟩
  | .hbm, ⟨22, _⟩ => ⟨S511x32, .i32⟩
  | .hbm, ⟨23, _⟩ => ⟨S511x32x1, .i32⟩
  | .hbm, ⟨24, _⟩ => ⟨S2x511x32x4x128, .f32⟩
  | .hbm, ⟨25, _⟩ => ⟨S32x1x128, .f32⟩
  | .hbm, ⟨26, _⟩ => ⟨S1x1x32x1x128, .f32⟩
  | .hbm, ⟨27, _⟩ => ⟨S2x511x32x4x128, .f32⟩
  | .hbm, ⟨28, _⟩ => ⟨S2x511x32x4x128, .f32⟩
  | .hbm, ⟨29, _⟩ => ⟨S2x511x4x128, .f32⟩
  | .hbm, ⟨30, _⟩ => ⟨S2x511x4x128, .f32⟩
  | .hbm, ⟨31, _⟩ => ⟨S2x511x4x128, .f32⟩
  | .hbm, ⟨32, _⟩ => ⟨S_, .f32⟩
  | .hbm, ⟨33, _⟩ => ⟨S2x511x4x128, .f32⟩
  | .hbm, ⟨34, _⟩ => ⟨S2x511x4x128, .f32⟩
  | .hbm, ⟨35, _⟩ => ⟨S2x511x4x128, .f32⟩
  | .hbm, ⟨36, _⟩ => ⟨S_, .f32⟩
  | .hbm, ⟨37, _⟩ => ⟨S2x511x4x128, .f32⟩
  | .hbm, ⟨38, _⟩ => ⟨S2x511x4x128, .f32⟩
  | .hbm, ⟨39, _⟩ => ⟨S2x511x4x128, .f32⟩
  | .hbm, ⟨40, _⟩ => ⟨S_, .f32⟩
  | .hbm, ⟨41, _⟩ => ⟨S2x511x4x128, .f32⟩
  | .hbm, ⟨42, _⟩ => ⟨S2x511x4x128, .f32⟩
  | .hbm, ⟨43, _⟩ => ⟨S_, .f32⟩
  | .hbm, ⟨44, _⟩ => ⟨S2x511x4x128, .f32⟩
  | .hbm, ⟨45, _⟩ => ⟨S2x511x4x128, .f32⟩
  | .hbm, ⟨46, _⟩ => ⟨S2x511x4x128, .f32⟩
  | .hbm, ⟨47, _⟩ => ⟨S2x511x4x128, .f32⟩
  | .hbm, ⟨48, _⟩ => ⟨S2x511x512, .f32⟩
  | .hbm, ⟨49, _⟩ => ⟨S_, .i32⟩
  | .hbm, ⟨50, _⟩ => ⟨S_, .f32⟩
  | .hbm, ⟨51, _⟩ => ⟨S2x512x512, .f32⟩
  | .hbm, ⟨52, _⟩ => ⟨S2x512x512, .bf16⟩
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_call0_v0 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel12.lean ====
abbrev S16384x2048 : Shape := ⟨2, ![16384, 2048]⟩
abbrev S2048x5168 : Shape := ⟨2, ![2048, 5168]⟩
abbrev S512 : Shape := ⟨1, ![512]⟩
abbrev S2048x48 : Shape := ⟨2, ![2048, 48]⟩
abbrev S_ : Shape := ⟨0, ![]⟩
abbrev S512x1 : Shape := ⟨2, ![512, 1]⟩
abbrev S2048x512 : Shape := ⟨2, ![2048, 512]⟩
abbrev S1x512 : Shape := ⟨2, ![1, 512]⟩
abbrev S16384x512 : Shape := ⟨2, ![16384, 512]⟩
abbrev S512x2048 : Shape := ⟨2, ![512, 2048]⟩
abbrev S512x512 : Shape := ⟨2, ![512, 512]⟩

abbrev nBuf : Space → Nat
  | .hbm => 23
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x5168, .f32⟩
  | .hbm, ⟨2, _⟩ => ⟨S512, .i1⟩
  | .hbm, ⟨3, _⟩ => ⟨S512, .i32⟩
  | .hbm, ⟨4, _⟩ => ⟨S512, .i1⟩
  | .hbm, ⟨5, _⟩ => ⟨S2048x48, .f32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S512x1, .i32⟩
  | .hbm, ⟨11, _⟩ => ⟨S2048x512, .f32⟩
  | .hbm, ⟨12, _⟩ => ⟨S_, .f32⟩
  | .hbm, ⟨13, _⟩ => ⟨S_, .f32⟩
  | .hbm, ⟨14, _⟩ => ⟨S2048x512, .i1⟩
  | .hbm, ⟨15, _⟩ => ⟨S2048x512, .f32⟩
  | .hbm, ⟨16, _⟩ => ⟨S2048x512, .f32⟩
  | .hbm, ⟨17, _⟩ => ⟨S2048x512, .bf16⟩
  | .hbm, ⟨18, _⟩ => ⟨S16384x2048, .bf16⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S16384x512, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S1x512, .f32⟩
  | .local _ .vmem, ⟨4, _⟩ => ⟨S512x512, .f32⟩
  | .local _ .vmem, ⟨5, _⟩ => ⟨S512x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16384x2048 : Shape := ⟨2, ![16384, 2048]⟩
abbrev S2048x5168 : Shape := ⟨2, ![2048, 5168]⟩
abbrev S16384x5168 : Shape := ⟨2, ![16384, 5168]⟩
abbrev S16384x48 : Shape := ⟨2, ![16384, 48]⟩
abbrev S16384x4x4x3 : Shape := ⟨4, ![16384, 4, 4, 3]⟩
abbrev S16384x4x3x4 : Shape := ⟨4, ![16384, 4, 3, 4]⟩
abbrev S16384x4x12 : Shape := ⟨3, ![16384, 4, 12]⟩
abbrev S_ : Shape := ⟨0, ![]⟩
abbrev S16384x4x128 : Shape := ⟨3, ![16384, 4, 128]⟩
abbrev S16384x512 : Shape := ⟨2, ![16384, 512]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x5168, .f32⟩
  | .hbm, ⟨2, _⟩ => ⟨S16384x5168, .f32⟩
  | .hbm, ⟨3, _⟩ => ⟨S16384x48, .f32⟩
  | .hbm, ⟨4, _⟩ => ⟨S16384x4x4x3, .f32⟩
  | .hbm, ⟨5, _⟩ => ⟨S16384x4x3x4, .f32⟩
  | .hbm, ⟨6, _⟩ => ⟨S16384x4x12, .f32⟩
  | .hbm, ⟨7, _⟩ => ⟨S_, .i32⟩
  | .hbm, ⟨8, _⟩ => ⟨S_, .f32⟩
  | .hbm, ⟨9, _⟩ => ⟨S16384x4x128, .f32⟩
  | .hbm, ⟨10, _⟩ => ⟨S16384x512, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Routing.lean ====
/- The routing tables: for every block of 512 rows the expert whose weights it meets and whether the block
   is used. The two kernels and the two references compute them by the same host lines from the experts'
   counts; here is what the proofs need of their words. -/
module

public import proofs.«01_k».proof.Proof.Gen.ReferenceIdeal.Read
public import Idealize.ShloMosaic.Lib.StableHlo.Predicate

@[expose] public section

set_option maxRecDepth 16384

noncomputable section

namespace Cert.Experts

open Cert.ReferenceIdeal Cert.ReferenceIdeal.Read Idealize.ShloMosaic Idealize.ShloMosaic.StableHlo

variable {F : FTy → Type} [FloatOps F]

/-- The experts' counts, as the programs' last argument holds them. -/
abbrev Counts (F : FTy → Type) : Type := (⟨S8, .i32⟩ : BufTy).Contents (Elt F)

/-- The expert of each block of rows. -/
abbrev expertW (x : Counts F) : (⟨S72, .i32⟩ : BufTy).Contents (Elt F) := val_main_v19 (F := F) x
/-- Whether each block of rows lies below the end of the last expert's rows, as a bit. -/
abbrev usedB (x : Counts F) : (⟨S72, .i1⟩ : BufTy).Contents (Elt F) := val_main_v23 (F := F) x

/-- The smaller of a word of at most 8 and 7 is at most 7. -/
theorem minsi_seven (x : BitVec 32) (h : x.toNat ≤ 8) : (IntOp.minsi x 7#32).toNat < 8 := by
  have e : x = BitVec.ofNat 32 x.toNat := by simp
  have key : ∀ n : Fin 9, (IntOp.minsi (BitVec.ofNat 32 n.val) 7#32).toNat < 8 := by decide
  rw [e]
  exact key ⟨x.toNat, by omega⟩

/-- Every block's expert is one of the eight. -/
theorem expert_lt (x : Counts F) (j : S72.Idx) : (expertW x j).toNat < 8 := by
  unfold expertW
  rw [val_main_v19_apply, val_main_v18_apply, val_main_c_5_apply]
  refine minsi_seven _ ?_
  unfold val_main_v17 val_main_v16
  have h := Predicate.toNat_reduce_count_cols (n := 72) (m := 8) (by decide) (val_main_v15 (F := F) x) Gen.natLt_1_32 Gen.reducesTo_S72x8_S72_d1 Gen.h_S_ j
  refine (le_of_eq h).trans ?_
  exact (Finset.card_le_univ _).trans (by simp)

/-- The used bit widened to a word is 0 or 1. -/
theorem used_word (b : BitVec 1) : b.setWidth 32 = 0#32 ∨ b.setWidth 32 = 1#32 := by
  revert b; decide

end Cert.Experts

end
-- ==== Proof.UpTables.lean ====
/- The experts' gate and up projections: what the host lines before the launch leave. The two tables the launch prefetches
   are the routing tables of `Routing.lean`, the rows are the first argument rounded, and no host line writes an argument. -/
module

public import proofs.«01_k».proof.Proof.Routing
public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the launch begins: after the five stretches of host lines. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_new : (hostOps0 : List (HloOp τ sig (Elt F))).Forall fun op => op.fresh = ∅ := by
  simp only [List.Forall]; repeat' constructor
theorem hostOps0_1_new : (hostOps0_1 : List (HloOp τ sig (Elt F))).Forall fun op => op.fresh = ∅ := by
  simp only [List.Forall]; repeat' constructor
theorem hostOps0_2_new : (hostOps0_2 : List (HloOp τ sig (Elt F))).Forall fun op => op.fresh = ∅ := by
  simp only [List.Forall]; repeat' constructor
theorem hostOps0_3_new : (hostOps0_3 : List (HloOp τ sig (Elt F))).Forall fun op => op.fresh = ∅ := by
  simp only [List.Forall]; repeat' constructor
theorem hostOps0_4_new : (hostOps0_4 : List (HloOp τ sig (Elt F))).Forall fun op => op.fresh = ∅ := by
  simp only [List.Forall]; repeat' constructor

set_option maxHeartbeats 800000 in
/-- The program is its host lines, then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_new, hostOps0_1_new, hostOps0_2_new, hostOps0_3_new, hostOps0_4_new⟩) main_chain

/-- Argument 0 is as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 1 is as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 2 is as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 3 is as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The counts as launched on core `c`. -/
abbrev counts (c : Dev nD) : Cert.Experts.Counts F := m ((c : Thread nD τ).loc main_arg3)

set_option maxHeartbeats 4000000 in
/-- The first prefetched table holds each block's expert. -/
theorem V_expert (c : Dev nD) : V m c main_v19 = Cert.Experts.expertW (F := F) (counts m c) := by
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The second holds each block's used bit, as a word. -/
theorem V_used (c : Dev nD) : V m c main_v24 = extui 32 (Cert.Experts.usedB (F := F) (counts m c)) natLt_1_32 := by
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The rows the launch reads are the first argument, rounded. -/
theorem V_rows (c : Dev nD) : V m c main_v25 = truncf .bf16 (m ((c : Thread nD τ).loc main_arg0) : (⟨S36864x2048, .f32⟩ : BufTy).Contents (Elt F)) bitsLt_bf16_f32 := by
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-! ## The prefetched tables -/

/-- The tables' contents when the launch begins (there is one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

theorem tbl_expert : (tbl m 0 : (⟨S72, .i32⟩ : BufTy).Contents (Elt F)) = Cert.Experts.expertW (F := F) (counts m 0) := V_expert m 0
theorem tbl_used : (tbl m 1 : (⟨S72, .i32⟩ : BufTy).Contents (Elt F)) = extui 32 (Cert.Experts.usedB (F := F) (counts m 0)) natLt_1_32 := V_used m 0

/-- A word of the first table is an expert's number. -/
theorem tbl_expert_lt (j : S72.Idx) : (((tbl m 0 : (⟨S72, .i32⟩ : BufTy).Contents (Elt F)) j : BitVec 32)).toNat < 8 := by
  rw [tbl_expert]; exact Cert.Experts.expert_lt _ _

/-- A word of the second is 0 or 1. -/
theorem tbl_used_word (j : S72.Idx) : ((tbl m 1 : (⟨S72, .i32⟩ : BufTy).Contents (Elt F)) j : BitVec 32) = 0#32 ∨ ((tbl m 1 : (⟨S72, .i32⟩ : BufTy).Contents (Elt F)) j : BitVec 32) = 1#32 := by
  rw [tbl_used]; exact Cert.Experts.used_word _

end Cert.KernelIdeal.Experts

end
-- ==== Proof.UpRun.lean ====
/- The experts' gate and up projections: the launch. At each point the body stores the block's product where the block is used
   and zeros where it is not; the run follows for every launch memory, with what every block of the result then holds. -/
module

public import proofs.«01_k».proof.Proof.UpTables
public import Idealize.ShloMosaic.Lib.WordCmp
public import Idealize.ShloMosaic.Lib.VecWindow
public import Idealize.ShloMosaic.Lib.Pipeline.Value
public import Idealize.ShloMosaic.Lib.Claim

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables are admissible -/

/-- Every weight block the index maps ask for lies inside the weights. -/
theorem ok : ok0 (F := F) (tbl m) := by
  have key : ∀ i : grid0.Coords, ∃ h : (∀ a, (cc0_transform_1 k0_off1_inb numel1_S1 (tbl m) i a + 1) * S1x2048x1024.size a ≤ S8x2048x7168.size a), EltTy.bits .f32 = 32 ∨ (Rect.block (s := S8x2048x7168) S1x2048x1024.size (cc0_transform_1 k0_off1_inb numel1_S1 (tbl m) i) h).WholeWords (EltTy.packing .f32) := fun i => by
    have he := tbl_expert_lt m ((Rect.unit (s := S72) (k0_off1 i) S1.size (k0_off1_inb i)).emb (Shape.Idx.first (numel1_S1.symm ▸ Nat.one_pos)))
    refine ⟨fun a => ?_, Or.inl rfl⟩
    have hi : (i 0).val < 7 := (i 0).isLt
    match a with
    | ⟨0, _⟩ => exact (Nat.mul_one _).trans_le (Nat.succ_le_of_lt he)
    | ⟨1, _⟩ => show (0 + 1) * 2048 ≤ 2048; omega
    | ⟨2, _⟩ => show ((BitVec.ofNat 32 (i 0).val).toNat + 1) * 1024 ≤ 7168; rw [BitVec.toNat_ofNat, Nat.mod_eq_of_lt (by omega)]; omega
  exact ⟨key, key⟩

/-- The word of the second table at a point's row of blocks, as the body's two loads read it. -/
theorem word_cases (i : grid0.Coords) : (k0_cond1 ((tbl m 1 : (⟨S72, .i32⟩ : BufTy).Contents (Elt F)) ((Rect.unit (s := S72) (k0_off1 i) S1.size (k0_off1_inb i)).emb (Shape.Idx.first (numel1_S1.symm ▸ Nat.one_pos)))) = 1#1
      ∧ ¬ k0_cond2 ((tbl m 1 : (⟨S72, .i32⟩ : BufTy).Contents (Elt F)) ((Rect.unit (s := S72) (k0_off2 i) S1.size (k0_off2_inb i)).emb (Shape.Idx.first (numel1_S1.symm ▸ Nat.one_pos)))) = 1#1)
    ∨ (¬ k0_cond1 ((tbl m 1 : (⟨S72, .i32⟩ : BufTy).Contents (Elt F)) ((Rect.unit (s := S72) (k0_off1 i) S1.size (k0_off1_inb i)).emb (Shape.Idx.first (numel1_S1.symm ▸ Nat.one_pos)))) = 1#1
      ∧ k0_cond2 ((tbl m 1 : (⟨S72, .i32⟩ : BufTy).Contents (Elt F)) ((Rect.unit (s := S72) (k0_off2 i) S1.size (k0_off2_inb i)).emb (Shape.Idx.first (numel1_S1.symm ▸ Nat.one_pos)))) = 1#1) := by
  have h := tbl_used_word m ((Rect.unit (s := S72) (k0_off1 i) S1.size (k0_off1_inb i)).emb (Shape.Idx.first (numel1_S1.symm ▸ Nat.one_pos)))
  have e : (Rect.unit (s := S72) (k0_off2 i) S1.size (k0_off2_inb i)).emb (Shape.Idx.first (numel1_S1.symm ▸ Nat.one_pos))
    = (Rect.unit (s := S72) (k0_off1 i) S1.size (k0_off1_inb i)).emb (Shape.Idx.first (numel1_S1.symm ▸ Nat.one_pos)) := rfl
  rw [e]
  rcases h with h | h
  · right; rw [h]; decide
  · left; rw [h]; decide

/-- The block row's used word, read at the point's offset. -/
theorem atD_eq (i : grid0.Coords) : (tbl m).atD 1 (k0_off1 i) = (tbl m 1 : (⟨S72, .i32⟩ : BufTy).Contents (Elt F)) ((Rect.unit (s := S72) (k0_off1 i) S1.size (k0_off1_inb i)).emb (Shape.Idx.first (numel1_S1.symm ▸ Nat.one_pos))) := by
  unfold Pipeline.Prefetch.Contents.atD
  have hin : ∀ a : Fin 1, k0_off1 i a + 1 ≤ S72.size a := fun a => by
    have h := k0_off1_inb i a
    match a with
    | ⟨0, _⟩ => exact h
  rw [dif_pos (show ∀ a : Fin (pre0.ref 1).ty.shape.rank, k0_off1 i a + 1 ≤ (pre0.ref 1).ty.shape.size a from hin)]
  refine congrArg (tbl m 1) (funext fun a => Fin.ext ?_)
  have ha : a = (0 : Fin 1) := Subsingleton.elim (α := Fin 1) _ _
  subst ha
  exact (Nat.add_zero _).symm

/-- The body stores its result block at every point. -/
theorem never_idle (i : grid0.Coords) : idle0 (F := F) (tbl m) 3 i = false := by
  have e1 := atD_eq m i
  have e2 : (tbl m).atD 1 (k0_off2 i) = (tbl m 1 : (⟨S72, .i32⟩ : BufTy).Contents (Elt F)) ((Rect.unit (s := S72) (k0_off2 i) S1.size (k0_off2_inb i)).emb (Shape.Idx.first (numel1_S1.symm ▸ Nat.one_pos))) := e1
  show (!(k0_cond1 ((tbl m).atD 1 (k0_off1 i)) == 1#1) && !(k0_cond2 ((tbl m).atD 1 (k0_off2 i)) == 1#1)) = false
  rw [e1, e2]
  rcases word_cases m i with ⟨h, -⟩ | ⟨-, h⟩
  · rw [h]; simp
  · rw [h]; simp

/-- The tables as admissible contents, and the pipeline at them. -/
abbrev adm : (pcfg0 (F := F)).Adm := ⟨tbl m, ok m⟩
abbrev cfgM : Pipeline.Cfg sig Λ₀ := cfg0 (adm m)

/-- The tables as the body is handed them. -/
abbrev tb0 : Memref sig .tc .smem S72 .i32 := Memref.whole main_v19
abbrev tb1 : Memref sig .tc .smem S72 .i32 := Memref.whole main_v24
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves, one by one. -/
theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, of its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The body at point `t`, on the memrefs the pipeline passes. -/
abbrev bodyAt (t : Fin (cfgM m).N) : Prog (TpuEff nD τ sig (Elt F) Λ₀ .tc) PUnit :=
  cc0_moe_up (grid0.coords t) tb0 (Memref.isWhole_whole _) tb1 (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3))

/-! ## The body, where the block is used and where it is not -/

theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl

set_option maxHeartbeats 1000000 in
/-- Where the block is used the body leaves the product of the three blocks. -/
theorem body_used (c : Dev nD) (i : grid0.Coords) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole)
    (x0 : Vec F S512x2048 .bf16) (x1 : Vec F S1x2048x1024 .f32) (x2 : Vec F S1x2048x1024 .f32) (xt0 : TbBuf (F := F) c tb0) (xt1 : TbBuf (F := F) c tb1)
    (hc1 : k0_cond1 (tb1.view.readAt (Elt F) (Rect.unit (s := S72) (k0_off1 i) S1.size (k0_off1_inb i)).toLoadRect xt1 (Shape.Idx.first (numel1_S1.symm ▸ Nat.one_pos))) = 1#1)
    (hc2 : ¬ k0_cond2 (tb1.view.readAt (Elt F) (Rect.unit (s := S72) (k0_off2 i) S1.size (k0_off2_inb i)).toLoadRect xt1 (Shape.Idx.first (numel1_S1.symm ▸ Nat.one_pos))) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt c tb0 xt0 ∗ tbPt c tb1 xt1
        ∗ (iprop(owns (c : Thread nD τ) arg4 fullShare x0 ∗ owns (c : Thread nD τ) arg5 fullShare x1 ∗ owns (c : Thread nD τ) arg6 fullShare x2 ∗ owns (c : Thread nD τ) arg7 fullShare (k0_pay1 x0 x1 x2) ∗ tbPt c tb0 xt0 ∗ tbPt c tb1 xt1) -∗ K ⟨⟩))
      ⊢ wp frame (wpE (defs₀ (F := F)) Variants.none c none) E (cc0_moe_up i tb0 (Memref.isWhole_whole _) tb1 (Memref.isWhole_whole _) arg4 harg4 arg5 harg5 arg6 harg6 arg7 harg7) K := by
  simp only [cc0_moe_up_eq_skeleton]; unfold cc0_moe_up_skel
  unfold owns
  iintro ⟨⟨%f0, %hf0, H0⟩, ⟨%f1, %hf1, H1⟩, ⟨%f2, %hf2, H2⟩, ⟨%d3, %f3, -, H3⟩, HT0, HT1, Hk⟩
  obtain rfl := harg4.eq_unread hf0; obtain rfl := harg5.eq_unread hf1; obtain rfl := harg6.eq_unread hf2
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    rw [View.read_writes_full]
    simp only [View.readAt_eq_ld, harg4.read_unread, harg5.read_unread, harg6.read_unread, View.ld_unit_zero (S := S512x2048) zeros2, View.ld_unit_zero (S := S1x2048x1024) zeros3]
  isplitl [HT0]; · iexact HT0
  iexact HT1

set_option maxHeartbeats 1000000 in
/-- Where it is not, zeros. -/
theorem body_unused (c : Dev nD) (i : grid0.Coords) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole)
    (x0 : Vec F S512x2048 .bf16) (x1 : Vec F S1x2048x1024 .f32) (x2 : Vec F S1x2048x1024 .f32) (xt0 : TbBuf (F := F) c tb0) (xt1 : TbBuf (F := F) c tb1)
    (hc1 : ¬ k0_cond1 (tb1.view.readAt (Elt F) (Rect.unit (s := S72) (k0_off1 i) S1.size (k0_off1_inb i)).toLoadRect xt1 (Shape.Idx.first (numel1_S1.symm ▸ Nat.one_pos))) = 1#1)
    (hc2 : k0_cond2 (tb1.view.readAt (Elt F) (Rect.unit (s := S72) (k0_off2 i) S1.size (k0_off2_inb i)).toLoadRect xt1 (Shape.Idx.first (numel1_S1.symm ▸ Nat.one_pos))) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt c tb0 xt0 ∗ tbPt c tb1 xt1
        ∗ (iprop(owns (c : Thread nD τ) arg4 fullShare x0 ∗ owns (c : Thread nD τ) arg5 fullShare x1 ∗ owns (c : Thread nD τ) arg6 fullShare x2 ∗ owns (c : Thread nD τ) arg7 fullShare (k0_pay2 (F := F)) ∗ tbPt c tb0 xt0 ∗ tbPt c tb1 xt1) -∗ K ⟨⟩))
      ⊢ wp frame (wpE (defs₀ (F := F)) Variants.none c none) E (cc0_moe_up i tb0 (Memref.isWhole_whole _) tb1 (Memref.isWhole_whole _) arg4 harg4 arg5 harg5 arg6 harg6 arg7 harg7) K := by
  simp only [cc0_moe_up_eq_skeleton]; unfold cc0_moe_up_skel
  unfold owns
  iintro ⟨⟨%f0, %hf0, H0⟩, ⟨%f1, %hf1, H1⟩, ⟨%f2, %hf2, H2⟩, ⟨%d3, %f3, -, H3⟩, HT0, HT1, Hk⟩
  obtain rfl := harg4.eq_unread hf0; obtain rfl := harg5.eq_unread hf1; obtain rfl := harg6.eq_unread hf2
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    rw [View.read_writes_full]
  isplitl [HT0]; · iexact HT0
  iexact HT1

/-! ## The pipeline's proof data -/

/-- What the result's block holds after the body at point `t`. -/
def outAt (c : Dev nD) (t : Fin (cfgM m).N) : Vec F S512x1024 .bf16 :=
  if k0_cond1 ((tbl m 1 : (⟨S72, .i32⟩ : BufTy).Contents (Elt F)) ((Rect.unit (s := S72) (k0_off1 (grid0.coords t)) S1.size (k0_off1_inb (grid0.coords t))).emb (Shape.Idx.first (numel1_S1.symm ▸ Nat.one_pos)))) = 1#1 then k0_pay1 (iblk m c 0 t) (iblk m c 1 t) (iblk m c 2 t) else k0_pay2 (F := F)

/-- The arrays as the launch finds them; after each point the inputs' blocks in place and the result's at `outAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outAt m c t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = outAt m c t := by dsimp only [dats]; try rfl

/-- Input 0's staging buffer holds its block at every point. -/
theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input 1's staging buffer holds its block at every point. -/
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input 2's staging buffer holds its block at every point. -/
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body's obligation -/

/-- What the body is called with at point `t`, window by window, -/
def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t 0)) fullShare ((dats m 0 c).before 0 t d))
    ∗ (∃ d, owns (c : Thread nD τ) (spec0_1.stage ((cfgM m).slots t 1)) fullShare ((dats m 0 c).before 1 t d))
    ∗ (∃ d, owns (c : Thread nD τ) (spec0_2.stage ((cfgM m).slots t 2)) fullShare ((dats m 0 c).before 2 t d))
    ∗ (∃ d, owns (c : Thread nD τ) (spec0_3.stage ((cfgM m).slots t 3)) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (spec0_0.stage ((cfgM m).slots t 0)) fullShare ((dats m 0 c).after 0 t)
    ∗ owns (c : Thread nD τ) (spec0_1.stage ((cfgM m).slots t 1)) fullShare ((dats m 0 c).after 1 t)
    ∗ owns (c : Thread nD τ) (spec0_2.stage ((cfgM m).slots t 2)) fullShare ((dats m 0 c).after 2 t)
    ∗ (dats m 0 c).leavesExact 3 t)

/-- The result's buffer is stored at every point, so the body hands it back at `outAt`. -/
theorem leaves_out (c : Dev nD) (t : Fin (cfgM m).N) : (dats m 0 c).leavesExact 3 t = owns (c : Thread nD τ) (spec0_3.stage ((cfgM m).slots t 3)) fullShare (outAt m c t) := by
  have hid : (cfgM m).idle 3 ((cfgM m).grid.coords t) = false := never_idle m _
  unfold Dat.leavesExact
  rw [hid, after_3]
  rfl

set_option maxHeartbeats 800000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, leaves_out]
  rw [show (dats m 0 c).Φ t.castSucc = iprop(Pipeline.ΦA spec0 c ∗ Pipeline.ΦT pre0 (tbl m) c) from rfl, PhiT_eq]
  rcases word_cases m (grid0.coords t) with ⟨h1, h2⟩ | ⟨h1, h2⟩
  · rw [show outAt m c t = _ from if_pos h1]
    iintro ⟨⟨HΦ, ⟨HT0, HT1⟩⟩, Ho, ⟨%d0, H0⟩, ⟨%d1, H1⟩, ⟨%d2, H2⟩, ⟨%d3, H3⟩⟩
    iapply (body_used c (grid0.coords t) _ _ _ _ _ _ _ _ (iblk m c 0 t) (iblk m c 1 t) (iblk m c 2 t) (tbl m 0) (tbl m 1) h1 h2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3
  · rw [show outAt m c t = _ from if_neg h1]
    iintro ⟨⟨HΦ, ⟨HT0, HT1⟩⟩, Ho, ⟨%d0, H0⟩, ⟨%d1, H1⟩, ⟨%d2, H2⟩, ⟨%d3, H3⟩⟩
    iapply (body_unused c (grid0.coords t) _ _ _ _ _ _ _ _ (iblk m c 0 t) (iblk m c 1 t) (iblk m c 2 t) (tbl m 0) (tbl m 1) h1 h2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3

theorem defs_row (t : Fin (cfgM m).N) :
    defs₀ (F := F) .tc (cfgM m).body ((cfgM m).bodyArgs t ((cfgM m).slots t)) = bodyAt m t := by
  unfold defs₀; rw [Defs.onTc_tc]

/-- The obligation of the pipeline at every point; the result's buffer is stored at each (`never_idle`). -/
theorem body_obligation (c : Dev nD) : BodyObligation (dats (F := F) m 0 c) (defs₀ (F := F)) Variants.none () Set.univ := fun t => by
  rw [bigSep_W0, bigSep_W0, defs_row m]
  exact triple_restated (sound_body m c t) rfl .rfl fun _ => .rfl

/-! ## The run -/

set_option backward.isDefEq.respectTransparency.types false in
/-- The program runs to its end from every launch memory, its arrays at what the proof data give, all counters at zero. -/
theorem run_quiet : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The run, read: every argument is unchanged, and the result is what the pipeline's write-backs leave. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v26) = (dats m 0 c).arrAt 3 (cfgM m).N)
      ∧ r.2.sem = fun _ => 0) :=
  (θ_run defs _ _).mono (fun _ hh => ⟨fun c => by
      have h := hh.1
      exact ⟨⟨((h c).2 main_arg0 (by decide : main_arg0 ∈ Pipeline.restRefs sig spec0)).trans (V_arg0 m c),
        ((h c).1 1).trans (((dats m 0 c).arrAt_in 1 rfl _).trans ((A_eq m c 1).trans (V_arg1 m c))),
        ((h c).1 2).trans (((dats m 0 c).arrAt_in 2 rfl _).trans ((A_eq m c 2).trans (V_arg2 m c))),
        ((h c).2 main_arg3 (by decide : main_arg3 ∈ Pipeline.restRefs sig spec0)).trans (V_arg3 m c)⟩, (h c).1 3⟩, hh.2⟩) (run_quiet m ρ)

end Cert.KernelIdeal.Experts

end
-- ==== Proof.ExpertProducts.lean ====
/- What the experts' two layers compute, over the reals: row `r` of the sorted rows lies in block `r / 512`; a block that is used
   is multiplied with the weights of its expert, a block that is not gives zeros. -/
module

public import proofs.«01_k».proof.Proof.Routing
public import Idealize.ShloMosaic.Lib.Pointwise

@[expose] public section

noncomputable section

namespace Cert.Experts

open Cert.ReferenceIdeal Idealize.ShloMosaic

/-- The block that row `r` lies in. -/
abbrev blockOf (r : Fin 36864) : Fin 72 := ⟨r.val / 512, by omega⟩

/-- The expert whose weights a block is multiplied with. -/
abbrev expert (n : Counts Ideal) (b : Fin 72) : Fin 8 := ⟨(expertW n (ix1 b)).toNat, expert_lt n _⟩

/-- The gate through silu, times the other projection. -/
def gated (g u : EReal) : EReal := g * Ideal.div 1 (1 + Ideal.exp (0 - g)) * u

/-- The gate and up projections at row `r` and column `q`. -/
def upAt (x : S36864x2048.Idx → EReal) (wg wu : S8x2048x7168.Idx → EReal) (n : Counts Ideal) (r : Fin 36864) (q : Fin 7168) : EReal :=
  if usedB n (ix1 (blockOf r)) = 1#1 then
    gated (∑ k : Fin 2048, x (ix2 r k) * wg (ix3 (expert n (blockOf r)) k q)) (∑ k : Fin 2048, x (ix2 r k) * wu (ix3 (expert n (blockOf r)) k q))
  else 0

/-- The down projection at row `r` and column `q`. -/
def downAt (h : (⟨2, ![36864, 7168]⟩ : Shape).Idx → EReal) (w : (⟨3, ![8, 7168, 2048]⟩ : Shape).Idx → EReal) (n : Counts Ideal) (r : Fin 36864) (q : Fin 2048) : EReal :=
  if usedB n (ix1 (blockOf r)) = 1#1 then ∑ k : Fin 7168, h (ix2 r k) * w (ix3 (expert n (blockOf r)) k q) else 0

end Cert.Experts

end
-- ==== Proof.UpBlock.lean ====
/- The experts' gate and up projections: what one block of the result holds, at an index. -/
module

public import proofs.«01_k».proof.Proof.UpRun
public import proofs.«01_k».proof.Proof.ExpertProducts

@[expose] public section

set_option maxRecDepth 16384

noncomputable section

namespace Cert.KernelIdeal.Experts

open Cert.KernelIdeal Cert.KernelIdeal.Gen
open Idealize.ShloMosaic

/-- A used block: the products of the rows with the expert's columns, gated. -/
theorem pay_used (x0 : Vec Ideal S512x2048 .bf16) (x1 x2 : Vec Ideal S1x2048x1024 .f32) (p : Fin 512) (q : Fin 1024) :
    k0_pay1 (F := Ideal) x0 x1 x2 (ix2 p q) = Cert.Experts.gated (∑ k : Fin 2048, x0 (ix2 p k) * x1 (ix3 0 k q)) (∑ k : Fin 2048, x0 (ix2 p k) * x2 (ix3 0 k q)) := by
  unfold Cert.Experts.gated
  pointwise [k0_pay1]

/-- A block that is not used: zeros. -/
theorem pay_unused (j : S512x1024.Idx) : k0_pay2 (F := Ideal) j = 0 := by
  pointwise [k0_pay2]

end Cert.KernelIdeal.Experts

end
-- ==== Proof.UpValue.lean ====
/- The experts' gate and up projections: the array the kernel leaves, block by block and then whole. -/
module

public import proofs.«01_k».proof.Proof.UpBlock
public import Idealize.ShloMosaic.Lib.Pipeline.ValueKit.Basic
public import Idealize.ShloMosaic.Lib.Pipeline.Covers

@[expose] public section

set_option maxRecDepth 16384

noncomputable section

namespace Cert.KernelIdeal.Experts

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-- The row of blocks of point `t`, -/
abbrev rowBlk (t : Fin (cfgM m).N) : Fin 72 := ⟨(grid0.coords t 1).val, (grid0.coords t 1).isLt⟩
/-- the row of the array at row `p` of its block, -/
abbrev outRow (t : Fin (cfgM m).N) (p : Fin 512) : Fin 36864 := ⟨(grid0.coords t 1).val * 512 + p.val, by have h : (grid0.coords t 1).val < 72 := (grid0.coords t 1).isLt; omega⟩
/-- and the column of the array at column `q` of its block. -/
abbrev outCol (t : Fin (cfgM m).N) (q : Fin 1024) : Fin 7168 := ⟨(grid0.coords t 0).val * 1024 + q.val, by have h : (grid0.coords t 0).val < 7 := (grid0.coords t 0).isLt; omega⟩

theorem row_word (t : Fin (cfgM m).N) : (BitVec.ofNat 32 (grid0.coords t 1).val).toNat = (grid0.coords t 1).val := by
  have h : (grid0.coords t 1).val < 72 := (grid0.coords t 1).isLt
  rw [BitVec.toNat_ofNat, Nat.mod_eq_of_lt (by omega)]
theorem col_word (t : Fin (cfgM m).N) : (BitVec.ofNat 32 (grid0.coords t 0).val).toNat = (grid0.coords t 0).val := by
  have h : (grid0.coords t 0).val < 7 := (grid0.coords t 0).isLt
  rw [BitVec.toNat_ofNat, Nat.mod_eq_of_lt (by omega)]

/-- The table index a point reads is its row of blocks. -/
theorem word_idx (t : Fin (cfgM m).N) : (Rect.unit (s := S72) (k0_off1 (grid0.coords t)) S1.size (k0_off1_inb (grid0.coords t))).emb (Shape.Idx.first (numel1_S1.symm ▸ Nat.one_pos)) = ix1 (rowBlk m t) := by
  funext a
  obtain rfl : a = (0 : Fin 1) := Subsingleton.elim (α := Fin 1) _ _
  refine Fin.ext ?_
  show (BitVec.ofNat 32 (grid0.coords t 1).val).toNat + 1 * 0 = (grid0.coords t 1).val
  rw [row_word]; omega

theorem expert_word (c : Dev nD) (t : Fin (cfgM m).N) :
    (((tbl m 0 : (⟨S72, .i32⟩ : BufTy).Contents (Elt Ideal)) ((Rect.unit (s := S72) (k0_off1 (grid0.coords t)) S1.size (k0_off1_inb (grid0.coords t))).emb (Shape.Idx.first (numel1_S1.symm ▸ Nat.one_pos))) : BitVec 32)).toNat
      = (Cert.Experts.expert (counts m c) (rowBlk m t)).val := by
  obtain rfl : c = 0 := Subsingleton.elim _ _
  rw [word_idx, tbl_expert]

/-- An index of three axes from its coordinates. -/
theorem idx3_ext (i : S8x2048x7168.Idx) (a : Fin 8) (k : Fin 2048) (q : Fin 7168) (h0 : (i 0).val = a.val) (h1 : (i 1).val = k.val) (h2 : (i 2).val = q.val) :
    i = ix3 a k q := funext fun x => Fin.ext (match x with
  | ⟨0, _⟩ => h0
  | ⟨1, _⟩ => h1
  | ⟨2, _⟩ => h2)

/-- An index of two axes from its coordinates. -/
theorem idx2_ext (i : S36864x2048.Idx) (r : Fin 36864) (k : Fin 2048) (h0 : (i 0).val = r.val) (h1 : (i 1).val = k.val) :
    i = ix2 r k := funext fun x => Fin.ext (match x with
  | ⟨0, _⟩ => h0
  | ⟨1, _⟩ => h1)

/-- Row block `t`: rows of the argument. -/
theorem rows_blk (c : Dev nD) (t : Fin (cfgM m).N) (p : Fin 512) (k : Fin 2048) :
    (iblk m c 0 t : Vec Ideal S512x2048 .bf16) (ix2 p k) = (m ((c : Thread nD τ).loc main_arg0) : S36864x2048.Idx → EReal) (ix2 (outRow m t p) k) := by
  show V m c main_v25 ((((cfgM m).win 0).rect t).emb (ix2 p k)) = _
  rw [V_rows]
  show (m ((c : Thread nD τ).loc main_arg0) : S36864x2048.Idx → EReal) _ = _
  have e0 : ((((cfgM m).win 0).rect t).emb (ix2 p k) (0 : Fin 2) : Nat) = (outRow m t p).val :=
    (((cfgM m).win 0).rect_emb_val t (ix2 p k) (0 : Fin 2)).trans (by show (BitVec.ofNat 32 (grid0.coords t 1).val).toNat * 512 + p.val = (grid0.coords t 1).val * 512 + p.val; rw [row_word])
  have e1 : ((((cfgM m).win 0).rect t).emb (ix2 p k) (1 : Fin 2) : Nat) = k.val :=
    (((cfgM m).win 0).rect_emb_val t (ix2 p k) (1 : Fin 2)).trans (by show 0 * 2048 + k.val = k.val; omega)
  exact congrArg _ (idx2_ext _ _ _ e0 e1)

/-- The expert's row of the weights. -/
theorem weight_row_1 (c : Dev nD) (t : Fin (cfgM m).N) :
    ((cfgM m).win 1).index t (0 : Fin 3) * 1 + 0 = (Cert.Experts.expert (counts m c) (rowBlk m t)).val := by
  have h : ((cfgM m).win 1).index t (0 : Fin 3) = (((tbl m 0 : (⟨S72, .i32⟩ : BufTy).Contents (Elt Ideal)) ((Rect.unit (s := S72) (k0_off1 (grid0.coords t)) S1.size (k0_off1_inb (grid0.coords t))).emb (Shape.Idx.first (numel1_S1.symm ▸ Nat.one_pos))) : BitVec 32)).toNat := rfl
  rw [h, expert_word m c t]; omega

/-- Weight block `t` of argument 1: rows of the block's expert, columns of the tile. -/
theorem weights_blk_1 (c : Dev nD) (t : Fin (cfgM m).N) (k : Fin 2048) (q : Fin 1024) :
    (iblk m c 1 t : Vec Ideal S1x2048x1024 .f32) (ix3 0 k q) = (m ((c : Thread nD τ).loc main_arg1) : S8x2048x7168.Idx → EReal) (ix3 (Cert.Experts.expert (counts m c) (rowBlk m t)) k (outCol m t q)) := by
  show V m c main_arg1 ((((cfgM m).win 1).rect t).emb (ix3 0 k q)) = _
  rw [V_arg1]
  have e0 := (((cfgM m).win 1).rect_emb_val t (ix3 0 k q) (0 : Fin 3)).trans (weight_row_1 m c t)
  have e1 : ((((cfgM m).win 1).rect t).emb (ix3 0 k q) (1 : Fin 3) : Nat) = k.val :=
    (((cfgM m).win 1).rect_emb_val t (ix3 0 k q) (1 : Fin 3)).trans (by show 0 * 2048 + k.val = k.val; omega)
  have e2 : ((((cfgM m).win 1).rect t).emb (ix3 0 k q) (2 : Fin 3) : Nat) = (outCol m t q).val :=
    (((cfgM m).win 1).rect_emb_val t (ix3 0 k q) (2 : Fin 3)).trans (by show (BitVec.ofNat 32 (grid0.coords t 0).val).toNat * 1024 + q.val = (grid0.coords t 0).val * 1024 + q.val; rw [col_word])
  exact congrArg _ (idx3_ext _ _ _ _ e0 e1 e2)

/-- The expert's row of the weights. -/
theorem weight_row_2 (c : Dev nD) (t : Fin (cfgM m).N) :
    ((cfgM m).win 2).index t (0 : Fin 3) * 1 + 0 = (Cert.Experts.expert (counts m c) (rowBlk m t)).val := by
  have h : ((cfgM m).win 2).index t (0 : Fin 3) = (((tbl m 0 : (⟨S72, .i32⟩ : BufTy).Contents (Elt Ideal)) ((Rect.unit (s := S72) (k0_off1 (grid0.coords t)) S1.size (k0_off1_inb (grid0.coords t))).emb (Shape.Idx.first (numel1_S1.symm ▸ Nat.one_pos))) : BitVec 32)).toNat := rfl
  rw [h, expert_word m c t]; omega

/-- Weight block `t` of argument 2: rows of the block's expert, columns of the tile. -/
theorem weights_blk_2 (c : Dev nD) (t : Fin (cfgM m).N) (k : Fin 2048) (q : Fin 1024) :
    (iblk m c 2 t : Vec Ideal S1x2048x1024 .f32) (ix3 0 k q) = (m ((c : Thread nD τ).loc main_arg2) : S8x2048x7168.Idx → EReal) (ix3 (Cert.Experts.expert (counts m c) (rowBlk m t)) k (outCol m t q)) := by
  show V m c main_arg2 ((((cfgM m).win 2).rect t).emb (ix3 0 k q)) = _
  rw [V_arg2]
  have e0 := (((cfgM m).win 2).rect_emb_val t (ix3 0 k q) (0 : Fin 3)).trans (weight_row_2 m c t)
  have e1 : ((((cfgM m).win 2).rect t).emb (ix3 0 k q) (1 : Fin 3) : Nat) = k.val :=
    (((cfgM m).win 2).rect_emb_val t (ix3 0 k q) (1 : Fin 3)).trans (by show 0 * 2048 + k.val = k.val; omega)
  have e2 : ((((cfgM m).win 2).rect t).emb (ix3 0 k q) (2 : Fin 3) : Nat) = (outCol m t q).val :=
    (((cfgM m).win 2).rect_emb_val t (ix3 0 k q) (2 : Fin 3)).trans (by show (BitVec.ofNat 32 (grid0.coords t 0).val).toNat * 1024 + q.val = (grid0.coords t 0).val * 1024 + q.val; rw [col_word])
  exact congrArg _ (idx3_ext _ _ _ _ e0 e1 e2)

/-- The block that the body leaves at point `t`. -/
theorem outAt_apply (c : Dev nD) (t : Fin (cfgM m).N) (p : Fin 512) (q : Fin 1024) :
    (outAt m c t : Vec Ideal S512x1024 .bf16) (ix2 p q) = Cert.Experts.upAt (m ((c : Thread nD τ).loc main_arg0)) (m ((c : Thread nD τ).loc main_arg1)) (m ((c : Thread nD τ).loc main_arg2)) (counts m c) (outRow m t p) (outCol m t q) := by
  have hblk : Cert.Experts.blockOf (outRow m t p) = rowBlk m t := Fin.ext (by
    show ((grid0.coords t 1).val * 512 + p.val) / 512 = (grid0.coords t 1).val; omega)
  have hu : ((tbl m 1 : (⟨S72, .i32⟩ : BufTy).Contents (Elt Ideal)) ((Rect.unit (s := S72) (k0_off1 (grid0.coords t)) S1.size (k0_off1_inb (grid0.coords t))).emb (Shape.Idx.first (numel1_S1.symm ▸ Nat.one_pos))) : BitVec 32)
      = (Cert.Experts.usedB (counts m c) (ix1 (rowBlk m t))).setWidth 32 := by
    obtain rfl : c = 0 := Subsingleton.elim _ _
    rw [word_idx, tbl_used]; rfl
  have hcond : ∀ b : BitVec 1, k0_cond1 (b.setWidth 32) = 1#1 ↔ b = 1#1 := by decide
  refine (congrFun (if_congr (iff_of_eq (congrArg (k0_cond1 · = 1#1) hu)) rfl rfl) _).trans ?_
  unfold Cert.Experts.upAt
  rw [hblk]
  by_cases h : Cert.Experts.usedB (counts m c) (ix1 (rowBlk m t)) = 1#1
  · rw [if_pos ((hcond _).mpr h), if_pos h]
    refine (pay_used (iblk m c 0 t) (iblk m c 1 t) (iblk m c 2 t) p q).trans ?_
    refine congrArg₂ _ ?_ ?_
    · exact Finset.sum_congr rfl fun k _ => congrArg₂ _ (rows_blk m c t p k) (weights_blk_1 m c t k q)
    · exact Finset.sum_congr rfl fun k _ => congrArg₂ _ (rows_blk m c t p k) (weights_blk_2 m c t k q)
  · rw [if_neg (fun h' => h ((hcond _).mp h')), if_neg h]; exact pay_unused _

/-- The array the kernel leaves. -/
def result (c : Dev nD) : S36864x7168.Idx → EReal := fun i =>
  Cert.Experts.upAt (m ((c : Thread nD τ).loc main_arg0)) (m ((c : Thread nD τ).loc main_arg1)) (m ((c : Thread nD τ).loc main_arg2)) (counts m c) (i 0) (i 1)

/-- What point `t` writes back is its block of that array. -/
theorem flushed_eq (c : Dev nD) (t : Fin (cfgM m).N) :
    (dats m 0 c).flushed 3 t = (((cfgM m).win 3).blk t).view.read (Elt Ideal) (result m c) := by
  show ((cfgM m).win 3).cut (grid0.coords t) ((dats m 0 c).after 3 t) = _
  rw [after_3]
  funext y
  revert y
  show ∀ y : S512x1024.Idx, (outAt m c t : Vec Ideal S512x1024 .bf16) y = result m c ((((cfgM m).win 3).rect t).emb y)
  intro y
  obtain ⟨p, q, rfl⟩ : ∃ (p : Fin 512) (q : Fin 1024), y = ix2 p q := ⟨y 0, y 1, eq_ix2 y⟩
  rw [outAt_apply]
  unfold result
  refine congrArg₂ _ (Fin.ext ?_) (Fin.ext ?_)
  · refine Eq.symm ((((cfgM m).win 3).rect_emb_val t (ix2 p q) (0 : Fin 2)).trans ?_)
    show (BitVec.ofNat 32 (grid0.coords t 1).val).toNat * 512 + p.val = (grid0.coords t 1).val * 512 + p.val
    rw [row_word]
  · refine Eq.symm ((((cfgM m).win 3).rect_emb_val t (ix2 p q) (1 : Fin 2)).trans ?_)
    show (BitVec.ofNat 32 (grid0.coords t 0).val).toNat * 1024 + q.val = (grid0.coords t 0).val * 1024 + q.val
    rw [col_word]

/-- Every point writes its block back. -/
theorem flush_out (t : Fin (cfgM m).N) : ((cfgM m).win 3).flush t = true :=
  (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _)

/-- The blocks tile the array. -/
theorem cover (i : S36864x7168.Idx) : ∃ t : Fin (cfgM m).N, ((cfgM m).win 3).flush t = true ∧ i ∈ (((cfgM m).win 3).blk t).view.set := by
  have h0 : (i 0).val < 36864 := (i 0).isLt
  have h1 : (i 1).val < 7168 := (i 1).isLt
  obtain ⟨t, ht⟩ := grid0.coords_surjective (fun a => match a with
    | ⟨0, _⟩ => ⟨(i 1).val / 1024, by show (i 1).val / 1024 < 7; omega⟩
    | ⟨1, _⟩ => ⟨(i 0).val / 512, by show (i 0).val / 512 < 72; omega⟩)
  have c0 : (grid0.coords t 0).val = (i 1).val / 1024 := congrArg Fin.val (congrFun ht 0)
  have c1 : (grid0.coords t 1).val = (i 0).val / 512 := congrArg Fin.val (congrFun ht 1)
  refine ⟨t, flush_out m t, ?_⟩
  show i ∈ ((View.whole main_v26).slice (((cfgM m).win 3).rect t)).set
  erw [View.set_slice_whole]
  refine (Pipeline.Window.mem_rect_iff ((cfgM m).win 3) t i (by rfl)).mpr fun a => ?_
  match a with
  | ⟨0, _⟩ =>
    show (BitVec.ofNat 32 (grid0.coords t 1).val).toNat * 512 ≤ (i 0).val ∧ (i 0).val < (BitVec.ofNat 32 (grid0.coords t 1).val).toNat * 512 + 512
    rw [row_word m t, c1]; omega
  | ⟨1, _⟩ =>
    show (BitVec.ofNat 32 (grid0.coords t 0).val).toNat * 1024 ≤ (i 1).val ∧ (i 1).val < (BitVec.ofNat 32 (grid0.coords t 0).val).toNat * 1024 + 1024
    rw [col_word m t, c0]; omega

/-- So the array ends holding it. -/
theorem final (c : Dev nD) : (dats m 0 c).arrAt 3 (cfgM m).N = result m c :=
  (dats m 0 c).arrAt_eq_of_cover 3 (result m c) (fun t _ => flushed_eq m c t) (cover m)

end Cert.KernelIdeal.Experts

end
-- ==== Proof.ExpertGather.lean ====
/- The weights taken per block of rows: `w[idx]` along the first axis of an array of three axes, read at an index. -/
module

public import proofs.«01_k».proof.Proof.ExpertProducts
public import Idealize.ShloMosaic.Lib.StableHlo.Predicate

@[expose] public section

noncomputable section

namespace Cert.Experts

open Idealize.ShloMosaic

/-- The dimension numbers of `w[idx]`. -/
abbrev takeDims (E K N B : ℕ) (wf : GatherDims.WF ⟨3, ![E, K, N]⟩ ⟨2, ![B, 1]⟩ ⟨3, ![B, K, N]⟩ [1, 2] [0] [] [0] [] 1 ![1, K, N]) :
    GatherDims ⟨3, ![E, K, N]⟩ ⟨2, ![B, 1]⟩ ⟨3, ![B, K, N]⟩ where
  offsetDims := [1, 2]
  collapsedSliceDims := [0]
  operandBatchingDims := []
  startIndicesBatchingDims := []
  startIndexMap := [0]
  indexVectorDim := 1
  sliceSizes := ![1, K, N]
  wf := wf

/-- Where the list names an entry of the first axis, `w[idx]` is `w` at that entry. -/
theorem take_apply {α : Type} {E K N B : ℕ} (wf : GatherDims.WF ⟨3, ![E, K, N]⟩ ⟨2, ![B, 1]⟩ ⟨3, ![B, K, N]⟩ [1, 2] [0] [] [0] [] 1 ![1, K, N])
    (x : (⟨3, ![E, K, N]⟩ : Shape).Idx → α) (idx : IVec ⟨2, ![B, 1]⟩ 32) (b : Fin B) (k : Fin K) (n : Fin N) (e : Fin E)
    (he : (idx (ix2 b 0)).toInt.toNat = e.val) :
    Host.gather (takeDims E K N B wf) x idx (ix3 b k n) = x (ix3 e k n) := by
  unfold Host.gather
  refine congrArg x (funext fun a => Fin.ext ?_)
  show (takeDims E K N B wf).start (ix3 b k n) idx a + (takeDims E K N B wf).batchCoord (ix3 b k n) a + (takeDims E K N B wf).offCoord (ix3 b k n) a = _
  rw [GatherDims.batchCoord_eq_zero _ _ _ List.not_mem_nil, Nat.add_zero]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (takeDims E K N B wf).startIndexMap from List.mem_singleton.mpr rfl)]
    have hsi : (takeDims E K N B wf).siIdx (ix3 b k n) ⟨List.idxOf (0 : Fin 3) (takeDims E K N B wf).startIndexMap,
        List.idxOf_lt_length_iff.2 (List.mem_singleton.mpr rfl)⟩ = ix2 b 0 := by
      funext c; refine Fin.ext ?_
      match c with
      | ⟨0, _⟩ => rfl
      | ⟨1, _⟩ => rfl
    have hlt := e.isLt
    rw [hsi, he]
    show min e.val (E - 1) = e.val
    omega
  · unfold GatherDims.start GatherDims.offCoord
    rw [dif_neg (show (1 : Fin 3) ∉ (takeDims E K N B wf).startIndexMap from by simp), dif_pos ((GatherDims.mem_sKept _ _).mpr ⟨by simp, List.not_mem_nil⟩), Nat.zero_add]
    rfl
  · unfold GatherDims.start GatherDims.offCoord
    rw [dif_neg (show (2 : Fin 3) ∉ (takeDims E K N B wf).startIndexMap from by simp), dif_pos ((GatherDims.mem_sKept _ _).mpr ⟨by simp, List.not_mem_nil⟩), Nat.zero_add]
    rfl

/-- The word that a negative index is wrapped by keeps an expert's number. -/
theorem wrap_small (w : BitVec 32) (h : w.toNat < 8) :
    (Scalar.select (IntOp.cmpi .slt w 0#32) (IntOp.addi w 8#32) w).toInt.toNat = w.toNat := by
  have e : w = BitVec.ofNat 32 w.toNat := by simp
  have key : ∀ n : Fin 8, (Scalar.select (IntOp.cmpi .slt (BitVec.ofNat 32 n.val) 0#32) (IntOp.addi (BitVec.ofNat 32 n.val) 8#32) (BitVec.ofNat 32 n.val)).toInt.toNat = n.val := by decide
  rw [e]
  exact (key ⟨w.toNat, h⟩).trans (by simp)

end Cert.Experts

end
-- ==== Proof.UpRef.lean ====
/- The experts' gate and up projections: what the reference computes, at an index. -/
module

public import proofs.«01_k».proof.Proof.ExpertGather

@[expose] public section

set_option maxRecDepth 16384

noncomputable section

namespace Cert.ReferenceIdeal.Experts

open Cert.ReferenceIdeal Cert.ReferenceIdeal.Read Cert.Experts Idealize.ShloMosaic

/-- The weights the reference takes for block `b`: its expert's. -/
theorem taken_x1 (x1 : (⟨S8x2048x7168, .f32⟩ : BufTy).Contents (Elt Ideal)) (x3 : Counts Ideal) (b : Fin 72) (k : Fin 2048) (q : Fin 7168) :
    val_main_v31 (F := Ideal) x1 x3 (ix3 b k q) = x1 (ix3 (expert x3 b) k q) := by
  refine take_apply Gen.facts₀.gather_S8x2048x7168_S72x1_S72x2048x7168_12_0_n_n_0_1_120487168_wf x1 (val_main_v30 (F := Ideal) x3) b k q (expert x3 b) ?_
  rw [val_main_v30_apply, val_main_v29_apply, val_main_v26_apply, val_main_v25_apply, val_main_c_6_apply, val_main_v28_apply, val_main_v27_apply, val_main_c_7_apply]
  have e : idx_main_v30 (ix2 b 0) = ix1 b := funext fun a => Fin.ext (match a with | ⟨0, _⟩ => rfl)
  rw [e]
  exact wrap_small _ (expert_lt x3 (ix1 b))

/-- The reference's product of a block's rows with its expert's columns. -/
theorem product_x1 (x0 : (⟨S36864x2048, .f32⟩ : BufTy).Contents (Elt Ideal)) (x1 : (⟨S8x2048x7168, .f32⟩ : BufTy).Contents (Elt Ideal)) (x3 : Counts Ideal) (b : Fin 72) (p : Fin 512) (q : Fin 7168) (r : Fin 36864) (hr : r.val = b.val * 512 + p.val) :
    val_main_v32 (F := Ideal) x0 x1 x3 (ix3 b p q) = ∑ k : Fin 2048, x0 (ix2 r k) * x1 (ix3 (expert x3 b) k q) := by
  rw [val_main_v32_apply]
  refine Finset.sum_congr rfl fun k _ => ?_
  have er : ridx_main_v32 (ix3 b p q) k = ix3 b k q := funext fun a => Fin.ext (match a with | ⟨0, _⟩ => rfl | ⟨1, _⟩ => rfl | ⟨2, _⟩ => rfl)
  have el : idx_main_v24 (lidx_main_v32 (ix3 b p q) k) = ix2 r k := funext fun a => Fin.ext (by
    have hk := k.isLt
    match a with
    | ⟨0, _⟩ => show ((b.val * 512 + p.val) * 2048 + k.val) / 2048 = r.val; omega
    | ⟨1, _⟩ => show ((b.val * 512 + p.val) * 2048 + k.val) % 2048 = k.val; omega)
  rw [er, taken_x1, val_main_v24_apply, el]

/-- The weights the reference takes for block `b`: its expert's. -/
theorem taken_x2 (x2 : (⟨S8x2048x7168, .f32⟩ : BufTy).Contents (Elt Ideal)) (x3 : Counts Ideal) (b : Fin 72) (k : Fin 2048) (q : Fin 7168) :
    val_main_v39 (F := Ideal) x2 x3 (ix3 b k q) = x2 (ix3 (expert x3 b) k q) := by
  refine take_apply Gen.facts₀.gather_S8x2048x7168_S72x1_S72x2048x7168_12_0_n_n_0_1_120487168_wf x2 (val_main_v38 (F := Ideal) x3) b k q (expert x3 b) ?_
  rw [val_main_v38_apply, val_main_v37_apply, val_main_v34_apply, val_main_v33_apply, val_main_c_8_apply, val_main_v36_apply, val_main_v35_apply, val_main_c_9_apply]
  have e : idx_main_v38 (ix2 b 0) = ix1 b := funext fun a => Fin.ext (match a with | ⟨0, _⟩ => rfl)
  rw [e]
  exact wrap_small _ (expert_lt x3 (ix1 b))

/-- The reference's product of a block's rows with its expert's columns. -/
theorem product_x2 (x0 : (⟨S36864x2048, .f32⟩ : BufTy).Contents (Elt Ideal)) (x2 : (⟨S8x2048x7168, .f32⟩ : BufTy).Contents (Elt Ideal)) (x3 : Counts Ideal) (b : Fin 72) (p : Fin 512) (q : Fin 7168) (r : Fin 36864) (hr : r.val = b.val * 512 + p.val) :
    val_main_v40 (F := Ideal) x0 x2 x3 (ix3 b p q) = ∑ k : Fin 2048, x0 (ix2 r k) * x2 (ix3 (expert x3 b) k q) := by
  rw [val_main_v40_apply]
  refine Finset.sum_congr rfl fun k _ => ?_
  have er : ridx_main_v40 (ix3 b p q) k = ix3 b k q := funext fun a => Fin.ext (match a with | ⟨0, _⟩ => rfl | ⟨1, _⟩ => rfl | ⟨2, _⟩ => rfl)
  have el : idx_main_v24 (lidx_main_v40 (ix3 b p q) k) = ix2 r k := funext fun a => Fin.ext (by
    have hk := k.isLt
    match a with
    | ⟨0, _⟩ => show ((b.val * 512 + p.val) * 2048 + k.val) / 2048 = r.val; omega
    | ⟨1, _⟩ => show ((b.val * 512 + p.val) * 2048 + k.val) % 2048 = k.val; omega)
  rw [er, taken_x2, val_main_v24_apply, el]

/-- The reference's result at an index. -/
theorem ref_apply (x0 : (⟨S36864x2048, .f32⟩ : BufTy).Contents (Elt Ideal)) (x1 x2 : (⟨S8x2048x7168, .f32⟩ : BufTy).Contents (Elt Ideal)) (x3 : Counts Ideal) (r : Fin 36864) (q : Fin 7168) :
    val_main_v46 (F := Ideal) x0 x1 x2 x3 (ix2 r q) = upAt x0 x1 x2 x3 r q := by
  have hr := r.isLt
  have hq := q.isLt
  have ei : idx_main_v45 (ix2 r q) = ix3 (blockOf r) (⟨r.val % 512, by omega⟩ : Fin 512) q := funext fun a => Fin.ext (by
    match a with
    | ⟨0, _⟩ => show (r.val * 7168 + q.val) / 3670016 = r.val / 512; omega
    | ⟨1, _⟩ => show (r.val * 7168 + q.val) / 7168 % 512 = r.val % 512; omega
    | ⟨2, _⟩ => show (r.val * 7168 + q.val) % 7168 = q.val; omega)
  have hrow : r.val = (blockOf r).val * 512 + (⟨r.val % 512, by omega⟩ : Fin 512).val := by show r.val = r.val / 512 * 512 + r.val % 512; omega
  refine (val_main_v45_apply x0 x1 x2 x3 (ix2 r q)).trans ?_
  rw [ei, val_main_v44_apply, val_main_call3_v1_apply, val_main_v43_apply, val_main_call3_v2_apply, val_main_call3_v0_apply, val_main_cst_apply]
  have eb : idx_main_v43 (idx_main_call3_v1 (ix3 (blockOf r) (⟨r.val % 512, by omega⟩ : Fin 512) q)) = ix1 (blockOf r) := funext fun a => Fin.ext (match a with | ⟨0, _⟩ => rfl)
  rw [eb]
  unfold upAt
  by_cases h : usedB x3 (ix1 (blockOf r)) = 1#1
  · rw [if_pos h]
    refine (if_pos h).trans ?_
    rw [val_main_v42_apply, val_main_v41_apply, val_main_call2_v5_apply, val_main_call2_v4_apply, val_main_call2_cst_0_apply, val_main_call2_v3_apply, val_main_call2_v2_apply, val_main_call2_cst_apply, val_main_call2_v1_apply, val_main_call2_v0_apply,
      product_x1 x0 x1 x3 _ _ q r hrow, product_x2 x0 x2 x3 _ _ q r hrow]
    generalize (∑ k : Fin 2048, x0 (ix2 r k) * x1 (ix3 (expert x3 (blockOf r)) k q)) = g
    generalize (∑ k : Fin 2048, x0 (ix2 r k) * x2 (ix3 (expert x3 (blockOf r)) k q)) = u
    unfold gated
    show g * Ideal.div (Ideal.ofBits .f32 0x3F800000#32) (Ideal.ofBits .f32 0x3F800000#32 + Ideal.exp (-g)) * u = g * Ideal.div 1 (1 + Ideal.exp (0 - g)) * u
    rw [Ideal.ofBits_one_f32, zero_sub]
  · rw [if_neg h]
    refine (if_neg h).trans ?_
    exact Ideal.ofBits_zero_f32

end Cert.ReferenceIdeal.Experts

end
-- ==== Proof.UpClaims.lean ====
/- The experts' gate and up projections: the claims. -/
module

public import proofs.«01_k».proof.Defs
public import proofs.«01_k».proof.Proof.Gen.Kernel
public import proofs.«01_k».proof.Proof.UpRunBits
public import proofs.«01_k».proof.Proof.UpValue
public import proofs.«01_k».proof.Proof.UpRef

@[expose] public section

set_option maxRecDepth 16384

noncomputable section

namespace Cert.Proof.Up

open Idealize.ShloMosaic Idealize.SL.Sem

/-- The printed program ends for every launch memory, with its arguments unchanged and every semaphore at zero. -/
theorem frame_kernel : Cert.quiescent_Kernel := fun m ρ _ =>
  (θ_run Cert.Kernel.defs _ _).mono (fun _ h => ⟨fun c => (h.1 c).1, h.2⟩) (Cert.Kernel.Experts.run_main (F := Bits) m ρ)

/-- The same of the idealized program. -/
theorem frame_kernelIdeal : Cert.quiescent_KernelIdeal := fun m ρ _ =>
  (θ_run Cert.KernelIdeal.defs _ _).mono (fun _ h => ⟨fun c => (h.1 c).1, h.2⟩) (Cert.KernelIdeal.Experts.run_main (F := Ideal) m ρ)

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Both leave the same array. -/
theorem algebraic : Cert.algebraic_KernelIdeal_ReferenceIdeal := by
  intro m ρ m' ρ' _ hagree
  refine ⟨fun c => Cert.KernelIdeal.Experts.result m c,
    (θ_run Cert.KernelIdeal.defs _ _).mono (fun _ h c => ⟨((h.1 c).2).trans (Cert.KernelIdeal.Experts.final m c), (h.1 c).1⟩) (Cert.KernelIdeal.Experts.run_main (F := Ideal) m ρ),
    (θ_run Cert.ReferenceIdeal.defs _ _).mono (fun _ h c => ⟨((h c).1).trans ?_, (h c).2⟩) (Cert.ReferenceIdeal.Value.run (F := Ideal) m' ρ')⟩
  rw [Cert.ReferenceIdeal.Read.val_main_v46_eq]
  obtain ⟨h0, h1, h2, h3⟩ := hagree c
  funext i
  obtain ⟨r, q, rfl⟩ : ∃ r q, i = ix2 r q := ⟨i 0, i 1, eq_ix2 i⟩
  refine (Cert.ReferenceIdeal.Experts.ref_apply _ _ _ _ r q).trans ?_
  rw [h0, h1, h2, h3]
  rfl

end Cert.Proof.Up

end
-- ==== Proof.DownTables.lean ====
/- The experts' down projection: what the host lines before the launch leave. The two tables the launch prefetches
   are the routing tables of `Routing.lean`, the rows are the first argument rounded, and no host line writes an argument. -/
module

public import proofs.«01_k».proof.Proof.Routing
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Tactic

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the launch begins: after the five stretches of host lines. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_new : (hostOps0 : List (HloOp τ sig (Elt F))).Forall fun op => op.fresh = ∅ := by
  simp only [List.Forall]; repeat' constructor
theorem hostOps0_1_new : (hostOps0_1 : List (HloOp τ sig (Elt F))).Forall fun op => op.fresh = ∅ := by
  simp only [List.Forall]; repeat' constructor
theorem hostOps0_2_new : (hostOps0_2 : List (HloOp τ sig (Elt F))).Forall fun op => op.fresh = ∅ := by
  simp only [List.Forall]; repeat' constructor
theorem hostOps0_3_new : (hostOps0_3 : List (HloOp τ sig (Elt F))).Forall fun op => op.fresh = ∅ := by
  simp only [List.Forall]; repeat' constructor
theorem hostOps0_4_new : (hostOps0_4 : List (HloOp τ sig (Elt F))).Forall fun op => op.fresh = ∅ := by
  simp only [List.Forall]; repeat' constructor

set_option maxHeartbeats 800000 in
/-- The program is its host lines, then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_new, hostOps0_1_new, hostOps0_2_new, hostOps0_3_new, hostOps0_4_new⟩) main_chain

/-- Argument 0 is as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 1 is as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Argument 2 is as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The counts as launched on core `c`. -/
abbrev counts (c : Dev nD) : Cert.Experts.Counts F := m ((c : Thread nD τ).loc main_arg2)

set_option maxHeartbeats 4000000 in
/-- The first prefetched table holds each block's expert. -/
theorem V_expert (c : Dev nD) : V m c main_v19 = Cert.Experts.expertW (F := F) (counts m c) := by
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The second holds each block's used bit, as a word. -/
theorem V_used (c : Dev nD) : V m c main_v24 = extui 32 (Cert.Experts.usedB (F := F) (counts m c)) natLt_1_32 := by
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The rows the launch reads are the first argument, rounded. -/
theorem V_rows (c : Dev nD) : V m c main_v25 = truncf .bf16 (m ((c : Thread nD τ).loc main_arg0) : (⟨S36864x7168, .f32⟩ : BufTy).Contents (Elt F)) bitsLt_bf16_f32 := by
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-! ## The prefetched tables -/

/-- The tables' contents when the launch begins (there is one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

theorem tbl_expert : (tbl m 0 : (⟨S72, .i32⟩ : BufTy).Contents (Elt F)) = Cert.Experts.expertW (F := F) (counts m 0) := V_expert m 0
theorem tbl_used : (tbl m 1 : (⟨S72, .i32⟩ : BufTy).Contents (Elt F)) = extui 32 (Cert.Experts.usedB (F := F) (counts m 0)) natLt_1_32 := V_used m 0

/-- A word of the first table is an expert's number. -/
theorem tbl_expert_lt (j : S72.Idx) : (((tbl m 0 : (⟨S72, .i32⟩ : BufTy).Contents (Elt F)) j : BitVec 32)).toNat < 8 := by
  rw [tbl_expert]; exact Cert.Experts.expert_lt _ _

/-- A word of the second is 0 or 1. -/
theorem tbl_used_word (j : S72.Idx) : ((tbl m 1 : (⟨S72, .i32⟩ : BufTy).Contents (Elt F)) j : BitVec 32) = 0#32 ∨ ((tbl m 1 : (⟨S72, .i32⟩ : BufTy).Contents (Elt F)) j : BitVec 32) = 1#32 := by
  rw [tbl_used]; exact Cert.Experts.used_word _

end Cert.Kernel2Ideal.Experts

end
-- ==== Proof.DownRun.lean ====
/- The experts' down projection: the launch. At each point the body stores the block's product where the block is used
   and zeros where it is not; the run follows for every launch memory, with what every block of the result then holds. -/
module

public import proofs.«01_k».proof.Proof.DownTables
public import Idealize.ShloMosaic.Lib.WordCmp
public import Idealize.ShloMosaic.Lib.VecWindow
public import Idealize.ShloMosaic.Lib.Pipeline.Value
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables are admissible -/

/-- Every weight block the index maps ask for lies inside the weights. -/
theorem ok : ok0 (F := F) (tbl m) := by
  exact fun i => by
    have he := tbl_expert_lt m ((Rect.unit (s := S72) (k0_off1 i) S1.size (k0_off1_inb i)).emb (Shape.Idx.first (numel1_S1.symm ▸ Nat.one_pos)))
    refine ⟨fun a => ?_, Or.inl rfl⟩
    have hi : (i 0).val < 4 := (i 0).isLt
    match a with
    | ⟨0, _⟩ => exact (Nat.mul_one _).trans_le (Nat.succ_le_of_lt he)
    | ⟨1, _⟩ => show (0 + 1) * 7168 ≤ 7168; omega
    | ⟨2, _⟩ => show ((BitVec.ofNat 32 (i 0).val).toNat + 1) * 512 ≤ 2048; rw [BitVec.toNat_ofNat, Nat.mod_eq_of_lt (by omega)]; omega

/-- The word of the second table at a point's row of blocks, as the body's two loads read it. -/
theorem word_cases (i : grid0.Coords) : (k0_cond1 ((tbl m 1 : (⟨S72, .i32⟩ : BufTy).Contents (Elt F)) ((Rect.unit (s := S72) (k0_off1 i) S1.size (k0_off1_inb i)).emb (Shape.Idx.first (numel1_S1.symm ▸ Nat.one_pos)))) = 1#1
      ∧ ¬ k0_cond2 ((tbl m 1 : (⟨S72, .i32⟩ : BufTy).Contents (Elt F)) ((Rect.unit (s := S72) (k0_off2 i) S1.size (k0_off2_inb i)).emb (Shape.Idx.first (numel1_S1.symm ▸ Nat.one_pos)))) = 1#1)
    ∨ (¬ k0_cond1 ((tbl m 1 : (⟨S72, .i32⟩ : BufTy).Contents (Elt F)) ((Rect.unit (s := S72) (k0_off1 i) S1.size (k0_off1_inb i)).emb (Shape.Idx.first (numel1_S1.symm ▸ Nat.one_pos)))) = 1#1
      ∧ k0_cond2 ((tbl m 1 : (⟨S72, .i32⟩ : BufTy).Contents (Elt F)) ((Rect.unit (s := S72) (k0_off2 i) S1.size (k0_off2_inb i)).emb (Shape.Idx.first (numel1_S1.symm ▸ Nat.one_pos)))) = 1#1) := by
  have h := tbl_used_word m ((Rect.unit (s := S72) (k0_off1 i) S1.size (k0_off1_inb i)).emb (Shape.Idx.first (numel1_S1.symm ▸ Nat.one_pos)))
  have e : (Rect.unit (s := S72) (k0_off2 i) S1.size (k0_off2_inb i)).emb (Shape.Idx.first (numel1_S1.symm ▸ Nat.one_pos))
    = (Rect.unit (s := S72) (k0_off1 i) S1.size (k0_off1_inb i)).emb (Shape.Idx.first (numel1_S1.symm ▸ Nat.one_pos)) := rfl
  rw [e]
  rcases h with h | h
  · right; rw [h]; decide
  · left; rw [h]; decide

/-- The block row's used word, read at the point's offset. -/
theorem atD_eq (i : grid0.Coords) : (tbl m).atD 1 (k0_off1 i) = (tbl m 1 : (⟨S72, .i32⟩ : BufTy).Contents (Elt F)) ((Rect.unit (s := S72) (k0_off1 i) S1.size (k0_off1_inb i)).emb (Shape.Idx.first (numel1_S1.symm ▸ Nat.one_pos))) := by
  unfold Pipeline.Prefetch.Contents.atD
  have hin : ∀ a : Fin 1, k0_off1 i a + 1 ≤ S72.size a := fun a => by
    have h := k0_off1_inb i a
    match a with
    | ⟨0, _⟩ => exact h
  rw [dif_pos (show ∀ a : Fin (pre0.ref 1).ty.shape.rank, k0_off1 i a + 1 ≤ (pre0.ref 1).ty.shape.size a from hin)]
  refine congrArg (tbl m 1) (funext fun a => Fin.ext ?_)
  have ha : a = (0 : Fin 1) := Subsingleton.elim (α := Fin 1) _ _
  subst ha
  exact (Nat.add_zero _).symm

/-- The body stores its result block at every point. -/
theorem never_idle (i : grid0.Coords) : idle0 (F := F) (tbl m) 2 i = false := by
  have e1 := atD_eq m i
  have e2 : (tbl m).atD 1 (k0_off2 i) = (tbl m 1 : (⟨S72, .i32⟩ : BufTy).Contents (Elt F)) ((Rect.unit (s := S72) (k0_off2 i) S1.size (k0_off2_inb i)).emb (Shape.Idx.first (numel1_S1.symm ▸ Nat.one_pos))) := e1
  show (!(k0_cond1 ((tbl m).atD 1 (k0_off1 i)) == 1#1) && !(k0_cond2 ((tbl m).atD 1 (k0_off2 i)) == 1#1)) = false
  rw [e1, e2]
  rcases word_cases m i with ⟨h, -⟩ | ⟨-, h⟩
  · rw [h]; simp
  · rw [h]; simp

/-- The tables as admissible contents, and the pipeline at them. -/
abbrev adm : (pcfg0 (F := F)).Adm := ⟨tbl m, ok m⟩
abbrev cfgM : Pipeline.Cfg sig Λ₀ := cfg0 (adm m)

/-- The tables as the body is handed them. -/
abbrev tb0 : Memref sig .tc .smem S72 .i32 := Memref.whole main_v19
abbrev tb1 : Memref sig .tc .smem S72 .i32 := Memref.whole main_v24
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves, one by one. -/
theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, of its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The body at point `t`, on the memrefs the pipeline passes. -/
abbrev bodyAt (t : Fin (cfgM m).N) : Prog (TpuEff nD τ sig (Elt F) Λ₀ .tc) PUnit :=
  cc0_moe_down (grid0.coords t) tb0 (Memref.isWhole_whole _) tb1 (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2))

/-! ## The body, where the block is used and where it is not -/

theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl

set_option maxHeartbeats 1000000 in
/-- Where the block is used the body leaves the product of the two blocks. -/
theorem body_used (c : Dev nD) (i : grid0.Coords) (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole)
    (x0 : Vec F S512x7168 .bf16) (x1 : Vec F S1x7168x512 .f32) (xt0 : TbBuf (F := F) c tb0) (xt1 : TbBuf (F := F) c tb1)
    (hc1 : k0_cond1 (tb1.view.readAt (Elt F) (Rect.unit (s := S72) (k0_off1 i) S1.size (k0_off1_inb i)).toLoadRect xt1 (Shape.Idx.first (numel1_S1.symm ▸ Nat.one_pos))) = 1#1)
    (hc2 : ¬ k0_cond2 (tb1.view.readAt (Elt F) (Rect.unit (s := S72) (k0_off2 i) S1.size (k0_off2_inb i)).toLoadRect xt1 (Shape.Idx.first (numel1_S1.symm ▸ Nat.one_pos))) = 1#1) (E : Set ℕ) (K : PUnit → sProp 𝕄) :
    iprop(owns (c : Thread nD τ) arg4 fullShare x0 ∗ owns (c : Thread nD τ) arg5 fullShare x1 ∗ (∃ d, owns (c : Thread nD τ) arg6 fullShare d) ∗ tbPt c tb0 xt0 ∗ tbPt c tb1 xt1
        ∗ (iprop(owns (c : Thread nD τ) arg4 fullShare x0 ∗ owns (c : Thread nD τ) arg5 fullShare x1 ∗ owns (c : Thread nD τ) arg6 fullShare (k0_pay1 x0 x1) ∗ tbPt c tb0 xt0 ∗ tbPt c tb1 xt1) -∗ K ⟨⟩))
      ⊢ wp frame (wpE (defs₀ (F := F)) Variants.none c none) E (cc0_moe_down i tb0 (Memref.isWhole_whole _) tb1 (Memref.isWhole_whole _) arg4 harg4 arg5 harg5 arg6 harg6) K := by
  simp only [cc0_moe_down_eq_skeleton]; unfold cc0_moe_down_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro
    rw [View.read_writes_full]
    simp only [View.readAt_eq_ld, harg4.read_unread, harg5.read_unread, View.ld_unit_zero (S := S512x7168) zeros2, View.ld_unit_zero (S := S1x7168x512) zeros3]
  isplitl [HT0]; · iexact HT0
  iexact HT1

set_option maxHeartbeats 1000000 in
/-- Where it is not, zeros. -/
theorem body_unused (c : Dev nD) (i : grid0.Coords) (arg4 : Memref sig .tc .vmem S512x7168 .bf16) (harg4 : arg4.IsWhole) (arg5 : Memref sig .tc .vmem S1x7168x512 .f32) (harg5 : arg5.IsWhole) (arg6 : Memref sig .tc .vmem S512x512 .f32) (harg6 : arg6.IsWhole)
    (x0 : Vec F S512x7168 .bf16) (x1 : Vec F S1x7168x512 .f32) (xt0 : TbBuf (F := F) c tb0) (xt1 : TbBuf (F := F) c tb1)
    (hc1 : ¬ k0_cond1 (tb1.view.readAt (Elt F) (Rect.unit (s := S72) (k0_off1 i) S1.size (k0_off1_inb i)).toLoadRect xt1 (Shape.Idx.first (numel1_S1.symm ▸ Nat.one_pos))) = 1#1)
    (hc2 : k0_cond2 (tb1.view.readAt (Elt F) (Rect.unit (s := S72) (k0_off2 i) S1.size (k0_off2_inb i)).toLoadRect xt1 (Shape.Idx.first (numel1_S1.symm ▸ Nat.one_pos))) = 1#1) (E : Set ℕ) (K : PUnit → sProp 𝕄) :
    iprop(owns (c : Thread nD τ) arg4 fullShare x0 ∗ owns (c : Thread nD τ) arg5 fullShare x1 ∗ (∃ d, owns (c : Thread nD τ) arg6 fullShare d) ∗ tbPt c tb0 xt0 ∗ tbPt c tb1 xt1
        ∗ (iprop(owns (c : Thread nD τ) arg4 fullShare x0 ∗ owns (c : Thread nD τ) arg5 fullShare x1 ∗ owns (c : Thread nD τ) arg6 fullShare (k0_pay2 (F := F)) ∗ tbPt c tb0 xt0 ∗ tbPt c tb1 xt1) -∗ K ⟨⟩))
      ⊢ wp frame (wpE (defs₀ (F := F)) Variants.none c none) E (cc0_moe_down i tb0 (Memref.isWhole_whole _) tb1 (Memref.isWhole_whole _) arg4 harg4 arg5 harg5 arg6 harg6) K := by
  simp only [cc0_moe_down_eq_skeleton]; unfold cc0_moe_down_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro
    rw [View.read_writes_full]
  isplitl [HT0]; · iexact HT0
  iexact HT1

/-! ## The pipeline's proof data -/

/-- What the result's block holds after the body at point `t`. -/
def outAt (c : Dev nD) (t : Fin (cfgM m).N) : Vec F S512x512 .f32 :=
  if k0_cond1 ((tbl m 1 : (⟨S72, .i32⟩ : BufTy).Contents (Elt F)) ((Rect.unit (s := S72) (k0_off1 (grid0.coords t)) S1.size (k0_off1_inb (grid0.coords t))).emb (Shape.Idx.first (numel1_S1.symm ▸ Nat.one_pos)))) = 1#1 then k0_pay1 (iblk m c 0 t) (iblk m c 1 t) else k0_pay2 (F := F)

/-- The arrays as the launch finds them; after each point the inputs' blocks in place and the result's at `outAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => (outAt m c t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = outAt m c t := by dsimp only [dats]; try rfl

/-- Input 0's staging buffer holds its block at every point. -/
theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input 1's staging buffer holds its block at every point. -/
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body's obligation -/

/-- What the body is called with at point `t`, window by window, -/
def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t 0)) fullShare ((dats m 0 c).before 0 t d))
    ∗ (∃ d, owns (c : Thread nD τ) (spec0_1.stage ((cfgM m).slots t 1)) fullShare ((dats m 0 c).before 1 t d))
    ∗ (∃ d, owns (c : Thread nD τ) (spec0_2.stage ((cfgM m).slots t 2)) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (spec0_0.stage ((cfgM m).slots t 0)) fullShare ((dats m 0 c).after 0 t)
    ∗ owns (c : Thread nD τ) (spec0_1.stage ((cfgM m).slots t 1)) fullShare ((dats m 0 c).after 1 t)
    ∗ (dats m 0 c).leavesExact 2 t)

/-- The result's buffer is stored at every point, so the body hands it back at `outAt`. -/
theorem leaves_out (c : Dev nD) (t : Fin (cfgM m).N) : (dats m 0 c).leavesExact 2 t = owns (c : Thread nD τ) (spec0_2.stage ((cfgM m).slots t 2)) fullShare (outAt m c t) := by
  have hid : (cfgM m).idle 2 ((cfgM m).grid.coords t) = false := never_idle m _
  unfold Dat.leavesExact
  rw [hid, after_2]
  rfl

set_option maxHeartbeats 800000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1]
  rw [show (dats m 0 c).Φ t.succ = (dats m 0 c).Φ t.castSucc from rfl,
    show (dats m 0 c).owesAt () t.succ = (dats m 0 c).owesAt () t.castSucc from rfl,
    after_0, after_1, leaves_out]
  rw [show (dats m 0 c).Φ t.castSucc = iprop(Pipeline.ΦA spec0 c ∗ Pipeline.ΦT pre0 (tbl m) c) from rfl, PhiT_eq]
  rcases word_cases m (grid0.coords t) with ⟨h1, h2⟩ | ⟨h1, h2⟩
  · rw [show outAt m c t = _ from if_pos h1]
    iintro ⟨⟨HΦ, ⟨HT0, HT1⟩⟩, Ho, ⟨%d0, H0⟩, ⟨%d1, H1⟩, ⟨%d2, H2⟩⟩
    iapply (body_used c (grid0.coords t) _ _ _ _ _ _ (iblk m c 0 t) (iblk m c 1 t) (tbl m 0) (tbl m 1) h1 h2 Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2
  · rw [show outAt m c t = _ from if_neg h1]
    iintro ⟨⟨HΦ, ⟨HT0, HT1⟩⟩, Ho, ⟨%d0, H0⟩, ⟨%d1, H1⟩, ⟨%d2, H2⟩⟩
    iapply (body_unused c (grid0.coords t) _ _ _ _ _ _ (iblk m c 0 t) (iblk m c 1 t) (tbl m 0) (tbl m 1) h1 h2 Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    iexact H2

theorem defs_row (t : Fin (cfgM m).N) :
    defs₀ (F := F) .tc (cfgM m).body ((cfgM m).bodyArgs t ((cfgM m).slots t)) = bodyAt m t := by
  unfold defs₀; rw [Defs.onTc_tc]

/-- The obligation of the pipeline at every point; the result's buffer is stored at each (`never_idle`). -/
theorem body_obligation (c : Dev nD) : BodyObligation (dats (F := F) m 0 c) (defs₀ (F := F)) Variants.none () Set.univ := fun t => by
  rw [bigSep_W0, bigSep_W0, defs_row m]
  exact triple_restated (sound_body m c t) rfl .rfl fun _ => .rfl

/-! ## The run -/

set_option backward.isDefEq.respectTransparency.types false in
/-- The program runs to its end from every launch memory, its arrays at what the proof data give, all counters at zero. -/
theorem run_quiet : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The run, read: every argument is unchanged, and the result is what the pipeline's write-backs leave. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v26) = (dats m 0 c).arrAt 2 (cfgM m).N)
      ∧ r.2.sem = fun _ => 0) :=
  (θ_run defs _ _).mono (fun _ hh => ⟨fun c => by
      have h := hh.1
      exact ⟨⟨((h c).2 main_arg0 (by decide : main_arg0 ∈ Pipeline.restRefs sig spec0)).trans (V_arg0 m c),
        ((h c).1 1).trans (((dats m 0 c).arrAt_in 1 rfl _).trans ((A_eq m c 1).trans (V_arg1 m c))),
        ((h c).2 main_arg2 (by decide : main_arg2 ∈ Pipeline.restRefs sig spec0)).trans (V_arg2 m c)⟩, (h c).1 2⟩, hh.2⟩) (run_quiet m ρ)

end Cert.Kernel2Ideal.Experts

end
-- ==== Proof.DownBlock.lean ====
/- The experts' down projection: what one block of the result holds, at an index. -/
module

public import proofs.«01_k».proof.Proof.DownRun
public import proofs.«01_k».proof.Proof.ExpertProducts

@[expose] public section

set_option maxRecDepth 16384

noncomputable section

namespace Cert.Kernel2Ideal.Experts

open Cert.Kernel2Ideal Cert.Kernel2Ideal.Gen
open Idealize.ShloMosaic

/-- A used block: the products of the rows with the expert's columns. -/
theorem pay_used (x0 : Vec Ideal S512x7168 .bf16) (x1 : Vec Ideal S1x7168x512 .f32) (p : Fin 512) (q : Fin 512) :
    k0_pay1 (F := Ideal) x0 x1 (ix2 p q) = ∑ k : Fin 7168, x0 (ix2 p k) * x1 (ix3 0 k q) := by
  pointwise [k0_pay1]

/-- A block that is not used: zeros. -/
theorem pay_unused (j : S512x512.Idx) : k0_pay2 (F := Ideal) j = 0 := by
  pointwise [k0_pay2]

end Cert.Kernel2Ideal.Experts

end
-- ==== Proof.DownValue.lean ====
/- The experts' down projection: the array the kernel leaves, block by block and then whole. -/
module

public import proofs.«01_k».proof.Proof.DownBlock
public import Idealize.ShloMosaic.Lib.Pipeline.ValueKit.Basic
public import Idealize.ShloMosaic.Lib.Pipeline.Covers

@[expose] public section

set_option maxRecDepth 16384

noncomputable section

namespace Cert.Kernel2Ideal.Experts

open Cert.Kernel2Ideal Cert.Kernel2Ideal.Gen
open Idealize.ShloMosaic Idealize.ShloMosaic.TcCoe
open Idealize.ShloMosaic.Pipeline (Dat Cfg Window)

variable (m : (ℓ : Loc nD τ sig) → Buf (Elt Ideal) ℓ)

/-- The row of blocks of point `t`, -/
abbrev rowBlk (t : Fin (cfgM m).N) : Fin 72 := ⟨(grid0.coords t 1).val, (grid0.coords t 1).isLt⟩
/-- the row of the array at row `p` of its block, -/
abbrev outRow (t : Fin (cfgM m).N) (p : Fin 512) : Fin 36864 := ⟨(grid0.coords t 1).val * 512 + p.val, by have h : (grid0.coords t 1).val < 72 := (grid0.coords t 1).isLt; omega⟩
/-- and the column of the array at column `q` of its block. -/
abbrev outCol (t : Fin (cfgM m).N) (q : Fin 512) : Fin 2048 := ⟨(grid0.coords t 0).val * 512 + q.val, by have h : (grid0.coords t 0).val < 4 := (grid0.coords t 0).isLt; omega⟩

theorem row_word (t : Fin (cfgM m).N) : (BitVec.ofNat 32 (grid0.coords t 1).val).toNat = (grid0.coords t 1).val := by
  have h : (grid0.coords t 1).val < 72 := (grid0.coords t 1).isLt
  rw [BitVec.toNat_ofNat, Nat.mod_eq_of_lt (by omega)]
theorem col_word (t : Fin (cfgM m).N) : (BitVec.ofNat 32 (grid0.coords t 0).val).toNat = (grid0.coords t 0).val := by
  have h : (grid0.coords t 0).val < 4 := (grid0.coords t 0).isLt
  rw [BitVec.toNat_ofNat, Nat.mod_eq_of_lt (by omega)]

/-- The table index a point reads is its row of blocks. -/
theorem word_idx (t : Fin (cfgM m).N) : (Rect.unit (s := S72) (k0_off1 (grid0.coords t)) S1.size (k0_off1_inb (grid0.coords t))).emb (Shape.Idx.first (numel1_S1.symm ▸ Nat.one_pos)) = ix1 (rowBlk m t) := by
  funext a
  obtain rfl : a = (0 : Fin 1) := Subsingleton.elim (α := Fin 1) _ _
  refine Fin.ext ?_
  show (BitVec.ofNat 32 (grid0.coords t 1).val).toNat + 1 * 0 = (grid0.coords t 1).val
  rw [row_word]; omega

theorem expert_word (c : Dev nD) (t : Fin (cfgM m).N) :
    (((tbl m 0 : (⟨S72, .i32⟩ : BufTy).Contents (Elt Ideal)) ((Rect.unit (s := S72) (k0_off1 (grid0.coords t)) S1.size (k0_off1_inb (grid0.coords t))).emb (Shape.Idx.first (numel1_S1.symm ▸ Nat.one_pos))) : BitVec 32)).toNat
      = (Cert.Experts.expert (counts m c) (rowBlk m t)).val := by
  obtain rfl : c = 0 := Subsingleton.elim _ _
  rw [word_idx, tbl_expert]

/-- An index of three axes from its coordinates. -/
theorem idx3_ext (i : S8x7168x2048.Idx) (a : Fin 8) (k : Fin 7168) (q : Fin 2048) (h0 : (i 0).val = a.val) (h1 : (i 1).val = k.val) (h2 : (i 2).val = q.val) :
    i = ix3 a k q := funext fun x => Fin.ext (match x with
  | ⟨0, _⟩ => h0
  | ⟨1, _⟩ => h1
  | ⟨2, _⟩ => h2)

/-- An index of two axes from its coordinates. -/
theorem idx2_ext (i : S36864x7168.Idx) (r : Fin 36864) (k : Fin 7168) (h0 : (i 0).val = r.val) (h1 : (i 1).val = k.val) :
    i = ix2 r k := funext fun x => Fin.ext (match x with
  | ⟨0, _⟩ => h0
  | ⟨1, _⟩ => h1)

/-- Row block `t`: rows of the argument. -/
theorem rows_blk (c : Dev nD) (t : Fin (cfgM m).N) (p : Fin 512) (k : Fin 7168) :
    (iblk m c 0 t : Vec Ideal S512x7168 .bf16) (ix2 p k) = (m ((c : Thread nD τ).loc main_arg0) : S36864x7168.Idx → EReal) (ix2 (outRow m t p) k) := by
  show V m c main_v25 ((((cfgM m).win 0).rect t).emb (ix2 p k)) = _
  rw [V_rows]
  show (m ((c : Thread nD τ).loc main_arg0) : S36864x7168.Idx → EReal) _ = _
  have e0 : ((((cfgM m).win 0).rect t).emb (ix2 p k) (0 : Fin 2) : Nat) = (outRow m t p).val :=
    (((cfgM m).win 0).rect_emb_val t (ix2 p k) (0 : Fin 2)).trans (by show (BitVec.ofNat 32 (grid0.coords t 1).val).toNat * 512 + p.val = (grid0.coords t 1).val * 512 + p.val; rw [row_word])
  have e1 : ((((cfgM m).win 0).rect t).emb (ix2 p k) (1 : Fin 2) : Nat) = k.val :=
    (((cfgM m).win 0).rect_emb_val t (ix2 p k) (1 : Fin 2)).trans (by show 0 * 7168 + k.val = k.val; omega)
  exact congrArg _ (idx2_ext _ _ _ e0 e1)

/-- The expert's row of the weights. -/
theorem weight_row_1 (c : Dev nD) (t : Fin (cfgM m).N) :
    ((cfgM m).win 1).index t (0 : Fin 3) * 1 + 0 = (Cert.Experts.expert (counts m c) (rowBlk m t)).val := by
  have h : ((cfgM m).win 1).index t (0 : Fin 3) = (((tbl m 0 : (⟨S72, .i32⟩ : BufTy).Contents (Elt Ideal)) ((Rect.unit (s := S72) (k0_off1 (grid0.coords t)) S1.size (k0_off1_inb (grid0.coords t))).emb (Shape.Idx.first (numel1_S1.symm ▸ Nat.one_pos))) : BitVec 32)).toNat := rfl
  rw [h, expert_word m c t]; omega

/-- Weight block `t` of argument 1: rows of the block's expert, columns of the tile. -/
theorem weights_blk_1 (c : Dev nD) (t : Fin (cfgM m).N) (k : Fin 7168) (q : Fin 512) :
    (iblk m c 1 t : Vec Ideal S1x7168x512 .f32) (ix3 0 k q) = (m ((c : Thread nD τ).loc main_arg1) : S8x7168x2048.Idx → EReal) (ix3 (Cert.Experts.expert (counts m c) (rowBlk m t)) k (outCol m t q)) := by
  show V m c main_arg1 ((((cfgM m).win 1).rect t).emb (ix3 0 k q)) = _
  rw [V_arg1]
  have e0 := (((cfgM m).win 1).rect_emb_val t (ix3 0 k q) (0 : Fin 3)).trans (weight_row_1 m c t)
  have e1 : ((((cfgM m).win 1).rect t).emb (ix3 0 k q) (1 : Fin 3) : Nat) = k.val :=
    (((cfgM m).win 1).rect_emb_val t (ix3 0 k q) (1 : Fin 3)).trans (by show 0 * 7168 + k.val = k.val; omega)
  have e2 : ((((cfgM m).win 1).rect t).emb (ix3 0 k q) (2 : Fin 3) : Nat) = (outCol m t q).val :=
    (((cfgM m).win 1).rect_emb_val t (ix3 0 k q) (2 : Fin 3)).trans (by show (BitVec.ofNat 32 (grid0.coords t 0).val).toNat * 512 + q.val = (grid0.coords t 0).val * 512 + q.val; rw [col_word])
  exact congrArg _ (idx3_ext _ _ _ _ e0 e1 e2)

/-- The block that the body leaves at point `t`. -/
theorem outAt_apply (c : Dev nD) (t : Fin (cfgM m).N) (p : Fin 512) (q : Fin 512) :
    (outAt m c t : Vec Ideal S512x512 .f32) (ix2 p q) = Cert.Experts.downAt (m ((c : Thread nD τ).loc main_arg0)) (m ((c : Thread nD τ).loc main_arg1)) (counts m c) (outRow m t p) (outCol m t q) := by
  have hblk : Cert.Experts.blockOf (outRow m t p) = rowBlk m t := Fin.ext (by
    show ((grid0.coords t 1).val * 512 + p.val) / 512 = (grid0.coords t 1).val; omega)
  have hu : ((tbl m 1 : (⟨S72, .i32⟩ : BufTy).Contents (Elt Ideal)) ((Rect.unit (s := S72) (k0_off1 (grid0.coords t)) S1.size (k0_off1_inb (grid0.coords t))).emb (Shape.Idx.first (numel1_S1.symm ▸ Nat.one_pos))) : BitVec 32)
      = (Cert.Experts.usedB (counts m c) (ix1 (rowBlk m t))).setWidth 32 := by
    obtain rfl : c = 0 := Subsingleton.elim _ _
    rw [word_idx, tbl_used]; rfl
  have hcond : ∀ b : BitVec 1, k0_cond1 (b.setWidth 32) = 1#1 ↔ b = 1#1 := by decide
  refine (congrFun (if_congr (iff_of_eq (congrArg (k0_cond1 · = 1#1) hu)) rfl rfl) _).trans ?_
  unfold Cert.Experts.downAt
  rw [hblk]
  by_cases h : Cert.Experts.usedB (counts m c) (ix1 (rowBlk m t)) = 1#1
  · rw [if_pos ((hcond _).mpr h), if_pos h]
    refine (pay_used (iblk m c 0 t) (iblk m c 1 t) p q).trans ?_
    exact Finset.sum_congr rfl fun k _ => congrArg₂ _ (rows_blk m c t p k) (weights_blk_1 m c t k q)
  · rw [if_neg (fun h' => h ((hcond _).mp h')), if_neg h]; exact pay_unused _

/-- The array the kernel leaves. -/
def result (c : Dev nD) : S36864x2048.Idx → EReal := fun i =>
  Cert.Experts.downAt (m ((c : Thread nD τ).loc main_arg0)) (m ((c : Thread nD τ).loc main_arg1)) (counts m c) (i 0) (i 1)

/-- What point `t` writes back is its block of that array. -/
theorem flushed_eq (c : Dev nD) (t : Fin (cfgM m).N) :
    (dats m 0 c).flushed 2 t = (((cfgM m).win 2).blk t).view.read (Elt Ideal) (result m c) := by
  show ((cfgM m).win 2).cut (grid0.coords t) ((dats m 0 c).after 2 t) = _
  rw [after_2]
  funext y
  revert y
  show ∀ y : S512x512.Idx, (outAt m c t : Vec Ideal S512x512 .f32) y = result m c ((((cfgM m).win 2).rect t).emb y)
  intro y
  obtain ⟨p, q, rfl⟩ : ∃ (p : Fin 512) (q : Fin 512), y = ix2 p q := ⟨y 0, y 1, eq_ix2 y⟩
  rw [outAt_apply]
  unfold result
  refine congrArg₂ _ (Fin.ext ?_) (Fin.ext ?_)
  · refine Eq.symm ((((cfgM m).win 2).rect_emb_val t (ix2 p q) (0 : Fin 2)).trans ?_)
    show (BitVec.ofNat 32 (grid0.coords t 1).val).toNat * 512 + p.val = (grid0.coords t 1).val * 512 + p.val
    rw [row_word]
  · refine Eq.symm ((((cfgM m).win 2).rect_emb_val t (ix2 p q) (1 : Fin 2)).trans ?_)
    show (BitVec.ofNat 32 (grid0.coords t 0).val).toNat * 512 + q.val = (grid0.coords t 0).val * 512 + q.val
    rw [col_word]

/-- Every point writes its block back. -/
theorem flush_out (t : Fin (cfgM m).N) : ((cfgM m).win 2).flush t = true :=
  (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _)

/-- The blocks tile the array. -/
theorem cover (i : S36864x2048.Idx) : ∃ t : Fin (cfgM m).N, ((cfgM m).win 2).flush t = true ∧ i ∈ (((cfgM m).win 2).blk t).view.set := by
  have h0 : (i 0).val < 36864 := (i 0).isLt
  have h1 : (i 1).val < 2048 := (i 1).isLt
  obtain ⟨t, ht⟩ := grid0.coords_surjective (fun a => match a with
    | ⟨0, _⟩ => ⟨(i 1).val / 512, by show (i 1).val / 512 < 4; omega⟩
    | ⟨1, _⟩ => ⟨(i 0).val / 512, by show (i 0).val / 512 < 72; omega⟩)
  have c0 : (grid0.coords t 0).val = (i 1).val / 512 := congrArg Fin.val (congrFun ht 0)
  have c1 : (grid0.coords t 1).val = (i 0).val / 512 := congrArg Fin.val (congrFun ht 1)
  refine ⟨t, flush_out m t, ?_⟩
  show i ∈ ((View.whole main_v26).slice (((cfgM m).win 2).rect t)).set
  erw [View.set_slice_whole]
  refine (Pipeline.Window.mem_rect_iff ((cfgM m).win 2) t i (by rfl)).mpr fun a => ?_
  match a with
  | ⟨0, _⟩ =>
    show (BitVec.ofNat 32 (grid0.coords t 1).val).toNat * 512 ≤ (i 0).val ∧ (i 0).val < (BitVec.ofNat 32 (grid0.coords t 1).val).toNat * 512 + 512
    rw [row_word m t, c1]; omega
  | ⟨1, _⟩ =>
    show (BitVec.ofNat 32 (grid0.coords t 0).val).toNat * 512 ≤ (i 1).val ∧ (i 1).val < (BitVec.ofNat 32 (grid0.coords t 0).val).toNat * 512 + 512
    rw [col_word m t, c0]; omega

/-- So the array ends holding it. -/
theorem final (c : Dev nD) : (dats m 0 c).arrAt 2 (cfgM m).N = result m c :=
  (dats m 0 c).arrAt_eq_of_cover 2 (result m c) (fun t _ => flushed_eq m c t) (cover m)

end Cert.Kernel2Ideal.Experts

end
-- ==== Proof.DownRef.lean ====
/- The experts' down projection: what the reference computes, at an index. -/
module

public import proofs.«01_k».proof.Proof.ExpertGather
public import proofs.«01_k».proof.Proof.Gen.Reference2Ideal.Run
public import proofs.«01_k».proof.Proof.Gen.Reference2Ideal.Read

@[expose] public section

set_option maxRecDepth 16384

noncomputable section

namespace Cert.Reference2Ideal.Experts

open Cert.Reference2Ideal Cert.Reference2Ideal.Read Cert.Experts Idealize.ShloMosaic

/-- Both references compute the same lists. -/
theorem experts_eq (x2 : Counts Ideal) : val_main_v19 (F := Ideal) x2 = expertW x2 := rfl
theorem used_eq (x2 : Counts Ideal) : val_main_v23 (F := Ideal) x2 = usedB x2 := rfl

/-- The weights the reference takes for block `b`: its expert's. -/
theorem taken_x1 (x1 : (⟨S8x7168x2048, .f32⟩ : BufTy).Contents (Elt Ideal)) (x2 : Counts Ideal) (b : Fin 72) (k : Fin 7168) (q : Fin 2048) :
    val_main_v31 (F := Ideal) x1 x2 (ix3 b k q) = x1 (ix3 (expert x2 b) k q) := by
  refine take_apply Gen.facts₀.gather_S8x7168x2048_S72x1_S72x7168x2048_12_0_n_n_0_1_171682048_wf x1 (val_main_v30 (F := Ideal) x2) b k q (expert x2 b) ?_
  rw [val_main_v30_apply, val_main_v29_apply, val_main_v26_apply, val_main_v25_apply, val_main_c_6_apply, val_main_v28_apply, val_main_v27_apply, val_main_c_7_apply]
  have e : idx_main_v30 (ix2 b 0) = ix1 b := funext fun a => Fin.ext (match a with | ⟨0, _⟩ => rfl)
  rw [e, experts_eq]
  exact wrap_small _ (expert_lt x2 (ix1 b))

/-- The reference's product of a block's rows with its expert's columns. -/
theorem product_x1 (x0 : (⟨S36864x7168, .f32⟩ : BufTy).Contents (Elt Ideal)) (x1 : (⟨S8x7168x2048, .f32⟩ : BufTy).Contents (Elt Ideal)) (x2 : Counts Ideal) (b : Fin 72) (p : Fin 512) (q : Fin 2048) (r : Fin 36864) (hr : r.val = b.val * 512 + p.val) :
    val_main_v32 (F := Ideal) x0 x1 x2 (ix3 b p q) = ∑ k : Fin 7168, x0 (ix2 r k) * x1 (ix3 (expert x2 b) k q) := by
  rw [val_main_v32_apply]
  refine Finset.sum_congr rfl fun k _ => ?_
  have er : ridx_main_v32 (ix3 b p q) k = ix3 b k q := funext fun a => Fin.ext (match a with | ⟨0, _⟩ => rfl | ⟨1, _⟩ => rfl | ⟨2, _⟩ => rfl)
  have el : idx_main_v24 (lidx_main_v32 (ix3 b p q) k) = ix2 r k := funext fun a => Fin.ext (by
    have hk := k.isLt
    match a with
    | ⟨0, _⟩ => show ((b.val * 512 + p.val) * 7168 + k.val) / 7168 = r.val; omega
    | ⟨1, _⟩ => show ((b.val * 512 + p.val) * 7168 + k.val) % 7168 = k.val; omega)
  rw [er, taken_x1, val_main_v24_apply, el]

/-- The reference's result at an index. -/
theorem ref_apply (x0 : (⟨S36864x7168, .f32⟩ : BufTy).Contents (Elt Ideal)) (x1 : (⟨S8x7168x2048, .f32⟩ : BufTy).Contents (Elt Ideal)) (x2 : Counts Ideal) (r : Fin 36864) (q : Fin 2048) :
    val_main_v35 (F := Ideal) x0 x1 x2 (ix2 r q) = downAt x0 x1 x2 r q := by
  have hr := r.isLt
  have hq := q.isLt
  have ei : idx_main_v35 (ix2 r q) = ix3 (blockOf r) (⟨r.val % 512, by omega⟩ : Fin 512) q := funext fun a => Fin.ext (by
    match a with
    | ⟨0, _⟩ => show (r.val * 2048 + q.val) / 1048576 = r.val / 512; omega
    | ⟨1, _⟩ => show (r.val * 2048 + q.val) / 2048 % 512 = r.val % 512; omega
    | ⟨2, _⟩ => show (r.val * 2048 + q.val) % 2048 = q.val; omega)
  have hrow : r.val = (blockOf r).val * 512 + (⟨r.val % 512, by omega⟩ : Fin 512).val := by show r.val = r.val / 512 * 512 + r.val % 512; omega
  rw [val_main_v35_apply, ei, val_main_v34_apply, val_main_call2_v1_apply, val_main_v33_apply, val_main_call2_v2_apply, val_main_call2_v0_apply, val_main_cst_apply]
  have eb : idx_main_v33 (idx_main_call2_v1 (ix3 (blockOf r) (⟨r.val % 512, by omega⟩ : Fin 512) q)) = ix1 (blockOf r) := funext fun a => Fin.ext (match a with | ⟨0, _⟩ => rfl)
  rw [eb, used_eq]
  unfold downAt
  by_cases h : usedB x2 (ix1 (blockOf r)) = 1#1
  · rw [if_pos h]
    exact (if_pos h).trans (product_x1 x0 x1 x2 _ _ q r hrow)
  · rw [if_neg h]
    exact (if_neg h).trans Ideal.ofBits_zero_f32

end Cert.Reference2Ideal.Experts

end
-- ==== Proof.DownClaims.lean ====
/- The experts' down projection: the claims. -/
module

public import proofs.«01_k».proof.Defs
public import proofs.«01_k».proof.Proof.Gen.Kernel2
public import proofs.«01_k».proof.Proof.DownRunBits
public import proofs.«01_k».proof.Proof.DownValue
public import proofs.«01_k».proof.Proof.DownRef

@[expose] public section

set_option maxRecDepth 16384

noncomputable section

namespace Cert.Proof.Down

open Idealize.ShloMosaic Idealize.SL.Sem

/-- The printed program ends for every launch memory, with its arguments unchanged and every semaphore at zero. -/
theorem frame_kernel : Cert.quiescent_Kernel2 := fun m ρ _ =>
  (θ_run Cert.Kernel2.defs _ _).mono (fun _ h => ⟨fun c => (h.1 c).1, h.2⟩) (Cert.Kernel2.Experts.run_main (F := Bits) m ρ)

/-- The same of the idealized program. -/
theorem frame_kernelIdeal : Cert.quiescent_Kernel2Ideal := fun m ρ _ =>
  (θ_run Cert.Kernel2Ideal.defs _ _).mono (fun _ h => ⟨fun c => (h.1 c).1, h.2⟩) (Cert.Kernel2Ideal.Experts.run_main (F := Ideal) m ρ)

/-- The same of the reference. -/
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- Both leave the same array. -/
theorem algebraic : Cert.algebraic_Kernel2Ideal_Reference2Ideal := by
  intro m ρ m' ρ' _ hagree
  refine ⟨fun c => Cert.Kernel2Ideal.Experts.result m c,
    (θ_run Cert.Kernel2Ideal.defs _ _).mono (fun _ h c => ⟨((h.1 c).2).trans (Cert.Kernel2Ideal.Experts.final m c), (h.1 c).1⟩) (Cert.Kernel2Ideal.Experts.run_main (F := Ideal) m ρ),
    (θ_run Cert.Reference2Ideal.defs _ _).mono (fun _ h c => ⟨((h c).1).trans ?_, (h c).2⟩) (Cert.Reference2Ideal.Value.run (F := Ideal) m' ρ')⟩
  rw [Cert.Reference2Ideal.Read.val_main_v35_eq]
  obtain ⟨h0, h1, h2⟩ := hagree c
  funext i
  obtain ⟨r, q, rfl⟩ : ∃ r q, i = ix2 r q := ⟨i 0, i 1, eq_ix2 i⟩
  refine (Cert.Reference2Ideal.Experts.ref_apply _ _ _ r q).trans ?_
  rw [h0, h1, h2]
  rfl

end Cert.Proof.Down

end
-- ==== Proof.DenseUp.lean ====
/- The dense feed-forward's gate and up products: what a block of the result holds, and then the whole array. -/
module

public import proofs.«01_k».proof.Proof.Gen.Kernel3Ideal.Value
public import Idealize.ShloMosaic.Lib.Pointwise
public import Idealize.ShloMosaic.Lib.Pipeline.ValueKit.Basic
public import Idealize.ShloMosaic.Lib.Pipeline.Covers

@[expose] public section

set_option maxRecDepth 16384

noncomputable section

namespace Cert.Kernel3Ideal.Dense

open Cert.Kernel3Ideal Cert.Kernel3Ideal.Gen
open Idealize.ShloMosaic Idealize.ShloMosaic.TcCoe
open Idealize.ShloMosaic.Pipeline (Dat Cfg Window)

/-- The gate through silu, times the other product, at row `r` and column `q`. -/
def gatedAt (x : S16384x2048.Idx → EReal) (wg wu : S2048x5632.Idx → EReal) (r : Fin 16384) (q : Fin 5632) : EReal :=
  (∑ k : Fin 2048, x (ix2 r k) * wg (ix2 k q)) * Ideal.div 1 (1 + Ideal.exp (0 - ∑ k : Fin 2048, x (ix2 r k) * wg (ix2 k q)))
    * ∑ k : Fin 2048, x (ix2 r k) * wu (ix2 k q)

/-- One block from its three operands. -/
theorem pay_apply (x0 : Vec Ideal S512x2048 .bf16) (x1 x2 : Vec Ideal S2048x1408 .bf16) (p : Fin 512) (q : Fin 1408) :
    k0_pay1 (F := Ideal) x0 x1 x2 (ix2 p q) = (∑ k : Fin 2048, x0 (ix2 p k) * x1 (ix2 k q)) * Ideal.div 1 (1 + Ideal.exp (0 - ∑ k : Fin 2048, x0 (ix2 p k) * x1 (ix2 k q)))
      * ∑ k : Fin 2048, x0 (ix2 p k) * x2 (ix2 k q) := by
  pointwise [k0_pay1]

/-- The same where the operands are known to be rows and columns of arrays. -/
theorem pay_of (x0 : Vec Ideal S512x2048 .bf16) (x1 x2 : Vec Ideal S2048x1408 .bf16) (x : S16384x2048.Idx → EReal) (wg wu : S2048x5632.Idx → EReal)
    (p : Fin 512) (q : Fin 1408) (r : Fin 16384) (s : Fin 5632) (h0 : ∀ k, x0 (ix2 p k) = x (ix2 r k)) (h1 : ∀ k, x1 (ix2 k q) = wg (ix2 k s)) (h2 : ∀ k, x2 (ix2 k q) = wu (ix2 k s)) :
    k0_pay1 (F := Ideal) x0 x1 x2 (ix2 p q) = gatedAt x wg wu r s := by
  rw [pay_apply]; unfold gatedAt; simp only [h0, h1, h2]

/-- What the body stores is that block. -/
theorem out_eq (x0 : Vec Ideal S512x2048 .bf16) (x1 x2 : Vec Ideal S2048x1408 .bf16) : out0_3 (F := Ideal) x0 x1 x2 = k0_pay1 x0 x1 x2 := by
  unfold out0_3
  refine (View.canon_unit_zero (by decide) _ _).trans ?_
  exact congr (congrArg₂ k0_pay1 (View.ld_unit_zero (by decide) _ x0) (View.ld_unit_zero (by decide) _ x1)) (View.ld_unit_zero (by decide) _ x2)

variable (m : (ℓ : Loc nD τ sig) → Buf (Elt Ideal) ℓ)

theorem V_rows (c : Dev nD) : (V m c main_v0 : S16384x2048.Idx → EReal) = m ((c : Thread nD τ).loc main_arg0) := by
  show StableHlo.after _ _ _ = _
  simp only [hostOps0, List.flatten_cons, List.flatten_nil, List.append_nil, List.cons_append, List.nil_append,
    StableHlo.TRef.unary, StableHlo.TRef.toBuf, StableHlo.TRef.ofBuf, cast_eq]
  after_results_simp <;> rfl
theorem V_gate (c : Dev nD) : (V m c main_v1 : S2048x5632.Idx → EReal) = m ((c : Thread nD τ).loc main_arg1) := by
  show StableHlo.after _ _ _ = _
  simp only [hostOps0, List.flatten_cons, List.flatten_nil, List.append_nil, List.cons_append, List.nil_append,
    StableHlo.TRef.unary, StableHlo.TRef.toBuf, StableHlo.TRef.ofBuf, cast_eq]
  after_results_simp <;> rfl
theorem V_up (c : Dev nD) : (V m c main_v2 : S2048x5632.Idx → EReal) = m ((c : Thread nD τ).loc main_arg2) := by
  show StableHlo.after _ _ _ = _
  simp only [hostOps0, List.flatten_cons, List.flatten_nil, List.append_nil, List.cons_append, List.nil_append,
    StableHlo.TRef.unary, StableHlo.TRef.toBuf, StableHlo.TRef.ofBuf, cast_eq]
  after_results_simp <;> rfl

/-- The row of the array at row `p` of point `t`'s block, -/
abbrev outRow (t : Fin cfg0.N) (p : Fin 512) : Fin 16384 := ⟨(grid0.coords t 0).val * 512 + p.val, by have h : (grid0.coords t 0).val < 32 := (grid0.coords t 0).isLt; omega⟩
/-- and the column of the array at column `q`. -/
abbrev outCol (t : Fin cfg0.N) (q : Fin 1408) : Fin 5632 := ⟨(grid0.coords t 1).val * 1408 + q.val, by have h : (grid0.coords t 1).val < 4 := (grid0.coords t 1).isLt; omega⟩

theorem row_word (t : Fin cfg0.N) : (BitVec.ofNat 32 (grid0.coords t 0).val).toNat = (grid0.coords t 0).val := by
  have h : (grid0.coords t 0).val < 32 := (grid0.coords t 0).isLt
  rw [BitVec.toNat_ofNat, Nat.mod_eq_of_lt (by omega)]
theorem col_word (t : Fin cfg0.N) : (BitVec.ofNat 32 (grid0.coords t 1).val).toNat = (grid0.coords t 1).val := by
  have h : (grid0.coords t 1).val < 4 := (grid0.coords t 1).isLt
  rw [BitVec.toNat_ofNat, Nat.mod_eq_of_lt (by omega)]

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)

/-- The block of rows that point `t` reads. -/
theorem rows_blk (c : Dev nD) (t : Fin cfg0.N) (p : Fin 512) (k : Fin 2048) :
    (iblk m c 0 t : Vec Ideal S512x2048 .bf16) (ix2 p k) = (m ((c : Thread nD τ).loc main_arg0) : S16384x2048.Idx → EReal) (ix2 (outRow t p) k) := by
  show V m c main_v0 ((((cfg0).win 0).rect t).emb (ix2 p k)) = _
  refine (congrFun (V_rows m c) _).trans ?_
  have e0 : ((((cfg0).win 0).rect t).emb (ix2 p k) (0 : Fin 2) : Nat) = (outRow t p).val :=
    (((cfg0).win 0).rect_emb_val t (ix2 p k) (0 : Fin 2)).trans (by show (BitVec.ofNat 32 (grid0.coords t 0).val).toNat * 512 + p.val = (grid0.coords t 0).val * 512 + p.val; rw [row_word])
  have e1 : ((((cfg0).win 0).rect t).emb (ix2 p k) (1 : Fin 2) : Nat) = k.val :=
    (((cfg0).win 0).rect_emb_val t (ix2 p k) (1 : Fin 2)).trans (by show 0 * 2048 + k.val = k.val; omega)
  exact congrArg _ (idx2_ext _ _ _ e0 e1)

/-- The block of the gate's columns. -/
theorem gate_blk (c : Dev nD) (t : Fin cfg0.N) (k : Fin 2048) (q : Fin 1408) :
    (iblk m c 1 t : Vec Ideal S2048x1408 .bf16) (ix2 k q) = (m ((c : Thread nD τ).loc main_arg1) : S2048x5632.Idx → EReal) (ix2 k (outCol t q)) := by
  show V m c main_v1 ((((cfg0).win 1).rect t).emb (ix2 k q)) = _
  refine (congrFun (V_gate m c) _).trans ?_
  have e0 : ((((cfg0).win 1).rect t).emb (ix2 k q) (0 : Fin 2) : Nat) = k.val :=
    (((cfg0).win 1).rect_emb_val t (ix2 k q) (0 : Fin 2)).trans (by show 0 * 2048 + k.val = k.val; omega)
  have e1 : ((((cfg0).win 1).rect t).emb (ix2 k q) (1 : Fin 2) : Nat) = (outCol t q).val :=
    (((cfg0).win 1).rect_emb_val t (ix2 k q) (1 : Fin 2)).trans (by show (BitVec.ofNat 32 (grid0.coords t 1).val).toNat * 1408 + q.val = (grid0.coords t 1).val * 1408 + q.val; rw [col_word])
  exact congrArg _ (idx2_ext _ _ _ e0 e1)

/-- The block of the up product's columns. -/
theorem up_blk (c : Dev nD) (t : Fin cfg0.N) (k : Fin 2048) (q : Fin 1408) :
    (iblk m c 2 t : Vec Ideal S2048x1408 .bf16) (ix2 k q) = (m ((c : Thread nD τ).loc main_arg2) : S2048x5632.Idx → EReal) (ix2 k (outCol t q)) := by
  show V m c main_v2 ((((cfg0).win 2).rect t).emb (ix2 k q)) = _
  refine (congrFun (V_up m c) _).trans ?_
  have e0 : ((((cfg0).win 2).rect t).emb (ix2 k q) (0 : Fin 2) : Nat) = k.val :=
    (((cfg0).win 2).rect_emb_val t (ix2 k q) (0 : Fin 2)).trans (by show 0 * 2048 + k.val = k.val; omega)
  have e1 : ((((cfg0).win 2).rect t).emb (ix2 k q) (1 : Fin 2) : Nat) = (outCol t q).val :=
    (((cfg0).win 2).rect_emb_val t (ix2 k q) (1 : Fin 2)).trans (by show (BitVec.ofNat 32 (grid0.coords t 1).val).toNat * 1408 + q.val = (grid0.coords t 1).val * 1408 + q.val; rw [col_word])
  exact congrArg _ (idx2_ext _ _ _ e0 e1)

/-- The array the kernel leaves. -/
def result (c : Dev nD) : S16384x5632.Idx → EReal := fun i =>
  gatedAt (m ((c : Thread nD τ).loc main_arg0)) (m ((c : Thread nD τ).loc main_arg1)) (m ((c : Thread nD τ).loc main_arg2)) (i 0) (i 1)

/-- What point `t` stores, at an index of its block. -/
theorem out_apply (c : Dev nD) (t : Fin cfg0.N) (p : Fin 512) (q : Fin 1408) :
    (out0_3 (F := Ideal) (iblk m c 0 t) (iblk m c 1 t) (iblk m c 2 t) : Vec Ideal S512x1408 .bf16) (ix2 p q)
      = gatedAt (m ((c : Thread nD τ).loc main_arg0)) (m ((c : Thread nD τ).loc main_arg1)) (m ((c : Thread nD τ).loc main_arg2)) (outRow t p) (outCol t q) := by
  refine (congrFun (out_eq (iblk m c 0 t) (iblk m c 1 t) (iblk m c 2 t)) _).trans ?_
  exact pay_of (iblk m c 0 t) (iblk m c 1 t) (iblk m c 2 t) _ _ _ p q _ _ (rows_blk m c t p) (fun k => gate_blk m c t k q) (fun k => up_blk m c t k q)

/-- What point `t` writes back is its block of that array. -/
theorem flushed_eq (c : Dev nD) (t : Fin cfg0.N) :
    (dats m 0 c).flushed 3 t = ((cfg0.win 3).blk t).view.read (Elt Ideal) (result m c) := by
  rw [Cert.Kernel3Ideal.Value.flushed3]
  funext y
  revert y
  show ∀ y : S512x1408.Idx, (out0_3 (F := Ideal) (iblk m c 0 t) (iblk m c 1 t) (iblk m c 2 t) : Vec Ideal S512x1408 .bf16) y = result m c (((cfg0.win 3).rect t).emb y)
  intro y
  obtain ⟨p, q, rfl⟩ : ∃ (p : Fin 512) (q : Fin 1408), y = ix2 p q := ⟨y 0, y 1, eq_ix2 y⟩
  refine (out_apply m c t p q).trans ?_
  unfold result
  refine congrArg₂ _ (Fin.ext ?_) (Fin.ext ?_)
  · refine Eq.symm (((cfg0.win 3).rect_emb_val t (ix2 p q) (0 : Fin 2)).trans ?_)
    show (BitVec.ofNat 32 (grid0.coords t 0).val).toNat * 512 + p.val = (grid0.coords t 0).val * 512 + p.val
    rw [row_word]
  · refine Eq.symm (((cfg0.win 3).rect_emb_val t (ix2 p q) (1 : Fin 2)).trans ?_)
    show (BitVec.ofNat 32 (grid0.coords t 1).val).toNat * 1408 + q.val = (grid0.coords t 1).val * 1408 + q.val
    rw [col_word]

/-- Every point writes its block back. -/
theorem flush_out (t : Fin cfg0.N) : (cfg0.win 3).flush t = true :=
  (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _)

/-- The blocks tile the array. -/
theorem cover (i : S16384x5632.Idx) : ∃ t : Fin cfg0.N, (cfg0.win 3).flush t = true ∧ i ∈ ((cfg0.win 3).blk t).view.set := by
  have h0 : (i 0).val < 16384 := (i 0).isLt
  have h1 : (i 1).val < 5632 := (i 1).isLt
  obtain ⟨t, ht⟩ := grid0.coords_surjective (fun a => match a with
    | ⟨0, _⟩ => ⟨(i 0).val / 512, by show (i 0).val / 512 < 32; omega⟩
    | ⟨1, _⟩ => ⟨(i 1).val / 1408, by show (i 1).val / 1408 < 4; omega⟩)
  have c0 : (grid0.coords t 0).val = (i 0).val / 512 := congrArg Fin.val (congrFun ht 0)
  have c1 : (grid0.coords t 1).val = (i 1).val / 1408 := congrArg Fin.val (congrFun ht 1)
  refine ⟨t, flush_out t, ?_⟩
  show i ∈ ((View.whole main_v3).slice ((cfg0.win 3).rect t)).set
  erw [View.set_slice_whole]
  refine (Pipeline.Window.mem_rect_iff (cfg0.win 3) t i (by rfl)).mpr fun a => ?_
  match a with
  | ⟨0, _⟩ =>
    show (BitVec.ofNat 32 (grid0.coords t 0).val).toNat * 512 ≤ (i 0).val ∧ (i 0).val < (BitVec.ofNat 32 (grid0.coords t 0).val).toNat * 512 + 512
    rw [row_word t, c0]; omega
  | ⟨1, _⟩ =>
    show (BitVec.ofNat 32 (grid0.coords t 1).val).toNat * 1408 ≤ (i 1).val ∧ (i 1).val < (BitVec.ofNat 32 (grid0.coords t 1).val).toNat * 1408 + 1408
    rw [col_word t, c1]; omega

/-- So the array ends holding it. -/
theorem final (c : Dev nD) : (dats m 0 c).arrAt 3 cfg0.N = result m c :=
  (dats m 0 c).arrAt_eq_of_cover 3 (result m c) (fun t _ => flushed_eq m c t) cover

end Cert.Kernel3Ideal.Dense

end
-- ==== Proof.DenseUpClaims.lean ====
/- The dense feed-forward's gate and up products: the claims. -/
module

public import proofs.«01_k».proof.Defs
public import proofs.«01_k».proof.Proof.Gen.Kernel3.Frame
public import proofs.«01_k».proof.Proof.Gen.Reference3Ideal.Read
public import proofs.«01_k».proof.Proof.DenseUp

@[expose] public section

set_option maxRecDepth 16384

noncomputable section

namespace Cert.Proof.DenseUp

open Idealize.ShloMosaic Idealize.SL.Sem Cert.Reference3Ideal Cert.Reference3Ideal.Read

theorem frame_kernel : Cert.quiescent_Kernel3 := fun m ρ _ => Cert.Kernel3.Gen.frame m ρ
theorem frame_kernelIdeal : Cert.quiescent_Kernel3Ideal := fun m ρ _ => Cert.Kernel3Ideal.Gen.frame m ρ

/-- The reference ends for every launch memory, with its arguments unchanged and every semaphore at zero. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The reference's result at an index. -/
theorem ref_apply (x0 : (⟨S16384x2048, .f32⟩ : BufTy).Contents (Elt Ideal)) (x1 x2 : (⟨S2048x5632, .f32⟩ : BufTy).Contents (Elt Ideal)) (r : Fin 16384) (q : Fin 5632) :
    val_main_v4 (F := Ideal) x0 x1 x2 (ix2 r q) = Cert.Kernel3Ideal.Dense.gatedAt x0 x1 x2 r q := by
  have el : ∀ k, lidx_main_v0 (ix2 r q) k = ix2 r k := fun k => funext fun a => Fin.ext (match a with | ⟨0, _⟩ => rfl | ⟨1, _⟩ => rfl)
  have er : ∀ k, ridx_main_v0 (ix2 r q) k = ix2 k q := fun k => funext fun a => Fin.ext (match a with | ⟨0, _⟩ => rfl | ⟨1, _⟩ => rfl)
  have el' : ∀ k, lidx_main_v2 (ix2 r q) k = ix2 r k := fun k => funext fun a => Fin.ext (match a with | ⟨0, _⟩ => rfl | ⟨1, _⟩ => rfl)
  have er' : ∀ k, ridx_main_v2 (ix2 r q) k = ix2 k q := fun k => funext fun a => Fin.ext (match a with | ⟨0, _⟩ => rfl | ⟨1, _⟩ => rfl)
  rw [val_main_v4_apply, val_main_v3_apply, val_main_v1_apply, val_main_call0_v5_apply, val_main_call0_v4_apply, val_main_call0_cst_0_apply, val_main_call0_v3_apply,
    val_main_call0_v2_apply, val_main_call0_cst_apply, val_main_call0_v1_apply, val_main_call0_v0_apply, val_main_v0_apply, val_main_v2_apply]
  simp only [el, er, el', er']
  unfold Cert.Kernel3Ideal.Dense.gatedAt
  generalize (∑ k : Fin 2048, x0 (ix2 r k) * x1 (ix2 k q)) = g
  generalize (∑ k : Fin 2048, x0 (ix2 r k) * x2 (ix2 k q)) = u
  show g * Ideal.div (Ideal.ofBits .f32 0x3F800000#32) (Ideal.ofBits .f32 0x3F800000#32 + Ideal.exp (-g)) * u = g * Ideal.div 1 (1 + Ideal.exp (0 - g)) * u
  rw [Ideal.ofBits_one_f32, zero_sub]

/-- Both leave the same array. -/
theorem algebraic : Cert.algebraic_Kernel3Ideal_Reference3Ideal := by
  intro m ρ m' ρ' _ hagree
  refine ⟨fun c => Cert.Kernel3Ideal.Dense.result m c,
    (θ_run Cert.Kernel3Ideal.defs _ _).mono (fun _ h c => ⟨((h c).1).trans (Cert.Kernel3Ideal.Dense.final m c), (h c).2⟩) (Cert.Kernel3Ideal.Value.run_blocks (F := Ideal) m ρ),
    (θ_run Cert.Reference3Ideal.defs _ _).mono (fun _ h c => ⟨((h c).1).trans ?_, (h c).2⟩) (Cert.Reference3Ideal.Value.run (F := Ideal) m' ρ')⟩
  rw [Cert.Reference3Ideal.Read.val_main_v4_eq]
  obtain ⟨h0, h1, h2⟩ := hagree c
  funext i
  obtain ⟨r, q, rfl⟩ : ∃ r q, i = ix2 r q := ⟨i 0, i 1, eq_ix2 i⟩
  refine (ref_apply _ _ _ r q).trans ?_
  rw [h0, h1, h2]
  rfl

end Cert.Proof.DenseUp

end
-- ==== Proof.DenseDownBlock.lean ====
/- The dense feed-forward's down product with the residual and the layer norm: what one block of the result holds. -/
module

public import proofs.«01_k».proof.Proof.Gen.Kernel4Ideal.Value
public import Idealize.ShloMosaic.Lib.Pointwise

@[expose] public section

set_option maxRecDepth 16384

noncomputable section

namespace Cert.Kernel4Ideal.Dense

open Cert.Kernel4Ideal Cert.Kernel4Ideal.Gen
open Idealize.ShloMosaic Idealize.ShloMosaic.TcCoe

theorem hz : (![0, 0] : Fin 2 → Nat) = fun _ => 0 := by decide

section named
variable {F : FTy → Type} [FloatOps F]

/-- The first point of a row of blocks leaves in the accumulator its product, added to zeros. -/
theorem acc_first (c : Dev nD) (i : grid0.Coords) (a2 : Memref sig .tc .vmem S256x2816 .bf16) (h2 : a2.IsWhole) (a3 : Memref sig .tc .vmem S2816x2048 .bf16) (h3 : a3.IsWhole)
    (a4 : Memref sig .tc .vmem S256x2048 .f32) (h4 : a4.IsWhole) (a5 : Memref sig .tc .vmem S1x2048 .f32) (h5 : a5.IsWhole) (a6 : Memref sig .tc .vmem S1x2048 .f32) (h6 : a6.IsWhole)
    (a7 : Memref sig .tc .vmem S256x2048 .f32) (h7 : a7.IsWhole) (a8 : Memref sig .tc .vmem S256x2048 .bf16) (h8 : a8.IsWhole) (a9 : Memref sig .tc .vmem S256x2048 .f32) (h9 : a9.IsWhole) (hc0 : cond0_0 i) (hc1 : ¬cond0_1 i)
    (x0 : Vec F S256x2816 .bf16) (x1 : Vec F S2816x2048 .bf16) (x2 : Vec F S256x2048 .f32) (x3 x4 : Vec F S1x2048 .f32) :
    sout0_A_0 c i a2 h2 a3 h3 a4 h4 a5 h5 a6 h6 a7 h7 a8 h8 a9 h9 hc0 hc1 x0 x1 x2 x3 x4 = k0_pay2 k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S256x2048) hz, View.readCov_unit_zero (S := S256x2048) _ hz]
  simp only [View.readAt_eq_ld, h2.read_unread, h3.read_unread, h4.read_unread, h5.read_unread, h6.read_unread, h9.read_unread, View.ld_unit_zero (S := S256x2048) hz, View.ld_unit_zero (S := S256x2816) hz, View.ld_unit_zero (S := S2816x2048) hz, View.ld_unit_zero (S := S1x2048) hz]

/-- The last point adds its product to what the accumulator held, and stores the normed rows, -/
theorem out_last (c : Dev nD) (i : grid0.Coords) (a2 : Memref sig .tc .vmem S256x2816 .bf16) (h2 : a2.IsWhole) (a3 : Memref sig .tc .vmem S2816x2048 .bf16) (h3 : a3.IsWhole)
    (a4 : Memref sig .tc .vmem S256x2048 .f32) (h4 : a4.IsWhole) (a5 : Memref sig .tc .vmem S1x2048 .f32) (h5 : a5.IsWhole) (a6 : Memref sig .tc .vmem S1x2048 .f32) (h6 : a6.IsWhole)
    (a7 : Memref sig .tc .vmem S256x2048 .f32) (h7 : a7.IsWhole) (a8 : Memref sig .tc .vmem S256x2048 .bf16) (h8 : a8.IsWhole) (a9 : Memref sig .tc .vmem S256x2048 .f32) (h9 : a9.IsWhole) (hc0 : ¬cond0_0 i) (hc1 : cond0_1 i)
    (x0 : Vec F S256x2816 .bf16) (x1 : Vec F S2816x2048 .bf16) (x2 : Vec F S256x2048 .f32) (x3 x4 : Vec F S1x2048 .f32) (acc : Vec F S256x2048 .f32) :
    out0_B_5 c i a2 h2 a3 h3 a4 h4 a5 h5 a6 h6 a7 h7 a8 h8 a9 h9 hc0 hc1 x0 x1 x2 x3 x4 acc = k0_pay3 x2 (k0_pay2 acc x0 x1) x3 x4 := by
  unfold out0_B_5
  rw [View.read_writes_eq_canon _ _ _ (cover0_B_5 c i a2 h2 a3 h3 a4 h4 a5 h5 a6 h6 a7 h7 a8 h8 a9 h9 hc0 hc1 x0 x1 x2 x3 x4 acc)]
  unfold kernelRun0_B
  dsimp only
  sl_unfold_words
  rw [View.canon_unit_zero hz]
  simp only [View.readAt_eq_ld, View.readCov_unit_zero (S := S256x2048) _ hz, h2.read_unread, h3.read_unread, h4.read_unread, h5.read_unread, h6.read_unread, h9.read_unread, View.ld_unit_zero (S := S256x2048) hz, View.ld_unit_zero (S := S256x2816) hz, View.ld_unit_zero (S := S2816x2048) hz, View.ld_unit_zero (S := S1x2048) hz]

/-- once as they are and once rounded. -/
theorem out_last_rounded (c : Dev nD) (i : grid0.Coords) (a2 : Memref sig .tc .vmem S256x2816 .bf16) (h2 : a2.IsWhole) (a3 : Memref sig .tc .vmem S2816x2048 .bf16) (h3 : a3.IsWhole)
    (a4 : Memref sig .tc .vmem S256x2048 .f32) (h4 : a4.IsWhole) (a5 : Memref sig .tc .vmem S1x2048 .f32) (h5 : a5.IsWhole) (a6 : Memref sig .tc .vmem S1x2048 .f32) (h6 : a6.IsWhole)
    (a7 : Memref sig .tc .vmem S256x2048 .f32) (h7 : a7.IsWhole) (a8 : Memref sig .tc .vmem S256x2048 .bf16) (h8 : a8.IsWhole) (a9 : Memref sig .tc .vmem S256x2048 .f32) (h9 : a9.IsWhole) (hc0 : ¬cond0_0 i) (hc1 : cond0_1 i)
    (x0 : Vec F S256x2816 .bf16) (x1 : Vec F S2816x2048 .bf16) (x2 : Vec F S256x2048 .f32) (x3 x4 : Vec F S1x2048 .f32) (acc : Vec F S256x2048 .f32) :
    out0_B_6 c i a2 h2 a3 h3 a4 h4 a5 h5 a6 h6 a7 h7 a8 h8 a9 h9 hc0 hc1 x0 x1 x2 x3 x4 acc = k0_pay4 x2 (k0_pay2 acc x0 x1) x3 x4 := by
  unfold out0_B_6
  rw [View.read_writes_eq_canon _ _ _ (cover0_B_6 c i a2 h2 a3 h3 a4 h4 a5 h5 a6 h6 a7 h7 a8 h8 a9 h9 hc0 hc1 x0 x1 x2 x3 x4 acc)]
  unfold kernelRun0_B
  dsimp only
  sl_unfold_words
  rw [View.canon_unit_zero hz]
  simp only [View.readAt_eq_ld, View.readCov_unit_zero (S := S256x2048) _ hz, h2.read_unread, h3.read_unread, h4.read_unread, h5.read_unread, h6.read_unread, h9.read_unread, View.ld_unit_zero (S := S256x2048) hz, View.ld_unit_zero (S := S256x2816) hz, View.ld_unit_zero (S := S2816x2048) hz, View.ld_unit_zero (S := S1x2048) hz]

end named

/-- The mean of a row, -/
def mean (z : Fin 2048 → EReal) : EReal := Ideal.div (∑ j : Fin 2048, z j) (Ideal.ofBits .f32 0x45000000#32)
/-- and its layer norm at column `s`. -/
def normed (z : Fin 2048 → EReal) (g b : EReal) (s : Fin 2048) : EReal :=
  (z s - mean z) * Ideal.rsqrt (Ideal.div (∑ j : Fin 2048, (z j - mean z) * (z j - mean z)) (Ideal.ofBits .f32 0x45000000#32) + Ideal.ofBits .f32 0x3727C5AC#32) * g + b

/-- The accumulator with a product added. -/
theorem pay_acc (a : Vec Ideal S256x2048 .f32) (x0 : Vec Ideal S256x2816 .bf16) (x1 : Vec Ideal S2816x2048 .bf16) (p : Fin 256) (s : Fin 2048) :
    k0_pay2 (F := Ideal) a x0 x1 (ix2 p s) = a (ix2 p s) + ∑ k : Fin 2816, x0 (ix2 p k) * x1 (ix2 k s) := by
  pointwise [k0_pay2]

/-- The accumulator's start: zeros. -/
theorem pay_zero (j : S256x2048.Idx) : k0_pay1 (F := Ideal) j = 0 := by
  pointwise [k0_pay1]

/-- The rows that are stored. -/
theorem pay_norm (x2 a : Vec Ideal S256x2048 .f32) (x3 x4 : Vec Ideal S1x2048 .f32) (p : Fin 256) (s : Fin 2048) :
    k0_pay3 (F := Ideal) x2 a x3 x4 (ix2 p s) = normed (fun j => Ideal.ofBits .f32 0x3FB504F3#32 * x2 (ix2 p j) + a (ix2 p j)) (x3 (ix2 0 s)) (x4 (ix2 0 s)) s := by
  unfold normed mean
  pointwise [k0_pay3]

/-- Rounding changes nothing over the reals. -/
theorem pay_norm_rounded (x2 a : Vec Ideal S256x2048 .f32) (x3 x4 : Vec Ideal S1x2048 .f32) : (k0_pay4 (F := Ideal) x2 a x3 x4 : S256x2048.Idx → EReal) = k0_pay3 (F := Ideal) x2 a x3 x4 := rfl

end Cert.Kernel4Ideal.Dense

end
-- ==== Proof.DenseDown.lean ====
/- The dense feed-forward's down product with the residual and the layer norm: the whole arrays of the result. -/
module

public import proofs.«01_k».proof.Proof.DenseDownBlock
public import Idealize.ShloMosaic.Lib.Pipeline.ValueKit.Basic
public import Idealize.ShloMosaic.Lib.Pipeline.Covers

@[expose] public section

set_option maxRecDepth 16384

noncomputable section

namespace Cert.Kernel4Ideal.Dense

open Cert.Kernel4Ideal Cert.Kernel4Ideal.Gen
open Idealize.ShloMosaic Idealize.ShloMosaic.TcCoe
open Idealize.ShloMosaic.Pipeline (Dat Cfg Window)

/-- Row `r`, column `s` of the result: the layer norm of the scaled residual plus the product. -/
def lnAt (h : S16384x5632.Idx → EReal) (w : S5632x2048.Idx → EReal) (x : S16384x2048.Idx → EReal) (g b : S2048.Idx → EReal) (r : Fin 16384) (s : Fin 2048) : EReal :=
  normed (fun j => Ideal.ofBits .f32 0x3FB504F3#32 * x (ix2 r j) + ∑ k : Fin 5632, h (ix2 r k) * w (ix2 k j)) (g (ix1 s)) (b (ix1 s)) s

/-- Column `k` of half `e` of the product's long axis. -/
abbrev half (e : Fin 2) (k : Fin 2816) : Fin 5632 := ⟨e.val * 2816 + k.val, by omega⟩

/-- A sum over the long axis is the sum of its halves. -/
theorem sum_halves (f : Fin 5632 → EReal) : ∑ k, f k = ∑ k : Fin 2816, f (half 0 k) + ∑ k : Fin 2816, f (half 1 k) := by
  refine (Fin.sum_univ_add (a := 2816) (b := 2816) f).trans ?_
  refine congrArg₂ _ (Finset.sum_congr rfl fun k _ => congrArg f (Fin.ext ?_)) (Finset.sum_congr rfl fun k _ => congrArg f (Fin.ext ?_))
  · show k.val = 0 * 2816 + k.val
    omega
  · show 2816 + k.val = 1 * 2816 + k.val
    omega

/-- The stored block where the operands are known to be blocks of arrays. -/
theorem norm_of (x2 : Vec Ideal S256x2048 .f32) (a0 a1 : Vec Ideal S256x2816 .bf16) (b0 b1 : Vec Ideal S2816x2048 .bf16) (x3 x4 : Vec Ideal S1x2048 .f32)
    (h : S16384x5632.Idx → EReal) (w : S5632x2048.Idx → EReal) (x : S16384x2048.Idx → EReal) (g b : S2048.Idx → EReal) (r : Fin 16384) (p : Fin 256) (s : Fin 2048)
    (h2 : ∀ j, x2 (ix2 p j) = x (ix2 r j)) (ha0 : ∀ k, a0 (ix2 p k) = h (ix2 r (half 0 k))) (ha1 : ∀ k, a1 (ix2 p k) = h (ix2 r (half 1 k)))
    (hb0 : ∀ k j, b0 (ix2 k j) = w (ix2 (half 0 k) j)) (hb1 : ∀ k j, b1 (ix2 k j) = w (ix2 (half 1 k) j))
    (h3 : x3 (ix2 0 s) = g (ix1 s)) (h4 : x4 (ix2 0 s) = b (ix1 s)) :
    k0_pay3 (F := Ideal) x2 (k0_pay2 (F := Ideal) (k0_pay2 (F := Ideal) (k0_pay1 (F := Ideal)) a0 b0) a1 b1) x3 x4 (ix2 p s) = lnAt h w x g b r s := by
  refine (pay_norm x2 _ x3 x4 p s).trans ?_
  unfold lnAt
  rw [h3, h4]
  refine congrArg (fun z => normed z (g (ix1 s)) (b (ix1 s)) s) (funext fun j => ?_)
  rw [h2, sum_halves]
  refine congrArg _ ?_
  rw [pay_acc, pay_acc, pay_zero, zero_add]
  exact congrArg₂ _ (Finset.sum_congr rfl fun k _ => congrArg₂ _ (ha0 k) (hb0 k j)) (Finset.sum_congr rfl fun k _ => congrArg₂ _ (ha1 k) (hb1 k j))

variable (m : (ℓ : Loc nD τ sig) → Buf (Elt Ideal) ℓ)

theorem V_rows (c : Dev nD) : (V m c main_v0 : S16384x5632.Idx → EReal) = m ((c : Thread nD τ).loc main_arg0) := by
  show StableHlo.after _ _ _ = _
  simp only [hostOps0, List.flatten_cons, List.flatten_nil, List.append_nil, List.cons_append, List.nil_append,
    StableHlo.TRef.unary, StableHlo.TRef.toBuf, StableHlo.TRef.ofBuf, cast_eq]
  after_results_simp <;> rfl
theorem V_down (c : Dev nD) : (V m c main_v1 : S5632x2048.Idx → EReal) = m ((c : Thread nD τ).loc main_arg1) := by
  show StableHlo.after _ _ _ = _
  simp only [hostOps0, List.flatten_cons, List.flatten_nil, List.append_nil, List.cons_append, List.nil_append,
    StableHlo.TRef.unary, StableHlo.TRef.toBuf, StableHlo.TRef.ofBuf, cast_eq]
  after_results_simp <;> rfl

/-- A vector laid out as one row, read at a column. -/
theorem row_apply (v : Vec Ideal S2048 .f32) (s : Fin 2048) : shapeCast S1x2048 v shapeCasts_S2048_S1x2048 (ix2 0 s) = v (ix1 s) := by
  pointwise []

theorem V_scale (c : Dev nD) (s : Fin 2048) : (V m c main_v2 : S1x2048.Idx → EReal) (ix2 0 s) = (m ((c : Thread nD τ).loc main_arg3) : S2048.Idx → EReal) (ix1 s) := by
  have e : (V m c main_v2 : S1x2048.Idx → EReal) = shapeCast S1x2048 (m ((c : Thread nD τ).loc main_arg3) : S2048.Idx → EReal) shapeCasts_S2048_S1x2048 := by
    show StableHlo.after _ _ _ = _
    simp only [hostOps0, List.flatten_cons, List.flatten_nil, List.append_nil, List.cons_append, List.nil_append,
      StableHlo.TRef.unary, StableHlo.TRef.toBuf, StableHlo.TRef.ofBuf, cast_eq]
    after_results_simp <;> rfl
  exact (congrFun e _).trans (row_apply _ s)
theorem V_shift (c : Dev nD) (s : Fin 2048) : (V m c main_v3 : S1x2048.Idx → EReal) (ix2 0 s) = (m ((c : Thread nD τ).loc main_arg4) : S2048.Idx → EReal) (ix1 s) := by
  have e : (V m c main_v3 : S1x2048.Idx → EReal) = shapeCast S1x2048 (m ((c : Thread nD τ).loc main_arg4) : S2048.Idx → EReal) shapeCasts_S2048_S1x2048 := by
    show StableHlo.after _ _ _ = _
    simp only [hostOps0, List.flatten_cons, List.flatten_nil, List.append_nil, List.cons_append, List.nil_append,
      StableHlo.TRef.unary, StableHlo.TRef.toBuf, StableHlo.TRef.ofBuf, cast_eq]
    after_results_simp <;> rfl
  exact (congrFun e _).trans (row_apply _ s)

theorem N_eq : cfg0.N = 128 := N_0

/-- The row of the array at row `p` of point `t`'s block; -/
abbrev outRow (t : Fin cfg0.N) (p : Fin 256) : Fin 16384 := ⟨t.val / 2 * 256 + p.val, by have h := t.isLt; have e := N_eq; omega⟩
/-- the half of the long axis that it works on. -/
abbrev halfOf (t : Fin cfg0.N) : Fin 2 := ⟨t.val % 2, Nat.mod_lt _ (by decide)⟩

theorem row_word (t : Fin cfg0.N) : (BitVec.ofNat 32 (grid0.coords t 0).val).toNat = t.val / 2 := by
  have ht : t.val < 128 := Nat.lt_of_lt_of_eq t.isLt N_0
  have e0 : (grid0.coords t 0).val = t.val / 2 % 64 := Pipeline.Grid.coords_val t 0 (by decide) rfl
  rw [BitVec.toNat_ofNat, e0]
  omega
theorem half_word (t : Fin cfg0.N) : (BitVec.ofNat 32 (grid0.coords t 1).val).toNat = t.val % 2 := by
  have e1 : (grid0.coords t 1).val = t.val / 1 % 2 := Pipeline.Grid.coords_val t 1 (by decide) rfl
  rw [BitVec.toNat_ofNat, e1]
  omega

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)

/-- The block of rows that point `t` reads. -/
theorem rows_blk (c : Dev nD) (t : Fin cfg0.N) (p : Fin 256) (k : Fin 2816) :
    (iblk m c 0 t : Vec Ideal S256x2816 .bf16) (ix2 p k) = (m ((c : Thread nD τ).loc main_arg0) : S16384x5632.Idx → EReal) (ix2 (outRow t p) (half (halfOf t) k)) := by
  show V m c main_v0 ((((cfg0).win 0).rect t).emb (ix2 p k)) = _
  refine (congrFun (V_rows m c) _).trans ?_
  have e0 : ((((cfg0).win 0).rect t).emb (ix2 p k) (0 : Fin 2) : Nat) = (outRow t p).val :=
    (((cfg0).win 0).rect_emb_val t (ix2 p k) (0 : Fin 2)).trans (by show (BitVec.ofNat 32 (grid0.coords t 0).val).toNat * 256 + p.val = t.val / 2 * 256 + p.val; rw [row_word])
  have e1 : ((((cfg0).win 0).rect t).emb (ix2 p k) (1 : Fin 2) : Nat) = (half (halfOf t) k).val :=
    (((cfg0).win 0).rect_emb_val t (ix2 p k) (1 : Fin 2)).trans (by show (BitVec.ofNat 32 (grid0.coords t 1).val).toNat * 2816 + k.val = t.val % 2 * 2816 + k.val; rw [half_word])
  exact congrArg _ (idx2_ext _ _ _ e0 e1)

/-- The block of the matrix. -/
theorem down_blk (c : Dev nD) (t : Fin cfg0.N) (k : Fin 2816) (j : Fin 2048) :
    (iblk m c 1 t : Vec Ideal S2816x2048 .bf16) (ix2 k j) = (m ((c : Thread nD τ).loc main_arg1) : S5632x2048.Idx → EReal) (ix2 (half (halfOf t) k) j) := by
  show V m c main_v1 ((((cfg0).win 1).rect t).emb (ix2 k j)) = _
  refine (congrFun (V_down m c) _).trans ?_
  have e0 : ((((cfg0).win 1).rect t).emb (ix2 k j) (0 : Fin 2) : Nat) = (half (halfOf t) k).val :=
    (((cfg0).win 1).rect_emb_val t (ix2 k j) (0 : Fin 2)).trans (by show (BitVec.ofNat 32 (grid0.coords t 1).val).toNat * 2816 + k.val = t.val % 2 * 2816 + k.val; rw [half_word])
  have e1 : ((((cfg0).win 1).rect t).emb (ix2 k j) (1 : Fin 2) : Nat) = j.val :=
    (((cfg0).win 1).rect_emb_val t (ix2 k j) (1 : Fin 2)).trans (by show 0 * 2048 + j.val = j.val; omega)
  exact congrArg _ (idx2_ext _ _ _ e0 e1)

/-- The block of the residual. -/
theorem res_blk (c : Dev nD) (t : Fin cfg0.N) (p : Fin 256) (j : Fin 2048) :
    (iblk m c 2 t : Vec Ideal S256x2048 .f32) (ix2 p j) = (m ((c : Thread nD τ).loc main_arg2) : S16384x2048.Idx → EReal) (ix2 (outRow t p) j) := by
  show V m c main_arg2 ((((cfg0).win 2).rect t).emb (ix2 p j)) = _
  refine (congrFun (V_main_arg2 m c) _).trans ?_
  have e0 : ((((cfg0).win 2).rect t).emb (ix2 p j) (0 : Fin 2) : Nat) = (outRow t p).val :=
    (((cfg0).win 2).rect_emb_val t (ix2 p j) (0 : Fin 2)).trans (by show (BitVec.ofNat 32 (grid0.coords t 0).val).toNat * 256 + p.val = t.val / 2 * 256 + p.val; rw [row_word])
  have e1 : ((((cfg0).win 2).rect t).emb (ix2 p j) (1 : Fin 2) : Nat) = j.val :=
    (((cfg0).win 2).rect_emb_val t (ix2 p j) (1 : Fin 2)).trans (by show 0 * 2048 + j.val = j.val; omega)
  exact congrArg _ (idx2_ext _ _ _ e0 e1)

/-- The norm's scale -/
theorem scale_blk (c : Dev nD) (t : Fin cfg0.N) (s : Fin 2048) :
    (iblk m c 3 t : Vec Ideal S1x2048 .f32) (ix2 0 s) = (m ((c : Thread nD τ).loc main_arg3) : S2048.Idx → EReal) (ix1 s) := by
  show V m c main_v2 ((((cfg0).win 3).rect t).emb (ix2 (0 : Fin 1) s)) = _
  have e0 : ((((cfg0).win 3).rect t).emb (ix2 (0 : Fin 1) s) (0 : Fin 2) : Nat) = (0 : Fin 1).val :=
    (((cfg0).win 3).rect_emb_val t (ix2 (0 : Fin 1) s) (0 : Fin 2)).trans rfl
  have e1 : ((((cfg0).win 3).rect t).emb (ix2 (0 : Fin 1) s) (1 : Fin 2) : Nat) = s.val :=
    (((cfg0).win 3).rect_emb_val t (ix2 (0 : Fin 1) s) (1 : Fin 2)).trans (by show 0 * 2048 + s.val = s.val; omega)
  exact (congrArg (V m c main_v2 : S1x2048.Idx → EReal) (idx2_ext _ (0 : Fin 1) s e0 e1)).trans (V_scale m c s)

/-- and its shift. -/
theorem shift_blk (c : Dev nD) (t : Fin cfg0.N) (s : Fin 2048) :
    (iblk m c 4 t : Vec Ideal S1x2048 .f32) (ix2 0 s) = (m ((c : Thread nD τ).loc main_arg4) : S2048.Idx → EReal) (ix1 s) := by
  show V m c main_v3 ((((cfg0).win 4).rect t).emb (ix2 (0 : Fin 1) s)) = _
  have e0 : ((((cfg0).win 4).rect t).emb (ix2 (0 : Fin 1) s) (0 : Fin 2) : Nat) = (0 : Fin 1).val :=
    (((cfg0).win 4).rect_emb_val t (ix2 (0 : Fin 1) s) (0 : Fin 2)).trans rfl
  have e1 : ((((cfg0).win 4).rect t).emb (ix2 (0 : Fin 1) s) (1 : Fin 2) : Nat) = s.val :=
    (((cfg0).win 4).rect_emb_val t (ix2 (0 : Fin 1) s) (1 : Fin 2)).trans (by show 0 * 2048 + s.val = s.val; omega)
  exact (congrArg (V m c main_v3 : S1x2048.Idx → EReal) (idx2_ext _ (0 : Fin 1) s e0 e1)).trans (V_shift m c s)

/-- The array the kernel leaves. -/
def result (c : Dev nD) : S16384x2048.Idx → EReal := fun i =>
  lnAt (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

/-- The point before one at the second half. -/
abbrev prev (t : Fin cfg0.N) : Fin cfg0.N := ⟨t.val - 1, Nat.lt_of_le_of_lt (Nat.sub_le _ _) t.isLt⟩

/-- What the point before left in the accumulator. -/
theorem acc_prev (c : Dev nD) (t : Fin cfg0.N) (h1 : t.val % 2 = 1) :
    (outsAt0 m c (t.val - 1) (Nat.lt_of_le_of_lt (Nat.sub_le _ _) t.isLt)).2.2 = k0_pay2 (F := Ideal) (k0_pay1 (F := Ideal)) (iblk m c 0 (prev t)) (iblk m c 1 (prev t)) := by
  have hp0 : (prev t).val % 2 = 0 := by show (t.val - 1) % 2 = 0; omega
  have hp1 : ¬(prev t).val % 2 = 1 := by omega
  refine (congrArg (fun o => o.2.2) (outsAt0_A m c (prev t) hp0 hp1)).trans ?_
  dsimp only
  rw [acc_first]

/-- What a point of the second half stores in the first result, -/
theorem stored_eq (c : Dev nD) (t : Fin cfg0.N) (h1 : t.val % 2 = 1) :
    (outsAt0 m c t.val t.isLt).1 = k0_pay3 (F := Ideal) (iblk m c 2 t) (k0_pay2 (F := Ideal) (k0_pay2 (F := Ideal) (k0_pay1 (F := Ideal)) (iblk m c 0 (prev t)) (iblk m c 1 (prev t))) (iblk m c 0 t) (iblk m c 1 t)) (iblk m c 3 t) (iblk m c 4 t) := by
  have h0 : ¬t.val % 2 = 0 := by omega
  refine (congrArg (fun o => o.1) (outsAt0_B m c t h0 h1)).trans ?_
  dsimp only
  rw [out_last, acc_prev m c t h1]

/-- and in the rounded one. -/
theorem stored_rounded_eq (c : Dev nD) (t : Fin cfg0.N) (h1 : t.val % 2 = 1) :
    (outsAt0 m c t.val t.isLt).2.1 = k0_pay4 (F := Ideal) (iblk m c 2 t) (k0_pay2 (F := Ideal) (k0_pay2 (F := Ideal) (k0_pay1 (F := Ideal)) (iblk m c 0 (prev t)) (iblk m c 1 (prev t))) (iblk m c 0 t) (iblk m c 1 t)) (iblk m c 3 t) (iblk m c 4 t) := by
  have h0 : ¬t.val % 2 = 0 := by omega
  refine (congrArg (fun o => o.2.1) (outsAt0_B m c t h0 h1)).trans ?_
  dsimp only
  rw [out_last_rounded, acc_prev m c t h1]

/-- That block at an index. -/
theorem block_apply (c : Dev nD) (t : Fin cfg0.N) (h1 : t.val % 2 = 1) (p : Fin 256) (s : Fin 2048) :
    (k0_pay3 (F := Ideal) (iblk m c 2 t) (k0_pay2 (F := Ideal) (k0_pay2 (F := Ideal) (k0_pay1 (F := Ideal)) (iblk m c 0 (prev t)) (iblk m c 1 (prev t))) (iblk m c 0 t) (iblk m c 1 t)) (iblk m c 3 t) (iblk m c 4 t) : Vec Ideal S256x2048 .f32) (ix2 p s)
      = lnAt (m ((c : Thread nD τ).loc main_arg0)) (m ((c : Thread nD τ).loc main_arg1)) (m ((c : Thread nD τ).loc main_arg2)) (m ((c : Thread nD τ).loc main_arg3)) (m ((c : Thread nD τ).loc main_arg4)) (outRow t p) s := by
  have ht : halfOf t = 1 := Fin.ext h1
  have hp : halfOf (prev t) = 0 := Fin.ext (by show (t.val - 1) % 2 = 0; omega)
  have hr : outRow (prev t) p = outRow t p := Fin.ext (by show (t.val - 1) / 2 * 256 + p.val = t.val / 2 * 256 + p.val; omega)
  have ha0 := rows_blk m c (prev t) p
  have ha1 := rows_blk m c t p
  have hb0 := down_blk m c (prev t)
  have hb1 := down_blk m c t
  rw [hp] at ha0 hb0
  rw [ht] at ha1 hb1
  rw [hr] at ha0
  exact norm_of _ _ _ _ _ _ _ _ _ _ _ _ _ p s (res_blk m c t p) ha0 ha1 hb0 hb1 (scale_blk m c t s) (shift_blk m c t s)

/-- What is written back to the first result is its block of that array, -/
theorem flushed_eq (c : Dev nD) (t : Fin cfg0.N) (hf : (cfg0.win 5).flush t = true) :
    (dats m 0 c).flushed 5 t = ((cfg0.win 5).blk t).view.read (Elt Ideal) (result m c) := by
  have h1 : t.val % 2 = 1 := (flush0_5 t).mp hf
  rw [Cert.Kernel4Ideal.Value.flushed5, stored_eq m c t h1]
  funext y
  revert y
  show ∀ y : S256x2048.Idx, (k0_pay3 (F := Ideal) (iblk m c 2 t) (k0_pay2 (F := Ideal) (k0_pay2 (F := Ideal) (k0_pay1 (F := Ideal)) (iblk m c 0 (prev t)) (iblk m c 1 (prev t))) (iblk m c 0 t) (iblk m c 1 t)) (iblk m c 3 t) (iblk m c 4 t) : Vec Ideal S256x2048 .f32) y = result m c (((cfg0.win 5).rect t).emb y)
  intro y
  obtain ⟨p, s, rfl⟩ : ∃ (p : Fin 256) (s : Fin 2048), y = ix2 p s := ⟨y 0, y 1, eq_ix2 y⟩
  refine (block_apply m c t h1 p s).trans ?_
  unfold result
  refine congrArg₂ _ (Fin.ext ?_) (Fin.ext ?_)
  · refine Eq.symm (((cfg0.win 5).rect_emb_val t (ix2 p s) (0 : Fin 2)).trans ?_)
    show (BitVec.ofNat 32 (grid0.coords t 0).val).toNat * 256 + p.val = t.val / 2 * 256 + p.val
    rw [row_word]
  · refine Eq.symm (((cfg0.win 5).rect_emb_val t (ix2 p s) (1 : Fin 2)).trans ?_)
    show 0 * 2048 + s.val = s.val
    omega

/-- and likewise to the rounded one. -/
theorem flushed_rounded_eq (c : Dev nD) (t : Fin cfg0.N) (hf : (cfg0.win 6).flush t = true) :
    (dats m 0 c).flushed 6 t = ((cfg0.win 6).blk t).view.read (Elt Ideal) (result m c) := by
  have h1 : t.val % 2 = 1 := (flush0_6 t).mp hf
  rw [Cert.Kernel4Ideal.Value.flushed6, stored_rounded_eq m c t h1]
  funext y
  revert y
  show ∀ y : S256x2048.Idx, (k0_pay3 (F := Ideal) (iblk m c 2 t) (k0_pay2 (F := Ideal) (k0_pay2 (F := Ideal) (k0_pay1 (F := Ideal)) (iblk m c 0 (prev t)) (iblk m c 1 (prev t))) (iblk m c 0 t) (iblk m c 1 t)) (iblk m c 3 t) (iblk m c 4 t) : Vec Ideal S256x2048 .f32) y = result m c (((cfg0.win 6).rect t).emb y)
  intro y
  obtain ⟨p, s, rfl⟩ : ∃ (p : Fin 256) (s : Fin 2048), y = ix2 p s := ⟨y 0, y 1, eq_ix2 y⟩
  refine (block_apply m c t h1 p s).trans ?_
  unfold result
  refine congrArg₂ _ (Fin.ext ?_) (Fin.ext ?_)
  · refine Eq.symm (((cfg0.win 6).rect_emb_val t (ix2 p s) (0 : Fin 2)).trans ?_)
    show (BitVec.ofNat 32 (grid0.coords t 0).val).toNat * 256 + p.val = t.val / 2 * 256 + p.val
    rw [row_word]
  · refine Eq.symm (((cfg0.win 6).rect_emb_val t (ix2 p s) (1 : Fin 2)).trans ?_)
    show 0 * 2048 + s.val = s.val
    omega

/-- So both arrays end holding it. -/
theorem final (c : Dev nD) : (dats m 0 c).arrAt 5 cfg0.N = result m c :=
  (dats m 0 c).arrAt_eq_of_cover 5 (result m c) (fun t hf => flushed_eq m c t hf) (fun i => (Cert.Kernel4Ideal.Value.covered_iff5 i).2 (by
    have h0 : (i 0).val < 16384 := (i 0).isLt; have h1 : (i 1).val < 2048 := (i 1).isLt; omega))
theorem final_rounded (c : Dev nD) : (dats m 0 c).arrAt 6 cfg0.N = result m c :=
  (dats m 0 c).arrAt_eq_of_cover 6 (result m c) (fun t hf => flushed_rounded_eq m c t hf) (fun i => (Cert.Kernel4Ideal.Value.covered_iff6 i).2 (by
    have h0 : (i 0).val < 16384 := (i 0).isLt; have h1 : (i 1).val < 2048 := (i 1).isLt; omega))

end Cert.Kernel4Ideal.Dense

end
-- ==== Proof.DenseDownClaims.lean ====
/- The dense feed-forward's down product with the residual and the layer norm: the claims. -/
module

public import proofs.«01_k».proof.Defs
public import proofs.«01_k».proof.Proof.Gen.Kernel4.Frame
public import proofs.«01_k».proof.Proof.Gen.Reference4Ideal.Read
public import proofs.«01_k».proof.Proof.DenseDown

@[expose] public section

set_option maxRecDepth 16384

noncomputable section

namespace Cert.Proof.DenseDown

open Idealize.ShloMosaic Idealize.SL.Sem Cert.Reference4Ideal Cert.Reference4Ideal.Read
open Cert.Kernel4Ideal.Dense (mean normed lnAt)

theorem frame_kernel : Cert.quiescent_Kernel4 := fun m ρ _ => Cert.Kernel4.Gen.frame m ρ
theorem frame_kernelIdeal : Cert.quiescent_Kernel4Ideal := fun m ρ _ => Cert.Kernel4Ideal.Gen.frame m ρ

/-- The reference ends for every launch memory, with its arguments unchanged and every semaphore at zero. -/
theorem frame_reference : Cert.quiescent_Reference4Ideal := fun m ρ _ =>
  (θ_run Cert.Reference4Ideal.defs _ _).mono (fun r h => ⟨fun c => (h c).2.2, sem_eq_zero_of_no_sems (by decide) r.2⟩) (Cert.Reference4Ideal.Value.run (F := Ideal) m ρ)

section reference
variable (x0 : (⟨S16384x5632, .f32⟩ : BufTy).Contents (Elt Ideal)) (x1 : (⟨S5632x2048, .f32⟩ : BufTy).Contents (Elt Ideal)) (x2 : (⟨S16384x2048, .f32⟩ : BufTy).Contents (Elt Ideal)) (x3 x4 : (⟨S2048, .f32⟩ : BufTy).Contents (Elt Ideal))

/-- The scaled residual plus the product. -/
abbrev sumAt (r : Fin 16384) (j : Fin 2048) : EReal := Ideal.ofBits .f32 0x3FB504F3#32 * x2 (ix2 r j) + ∑ k : Fin 5632, x0 (ix2 r k) * x1 (ix2 k j)

theorem ref_sum (r : Fin 16384) (j : Fin 2048) : val_main_v3 (F := Ideal) x0 x1 x2 (ix2 r j) = sumAt x0 x1 x2 r j := by
  have el : ∀ k, lidx_main_v2 (ix2 r j) k = ix2 r k := fun k => funext fun a => Fin.ext (match a with | ⟨0, _⟩ => rfl | ⟨1, _⟩ => rfl)
  have er : ∀ k, ridx_main_v2 (ix2 r j) k = ix2 k j := fun k => funext fun a => Fin.ext (match a with | ⟨0, _⟩ => rfl | ⟨1, _⟩ => rfl)
  rw [val_main_v3_apply, val_main_v1_apply, val_main_v0_apply, val_main_cst_apply, val_main_v2_apply]
  simp only [el, er]
  rfl

/-- Its row's mean, -/
theorem ref_mean (r : Fin 16384) : val_main_v7 (F := Ideal) x0 x1 x2 (ix2 r 0) = mean (sumAt x0 x1 x2 r) := by
  have e5 : idx_main_v5 (ix2 r 0) = ix1 r := funext fun a => Fin.ext (match a with | ⟨0, _⟩ => rfl)
  have e4 : ∀ k, idx_main_v4 (ix1 r) k = ix2 r k := fun k => funext fun a => Fin.ext (match a with | ⟨0, _⟩ => rfl | ⟨1, _⟩ => rfl)
  rw [val_main_v7_apply, val_main_v5_apply, val_main_v6_apply, val_main_cst_1_apply, e5, val_main_v4_apply, val_main_cst_0_apply]
  simp only [e4, ref_sum]
  unfold mean
  show Ideal.div (Ideal.ofBits .f32 0x00000000#32 + _) _ = _
  rw [Ideal.ofBits_zero_f32, zero_add]
  rfl

/-- and the reciprocal of its spread. -/
theorem ref_spread (r : Fin 16384) : val_main_v19 (F := Ideal) x0 x1 x2 (ix2 r 0)
    = Ideal.rsqrt (Ideal.div (∑ j : Fin 2048, (sumAt x0 x1 x2 r j - mean (sumAt x0 x1 x2 r)) * (sumAt x0 x1 x2 r j - mean (sumAt x0 x1 x2 r))) (Ideal.ofBits .f32 0x45000000#32) + Ideal.ofBits .f32 0x3727C5AC#32) := by
  have e12 : idx_main_v12 (ix2 r 0) = ix1 r := funext fun a => Fin.ext (match a with | ⟨0, _⟩ => rfl)
  have e11 : ∀ k, idx_main_v11 (ix1 r) k = ix2 r k := fun k => funext fun a => Fin.ext (match a with | ⟨0, _⟩ => rfl | ⟨1, _⟩ => rfl)
  have e8 : ∀ k : Fin 2048, idx_main_v8 (ix2 r k) = ix2 r 0 := fun k => funext fun a => Fin.ext (match a with | ⟨0, _⟩ => rfl | ⟨1, _⟩ => rfl)
  rw [val_main_v19_apply, val_main_v18_apply, val_main_v14_apply, val_main_v12_apply, val_main_v13_apply, val_main_cst_3_apply, val_main_v17_apply, val_main_cst_4_apply, e12, val_main_v11_apply, val_main_cst_2_apply]
  simp only [e11, val_main_v10_apply, val_main_v9_apply, val_main_v8_apply, e8, ref_mean, ref_sum]
  show Ideal.rsqrt (Ideal.div (Ideal.ofBits .f32 0x00000000#32 + _) _ + _) = _
  rw [Ideal.ofBits_zero_f32, zero_add]
  rfl

/-- The reference's result at an index. -/
theorem ref_apply (r : Fin 16384) (s : Fin 2048) : val_main_v27 (F := Ideal) x0 x1 x2 x3 x4 (ix2 r s) = lnAt x0 x1 x2 x3 x4 r s := by
  have e15 : idx_main_v15 (ix2 r s) = ix2 r 0 := funext fun a => Fin.ext (match a with | ⟨0, _⟩ => rfl | ⟨1, _⟩ => rfl)
  have e20 : idx_main_v20 (ix2 r s) = ix2 r 0 := funext fun a => Fin.ext (match a with | ⟨0, _⟩ => rfl | ⟨1, _⟩ => rfl)
  have e22 : idx_main_v22 (idx_main_v23 (ix2 r s)) = ix1 s := funext fun a => Fin.ext (match a with | ⟨0, _⟩ => rfl)
  have e25 : idx_main_v25 (idx_main_v26 (ix2 r s)) = ix1 s := funext fun a => Fin.ext (match a with | ⟨0, _⟩ => rfl)
  rw [val_main_v27_apply, val_main_v24_apply, val_main_v21_apply, val_main_v16_apply, val_main_v15_apply, val_main_v20_apply, val_main_v23_apply, val_main_v22_apply,
    val_main_v26_apply, val_main_v25_apply, e15, e20, e22, e25, ref_mean, ref_spread, ref_sum]
  rfl

end reference

/-- Both leave the same two arrays. -/
theorem algebraic : Cert.algebraic_Kernel4Ideal_Reference4Ideal := by
  intro m ρ m' ρ' _ hagree
  refine ⟨fun c => Cert.Kernel4Ideal.Dense.result m c, fun c => Cert.Kernel4Ideal.Dense.result m c,
    (θ_run Cert.Kernel4Ideal.defs _ _).mono (fun _ h c => ⟨((h c).1).trans (Cert.Kernel4Ideal.Dense.final m c), ((h c).2.1).trans (Cert.Kernel4Ideal.Dense.final_rounded m c), (h c).2.2⟩) (Cert.Kernel4Ideal.Value.run_blocks (F := Ideal) m ρ),
    (θ_run Cert.Reference4Ideal.defs _ _).mono (fun _ h c => ⟨((h c).1).trans ?_, ((h c).2.1).trans ?_, (h c).2.2⟩) (Cert.Reference4Ideal.Value.run (F := Ideal) m' ρ')⟩
  · refine (Cert.Reference4Ideal.Read.val_main_v27_eq _ _ _ _ _).trans ?_
    obtain ⟨h0, h1, h2, h3, h4⟩ := hagree c
    funext i
    obtain ⟨r, s, rfl⟩ : ∃ r s, i = ix2 r s := ⟨i 0, i 1, eq_ix2 i⟩
    refine (ref_apply _ _ _ _ _ r s).trans ?_
    rw [h0, h1, h2, h3, h4]
    rfl
  · refine (Cert.Reference4Ideal.Read.val_main_v28_eq _ _ _ _ _).trans ?_
    obtain ⟨h0, h1, h2, h3, h4⟩ := hagree c
    funext i
    obtain ⟨r, s, rfl⟩ : ∃ r s, i = ix2 r s := ⟨i 0, i 1, eq_ix2 i⟩
    refine (ref_apply _ _ _ _ _ r s).trans ?_
    rw [h0, h1, h2, h3, h4]
    rfl

end Cert.Proof.DenseDown

end
-- ==== Proof.DsaLatent.lean ====
/- The second attention's normalised latent: what a block of the result holds, and then the whole array. -/
module

public import proofs.«01_k».proof.Proof.Gen.Kernel8Ideal.Value
public import Idealize.ShloMosaic.Lib.Pointwise
public import Idealize.ShloMosaic.Lib.Pipeline.ValueKit.Basic
public import Idealize.ShloMosaic.Lib.Pipeline.Covers

@[expose] public section

set_option maxRecDepth 16384

noncomputable section

namespace Cert.Kernel8Ideal.Latent

open Cert.Kernel8Ideal Cert.Kernel8Ideal.Gen
open Idealize.ShloMosaic Idealize.ShloMosaic.TcCoe
open Idealize.ShloMosaic.Pipeline (Dat Cfg Window)

/-- A row divided by the root of its mean square plus a small constant, times a gain. -/
def rmsNormed (y : Fin 256 → EReal) (g : EReal) (q : Fin 256) : EReal :=
  y q * Ideal.rsqrt (Ideal.div (∑ j : Fin 256, y j * y j) (Ideal.ofBits .f32 0x43800000#32) + Ideal.ofBits .f32 0x358637BD#32) * g

/-- Column `q` of the latent's 256 columns, in the matrix. -/
abbrev srcCol (q : Fin 256) : Fin 2888 := ⟨2048 + q.val, by omega⟩

/-- The product's row, normalised. -/
def latentAt (x : S16384x2048.Idx → EReal) (w : S2048x2888.Idx → EReal) (g : S256.Idx → EReal) (r : Fin 16384) (q : Fin 256) : EReal :=
  rmsNormed (fun j => ∑ k : Fin 2048, x (ix2 r k) * w (ix2 k (srcCol j))) (g (ix1 q)) q

/-- One block from its three operands. -/
theorem pay_apply (x0 : Vec Ideal S512x2048 .bf16) (x1 : Vec Ideal S2048x256 .bf16) (x2 : Vec Ideal S1x256 .f32) (p : Fin 512) (q : Fin 256) :
    k0_pay1 (F := Ideal) x0 x1 x2 (ix2 p q) = rmsNormed (fun j => ∑ k : Fin 2048, x0 (ix2 p k) * x1 (ix2 k j)) (x2 (ix2 0 q)) q := by
  unfold rmsNormed
  pointwise [k0_pay1]

/-- The same where the operands are known to be rows and columns of arrays. -/
theorem pay_of (x0 : Vec Ideal S512x2048 .bf16) (x1 : Vec Ideal S2048x256 .bf16) (x2 : Vec Ideal S1x256 .f32)
    (x : S16384x2048.Idx → EReal) (w : S2048x2888.Idx → EReal) (g : S256.Idx → EReal) (p : Fin 512) (q : Fin 256) (r : Fin 16384)
    (h0 : ∀ k, x0 (ix2 p k) = x (ix2 r k)) (h1 : ∀ k j, x1 (ix2 k j) = w (ix2 k (srcCol j))) (h2 : x2 (ix2 0 q) = g (ix1 q)) :
    k0_pay1 (F := Ideal) x0 x1 x2 (ix2 p q) = latentAt x w g r q := by
  refine (pay_apply x0 x1 x2 p q).trans ?_
  unfold latentAt
  rw [h2]
  exact congrArg (fun z => rmsNormed z (g (ix1 q)) q) (funext fun j => Finset.sum_congr rfl fun k _ => congrArg₂ _ (h0 k) (h1 k j))

/-- What the body stores is that block. -/
theorem out_eq (x0 : Vec Ideal S512x2048 .bf16) (x1 : Vec Ideal S2048x256 .bf16) (x2 : Vec Ideal S1x256 .f32) : out0_3 (F := Ideal) x0 x1 x2 = k0_pay1 x0 x1 x2 := by
  unfold out0_3
  refine (View.canon_unit_zero (by decide) _ _).trans ?_
  exact congr (congrArg₂ k0_pay1 (View.ld_unit_zero (by decide) _ x0) (View.ld_unit_zero (by decide) _ x1)) (View.ld_unit_zero (by decide) _ x2)

variable (m : (ℓ : Loc nD τ sig) → Buf (Elt Ideal) ℓ)

theorem V_rows (c : Dev nD) : (V m c main_v0 : S16384x2048.Idx → EReal) = m ((c : Thread nD τ).loc main_arg0) := by
  show StableHlo.after _ _ _ = _
  simp only [hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

/-- The columns taken of the matrix, at an index. -/
theorem cols_apply (w : Vec Ideal S2048x2888 .f32) (k : Fin 2048) (q : Fin 256) :
    extractStridedSlice S2048x256 ![0, 2048] w slices_S2048x2888_S2048x256_0_2048 (ix2 k q) = w (ix2 k (srcCol q)) := by
  pointwise []

theorem V_cols (c : Dev nD) (k : Fin 2048) (q : Fin 256) : (V m c main_v2 : S2048x256.Idx → EReal) (ix2 k q) = (m ((c : Thread nD τ).loc main_arg1) : S2048x2888.Idx → EReal) (ix2 k (srcCol q)) := by
  have e : (V m c main_v2 : S2048x256.Idx → EReal) = extractStridedSlice S2048x256 ![0, 2048] (m ((c : Thread nD τ).loc main_arg1) : S2048x2888.Idx → EReal) slices_S2048x2888_S2048x256_0_2048 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (cols_apply _ k q)

/-- A vector laid out as one row, read at a column. -/
theorem row_apply (v : Vec Ideal S256 .f32) (q : Fin 256) : shapeCast S1x256 v shapeCasts_S256_S1x256 (ix2 0 q) = v (ix1 q) := by
  pointwise []

/-- The row of gains that the launch finds. -/
theorem V_gain (c : Dev nD) (q : Fin 256) : (V m c main_v3 : S1x256.Idx → EReal) (ix2 0 q) = (m ((c : Thread nD τ).loc main_arg2) : S256.Idx → EReal) (ix1 q) := by
  have e : (V m c main_v3 : S1x256.Idx → EReal) = shapeCast S1x256 (m ((c : Thread nD τ).loc main_arg2) : S256.Idx → EReal) shapeCasts_S256_S1x256 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (row_apply _ q)

/-- The row of the array at row `p` of point `t`'s block. -/
abbrev outRow (t : Fin cfg0.N) (p : Fin 512) : Fin 16384 := ⟨(grid0.coords t 0).val * 512 + p.val, by have h : (grid0.coords t 0).val < 32 := (grid0.coords t 0).isLt; omega⟩
theorem row_word (t : Fin cfg0.N) : (BitVec.ofNat 32 (grid0.coords t 0).val).toNat = (grid0.coords t 0).val := by
  have h : (grid0.coords t 0).val < 32 := (grid0.coords t 0).isLt
  rw [BitVec.toNat_ofNat, Nat.mod_eq_of_lt (by omega)]

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)

/-- The block of rows that point `t` reads. -/
theorem rows_blk (c : Dev nD) (t : Fin cfg0.N) (p : Fin 512) (k : Fin 2048) :
    (iblk m c 0 t : Vec Ideal S512x2048 .bf16) (ix2 p k) = (m ((c : Thread nD τ).loc main_arg0) : S16384x2048.Idx → EReal) (ix2 (outRow t p) k) := by
  show V m c main_v0 ((((cfg0).win 0).rect t).emb (ix2 p k)) = _
  refine (congrFun (V_rows m c) _).trans ?_
  have e0 : ((((cfg0).win 0).rect t).emb (ix2 p k) (0 : Fin 2) : Nat) = (outRow t p).val :=
    (((cfg0).win 0).rect_emb_val t (ix2 p k) (0 : Fin 2)).trans (by show (BitVec.ofNat 32 (grid0.coords t 0).val).toNat * 512 + p.val = (grid0.coords t 0).val * 512 + p.val; rw [row_word])
  have e1 : ((((cfg0).win 0).rect t).emb (ix2 p k) (1 : Fin 2) : Nat) = k.val :=
    (((cfg0).win 0).rect_emb_val t (ix2 p k) (1 : Fin 2)).trans (by show 0 * 2048 + k.val = k.val; omega)
  exact congrArg _ (idx2_ext _ _ _ e0 e1)

/-- The columns, read whole. -/
theorem cols_blk (c : Dev nD) (t : Fin cfg0.N) (k : Fin 2048) (q : Fin 256) :
    (iblk m c 1 t : Vec Ideal S2048x256 .bf16) (ix2 k q) = (m ((c : Thread nD τ).loc main_arg1) : S2048x2888.Idx → EReal) (ix2 k (srcCol q)) := by
  show V m c main_v2 ((((cfg0).win 1).rect t).emb (ix2 k q)) = _
  have e0 : ((((cfg0).win 1).rect t).emb (ix2 k q) (0 : Fin 2) : Nat) = k.val :=
    (((cfg0).win 1).rect_emb_val t (ix2 k q) (0 : Fin 2)).trans (by show 0 * 2048 + k.val = k.val; omega)
  have e1 : ((((cfg0).win 1).rect t).emb (ix2 k q) (1 : Fin 2) : Nat) = q.val :=
    (((cfg0).win 1).rect_emb_val t (ix2 k q) (1 : Fin 2)).trans (by show 0 * 256 + q.val = q.val; omega)
  exact (congrArg (V m c main_v2 : S2048x256.Idx → EReal) (idx2_ext _ k q e0 e1)).trans (V_cols m c k q)

/-- The gain, read whole. -/
theorem gain_blk (c : Dev nD) (t : Fin cfg0.N) (q : Fin 256) :
    (iblk m c 2 t : Vec Ideal S1x256 .f32) (ix2 0 q) = (m ((c : Thread nD τ).loc main_arg2) : S256.Idx → EReal) (ix1 q) := by
  show V m c main_v3 ((((cfg0).win 2).rect t).emb (ix2 (0 : Fin 1) q)) = _
  have e0 : ((((cfg0).win 2).rect t).emb (ix2 (0 : Fin 1) q) (0 : Fin 2) : Nat) = (0 : Fin 1).val :=
    (((cfg0).win 2).rect_emb_val t (ix2 (0 : Fin 1) q) (0 : Fin 2)).trans rfl
  have e1 : ((((cfg0).win 2).rect t).emb (ix2 (0 : Fin 1) q) (1 : Fin 2) : Nat) = q.val :=
    (((cfg0).win 2).rect_emb_val t (ix2 (0 : Fin 1) q) (1 : Fin 2)).trans (by show 0 * 256 + q.val = q.val; omega)
  exact (congrArg (V m c main_v3 : S1x256.Idx → EReal) (idx2_ext _ (0 : Fin 1) q e0 e1)).trans (V_gain m c q)

/-- The array the kernel leaves. -/
def result (c : Dev nD) : S16384x256.Idx → EReal := fun i =>
  latentAt (m ((c : Thread nD τ).loc main_arg0)) (m ((c : Thread nD τ).loc main_arg1)) (m ((c : Thread nD τ).loc main_arg2)) (i 0) (i 1)

/-- What point `t` stores, at an index of its block. -/
theorem out_apply (c : Dev nD) (t : Fin cfg0.N) (p : Fin 512) (q : Fin 256) :
    (out0_3 (F := Ideal) (iblk m c 0 t) (iblk m c 1 t) (iblk m c 2 t) : Vec Ideal S512x256 .bf16) (ix2 p q)
      = latentAt (m ((c : Thread nD τ).loc main_arg0)) (m ((c : Thread nD τ).loc main_arg1)) (m ((c : Thread nD τ).loc main_arg2)) (outRow t p) q := by
  refine (congrFun (out_eq (iblk m c 0 t) (iblk m c 1 t) (iblk m c 2 t)) _).trans ?_
  exact pay_of (iblk m c 0 t) (iblk m c 1 t) (iblk m c 2 t) _ _ _ p q _ (rows_blk m c t p) (fun k j => cols_blk m c t k j) (gain_blk m c t q)

/-- What point `t` writes back is its block of that array. -/
theorem flushed_eq (c : Dev nD) (t : Fin cfg0.N) :
    (dats m 0 c).flushed 3 t = ((cfg0.win 3).blk t).view.read (Elt Ideal) (result m c) := by
  rw [Cert.Kernel8Ideal.Value.flushed3]
  funext y
  revert y
  show ∀ y : S512x256.Idx, (out0_3 (F := Ideal) (iblk m c 0 t) (iblk m c 1 t) (iblk m c 2 t) : Vec Ideal S512x256 .bf16) y = result m c (((cfg0.win 3).rect t).emb y)
  intro y
  obtain ⟨p, q, rfl⟩ : ∃ (p : Fin 512) (q : Fin 256), y = ix2 p q := ⟨y 0, y 1, eq_ix2 y⟩
  refine (out_apply m c t p q).trans ?_
  unfold result
  refine congrArg₂ _ (Fin.ext ?_) (Fin.ext ?_)
  · refine Eq.symm (((cfg0.win 3).rect_emb_val t (ix2 p q) (0 : Fin 2)).trans ?_)
    show (BitVec.ofNat 32 (grid0.coords t 0).val).toNat * 512 + p.val = (grid0.coords t 0).val * 512 + p.val
    rw [row_word]
  · refine Eq.symm (((cfg0.win 3).rect_emb_val t (ix2 p q) (1 : Fin 2)).trans ?_)
    show 0 * 256 + q.val = q.val
    omega

/-- The blocks tile the array. -/
theorem cover (i : S16384x256.Idx) : ∃ t : Fin cfg0.N, (cfg0.win 3).flush t = true ∧ i ∈ ((cfg0.win 3).blk t).view.set := by
  have h0 : (i 0).val < 16384 := (i 0).isLt
  have h1 : (i 1).val < 256 := (i 1).isLt
  obtain ⟨t, ht⟩ := grid0.coords_surjective (fun a => match a with
    | ⟨0, _⟩ => ⟨(i 0).val / 512, by show (i 0).val / 512 < 32; omega⟩)
  have c0 : (grid0.coords t 0).val = (i 0).val / 512 := congrArg Fin.val (congrFun ht 0)
  refine ⟨t, flush0_3 t, ?_⟩
  show i ∈ ((View.whole main_v4).slice ((cfg0.win 3).rect t)).set
  erw [View.set_slice_whole]
  refine (Pipeline.Window.mem_rect_iff (cfg0.win 3) t i (by rfl)).mpr fun a => ?_
  match a with
  | ⟨0, _⟩ =>
    show (BitVec.ofNat 32 (grid0.coords t 0).val).toNat * 512 ≤ (i 0).val ∧ (i 0).val < (BitVec.ofNat 32 (grid0.coords t 0).val).toNat * 512 + 512
    rw [row_word t, c0]; omega
  | ⟨1, _⟩ =>
    show 0 * 256 ≤ (i 1).val ∧ (i 1).val < 0 * 256 + 256
    omega

/-- So the array ends holding it. -/
theorem final (c : Dev nD) : (dats m 0 c).arrAt 3 cfg0.N = result m c :=
  (dats m 0 c).arrAt_eq_of_cover 3 (result m c) (fun t _ => flushed_eq m c t) cover

end Cert.Kernel8Ideal.Latent

end
-- ==== Proof.DsaLatentClaims.lean ====
/- The second attention's normalised latent: the claims. -/
module

public import proofs.«01_k».proof.Defs
public import proofs.«01_k».proof.Proof.Gen.Kernel8.Frame
public import proofs.«01_k».proof.Proof.Gen.Reference8Ideal.Read
public import proofs.«01_k».proof.Proof.DsaLatent

@[expose] public section

set_option maxRecDepth 16384

noncomputable section

namespace Cert.Proof.DsaLatent

open Idealize.ShloMosaic Idealize.SL.Sem Cert.Reference8Ideal Cert.Reference8Ideal.Read

theorem frame_kernel : Cert.quiescent_Kernel8 := fun m ρ _ => Cert.Kernel8.Gen.frame m ρ
theorem frame_kernelIdeal : Cert.quiescent_Kernel8Ideal := fun m ρ _ => Cert.Kernel8Ideal.Gen.frame m ρ

/-- The reference ends for every launch memory, with its arguments unchanged and every semaphore at zero. -/
theorem frame_reference : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

section reference
open Cert.Kernel8Ideal.Latent (rmsNormed latentAt srcCol)

variable (x0 : (⟨S16384x2048, .f32⟩ : BufTy).Contents (Elt Ideal)) (x1 : (⟨S2048x2888, .f32⟩ : BufTy).Contents (Elt Ideal)) (x2 : (⟨S256, .f32⟩ : BufTy).Contents (Elt Ideal))

/-- The product's column. -/
abbrev prodAt (r : Fin 16384) (j : Fin 256) : EReal := ∑ k : Fin 2048, x0 (ix2 r k) * x1 (ix2 k (srcCol j))

theorem ref_prod (r : Fin 16384) (j : Fin 256) : val_main_v1 (F := Ideal) x0 x1 (ix2 r j) = prodAt x0 x1 r j := by
  have e1 : idx_main_v1 (ix2 r j) = ix2 r (srcCol j) := funext fun a => Fin.ext (match a with
    | ⟨0, _⟩ => rfl
    | ⟨1, _⟩ => rfl)
  have el : ∀ k, lidx_main_v0 (ix2 r (srcCol j)) k = ix2 r k := fun k => funext fun a => Fin.ext (match a with | ⟨0, _⟩ => rfl | ⟨1, _⟩ => rfl)
  have er : ∀ k, ridx_main_v0 (ix2 r (srcCol j)) k = ix2 k (srcCol j) := fun k => funext fun a => Fin.ext (match a with | ⟨0, _⟩ => rfl | ⟨1, _⟩ => rfl)
  rw [val_main_v1_apply, e1, val_main_v0_apply]
  simp only [el, er]

/-- The reciprocal of the row's size. -/
theorem ref_size (r : Fin 16384) : val_main_v9 (F := Ideal) x0 x1 (ix2 r 0)
    = Ideal.rsqrt (Ideal.div (∑ j : Fin 256, prodAt x0 x1 r j * prodAt x0 x1 r j) (Ideal.ofBits .f32 0x43800000#32) + Ideal.ofBits .f32 0x358637BD#32) := by
  have e4 : idx_main_v4 (ix2 r 0) = ix1 r := funext fun a => Fin.ext (match a with | ⟨0, _⟩ => rfl)
  have e3 : ∀ k, idx_main_v3 (ix1 r) k = ix2 r k := fun k => funext fun a => Fin.ext (match a with | ⟨0, _⟩ => rfl | ⟨1, _⟩ => rfl)
  rw [val_main_v9_apply, val_main_v8_apply, val_main_v6_apply, val_main_v4_apply, val_main_v5_apply, val_main_cst_0_apply, val_main_v7_apply, val_main_cst_1_apply, e4, val_main_v3_apply, val_main_cst_apply]
  simp only [e3, val_main_v2_apply, ref_prod]
  show Ideal.rsqrt (Ideal.div (Ideal.ofBits .f32 0x00000000#32 + _) _ + _) = _
  rw [Ideal.ofBits_zero_f32, zero_add]
  rfl

/-- The reference's result at an index. -/
theorem ref_apply (r : Fin 16384) (q : Fin 256) : val_main_v15 (F := Ideal) x0 x1 x2 (ix2 r q) = latentAt x0 x1 x2 r q := by
  have e10 : idx_main_v10 (ix2 r q) = ix2 r 0 := funext fun a => Fin.ext (match a with | ⟨0, _⟩ => rfl | ⟨1, _⟩ => rfl)
  have e12 : idx_main_v12 (idx_main_v13 (ix2 r q)) = ix1 q := funext fun a => Fin.ext (match a with | ⟨0, _⟩ => rfl)
  rw [val_main_v15_apply, val_main_v14_apply, val_main_v11_apply, val_main_v10_apply, val_main_v13_apply, val_main_v12_apply, e10, e12, ref_size, ref_prod]
  rfl

end reference

/-- Both leave the same array. -/
theorem algebraic : Cert.algebraic_Kernel8Ideal_Reference8Ideal := by
  intro m ρ m' ρ' _ hagree
  refine ⟨fun c => Cert.Kernel8Ideal.Latent.result m c,
    (θ_run Cert.Kernel8Ideal.defs _ _).mono (fun _ h c => ⟨((h c).1).trans (Cert.Kernel8Ideal.Latent.final m c), (h c).2⟩) (Cert.Kernel8Ideal.Value.run_blocks (F := Ideal) m ρ),
    (θ_run Cert.Reference8Ideal.defs _ _).mono (fun _ h c => ⟨((h c).1).trans ?_, (h c).2⟩) (Cert.Reference8Ideal.Value.run (F := Ideal) m' ρ')⟩
  rw [Cert.Reference8Ideal.Read.val_main_v15_eq]
  obtain ⟨h0, h1, h2⟩ := hagree c
  funext i
  obtain ⟨r, q, rfl⟩ : ∃ r q, i = ix2 r q := ⟨i 0, i 1, eq_ix2 i⟩
  refine (ref_apply _ _ _ r q).trans ?_
  rw [h0, h1, h2]
  rfl

end Cert.Proof.DsaLatent

end
-- ==== Proof.IndexKey.lean ====
/- The second attention's index key and head weights: what a block of the result holds, and then the whole array. -/
module

public import proofs.«01_k».proof.Proof.Gen.Kernel9Ideal.Value
public import Idealize.ShloMosaic.Lib.Pointwise
public import Idealize.ShloMosaic.Lib.KernelVsHost
public import Idealize.ShloMosaic.Lib.Pipeline.ValueKit.Basic
public import Idealize.ShloMosaic.Lib.Pipeline.Covers

@[expose] public section

set_option maxRecDepth 16384

noncomputable section

namespace Cert.Kernel9Ideal.Key

open Cert.Kernel9Ideal Cert.Kernel9Ideal.Gen
open Idealize.ShloMosaic Idealize.ShloMosaic.TcCoe
open Idealize.ShloMosaic.Pipeline (Dat Cfg Window)

/-- Column `q` of the matrix that the launch multiplies by: the last 72 columns, then zeros. -/
def colAt (w : S2048x2888.Idx → EReal) (k : Fin 2048) (q : Fin 128) : EReal := if h : q.val < 72 then w (ix2 k ⟨2816 + q.val, by omega⟩) else 0

/-- The product's column, scaled. -/
def scaledAt (x : S16384x2048.Idx → EReal) (w : S2048x2888.Idx → EReal) (s : S128.Idx → EReal) (r : Fin 16384) (q : Fin 128) : EReal :=
  (∑ k : Fin 2048, x (ix2 r k) * colAt w k q) * s (ix1 q)

/-- One block from its three operands. -/
theorem pay_apply (x0 : Vec Ideal S512x2048 .bf16) (x1 : Vec Ideal S2048x128 .bf16) (x2 : Vec Ideal S1x128 .f32) (p : Fin 512) (q : Fin 128) :
    k0_pay1 (F := Ideal) x0 x1 x2 (ix2 p q) = (∑ k : Fin 2048, x0 (ix2 p k) * x1 (ix2 k q)) * x2 (ix2 0 q) := by
  pointwise [k0_pay1]

/-- The same where the operands are known to be rows and columns of arrays. -/
theorem pay_of (x0 : Vec Ideal S512x2048 .bf16) (x1 : Vec Ideal S2048x128 .bf16) (x2 : Vec Ideal S1x128 .f32)
    (x : S16384x2048.Idx → EReal) (w : S2048x2888.Idx → EReal) (s : S128.Idx → EReal) (p : Fin 512) (q : Fin 128) (r : Fin 16384) (q' : Fin 128)
    (h0 : ∀ k, x0 (ix2 p k) = x (ix2 r k)) (h1 : ∀ k, x1 (ix2 k q) = colAt w k q') (h2 : x2 (ix2 0 q) = s (ix1 q')) :
    k0_pay1 (F := Ideal) x0 x1 x2 (ix2 p q) = scaledAt x w s r q' := by
  refine (pay_apply x0 x1 x2 p q).trans ?_
  unfold scaledAt
  exact congrArg₂ _ (Finset.sum_congr rfl fun k _ => congrArg₂ _ (h0 k) (h1 k)) h2

/-- What the body stores is that block. -/
theorem out_eq (x0 : Vec Ideal S512x2048 .bf16) (x1 : Vec Ideal S2048x128 .bf16) (x2 : Vec Ideal S1x128 .f32) : out0_3 (F := Ideal) x0 x1 x2 = k0_pay1 x0 x1 x2 := by
  unfold out0_3
  refine (View.canon_unit_zero (by decide) _ _).trans ?_
  exact congr (congrArg₂ k0_pay1 (View.ld_unit_zero (by decide) _ x0) (View.ld_unit_zero (by decide) _ x1)) (View.ld_unit_zero (by decide) _ x2)

variable (m : (ℓ : Loc nD τ sig) → Buf (Elt Ideal) ℓ)

theorem V_rows (c : Dev nD) : (V m c main_v3 : S16384x2048.Idx → EReal) = m ((c : Thread nD τ).loc main_arg0) := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

/-- The integer zero as a real. -/
theorem zero_apply (i : S_.Idx) : sitofp (F := Ideal) .f32 (constantI S_ 32 0#32) i = (0 : EReal) := by
  show (((0#32 : BitVec 32).toInt : ℝ) : EReal) = 0
  simp

/-- The padded columns, at an index. -/
theorem cols_apply (w : Vec Ideal S2048x2888 .f32) (k : Fin 2048) (q : Fin 128) :
    (pad S2048x128 ![0, 0] ![0, 56] ![0, 0] (extractStridedSlice S2048x72 ![0, 2816] w slices_S2048x2888_S2048x72_0_2816) (sitofp (F := Ideal) .f32 (constantI S_ 32 0#32)) pads_S2048x72_S2048x128_000_0560 h_S_ : S2048x128.Idx → EReal) (ix2 k q) = colAt w k q := by
  unfold colAt
  by_cases h : q.val < 72
  · rw [dif_pos h]
    refine (pad_apply_of_inside _ _ _ _ _ _ _ (ix2 k q) (ix2 k (⟨q.val, h⟩ : Fin 72)) (fun a => match a with
      | ⟨0, _⟩ => by show k.val = 0 + k.val * (0 + 1); omega
      | ⟨1, _⟩ => by show q.val = 0 + q.val * (0 + 1); omega)).trans ?_
    pointwise []
  · rw [dif_neg h]
    refine (pad_apply_of_not_inside _ _ _ _ _ _ _ (ix2 k q) (1 : Fin 2) (fun hin => h ?_)).trans (zero_apply _)
    have h3 : (q.val - 0) / (0 + 1) < 72 := hin.2.2
    omega

theorem V_cols (c : Dev nD) (k : Fin 2048) (q : Fin 128) : (V m c main_v2 : S2048x128.Idx → EReal) (ix2 k q) = colAt (m ((c : Thread nD τ).loc main_arg1)) k q := by
  have e : (V m c main_v2 : S2048x128.Idx → EReal) = pad S2048x128 ![0, 0] ![0, 56] ![0, 0] (extractStridedSlice S2048x72 ![0, 2816] (m ((c : Thread nD τ).loc main_arg1) : S2048x2888.Idx → EReal) slices_S2048x2888_S2048x72_0_2816) (sitofp (F := Ideal) .f32 (constantI S_ 32 0#32)) pads_S2048x72_S2048x128_000_0560 h_S_ := by
    show StableHlo.after _ _ _ = _
    simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (cols_apply _ k q)

/-- A vector laid out as one row, read at a column. -/
theorem row_apply (v : Vec Ideal S128 .f32) (q : Fin 128) : shapeCast S1x128 v shapeCasts_S128_S1x128 (ix2 0 q) = v (ix1 q) := by
  pointwise []

/-- The row of scales that the launch finds. -/
theorem V_scale (c : Dev nD) (q : Fin 128) : (V m c main_v4 : S1x128.Idx → EReal) (ix2 0 q) = (m ((c : Thread nD τ).loc main_arg2) : S128.Idx → EReal) (ix1 q) := by
  have e : (V m c main_v4 : S1x128.Idx → EReal) = shapeCast S1x128 (m ((c : Thread nD τ).loc main_arg2) : S128.Idx → EReal) shapeCasts_S128_S1x128 := by
    show StableHlo.after _ _ _ = _
    simp only [hostOps0, hostOps0_1, hostOps0_2, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (row_apply _ q)

/-- The row of the array at row `p` of point `t`'s block, -/
abbrev outRow (t : Fin cfg0.N) (p : Fin 512) : Fin 16384 := ⟨(grid0.coords t 0).val * 512 + p.val, by have h : (grid0.coords t 0).val < 32 := (grid0.coords t 0).isLt; omega⟩
/-- and the column of the array at column `q`. -/
abbrev outCol (t : Fin cfg0.N) (q : Fin 128) : Fin 128 := ⟨(grid0.coords t 1).val * 128 + q.val, by have h : (grid0.coords t 1).val < 1 := (grid0.coords t 1).isLt; omega⟩

theorem row_word (t : Fin cfg0.N) : (BitVec.ofNat 32 (grid0.coords t 0).val).toNat = (grid0.coords t 0).val := by
  have h : (grid0.coords t 0).val < 32 := (grid0.coords t 0).isLt
  rw [BitVec.toNat_ofNat, Nat.mod_eq_of_lt (by omega)]
theorem col_word (t : Fin cfg0.N) : (BitVec.ofNat 32 (grid0.coords t 1).val).toNat = (grid0.coords t 1).val := by
  have h : (grid0.coords t 1).val < 1 := (grid0.coords t 1).isLt
  rw [BitVec.toNat_ofNat, Nat.mod_eq_of_lt (by omega)]

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)

/-- The block of rows that point `t` reads. -/
theorem rows_blk (c : Dev nD) (t : Fin cfg0.N) (p : Fin 512) (k : Fin 2048) :
    (iblk m c 0 t : Vec Ideal S512x2048 .bf16) (ix2 p k) = (m ((c : Thread nD τ).loc main_arg0) : S16384x2048.Idx → EReal) (ix2 (outRow t p) k) := by
  show V m c main_v3 ((((cfg0).win 0).rect t).emb (ix2 p k)) = _
  refine (congrFun (V_rows m c) _).trans ?_
  have e0 : ((((cfg0).win 0).rect t).emb (ix2 p k) (0 : Fin 2) : Nat) = (outRow t p).val :=
    (((cfg0).win 0).rect_emb_val t (ix2 p k) (0 : Fin 2)).trans (by show (BitVec.ofNat 32 (grid0.coords t 0).val).toNat * 512 + p.val = (grid0.coords t 0).val * 512 + p.val; rw [row_word])
  have e1 : ((((cfg0).win 0).rect t).emb (ix2 p k) (1 : Fin 2) : Nat) = k.val :=
    (((cfg0).win 0).rect_emb_val t (ix2 p k) (1 : Fin 2)).trans (by show 0 * 2048 + k.val = k.val; omega)
  exact congrArg _ (idx2_ext _ _ _ e0 e1)

/-- The block of columns. -/
theorem cols_blk (c : Dev nD) (t : Fin cfg0.N) (k : Fin 2048) (q : Fin 128) :
    (iblk m c 1 t : Vec Ideal S2048x128 .bf16) (ix2 k q) = colAt (m ((c : Thread nD τ).loc main_arg1)) k (outCol t q) := by
  show V m c main_v2 ((((cfg0).win 1).rect t).emb (ix2 k q)) = _
  have e0 : ((((cfg0).win 1).rect t).emb (ix2 k q) (0 : Fin 2) : Nat) = k.val :=
    (((cfg0).win 1).rect_emb_val t (ix2 k q) (0 : Fin 2)).trans (by show 0 * 2048 + k.val = k.val; omega)
  have e1 : ((((cfg0).win 1).rect t).emb (ix2 k q) (1 : Fin 2) : Nat) = (outCol t q).val :=
    (((cfg0).win 1).rect_emb_val t (ix2 k q) (1 : Fin 2)).trans (by show (BitVec.ofNat 32 (grid0.coords t 1).val).toNat * 128 + q.val = (grid0.coords t 1).val * 128 + q.val; rw [col_word])
  exact (congrArg (V m c main_v2 : S2048x128.Idx → EReal) (idx2_ext _ k (outCol t q) e0 e1)).trans (V_cols m c k (outCol t q))

/-- The block of the scale. -/
theorem scale_blk (c : Dev nD) (t : Fin cfg0.N) (q : Fin 128) :
    (iblk m c 2 t : Vec Ideal S1x128 .f32) (ix2 0 q) = (m ((c : Thread nD τ).loc main_arg2) : S128.Idx → EReal) (ix1 (outCol t q)) := by
  show V m c main_v4 ((((cfg0).win 2).rect t).emb (ix2 (0 : Fin 1) q)) = _
  have e0 : ((((cfg0).win 2).rect t).emb (ix2 (0 : Fin 1) q) (0 : Fin 2) : Nat) = (0 : Fin 1).val :=
    (((cfg0).win 2).rect_emb_val t (ix2 (0 : Fin 1) q) (0 : Fin 2)).trans rfl
  have e1 : ((((cfg0).win 2).rect t).emb (ix2 (0 : Fin 1) q) (1 : Fin 2) : Nat) = (outCol t q).val :=
    (((cfg0).win 2).rect_emb_val t (ix2 (0 : Fin 1) q) (1 : Fin 2)).trans (by show (BitVec.ofNat 32 (grid0.coords t 1).val).toNat * 128 + q.val = (grid0.coords t 1).val * 128 + q.val; rw [col_word])
  exact (congrArg (V m c main_v4 : S1x128.Idx → EReal) (idx2_ext _ (0 : Fin 1) (outCol t q) e0 e1)).trans (V_scale m c (outCol t q))

/-- The array the kernel leaves. -/
def result (c : Dev nD) : S16384x128.Idx → EReal := fun i =>
  scaledAt (m ((c : Thread nD τ).loc main_arg0)) (m ((c : Thread nD τ).loc main_arg1)) (m ((c : Thread nD τ).loc main_arg2)) (i 0) (i 1)

/-- What point `t` stores, at an index of its block. -/
theorem out_apply (c : Dev nD) (t : Fin cfg0.N) (p : Fin 512) (q : Fin 128) :
    (out0_3 (F := Ideal) (iblk m c 0 t) (iblk m c 1 t) (iblk m c 2 t) : Vec Ideal S512x128 .f32) (ix2 p q)
      = scaledAt (m ((c : Thread nD τ).loc main_arg0)) (m ((c : Thread nD τ).loc main_arg1)) (m ((c : Thread nD τ).loc main_arg2)) (outRow t p) (outCol t q) := by
  refine (congrFun (out_eq (iblk m c 0 t) (iblk m c 1 t) (iblk m c 2 t)) _).trans ?_
  exact pay_of (iblk m c 0 t) (iblk m c 1 t) (iblk m c 2 t) _ _ _ p q _ _ (rows_blk m c t p) (fun k => cols_blk m c t k q) (scale_blk m c t q)

/-- What point `t` writes back is its block of that array. -/
theorem flushed_eq (c : Dev nD) (t : Fin cfg0.N) :
    (dats m 0 c).flushed 3 t = ((cfg0.win 3).blk t).view.read (Elt Ideal) (result m c) := by
  rw [Cert.Kernel9Ideal.Value.flushed3]
  funext y
  revert y
  show ∀ y : S512x128.Idx, (out0_3 (F := Ideal) (iblk m c 0 t) (iblk m c 1 t) (iblk m c 2 t) : Vec Ideal S512x128 .f32) y = result m c (((cfg0.win 3).rect t).emb y)
  intro y
  obtain ⟨p, q, rfl⟩ : ∃ (p : Fin 512) (q : Fin 128), y = ix2 p q := ⟨y 0, y 1, eq_ix2 y⟩
  refine (out_apply m c t p q).trans ?_
  unfold result
  refine congrArg₂ _ (Fin.ext ?_) (Fin.ext ?_)
  · refine Eq.symm (((cfg0.win 3).rect_emb_val t (ix2 p q) (0 : Fin 2)).trans ?_)
    show (BitVec.ofNat 32 (grid0.coords t 0).val).toNat * 512 + p.val = (grid0.coords t 0).val * 512 + p.val
    rw [row_word]
  · refine Eq.symm (((cfg0.win 3).rect_emb_val t (ix2 p q) (1 : Fin 2)).trans ?_)
    show (BitVec.ofNat 32 (grid0.coords t 1).val).toNat * 128 + q.val = (grid0.coords t 1).val * 128 + q.val
    rw [col_word]

/-- The blocks tile the array. -/
theorem cover (i : S16384x128.Idx) : ∃ t : Fin cfg0.N, (cfg0.win 3).flush t = true ∧ i ∈ ((cfg0.win 3).blk t).view.set := by
  have h0 : (i 0).val < 16384 := (i 0).isLt
  have h1 : (i 1).val < 128 := (i 1).isLt
  obtain ⟨t, ht⟩ := grid0.coords_surjective (fun a => match a with
    | ⟨0, _⟩ => ⟨(i 0).val / 512, by show (i 0).val / 512 < 32; omega⟩
    | ⟨1, _⟩ => ⟨(i 1).val / 128, by show (i 1).val / 128 < 1; omega⟩)
  have c0 : (grid0.coords t 0).val = (i 0).val / 512 := congrArg Fin.val (congrFun ht 0)
  have c1 : (grid0.coords t 1).val = (i 1).val / 128 := congrArg Fin.val (congrFun ht 1)
  refine ⟨t, flush0_3 t, ?_⟩
  show i ∈ ((View.whole main_v5).slice ((cfg0.win 3).rect t)).set
  erw [View.set_slice_whole]
  refine (Pipeline.Window.mem_rect_iff (cfg0.win 3) t i (by rfl)).mpr fun a => ?_
  match a with
  | ⟨0, _⟩ =>
    show (BitVec.ofNat 32 (grid0.coords t 0).val).toNat * 512 ≤ (i 0).val ∧ (i 0).val < (BitVec.ofNat 32 (grid0.coords t 0).val).toNat * 512 + 512
    rw [row_word t, c0]; omega
  | ⟨1, _⟩ =>
    show (BitVec.ofNat 32 (grid0.coords t 1).val).toNat * 128 ≤ (i 1).val ∧ (i 1).val < (BitVec.ofNat 32 (grid0.coords t 1).val).toNat * 128 + 128
    rw [col_word t, c1]; omega

/-- So the array ends holding it. -/
theorem final (c : Dev nD) : (dats m 0 c).arrAt 3 cfg0.N = result m c :=
  (dats m 0 c).arrAt_eq_of_cover 3 (result m c) (fun t _ => flushed_eq m c t) cover

end Cert.Kernel9Ideal.Key

end
-- ==== Proof.IndexKeyClaims.lean ====
/- The second attention's index key and head weights: the claims. -/
module

public import proofs.«01_k».proof.Defs
public import proofs.«01_k».proof.Proof.Gen.Kernel9.Frame
public import proofs.«01_k».proof.Proof.Gen.Reference9Ideal.Read
public import proofs.«01_k».proof.Proof.IndexKey

@[expose] public section

set_option maxRecDepth 16384

noncomputable section

namespace Cert.Proof.IndexKey

open Idealize.ShloMosaic Idealize.SL.Sem Cert.Reference9Ideal Cert.Reference9Ideal.Read

theorem frame_kernel : Cert.quiescent_Kernel9 := fun m ρ _ => Cert.Kernel9.Gen.frame m ρ
theorem frame_kernelIdeal : Cert.quiescent_Kernel9Ideal := fun m ρ _ => Cert.Kernel9Ideal.Gen.frame m ρ

/-- The reference ends for every launch memory, with its arguments unchanged and every semaphore at zero. -/
theorem frame_reference : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

/-- The last columns of the reference's product, with zeros behind them. -/
theorem ref_padded (x0 : (⟨S16384x2048, .f32⟩ : BufTy).Contents (Elt Ideal)) (x1 : (⟨S2048x2888, .f32⟩ : BufTy).Contents (Elt Ideal)) (r : Fin 16384) (q : Fin 128) :
    val_main_v2 (F := Ideal) x0 x1 (ix2 r q) = ∑ k : Fin 2048, x0 (ix2 r k) * Cert.Kernel9Ideal.Key.colAt x1 k q := by
  unfold val_main_v2 Cert.Kernel9Ideal.Key.colAt
  by_cases h : q.val < 72
  · simp only [dif_pos h]
    refine (pad_apply_of_inside _ _ _ _ _ _ _ (ix2 r q) (ix2 r (⟨q.val, h⟩ : Fin 72)) (fun a => match a with
      | ⟨0, _⟩ => by show r.val = 0 + r.val * (0 + 1); omega
      | ⟨1, _⟩ => by show q.val = 0 + q.val * (0 + 1); omega)).trans ?_
    have e1 : idx_main_v1 (ix2 r (⟨q.val, h⟩ : Fin 72)) = ix2 r (⟨2816 + q.val, by omega⟩ : Fin 2888) := funext fun a => Fin.ext (match a with
      | ⟨0, _⟩ => rfl
      | ⟨1, _⟩ => rfl)
    have el : ∀ k, lidx_main_v0 (ix2 r (⟨2816 + q.val, by omega⟩ : Fin 2888)) k = ix2 r k := fun k => funext fun a => Fin.ext (match a with | ⟨0, _⟩ => rfl | ⟨1, _⟩ => rfl)
    have er : ∀ k, ridx_main_v0 (ix2 r (⟨2816 + q.val, by omega⟩ : Fin 2888)) k = ix2 k (⟨2816 + q.val, by omega⟩ : Fin 2888) := fun k => funext fun a => Fin.ext (match a with | ⟨0, _⟩ => rfl | ⟨1, _⟩ => rfl)
    rw [val_main_v1_apply, e1, val_main_v0_apply]
    simp only [el, er]
  · simp only [dif_neg h]
    refine (pad_apply_of_not_inside _ _ _ _ _ _ _ (ix2 r q) (1 : Fin 2) (fun hin => h ?_)).trans ?_
    · have h3 : (q.val - 0) / (0 + 1) < 72 := hin.2.2
      omega
    · refine (Cert.Kernel9Ideal.Key.zero_apply _).trans ?_
      simp only [mul_zero, Finset.sum_const_zero]

/-- The reference's result at an index. -/
theorem ref_apply (x0 : (⟨S16384x2048, .f32⟩ : BufTy).Contents (Elt Ideal)) (x1 : (⟨S2048x2888, .f32⟩ : BufTy).Contents (Elt Ideal)) (x2 : (⟨S128, .f32⟩ : BufTy).Contents (Elt Ideal)) (r : Fin 16384) (q : Fin 128) :
    val_main_v5 (F := Ideal) x0 x1 x2 (ix2 r q) = Cert.Kernel9Ideal.Key.scaledAt x0 x1 x2 r q := by
  have e3 : idx_main_v3 (idx_main_v4 (ix2 r q)) = ix1 q := funext fun a => Fin.ext (match a with | ⟨0, _⟩ => rfl)
  rw [val_main_v5_apply, ref_padded, val_main_v4_apply, val_main_v3_apply, e3]
  rfl

/-- Both leave the same array. -/
theorem algebraic : Cert.algebraic_Kernel9Ideal_Reference9Ideal := by
  intro m ρ m' ρ' _ hagree
  refine ⟨fun c => Cert.Kernel9Ideal.Key.result m c,
    (θ_run Cert.Kernel9Ideal.defs _ _).mono (fun _ h c => ⟨((h c).1).trans (Cert.Kernel9Ideal.Key.final m c), (h c).2⟩) (Cert.Kernel9Ideal.Value.run_blocks (F := Ideal) m ρ),
    (θ_run Cert.Reference9Ideal.defs _ _).mono (fun _ h c => ⟨((h c).1).trans ?_, (h c).2⟩) (Cert.Reference9Ideal.Value.run (F := Ideal) m' ρ')⟩
  rw [Cert.Reference9Ideal.Read.val_main_v5_eq]
  obtain ⟨h0, h1, h2⟩ := hagree c
  funext i
  obtain ⟨r, q, rfl⟩ : ∃ r q, i = ix2 r q := ⟨i 0, i 1, eq_ix2 i⟩
  refine (ref_apply _ _ _ r q).trans ?_
  rw [h0, h1, h2]
  rfl

end Cert.Proof.IndexKey

end
-- ==== Proof.CompressValuesBlock.lean ====
/- The values of the first attention, compressed: one block of the result, from the blocks that the body reads. -/
module

public import proofs.«01_k».proof.Proof.Gen.Kernel11Ideal.Value
public import Idealize.ShloMosaic.Lib.Pointwise
public import Idealize.ShloMosaic.Lib.KernelVsHost
public import Idealize.ShloMosaic.Lib.Pipeline.ValueKit

@[expose] public section

set_option maxRecDepth 65536

noncomputable section

namespace Cert.Kernel11Ideal.Compress

open Cert.Kernel11Ideal Cert.Kernel11Ideal.Gen
open Idealize.ShloMosaic Idealize.ShloMosaic.TcCoe

section Pieces
variable {F : FTy → Type} [FloatOps F]

/-- One token of every block of sixteen, with its position's row added. -/
def tapIn (x : Vec F S1x512x512 .bf16) (pe : Vec F S1x512 .f32) : FVec F S512x512 .bf16 :=
  truncf .bf16 (addf (extf .f32 (shapeCast S512x512 x shapeCasts_S1x512x512_S512x512) bitsLt_bf16_f32) (broadcastTo S512x512 pe broadcasts_S1x512_S512x512)) bitsLt_bf16_f32

/-- One head's share of that token, multiplied by its matrix and added to the sum so far. -/
def tap (o : Nat) (h : S512x512.Slices ![0, o] S512x128) (a : FVec F S512x128 .f32) (x : Vec F S1x512x512 .bf16) (pe : Vec F S1x512 .f32) (w : Vec F S1x128x128 .bf16) : FVec F S512x128 .f32 :=
  addf a (matmul dot_S512x128_S128x128_S512x128_1_0_0_1_n_n none (extractStridedSlice S512x128 ![0, o] (tapIn x pe) h) (shapeCast S128x128 w shapeCasts_S1x128x128_S128x128) (constant S512x128 .f32 0x00000000#32))

/-- The sum before the first token. -/
def none_yet : FVec F S512x128 .f32 := broadcast S512x128 (Scalar.ofBits .f32 0x00000000#32 : F .f32)

/-- The two halves of a block's sum, put together. -/
def joined (a b : FVec F S512x128 .f32) : FVec F S512x128 .f32 := addf a (dynamicRotate 0 511#32 none b rotates_S512x128_d0)

/-- The activation of the sum, times the second matrix. -/
def finish (v : FVec F S512x128 .f32) (w2 : Vec F S128x128 .bf16) : FVec F S1x512x128 .bf16 :=
  shapeCast S1x512x128 (truncf .bf16 (matmul dot_S512x128_S128x128_S512x128_1_0_0_1_n_n none
    (truncf .bf16 (mulf (mulf (broadcast S512x128 (Scalar.ofBits .f32 0x3F000000#32 : F .f32)) v)
      (addf (broadcast S512x128 (Scalar.ofBits .f32 0x3F800000#32 : F .f32))
        (tanh (mulf (broadcast S512x128 (Scalar.ofBits .f32 0x3F4C422A#32 : F .f32))
          (addf v (mulf (broadcast S512x128 (Scalar.ofBits .f32 0x3D372713#32 : F .f32)) (mulf (mulf v v) v))))))) bitsLt_bf16_f32)
    (shapeCast S128x128 w2 shapeCasts_S128x128_S128x128) (constant S512x128 .f32 0x00000000#32)) bitsLt_bf16_f32) shapeCasts_S512x128_S1x512x128

/-- The sum over the first sixteen positions, from sixteen tokens of the block itself. -/
def firstHalf (o : Nat) (h : S512x512.Slices ![0, o] S512x128) (x0 x1 x2 x3 x4 x5 x6 x7 x8 x9 x10 x11 x12 x13 x14 x15 : Vec F S1x512x512 .bf16) (x16 : Vec F S32x512 .f32) (x17 : Vec F S32x128x128 .bf16) : FVec F S512x128 .f32 :=
  (tap o h (tap o h (tap o h (tap o h (tap o h (tap o h (tap o h (tap o h (tap o h (tap o h (tap o h (tap o h (tap o h (tap o h (tap o h (tap o h none_yet (View.ld x0 r0_0) (View.ld x16 r0_1) (View.ld x17 r0_3)) (View.ld x1 r0_0) (View.ld x16 r0_5) (View.ld x17 r0_7)) (View.ld x2 r0_0) (View.ld x16 r0_9) (View.ld x17 r0_11)) (View.ld x3 r0_0) (View.ld x16 r0_13) (View.ld x17 r0_15)) (View.ld x4 r0_0) (View.ld x16 r0_17) (View.ld x17 r0_19)) (View.ld x5 r0_0) (View.ld x16 r0_21) (View.ld x17 r0_23)) (View.ld x6 r0_0) (View.ld x16 r0_25) (View.ld x17 r0_27)) (View.ld x7 r0_0) (View.ld x16 r0_29) (View.ld x17 r0_31)) (View.ld x8 r0_0) (View.ld x16 r0_33) (View.ld x17 r0_35)) (View.ld x9 r0_0) (View.ld x16 r0_37) (View.ld x17 r0_39)) (View.ld x10 r0_0) (View.ld x16 r0_41) (View.ld x17 r0_43)) (View.ld x11 r0_0) (View.ld x16 r0_45) (View.ld x17 r0_47)) (View.ld x12 r0_0) (View.ld x16 r0_49) (View.ld x17 r0_51)) (View.ld x13 r0_0) (View.ld x16 r0_53) (View.ld x17 r0_55)) (View.ld x14 r0_0) (View.ld x16 r0_57) (View.ld x17 r0_59)) (View.ld x15 r0_0) (View.ld x16 r0_61) (View.ld x17 r0_63))

/-- The sum over the other sixteen, whose tokens belong to the next block. -/
def otherHalf (o : Nat) (h : S512x512.Slices ![0, o] S512x128) (x0 x1 x2 x3 x4 x5 x6 x7 x8 x9 x10 x11 x12 x13 x14 x15 : Vec F S1x512x512 .bf16) (x16 : Vec F S32x512 .f32) (x17 : Vec F S32x128x128 .bf16) : FVec F S512x128 .f32 :=
  (tap o h (tap o h (tap o h (tap o h (tap o h (tap o h (tap o h (tap o h (tap o h (tap o h (tap o h (tap o h (tap o h (tap o h (tap o h (tap o h none_yet (View.ld x0 r0_0) (View.ld x16 r0_2) (View.ld x17 r0_4)) (View.ld x1 r0_0) (View.ld x16 r0_6) (View.ld x17 r0_8)) (View.ld x2 r0_0) (View.ld x16 r0_10) (View.ld x17 r0_12)) (View.ld x3 r0_0) (View.ld x16 r0_14) (View.ld x17 r0_16)) (View.ld x4 r0_0) (View.ld x16 r0_18) (View.ld x17 r0_20)) (View.ld x5 r0_0) (View.ld x16 r0_22) (View.ld x17 r0_24)) (View.ld x6 r0_0) (View.ld x16 r0_26) (View.ld x17 r0_28)) (View.ld x7 r0_0) (View.ld x16 r0_30) (View.ld x17 r0_32)) (View.ld x8 r0_0) (View.ld x16 r0_34) (View.ld x17 r0_36)) (View.ld x9 r0_0) (View.ld x16 r0_38) (View.ld x17 r0_40)) (View.ld x10 r0_0) (View.ld x16 r0_42) (View.ld x17 r0_44)) (View.ld x11 r0_0) (View.ld x16 r0_46) (View.ld x17 r0_48)) (View.ld x12 r0_0) (View.ld x16 r0_50) (View.ld x17 r0_52)) (View.ld x13 r0_0) (View.ld x16 r0_54) (View.ld x17 r0_56)) (View.ld x14 r0_0) (View.ld x16 r0_58) (View.ld x17 r0_60)) (View.ld x15 r0_0) (View.ld x16 r0_62) (View.ld x17 r0_64))

/-- One head's columns of the block. -/
def piece (o : Nat) (h : S512x512.Slices ![0, o] S512x128) (x0 x1 x2 x3 x4 x5 x6 x7 x8 x9 x10 x11 x12 x13 x14 x15 : Vec F S1x512x512 .bf16) (x16 : Vec F S32x512 .f32) (x17 : Vec F S32x128x128 .bf16) (x18 : Vec F S128x128 .bf16) : FVec F S1x512x128 .bf16 :=
  finish (joined (firstHalf o h x0 x1 x2 x3 x4 x5 x6 x7 x8 x9 x10 x11 x12 x13 x14 x15 x16 x17) (otherHalf o h x0 x1 x2 x3 x4 x5 x6 x7 x8 x9 x10 x11 x12 x13 x14 x15 x16 x17)) (View.ld x18 r0_65)

/-- What the body stores is the four heads' columns. -/
theorem out_eq (x0 x1 x2 x3 x4 x5 x6 x7 x8 x9 x10 x11 x12 x13 x14 x15 : Vec F S1x512x512 .bf16) (x16 : Vec F S32x512 .f32) (x17 : Vec F S32x128x128 .bf16) (x18 : Vec F S128x128 .bf16) :
    out0_19 x0 x1 x2 x3 x4 x5 x6 x7 x8 x9 x10 x11 x12 x13 x14 x15 x16 x17 x18 = View.canon [⟨r0_69, piece 384 slices_S512x512_o0_384_S512x128 x0 x1 x2 x3 x4 x5 x6 x7 x8 x9 x10 x11 x12 x13 x14 x15 x16 x17 x18⟩, ⟨r0_68, piece 256 slices_S512x512_o0_256_S512x128 x0 x1 x2 x3 x4 x5 x6 x7 x8 x9 x10 x11 x12 x13 x14 x15 x16 x17 x18⟩,
      ⟨r0_67, piece 128 slices_S512x512_o0_128_S512x128 x0 x1 x2 x3 x4 x5 x6 x7 x8 x9 x10 x11 x12 x13 x14 x15 x16 x17 x18⟩, ⟨r0_66, piece 0 slices_S512x512_o0_0_S512x128 x0 x1 x2 x3 x4 x5 x6 x7 x8 x9 x10 x11 x12 x13 x14 x15 x16 x17 x18⟩] := rfl

end Pieces

/-- Column `d` of head `g`. -/
abbrev headCol (g : Fin 4) (d : Fin 128) : Fin 512 := ⟨g.val * 128 + d.val, by omega⟩
/-- The row after row `p`, from the first again after the last. -/
abbrev nextRow (p : Fin 512) : Fin 512 := ⟨(p.val + 1) % 512, Nat.mod_lt _ (by decide)⟩

theorem tap_apply (g : Fin 4) (o : Nat) (ho : o = g.val * 128) (h : S512x512.Slices ![0, o] S512x128) (a : FVec Ideal S512x128 .f32) (x : Vec Ideal S1x512x512 .bf16) (pe : Vec Ideal S1x512 .f32) (w : Vec Ideal S1x128x128 .bf16) (p : Fin 512) (e : Fin 128) :
    tap o h a x pe w (ix2 p e) = a (ix2 p e) + ∑ d : Fin 128, (x (ix3 0 p (headCol g d)) + pe (ix2 0 (headCol g d))) * w (ix3 0 d e) := by
  subst ho
  fin_cases g <;> pointwise [tap, tapIn, headCol]

theorem joined_apply (a b : FVec Ideal S512x128 .f32) (p : Fin 512) (e : Fin 128) : joined a b (ix2 p e) = a (ix2 p e) + b (ix2 (nextRow p) e) := by
  pointwise [joined, nextRow]
  have e1 : p.val + 512 - 511 = p.val + 1 := by omega
  simp only [e1]

/-- The activation of a sum. -/
def actOf (v : EReal) : EReal :=
  (FloatOps.ofBits (F := Ideal) .f32 0x3F000000#32 * v) * (FloatOps.ofBits (F := Ideal) .f32 0x3F800000#32
    + FloatOps.tanh (F := Ideal) (φ := .f32) (FloatOps.ofBits (F := Ideal) .f32 0x3F4C422A#32 * (v + FloatOps.ofBits (F := Ideal) .f32 0x3D372713#32 * ((v * v) * v))))

theorem finish_apply (v : FVec Ideal S512x128 .f32) (w2 : Vec Ideal S128x128 .bf16) (p : Fin 512) (q : Fin 128) :
    finish v w2 (ix3 0 p q) = ∑ e : Fin 128, actOf (v (ix2 p e)) * w2 (ix2 e q) := by
  pointwise [finish, actOf]

/-- A whole window, read. -/
theorem whole_apply (X : Vec Ideal S1x512x512 .bf16) (p c : Fin 512) : (View.ld X r0_0 : Vec Ideal S1x512x512 .bf16) (ix3 0 p c) = X (ix3 0 p c) :=
  View.ld_unit_apply_of X _ _ _ _ _ fun a => match a with
    | ⟨0, _⟩ => rfl
    | ⟨1, _⟩ => (Nat.zero_add _).symm
    | ⟨2, _⟩ => (Nat.zero_add _).symm

/-- One row of the position embedding, read. -/
theorem row_apply (X : Vec Ideal S32x512 .f32) (k : Nat) (hk : k < 32) (inb) (c : Fin 512) :
    (View.ld X (Rect.unit (s := S32x512) ![k, 0] S1x512.size inb) : Vec Ideal S1x512 .f32) (ix2 0 c) = X (ix2 ⟨k, hk⟩ c) :=
  View.ld_unit_apply_of X _ _ _ _ _ fun a => match a with
    | ⟨0, _⟩ => rfl
    | ⟨1, _⟩ => (Nat.zero_add _).symm

/-- One matrix of the thirty-two, read. -/
theorem slab_apply (X : Vec Ideal S32x128x128 .bf16) (k : Nat) (hk : k < 32) (inb) (d e : Fin 128) :
    (View.ld X (Rect.unit (s := S32x128x128) ![k, 0, 0] S1x128x128.size inb) : Vec Ideal S1x128x128 .bf16) (ix3 0 d e) = X (ix3 ⟨k, hk⟩ d e) :=
  View.ld_unit_apply_of X _ _ _ _ _ fun a => match a with
    | ⟨0, _⟩ => rfl
    | ⟨1, _⟩ => (Nat.zero_add _).symm
    | ⟨2, _⟩ => (Nat.zero_add _).symm

/-- The second matrix, read. -/
theorem second_apply (X : Vec Ideal S128x128 .bf16) (e q : Fin 128) : (View.ld X r0_65 : Vec Ideal S128x128 .bf16) (ix2 e q) = X (ix2 e q) :=
  View.ld_unit_apply_of X _ _ _ _ _ fun a => match a with
    | ⟨0, _⟩ => (Nat.zero_add _).symm
    | ⟨1, _⟩ => (Nat.zero_add _).symm

/-- What one token adds to column `e` of head `g`: position `k`'s row is added and position `k`'s matrix multiplies. -/
def tokenAt (x : Vec Ideal S1x512x512 .bf16) (x16 : Vec Ideal S32x512 .f32) (x17 : Vec Ideal S32x128x128 .bf16) (k : Fin 32) (g : Fin 4) (p : Fin 512) (e : Fin 128) : EReal :=
  ∑ d : Fin 128, (x (ix3 0 p (headCol g d)) + x16 (ix2 k (headCol g d))) * x17 (ix3 k d e)

/-- A token's step, from the windows. -/
theorem tap_of (g : Fin 4) (o : Nat) (ho : o = g.val * 128) (h : S512x512.Slices ![0, o] S512x128) (a : FVec Ideal S512x128 .f32) (x : Vec Ideal S1x512x512 .bf16) (x16 : Vec Ideal S32x512 .f32) (x17 : Vec Ideal S32x128x128 .bf16)
    (k : Nat) (hk : k < 32) (i1) (i2) (p : Fin 512) (e : Fin 128) :
    tap o h a (View.ld x r0_0) (View.ld x16 (Rect.unit (s := S32x512) ![k, 0] S1x512.size i1)) (View.ld x17 (Rect.unit (s := S32x128x128) ![k, 0, 0] S1x128x128.size i2)) (ix2 p e)
      = a (ix2 p e) + tokenAt x x16 x17 ⟨k, hk⟩ g p e := by
  refine (tap_apply g o ho h a _ _ _ p e).trans (congrArg (a (ix2 p e) + ·) (Finset.sum_congr rfl fun d _ => ?_))
  exact congrArg₂ _ (congrArg₂ _ (whole_apply x p _) (row_apply x16 k hk i1 _)) (slab_apply x17 k hk i2 d e)

theorem none_yet_apply (i : S512x128.Idx) : (none_yet : FVec Ideal S512x128 .f32) i = 0 := by
  show Ideal.ofBits .f32 0x00000000#32 = 0
  simp

/-- The first half, as a sum over the positions. -/
theorem firstHalf_apply (g : Fin 4) (o : Nat) (ho : o = g.val * 128) (h : S512x512.Slices ![0, o] S512x128) (X : Fin 16 → Vec Ideal S1x512x512 .bf16) (x16 : Vec Ideal S32x512 .f32) (x17 : Vec Ideal S32x128x128 .bf16) (p : Fin 512) (e : Fin 128) :
    firstHalf o h (X 0) (X 1) (X 2) (X 3) (X 4) (X 5) (X 6) (X 7) (X 8) (X 9) (X 10) (X 11) (X 12) (X 13) (X 14) (X 15) x16 x17 (ix2 p e) = ∑ l : Fin 16, tokenAt (X l) x16 x17 ⟨l.val, by omega⟩ g p e := by
  unfold firstHalf
  rw [tap_of g o ho h _ (X 15) x16 x17 15 (by decide) _ _ p e, tap_of g o ho h _ (X 14) x16 x17 14 (by decide) _ _ p e, tap_of g o ho h _ (X 13) x16 x17 13 (by decide) _ _ p e, tap_of g o ho h _ (X 12) x16 x17 12 (by decide) _ _ p e, tap_of g o ho h _ (X 11) x16 x17 11 (by decide) _ _ p e, tap_of g o ho h _ (X 10) x16 x17 10 (by decide) _ _ p e, tap_of g o ho h _ (X 9) x16 x17 9 (by decide) _ _ p e, tap_of g o ho h _ (X 8) x16 x17 8 (by decide) _ _ p e, tap_of g o ho h _ (X 7) x16 x17 7 (by decide) _ _ p e, tap_of g o ho h _ (X 6) x16 x17 6 (by decide) _ _ p e, tap_of g o ho h _ (X 5) x16 x17 5 (by decide) _ _ p e, tap_of g o ho h _ (X 4) x16 x17 4 (by decide) _ _ p e, tap_of g o ho h _ (X 3) x16 x17 3 (by decide) _ _ p e, tap_of g o ho h _ (X 2) x16 x17 2 (by decide) _ _ p e, tap_of g o ho h _ (X 1) x16 x17 1 (by decide) _ _ p e, tap_of g o ho h _ (X 0) x16 x17 0 (by decide) _ _ p e, none_yet_apply]
  simp only [Fin.sum_univ_castSucc, Fin.sum_univ_zero]
  rfl

/-- The other half likewise. -/
theorem otherHalf_apply (g : Fin 4) (o : Nat) (ho : o = g.val * 128) (h : S512x512.Slices ![0, o] S512x128) (X : Fin 16 → Vec Ideal S1x512x512 .bf16) (x16 : Vec Ideal S32x512 .f32) (x17 : Vec Ideal S32x128x128 .bf16) (p : Fin 512) (e : Fin 128) :
    otherHalf o h (X 0) (X 1) (X 2) (X 3) (X 4) (X 5) (X 6) (X 7) (X 8) (X 9) (X 10) (X 11) (X 12) (X 13) (X 14) (X 15) x16 x17 (ix2 p e) = ∑ l : Fin 16, tokenAt (X l) x16 x17 ⟨16 + l.val, by omega⟩ g p e := by
  unfold otherHalf
  rw [tap_of g o ho h _ (X 15) x16 x17 31 (by decide) _ _ p e, tap_of g o ho h _ (X 14) x16 x17 30 (by decide) _ _ p e, tap_of g o ho h _ (X 13) x16 x17 29 (by decide) _ _ p e, tap_of g o ho h _ (X 12) x16 x17 28 (by decide) _ _ p e, tap_of g o ho h _ (X 11) x16 x17 27 (by decide) _ _ p e, tap_of g o ho h _ (X 10) x16 x17 26 (by decide) _ _ p e, tap_of g o ho h _ (X 9) x16 x17 25 (by decide) _ _ p e, tap_of g o ho h _ (X 8) x16 x17 24 (by decide) _ _ p e, tap_of g o ho h _ (X 7) x16 x17 23 (by decide) _ _ p e, tap_of g o ho h _ (X 6) x16 x17 22 (by decide) _ _ p e, tap_of g o ho h _ (X 5) x16 x17 21 (by decide) _ _ p e, tap_of g o ho h _ (X 4) x16 x17 20 (by decide) _ _ p e, tap_of g o ho h _ (X 3) x16 x17 19 (by decide) _ _ p e, tap_of g o ho h _ (X 2) x16 x17 18 (by decide) _ _ p e, tap_of g o ho h _ (X 1) x16 x17 17 (by decide) _ _ p e, tap_of g o ho h _ (X 0) x16 x17 16 (by decide) _ _ p e, none_yet_apply]
  simp only [Fin.sum_univ_castSucc, Fin.sum_univ_zero]
  rfl

/-- The sum that column `e` of head `g` reaches in row `p`. -/
def preAt (X : Fin 16 → Vec Ideal S1x512x512 .bf16) (x16 : Vec Ideal S32x512 .f32) (x17 : Vec Ideal S32x128x128 .bf16) (g : Fin 4) (p : Fin 512) (e : Fin 128) : EReal :=
  (∑ l : Fin 16, tokenAt (X l) x16 x17 ⟨l.val, by omega⟩ g p e) + ∑ l : Fin 16, tokenAt (X l) x16 x17 ⟨16 + l.val, by omega⟩ g (nextRow p) e

/-- The block, at row `p` and column `q` of head `g`. -/
def blockAt (X : Fin 16 → Vec Ideal S1x512x512 .bf16) (x16 : Vec Ideal S32x512 .f32) (x17 : Vec Ideal S32x128x128 .bf16) (x18 : Vec Ideal S128x128 .bf16) (g : Fin 4) (p : Fin 512) (q : Fin 128) : EReal :=
  ∑ e : Fin 128, actOf (preAt X x16 x17 g p e) * x18 (ix2 e q)

theorem piece_apply (g : Fin 4) (o : Nat) (ho : o = g.val * 128) (h : S512x512.Slices ![0, o] S512x128) (X : Fin 16 → Vec Ideal S1x512x512 .bf16) (x16 : Vec Ideal S32x512 .f32) (x17 : Vec Ideal S32x128x128 .bf16) (x18 : Vec Ideal S128x128 .bf16) (p : Fin 512) (q : Fin 128) :
    piece o h (X 0) (X 1) (X 2) (X 3) (X 4) (X 5) (X 6) (X 7) (X 8) (X 9) (X 10) (X 11) (X 12) (X 13) (X 14) (X 15) x16 x17 x18 (ix3 0 p q) = blockAt X x16 x17 x18 g p q := by
  unfold piece blockAt preAt
  refine (finish_apply _ _ p q).trans (Finset.sum_congr rfl fun e _ => ?_)
  exact congrArg₂ _ (congrArg actOf ((joined_apply _ _ p e).trans (congrArg₂ _ (firstHalf_apply g o ho h X x16 x17 p e) (otherHalf_apply g o ho h X x16 x17 (nextRow p) e)))) (second_apply x18 e q)

/-- The same as one function of the block's index. -/
def blockFn (X : Fin 16 → Vec Ideal S1x512x512 .bf16) (x16 : Vec Ideal S32x512 .f32) (x17 : Vec Ideal S32x128x128 .bf16) (x18 : Vec Ideal S128x128 .bf16) : S1x512x512.Idx → EReal := fun i =>
  blockAt X x16 x17 x18 ⟨(i 2).val / 128, by have h : (i 2).val < 512 := (i 2).isLt; omega⟩ (i 1) ⟨(i 2).val % 128, Nat.mod_lt _ (by decide)⟩

theorem blockFn_apply (X : Fin 16 → Vec Ideal S1x512x512 .bf16) (x16 : Vec Ideal S32x512 .f32) (x17 : Vec Ideal S32x128x128 .bf16) (x18 : Vec Ideal S128x128 .bf16) (i : S1x512x512.Idx) (g : Fin 4) (p : Fin 512) (q : Fin 128)
    (h1 : (i 1).val = p.val) (h2 : (i 2).val = g.val * 128 + q.val) : blockFn X x16 x17 x18 i = blockAt X x16 x17 x18 g p q := by
  unfold blockFn
  have e1 : i 1 = p := Fin.ext h1
  have eg : (⟨(i 2).val / 128, by have h : (i 2).val < 512 := (i 2).isLt; omega⟩ : Fin 4) = g := Fin.ext (by show (i 2).val / 128 = g.val; omega)
  have eq : (⟨(i 2).val % 128, Nat.mod_lt _ (by decide)⟩ : Fin 128) = q := Fin.ext (by show (i 2).val % 128 = q.val; omega)
  rw [e1, eg, eq]

/-- One piece stored at its own columns holds that function's values. -/
theorem stored (g : Fin 4) (o : Nat) (ho : o = g.val * 128) (h : S512x512.Slices ![0, o] S512x128) (inb) (X : Fin 16 → Vec Ideal S1x512x512 .bf16) (x16 : Vec Ideal S32x512 .f32) (x17 : Vec Ideal S32x128x128 .bf16) (x18 : Vec Ideal S128x128 .bf16) (x : S1x512x128.Idx) :
    piece o h (X 0) (X 1) (X 2) (X 3) (X 4) (X 5) (X 6) (X 7) (X 8) (X 9) (X 10) (X 11) (X 12) (X 13) (X 14) (X 15) x16 x17 x18 x = blockFn X x16 x17 x18 ((Rect.unit (s := S1x512x512) ![0, 0, o] S1x512x128.size inb).emb x) := by
  obtain ⟨z, p, q, rfl⟩ : ∃ (z : Fin 1) (p : Fin 512) (q : Fin 128), x = ix3 z p q := ⟨x 0, x 1, x 2, eq_ix3 x⟩
  obtain rfl : z = 0 := Subsingleton.elim _ _
  refine (piece_apply g o ho h X x16 x17 x18 p q).trans (blockFn_apply X x16 x17 x18 _ g p q ?_ ?_).symm
  · exact (Rect.idx_unit_val (s := S1x512x512) ![0, 0, o] S1x512x128.size inb (ix3 0 p q) (1 : Fin 3)).trans (Nat.zero_add _)
  · exact (Rect.idx_unit_val (s := S1x512x512) ![0, 0, o] S1x512x128.size inb (ix3 0 p q) (2 : Fin 3)).trans (by show o + q.val = _; rw [ho])

/-- So the body leaves that block. -/
theorem out_apply (X : Fin 16 → Vec Ideal S1x512x512 .bf16) (x16 : Vec Ideal S32x512 .f32) (x17 : Vec Ideal S32x128x128 .bf16) (x18 : Vec Ideal S128x128 .bf16) (y : S1x512x512.Idx) :
    (out0_19 (F := Ideal) (X 0) (X 1) (X 2) (X 3) (X 4) (X 5) (X 6) (X 7) (X 8) (X 9) (X 10) (X 11) (X 12) (X 13) (X 14) (X 15) x16 x17 x18 : Vec Ideal S1x512x512 .bf16) y = blockFn X x16 x17 x18 y := by
  rw [out_eq]
  refine View.canon_apply_of_pieces (Val := Elt Ideal) (e := .bf16) (blockFn X x16 x17 x18) _ (fun p hp => ?_) y (cover0_19 _ _ _ _ y)
  simp only [List.mem_cons, List.not_mem_nil, or_false] at hp
  rcases hp with rfl | rfl | rfl | rfl
  · exact stored 3 384 rfl _ inb_S1x512x512_S1x512x128_0_0_384 X x16 x17 x18
  · exact stored 2 256 rfl _ inb_S1x512x512_S1x512x128_0_0_256 X x16 x17 x18
  · exact stored 1 128 rfl _ inb_S1x512x512_S1x512x128_0_0_128 X x16 x17 x18
  · exact stored 0 0 rfl _ inb_S1x512x512_S1x512x128_0_0_0 X x16 x17 x18

end Cert.Kernel11Ideal.Compress

end
-- ==== Proof.CompressValues.lean ====
/- The values of the first attention, compressed: what the launch finds, and the whole array that it leaves. -/
module

public import proofs.«01_k».proof.Proof.CompressValuesBlock
public import Idealize.ShloMosaic.Lib.Pipeline.Covers

@[expose] public section

set_option maxRecDepth 16384

noncomputable section

namespace Cert.Kernel11Ideal.Compress

open Cert.Kernel11Ideal Cert.Kernel11Ideal.Gen
open Idealize.ShloMosaic Idealize.ShloMosaic.TcCoe
open Idealize.ShloMosaic.Pipeline (Dat Cfg Window)

/-- The token `l` of block `p` of sequence `b`: its row of the activations. -/
abbrev tokenRow (b : Fin 2) (p : Fin 512) (l : Fin 16) : Fin 16384 := ⟨(b.val * 512 + p.val) * 16 + l.val, by omega⟩
/-- The column of the activations that holds column `d` of head `g`. -/
abbrev valueCol (g : Fin 4) (d : Fin 128) : Fin 5120 := ⟨2560 + (g.val * 128 + d.val), by omega⟩

/-- What token `l` of block `p` adds at position `k`. -/
def termAt (y : S16384x5120.Idx → EReal) (pe : S32x128.Idx → EReal) (w : S32x128x128.Idx → EReal) (b : Fin 2) (p : Fin 512) (l : Fin 16) (k : Fin 32) (g : Fin 4) (e : Fin 128) : EReal :=
  ∑ d : Fin 128, (y (ix2 (tokenRow b p l) (valueCol g d)) + pe (ix2 k d)) * w (ix3 k d e)

/-- The sum of a block's thirty-two tokens: sixteen of its own and sixteen of the next. -/
def sumAt (y : S16384x5120.Idx → EReal) (pe : S32x128.Idx → EReal) (w : S32x128x128.Idx → EReal) (b : Fin 2) (p : Fin 512) (g : Fin 4) (e : Fin 128) : EReal :=
  (∑ l : Fin 16, termAt y pe w b p l ⟨l.val, by omega⟩ g e) + ∑ l : Fin 16, termAt y pe w b (nextRow p) l ⟨16 + l.val, by omega⟩ g e

/-- The compressed value. -/
def valueAt (y : S16384x5120.Idx → EReal) (pe : S32x128.Idx → EReal) (w : S32x128x128.Idx → EReal) (w2 : S128x128.Idx → EReal) (b : Fin 2) (p : Fin 512) (g : Fin 4) (q : Fin 128) : EReal :=
  ∑ e : Fin 128, actOf (sumAt y pe w b p g e) * w2 (ix2 e q)

variable (m : (ℓ : Loc nD τ sig) → Buf (Elt Ideal) ℓ)

/-- Sixteen rows laid end to end, read at a column. -/
theorem tokens_apply (y : Vec Ideal S16384x5120 .bf16) (b : Fin 2) (p : Fin 512) (l : Fin 16) (q : Fin 5120) (c : Fin 81920) (hc : c.val = l.val * 5120 + q.val) :
    (shapeCast S2x512x81920 y shapeCasts_S16384x5120_S2x512x81920 : S2x512x81920.Idx → EReal) (ix3 b p c) = y (ix2 (tokenRow b p l) q) :=
  shapeCast_apply y shapeCasts_S16384x5120_S2x512x81920 (ix3 b p c) (ix2 (tokenRow b p l) q)
    (by rewrite [Shape.rowMajor_val_two, Shape.rowMajor_val_three]; show ((b.val * 512 + p.val) * 16 + l.val) * 5120 + q.val = (b.val * 512 + p.val) * 81920 + c.val; omega)

theorem V_tokens (c : Dev nD) (b : Fin 2) (p : Fin 512) (l : Fin 16) (q : Fin 5120) (k : Fin 81920) (hk : k.val = l.val * 5120 + q.val) :
    (V m c main_v1 : S2x512x81920.Idx → EReal) (ix3 b p k) = (m ((c : Thread nD τ).loc main_arg0) : S16384x5120.Idx → EReal) (ix2 (tokenRow b p l) q) := by
  have e : (V m c main_v1 : S2x512x81920.Idx → EReal) = shapeCast S2x512x81920 (m ((c : Thread nD τ).loc main_arg0) : S16384x5120.Idx → EReal) shapeCasts_S16384x5120_S2x512x81920 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (tokens_apply _ b p l q k hk)

/-- The position rows, once for every head. -/
theorem positions_apply (pe : Vec Ideal S32x128 .f32) (k : Fin 32) (g : Fin 4) (d : Fin 128) :
    (shapeCast S32x512 (broadcastInDim S1x32x4x128 ![0, 1, 2, 3] bcast_S1x32x1x128_S1x32x4x128_0_1_2_3 (shapeCast S1x32x1x128 pe shapeCasts_S32x128_S1x32x1x128)) shapeCasts_S1x32x4x128_S32x512 : S32x512.Idx → EReal) (ix2 k (headCol g d)) = pe (ix2 k d) := by
  refine (shapeCast_apply _ shapeCasts_S1x32x4x128_S32x512 (ix2 k (headCol g d)) (ix4 (0 : Fin 1) k g d)
    (by rewrite [Shape.rowMajor_val_four, Shape.rowMajor_val_two]; show ((0 * 32 + k.val) * 4 + g.val) * 128 + d.val = k.val * 512 + (g.val * 128 + d.val); omega)).trans ?_
  refine (broadcastInDim_apply _ bcast_S1x32x1x128_S1x32x4x128_0_1_2_3 _ (ix4 (0 : Fin 1) k g d) (ix4 (0 : Fin 1) k (0 : Fin 1) d) (fun a => match a with
    | ⟨0, _⟩ => by show 0 = if (1 : Nat) = 1 then 0 else 0; rw [if_pos rfl]
    | ⟨1, _⟩ => by show k.val = if (32 : Nat) = 1 then 0 else k.val; rw [if_neg (by decide)]
    | ⟨2, _⟩ => by show 0 = if (1 : Nat) = 1 then 0 else g.val; rw [if_pos rfl]
    | ⟨3, _⟩ => by show d.val = if (128 : Nat) = 1 then 0 else d.val; rw [if_neg (by decide)])).trans ?_
  exact shapeCast_apply _ shapeCasts_S32x128_S1x32x1x128 (ix4 (0 : Fin 1) k (0 : Fin 1) d) (ix2 k d)
    (by rewrite [Shape.rowMajor_val_two, Shape.rowMajor_val_four]; show k.val * 128 + d.val = ((0 * 32 + k.val) * 1 + 0) * 128 + d.val; omega)

theorem V_positions (c : Dev nD) (k : Fin 32) (g : Fin 4) (d : Fin 128) :
    (V m c main_v4 : S32x512.Idx → EReal) (ix2 k (headCol g d)) = (m ((c : Thread nD τ).loc main_arg1) : S32x128.Idx → EReal) (ix2 k d) := by
  have e : (V m c main_v4 : S32x512.Idx → EReal) = shapeCast S32x512 (broadcastInDim S1x32x4x128 ![0, 1, 2, 3] bcast_S1x32x1x128_S1x32x4x128_0_1_2_3 (shapeCast S1x32x1x128 (m ((c : Thread nD τ).loc main_arg1) : S32x128.Idx → EReal) shapeCasts_S32x128_S1x32x1x128)) shapeCasts_S1x32x4x128_S32x512 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (positions_apply _ k g d)

theorem V_first (c : Dev nD) : (V m c main_v5 : S32x128x128.Idx → EReal) = m ((c : Thread nD τ).loc main_arg2) := by
  show StableHlo.after _ _ _ = _
  simp only [hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_second (c : Dev nD) : (V m c main_v6 : S128x128.Idx → EReal) = m ((c : Thread nD τ).loc main_arg3) := by
  show StableHlo.after _ _ _ = _
  simp only [hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

/-- The sequence that point `t` works on. -/
abbrev seqOf (t : Fin cfg0.N) : Fin 2 := ⟨(grid0.coords t 0).val, (grid0.coords t 0).isLt⟩

theorem seq_word (t : Fin cfg0.N) : (BitVec.ofNat 32 (grid0.coords t 0).val).toNat = (grid0.coords t 0).val := by
  have h : (grid0.coords t 0).val < 2 := (grid0.coords t 0).isLt
  rw [BitVec.toNat_ofNat, Nat.mod_eq_of_lt (by omega)]

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)
/-- An index of three axes from its coordinates. -/
theorem idx3_ext {a b d : Nat} (i : (⟨3, ![a, b, d]⟩ : Shape).Idx) (r : Fin a) (k : Fin b) (q : Fin d) (h0 : (i 0).val = r.val) (h1 : (i 1).val = k.val) (h2 : (i 2).val = q.val) :
    i = ix3 r k q := funext fun x => Fin.ext (match x with
  | ⟨0, _⟩ => h0
  | ⟨1, _⟩ => h1
  | ⟨2, _⟩ => h2)

theorem tokens_blk0 (c : Dev nD) (t : Fin cfg0.N) (p : Fin 512) (g : Fin 4) (d : Fin 128) :
    (iblk m c 0 t : Vec Ideal S1x512x512 .bf16) (ix3 0 p (headCol g d)) = (m ((c : Thread nD τ).loc main_arg0) : S16384x5120.Idx → EReal) (ix2 (tokenRow (seqOf t) p 0) (valueCol g d)) := by
  show V m c main_v1 ((((cfg0).win 0).rect t).emb (ix3 (0 : Fin 1) p (headCol g d))) = _
  have e0 : ((((cfg0).win 0).rect t).emb (ix3 (0 : Fin 1) p (headCol g d)) (0 : Fin 3) : Nat) = (seqOf t).val :=
    (((cfg0).win 0).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 0).rect t).emb (ix3 (0 : Fin 1) p (headCol g d)) (1 : Fin 3) : Nat) = p.val :=
    (((cfg0).win 0).rect_emb_val t (ix3 (0 : Fin 1) p (headCol g d)) (1 : Fin 3)).trans (by show 0 * 512 + p.val = p.val; omega)
  have e2 : ((((cfg0).win 0).rect t).emb (ix3 (0 : Fin 1) p (headCol g d)) (2 : Fin 3) : Nat) = (⟨5 * 512 + (g.val * 128 + d.val), by omega⟩ : Fin 81920).val :=
    (((cfg0).win 0).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 0 (valueCol g d) _ (by show 5 * 512 + (g.val * 128 + d.val) = 0 * 5120 + (2560 + (g.val * 128 + d.val)); omega))
theorem tokens_blk1 (c : Dev nD) (t : Fin cfg0.N) (p : Fin 512) (g : Fin 4) (d : Fin 128) :
    (iblk m c 1 t : Vec Ideal S1x512x512 .bf16) (ix3 0 p (headCol g d)) = (m ((c : Thread nD τ).loc main_arg0) : S16384x5120.Idx → EReal) (ix2 (tokenRow (seqOf t) p 1) (valueCol g d)) := by
  show V m c main_v1 ((((cfg0).win 1).rect t).emb (ix3 (0 : Fin 1) p (headCol g d))) = _
  have e0 : ((((cfg0).win 1).rect t).emb (ix3 (0 : Fin 1) p (headCol g d)) (0 : Fin 3) : Nat) = (seqOf t).val :=
    (((cfg0).win 1).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 1).rect t).emb (ix3 (0 : Fin 1) p (headCol g d)) (1 : Fin 3) : Nat) = p.val :=
    (((cfg0).win 1).rect_emb_val t (ix3 (0 : Fin 1) p (headCol g d)) (1 : Fin 3)).trans (by show 0 * 512 + p.val = p.val; omega)
  have e2 : ((((cfg0).win 1).rect t).emb (ix3 (0 : Fin 1) p (headCol g d)) (2 : Fin 3) : Nat) = (⟨15 * 512 + (g.val * 128 + d.val), by omega⟩ : Fin 81920).val :=
    (((cfg0).win 1).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 1 (valueCol g d) _ (by show 15 * 512 + (g.val * 128 + d.val) = 1 * 5120 + (2560 + (g.val * 128 + d.val)); omega))
theorem tokens_blk2 (c : Dev nD) (t : Fin cfg0.N) (p : Fin 512) (g : Fin 4) (d : Fin 128) :
    (iblk m c 2 t : Vec Ideal S1x512x512 .bf16) (ix3 0 p (headCol g d)) = (m ((c : Thread nD τ).loc main_arg0) : S16384x5120.Idx → EReal) (ix2 (tokenRow (seqOf t) p 2) (valueCol g d)) := by
  show V m c main_v1 ((((cfg0).win 2).rect t).emb (ix3 (0 : Fin 1) p (headCol g d))) = _
  have e0 : ((((cfg0).win 2).rect t).emb (ix3 (0 : Fin 1) p (headCol g d)) (0 : Fin 3) : Nat) = (seqOf t).val :=
    (((cfg0).win 2).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 2).rect t).emb (ix3 (0 : Fin 1) p (headCol g d)) (1 : Fin 3) : Nat) = p.val :=
    (((cfg0).win 2).rect_emb_val t (ix3 (0 : Fin 1) p (headCol g d)) (1 : Fin 3)).trans (by show 0 * 512 + p.val = p.val; omega)
  have e2 : ((((cfg0).win 2).rect t).emb (ix3 (0 : Fin 1) p (headCol g d)) (2 : Fin 3) : Nat) = (⟨25 * 512 + (g.val * 128 + d.val), by omega⟩ : Fin 81920).val :=
    (((cfg0).win 2).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 2 (valueCol g d) _ (by show 25 * 512 + (g.val * 128 + d.val) = 2 * 5120 + (2560 + (g.val * 128 + d.val)); omega))
theorem tokens_blk3 (c : Dev nD) (t : Fin cfg0.N) (p : Fin 512) (g : Fin 4) (d : Fin 128) :
    (iblk m c 3 t : Vec Ideal S1x512x512 .bf16) (ix3 0 p (headCol g d)) = (m ((c : Thread nD τ).loc main_arg0) : S16384x5120.Idx → EReal) (ix2 (tokenRow (seqOf t) p 3) (valueCol g d)) := by
  show V m c main_v1 ((((cfg0).win 3).rect t).emb (ix3 (0 : Fin 1) p (headCol g d))) = _
  have e0 : ((((cfg0).win 3).rect t).emb (ix3 (0 : Fin 1) p (headCol g d)) (0 : Fin 3) : Nat) = (seqOf t).val :=
    (((cfg0).win 3).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 3).rect t).emb (ix3 (0 : Fin 1) p (headCol g d)) (1 : Fin 3) : Nat) = p.val :=
    (((cfg0).win 3).rect_emb_val t (ix3 (0 : Fin 1) p (headCol g d)) (1 : Fin 3)).trans (by show 0 * 512 + p.val = p.val; omega)
  have e2 : ((((cfg0).win 3).rect t).emb (ix3 (0 : Fin 1) p (headCol g d)) (2 : Fin 3) : Nat) = (⟨35 * 512 + (g.val * 128 + d.val), by omega⟩ : Fin 81920).val :=
    (((cfg0).win 3).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 3 (valueCol g d) _ (by show 35 * 512 + (g.val * 128 + d.val) = 3 * 5120 + (2560 + (g.val * 128 + d.val)); omega))
theorem tokens_blk4 (c : Dev nD) (t : Fin cfg0.N) (p : Fin 512) (g : Fin 4) (d : Fin 128) :
    (iblk m c 4 t : Vec Ideal S1x512x512 .bf16) (ix3 0 p (headCol g d)) = (m ((c : Thread nD τ).loc main_arg0) : S16384x5120.Idx → EReal) (ix2 (tokenRow (seqOf t) p 4) (valueCol g d)) := by
  show V m c main_v1 ((((cfg0).win 4).rect t).emb (ix3 (0 : Fin 1) p (headCol g d))) = _
  have e0 : ((((cfg0).win 4).rect t).emb (ix3 (0 : Fin 1) p (headCol g d)) (0 : Fin 3) : Nat) = (seqOf t).val :=
    (((cfg0).win 4).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 4).rect t).emb (ix3 (0 : Fin 1) p (headCol g d)) (1 : Fin 3) : Nat) = p.val :=
    (((cfg0).win 4).rect_emb_val t (ix3 (0 : Fin 1) p (headCol g d)) (1 : Fin 3)).trans (by show 0 * 512 + p.val = p.val; omega)
  have e2 : ((((cfg0).win 4).rect t).emb (ix3 (0 : Fin 1) p (headCol g d)) (2 : Fin 3) : Nat) = (⟨45 * 512 + (g.val * 128 + d.val), by omega⟩ : Fin 81920).val :=
    (((cfg0).win 4).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 4 (valueCol g d) _ (by show 45 * 512 + (g.val * 128 + d.val) = 4 * 5120 + (2560 + (g.val * 128 + d.val)); omega))
theorem tokens_blk5 (c : Dev nD) (t : Fin cfg0.N) (p : Fin 512) (g : Fin 4) (d : Fin 128) :
    (iblk m c 5 t : Vec Ideal S1x512x512 .bf16) (ix3 0 p (headCol g d)) = (m ((c : Thread nD τ).loc main_arg0) : S16384x5120.Idx → EReal) (ix2 (tokenRow (seqOf t) p 5) (valueCol g d)) := by
  show V m c main_v1 ((((cfg0).win 5).rect t).emb (ix3 (0 : Fin 1) p (headCol g d))) = _
  have e0 : ((((cfg0).win 5).rect t).emb (ix3 (0 : Fin 1) p (headCol g d)) (0 : Fin 3) : Nat) = (seqOf t).val :=
    (((cfg0).win 5).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 5).rect t).emb (ix3 (0 : Fin 1) p (headCol g d)) (1 : Fin 3) : Nat) = p.val :=
    (((cfg0).win 5).rect_emb_val t (ix3 (0 : Fin 1) p (headCol g d)) (1 : Fin 3)).trans (by show 0 * 512 + p.val = p.val; omega)
  have e2 : ((((cfg0).win 5).rect t).emb (ix3 (0 : Fin 1) p (headCol g d)) (2 : Fin 3) : Nat) = (⟨55 * 512 + (g.val * 128 + d.val), by omega⟩ : Fin 81920).val :=
    (((cfg0).win 5).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 5 (valueCol g d) _ (by show 55 * 512 + (g.val * 128 + d.val) = 5 * 5120 + (2560 + (g.val * 128 + d.val)); omega))
theorem tokens_blk6 (c : Dev nD) (t : Fin cfg0.N) (p : Fin 512) (g : Fin 4) (d : Fin 128) :
    (iblk m c 6 t : Vec Ideal S1x512x512 .bf16) (ix3 0 p (headCol g d)) = (m ((c : Thread nD τ).loc main_arg0) : S16384x5120.Idx → EReal) (ix2 (tokenRow (seqOf t) p 6) (valueCol g d)) := by
  show V m c main_v1 ((((cfg0).win 6).rect t).emb (ix3 (0 : Fin 1) p (headCol g d))) = _
  have e0 : ((((cfg0).win 6).rect t).emb (ix3 (0 : Fin 1) p (headCol g d)) (0 : Fin 3) : Nat) = (seqOf t).val :=
    (((cfg0).win 6).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 6).rect t).emb (ix3 (0 : Fin 1) p (headCol g d)) (1 : Fin 3) : Nat) = p.val :=
    (((cfg0).win 6).rect_emb_val t (ix3 (0 : Fin 1) p (headCol g d)) (1 : Fin 3)).trans (by show 0 * 512 + p.val = p.val; omega)
  have e2 : ((((cfg0).win 6).rect t).emb (ix3 (0 : Fin 1) p (headCol g d)) (2 : Fin 3) : Nat) = (⟨65 * 512 + (g.val * 128 + d.val), by omega⟩ : Fin 81920).val :=
    (((cfg0).win 6).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 6 (valueCol g d) _ (by show 65 * 512 + (g.val * 128 + d.val) = 6 * 5120 + (2560 + (g.val * 128 + d.val)); omega))
theorem tokens_blk7 (c : Dev nD) (t : Fin cfg0.N) (p : Fin 512) (g : Fin 4) (d : Fin 128) :
    (iblk m c 7 t : Vec Ideal S1x512x512 .bf16) (ix3 0 p (headCol g d)) = (m ((c : Thread nD τ).loc main_arg0) : S16384x5120.Idx → EReal) (ix2 (tokenRow (seqOf t) p 7) (valueCol g d)) := by
  show V m c main_v1 ((((cfg0).win 7).rect t).emb (ix3 (0 : Fin 1) p (headCol g d))) = _
  have e0 : ((((cfg0).win 7).rect t).emb (ix3 (0 : Fin 1) p (headCol g d)) (0 : Fin 3) : Nat) = (seqOf t).val :=
    (((cfg0).win 7).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 7).rect t).emb (ix3 (0 : Fin 1) p (headCol g d)) (1 : Fin 3) : Nat) = p.val :=
    (((cfg0).win 7).rect_emb_val t (ix3 (0 : Fin 1) p (headCol g d)) (1 : Fin 3)).trans (by show 0 * 512 + p.val = p.val; omega)
  have e2 : ((((cfg0).win 7).rect t).emb (ix3 (0 : Fin 1) p (headCol g d)) (2 : Fin 3) : Nat) = (⟨75 * 512 + (g.val * 128 + d.val), by omega⟩ : Fin 81920).val :=
    (((cfg0).win 7).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 7 (valueCol g d) _ (by show 75 * 512 + (g.val * 128 + d.val) = 7 * 5120 + (2560 + (g.val * 128 + d.val)); omega))
theorem tokens_blk8 (c : Dev nD) (t : Fin cfg0.N) (p : Fin 512) (g : Fin 4) (d : Fin 128) :
    (iblk m c 8 t : Vec Ideal S1x512x512 .bf16) (ix3 0 p (headCol g d)) = (m ((c : Thread nD τ).loc main_arg0) : S16384x5120.Idx → EReal) (ix2 (tokenRow (seqOf t) p 8) (valueCol g d)) := by
  show V m c main_v1 ((((cfg0).win 8).rect t).emb (ix3 (0 : Fin 1) p (headCol g d))) = _
  have e0 : ((((cfg0).win 8).rect t).emb (ix3 (0 : Fin 1) p (headCol g d)) (0 : Fin 3) : Nat) = (seqOf t).val :=
    (((cfg0).win 8).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 8).rect t).emb (ix3 (0 : Fin 1) p (headCol g d)) (1 : Fin 3) : Nat) = p.val :=
    (((cfg0).win 8).rect_emb_val t (ix3 (0 : Fin 1) p (headCol g d)) (1 : Fin 3)).trans (by show 0 * 512 + p.val = p.val; omega)
  have e2 : ((((cfg0).win 8).rect t).emb (ix3 (0 : Fin 1) p (headCol g d)) (2 : Fin 3) : Nat) = (⟨85 * 512 + (g.val * 128 + d.val), by omega⟩ : Fin 81920).val :=
    (((cfg0).win 8).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 8 (valueCol g d) _ (by show 85 * 512 + (g.val * 128 + d.val) = 8 * 5120 + (2560 + (g.val * 128 + d.val)); omega))
theorem tokens_blk9 (c : Dev nD) (t : Fin cfg0.N) (p : Fin 512) (g : Fin 4) (d : Fin 128) :
    (iblk m c 9 t : Vec Ideal S1x512x512 .bf16) (ix3 0 p (headCol g d)) = (m ((c : Thread nD τ).loc main_arg0) : S16384x5120.Idx → EReal) (ix2 (tokenRow (seqOf t) p 9) (valueCol g d)) := by
  show V m c main_v1 ((((cfg0).win 9).rect t).emb (ix3 (0 : Fin 1) p (headCol g d))) = _
  have e0 : ((((cfg0).win 9).rect t).emb (ix3 (0 : Fin 1) p (headCol g d)) (0 : Fin 3) : Nat) = (seqOf t).val :=
    (((cfg0).win 9).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 9).rect t).emb (ix3 (0 : Fin 1) p (headCol g d)) (1 : Fin 3) : Nat) = p.val :=
    (((cfg0).win 9).rect_emb_val t (ix3 (0 : Fin 1) p (headCol g d)) (1 : Fin 3)).trans (by show 0 * 512 + p.val = p.val; omega)
  have e2 : ((((cfg0).win 9).rect t).emb (ix3 (0 : Fin 1) p (headCol g d)) (2 : Fin 3) : Nat) = (⟨95 * 512 + (g.val * 128 + d.val), by omega⟩ : Fin 81920).val :=
    (((cfg0).win 9).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 9 (valueCol g d) _ (by show 95 * 512 + (g.val * 128 + d.val) = 9 * 5120 + (2560 + (g.val * 128 + d.val)); omega))
theorem tokens_blk10 (c : Dev nD) (t : Fin cfg0.N) (p : Fin 512) (g : Fin 4) (d : Fin 128) :
    (iblk m c 10 t : Vec Ideal S1x512x512 .bf16) (ix3 0 p (headCol g d)) = (m ((c : Thread nD τ).loc main_arg0) : S16384x5120.Idx → EReal) (ix2 (tokenRow (seqOf t) p 10) (valueCol g d)) := by
  show V m c main_v1 ((((cfg0).win 10).rect t).emb (ix3 (0 : Fin 1) p (headCol g d))) = _
  have e0 : ((((cfg0).win 10).rect t).emb (ix3 (0 : Fin 1) p (headCol g d)) (0 : Fin 3) : Nat) = (seqOf t).val :=
    (((cfg0).win 10).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 10).rect t).emb (ix3 (0 : Fin 1) p (headCol g d)) (1 : Fin 3) : Nat) = p.val :=
    (((cfg0).win 10).rect_emb_val t (ix3 (0 : Fin 1) p (headCol g d)) (1 : Fin 3)).trans (by show 0 * 512 + p.val = p.val; omega)
  have e2 : ((((cfg0).win 10).rect t).emb (ix3 (0 : Fin 1) p (headCol g d)) (2 : Fin 3) : Nat) = (⟨105 * 512 + (g.val * 128 + d.val), by omega⟩ : Fin 81920).val :=
    (((cfg0).win 10).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 10 (valueCol g d) _ (by show 105 * 512 + (g.val * 128 + d.val) = 10 * 5120 + (2560 + (g.val * 128 + d.val)); omega))
theorem tokens_blk11 (c : Dev nD) (t : Fin cfg0.N) (p : Fin 512) (g : Fin 4) (d : Fin 128) :
    (iblk m c 11 t : Vec Ideal S1x512x512 .bf16) (ix3 0 p (headCol g d)) = (m ((c : Thread nD τ).loc main_arg0) : S16384x5120.Idx → EReal) (ix2 (tokenRow (seqOf t) p 11) (valueCol g d)) := by
  show V m c main_v1 ((((cfg0).win 11).rect t).emb (ix3 (0 : Fin 1) p (headCol g d))) = _
  have e0 : ((((cfg0).win 11).rect t).emb (ix3 (0 : Fin 1) p (headCol g d)) (0 : Fin 3) : Nat) = (seqOf t).val :=
    (((cfg0).win 11).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 11).rect t).emb (ix3 (0 : Fin 1) p (headCol g d)) (1 : Fin 3) : Nat) = p.val :=
    (((cfg0).win 11).rect_emb_val t (ix3 (0 : Fin 1) p (headCol g d)) (1 : Fin 3)).trans (by show 0 * 512 + p.val = p.val; omega)
  have e2 : ((((cfg0).win 11).rect t).emb (ix3 (0 : Fin 1) p (headCol g d)) (2 : Fin 3) : Nat) = (⟨115 * 512 + (g.val * 128 + d.val), by omega⟩ : Fin 81920).val :=
    (((cfg0).win 11).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 11 (valueCol g d) _ (by show 115 * 512 + (g.val * 128 + d.val) = 11 * 5120 + (2560 + (g.val * 128 + d.val)); omega))
theorem tokens_blk12 (c : Dev nD) (t : Fin cfg0.N) (p : Fin 512) (g : Fin 4) (d : Fin 128) :
    (iblk m c 12 t : Vec Ideal S1x512x512 .bf16) (ix3 0 p (headCol g d)) = (m ((c : Thread nD τ).loc main_arg0) : S16384x5120.Idx → EReal) (ix2 (tokenRow (seqOf t) p 12) (valueCol g d)) := by
  show V m c main_v1 ((((cfg0).win 12).rect t).emb (ix3 (0 : Fin 1) p (headCol g d))) = _
  have e0 : ((((cfg0).win 12).rect t).emb (ix3 (0 : Fin 1) p (headCol g d)) (0 : Fin 3) : Nat) = (seqOf t).val :=
    (((cfg0).win 12).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 12).rect t).emb (ix3 (0 : Fin 1) p (headCol g d)) (1 : Fin 3) : Nat) = p.val :=
    (((cfg0).win 12).rect_emb_val t (ix3 (0 : Fin 1) p (headCol g d)) (1 : Fin 3)).trans (by show 0 * 512 + p.val = p.val; omega)
  have e2 : ((((cfg0).win 12).rect t).emb (ix3 (0 : Fin 1) p (headCol g d)) (2 : Fin 3) : Nat) = (⟨125 * 512 + (g.val * 128 + d.val), by omega⟩ : Fin 81920).val :=
    (((cfg0).win 12).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 12 (valueCol g d) _ (by show 125 * 512 + (g.val * 128 + d.val) = 12 * 5120 + (2560 + (g.val * 128 + d.val)); omega))
theorem tokens_blk13 (c : Dev nD) (t : Fin cfg0.N) (p : Fin 512) (g : Fin 4) (d : Fin 128) :
    (iblk m c 13 t : Vec Ideal S1x512x512 .bf16) (ix3 0 p (headCol g d)) = (m ((c : Thread nD τ).loc main_arg0) : S16384x5120.Idx → EReal) (ix2 (tokenRow (seqOf t) p 13) (valueCol g d)) := by
  show V m c main_v1 ((((cfg0).win 13).rect t).emb (ix3 (0 : Fin 1) p (headCol g d))) = _
  have e0 : ((((cfg0).win 13).rect t).emb (ix3 (0 : Fin 1) p (headCol g d)) (0 : Fin 3) : Nat) = (seqOf t).val :=
    (((cfg0).win 13).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 13).rect t).emb (ix3 (0 : Fin 1) p (headCol g d)) (1 : Fin 3) : Nat) = p.val :=
    (((cfg0).win 13).rect_emb_val t (ix3 (0 : Fin 1) p (headCol g d)) (1 : Fin 3)).trans (by show 0 * 512 + p.val = p.val; omega)
  have e2 : ((((cfg0).win 13).rect t).emb (ix3 (0 : Fin 1) p (headCol g d)) (2 : Fin 3) : Nat) = (⟨135 * 512 + (g.val * 128 + d.val), by omega⟩ : Fin 81920).val :=
    (((cfg0).win 13).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 13 (valueCol g d) _ (by show 135 * 512 + (g.val * 128 + d.val) = 13 * 5120 + (2560 + (g.val * 128 + d.val)); omega))
theorem tokens_blk14 (c : Dev nD) (t : Fin cfg0.N) (p : Fin 512) (g : Fin 4) (d : Fin 128) :
    (iblk m c 14 t : Vec Ideal S1x512x512 .bf16) (ix3 0 p (headCol g d)) = (m ((c : Thread nD τ).loc main_arg0) : S16384x5120.Idx → EReal) (ix2 (tokenRow (seqOf t) p 14) (valueCol g d)) := by
  show V m c main_v1 ((((cfg0).win 14).rect t).emb (ix3 (0 : Fin 1) p (headCol g d))) = _
  have e0 : ((((cfg0).win 14).rect t).emb (ix3 (0 : Fin 1) p (headCol g d)) (0 : Fin 3) : Nat) = (seqOf t).val :=
    (((cfg0).win 14).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 14).rect t).emb (ix3 (0 : Fin 1) p (headCol g d)) (1 : Fin 3) : Nat) = p.val :=
    (((cfg0).win 14).rect_emb_val t (ix3 (0 : Fin 1) p (headCol g d)) (1 : Fin 3)).trans (by show 0 * 512 + p.val = p.val; omega)
  have e2 : ((((cfg0).win 14).rect t).emb (ix3 (0 : Fin 1) p (headCol g d)) (2 : Fin 3) : Nat) = (⟨145 * 512 + (g.val * 128 + d.val), by omega⟩ : Fin 81920).val :=
    (((cfg0).win 14).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 14 (valueCol g d) _ (by show 145 * 512 + (g.val * 128 + d.val) = 14 * 5120 + (2560 + (g.val * 128 + d.val)); omega))
theorem tokens_blk15 (c : Dev nD) (t : Fin cfg0.N) (p : Fin 512) (g : Fin 4) (d : Fin 128) :
    (iblk m c 15 t : Vec Ideal S1x512x512 .bf16) (ix3 0 p (headCol g d)) = (m ((c : Thread nD τ).loc main_arg0) : S16384x5120.Idx → EReal) (ix2 (tokenRow (seqOf t) p 15) (valueCol g d)) := by
  show V m c main_v1 ((((cfg0).win 15).rect t).emb (ix3 (0 : Fin 1) p (headCol g d))) = _
  have e0 : ((((cfg0).win 15).rect t).emb (ix3 (0 : Fin 1) p (headCol g d)) (0 : Fin 3) : Nat) = (seqOf t).val :=
    (((cfg0).win 15).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 15).rect t).emb (ix3 (0 : Fin 1) p (headCol g d)) (1 : Fin 3) : Nat) = p.val :=
    (((cfg0).win 15).rect_emb_val t (ix3 (0 : Fin 1) p (headCol g d)) (1 : Fin 3)).trans (by show 0 * 512 + p.val = p.val; omega)
  have e2 : ((((cfg0).win 15).rect t).emb (ix3 (0 : Fin 1) p (headCol g d)) (2 : Fin 3) : Nat) = (⟨155 * 512 + (g.val * 128 + d.val), by omega⟩ : Fin 81920).val :=
    (((cfg0).win 15).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 15 (valueCol g d) _ (by show 155 * 512 + (g.val * 128 + d.val) = 15 * 5120 + (2560 + (g.val * 128 + d.val)); omega))

/-- The sixteen windows on the tokens. -/
abbrev tokenWins (c : Dev nD) (t : Fin cfg0.N) : Fin 16 → Vec Ideal S1x512x512 .bf16 := ![iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t]

theorem tokens_blk (c : Dev nD) (t : Fin cfg0.N) (l : Fin 16) (p : Fin 512) (g : Fin 4) (d : Fin 128) :
    tokenWins m c t l (ix3 0 p (headCol g d)) = (m ((c : Thread nD τ).loc main_arg0) : S16384x5120.Idx → EReal) (ix2 (tokenRow (seqOf t) p l) (valueCol g d)) := by
  fin_cases l
  · exact tokens_blk0 m c t p g d
  · exact tokens_blk1 m c t p g d
  · exact tokens_blk2 m c t p g d
  · exact tokens_blk3 m c t p g d
  · exact tokens_blk4 m c t p g d
  · exact tokens_blk5 m c t p g d
  · exact tokens_blk6 m c t p g d
  · exact tokens_blk7 m c t p g d
  · exact tokens_blk8 m c t p g d
  · exact tokens_blk9 m c t p g d
  · exact tokens_blk10 m c t p g d
  · exact tokens_blk11 m c t p g d
  · exact tokens_blk12 m c t p g d
  · exact tokens_blk13 m c t p g d
  · exact tokens_blk14 m c t p g d
  · exact tokens_blk15 m c t p g d

/-- The block of the position rows. -/
theorem positions_blk (c : Dev nD) (t : Fin cfg0.N) (k : Fin 32) (g : Fin 4) (d : Fin 128) :
    (iblk m c 16 t : Vec Ideal S32x512 .f32) (ix2 k (headCol g d)) = (m ((c : Thread nD τ).loc main_arg1) : S32x128.Idx → EReal) (ix2 k d) := by
  show V m c main_v4 ((((cfg0).win 16).rect t).emb (ix2 k (headCol g d))) = _
  have e0 : ((((cfg0).win 16).rect t).emb (ix2 k (headCol g d)) (0 : Fin 2) : Nat) = k.val :=
    (((cfg0).win 16).rect_emb_val t (ix2 k (headCol g d)) (0 : Fin 2)).trans (by show 0 * 32 + k.val = k.val; omega)
  have e1 : ((((cfg0).win 16).rect t).emb (ix2 k (headCol g d)) (1 : Fin 2) : Nat) = (headCol g d).val :=
    (((cfg0).win 16).rect_emb_val t (ix2 k (headCol g d)) (1 : Fin 2)).trans (by show 0 * 512 + (headCol g d).val = (headCol g d).val; omega)
  exact (congrArg (V m c main_v4 : S32x512.Idx → EReal) (idx2_ext _ k (headCol g d) e0 e1)).trans (V_positions m c k g d)

/-- The block of the thirty-two matrices. -/
theorem first_blk (c : Dev nD) (t : Fin cfg0.N) (k : Fin 32) (d e : Fin 128) :
    (iblk m c 17 t : Vec Ideal S32x128x128 .bf16) (ix3 k d e) = (m ((c : Thread nD τ).loc main_arg2) : S32x128x128.Idx → EReal) (ix3 k d e) := by
  show V m c main_v5 ((((cfg0).win 17).rect t).emb (ix3 k d e)) = _
  refine (congrFun (V_first m c) _).trans ?_
  have e0 : ((((cfg0).win 17).rect t).emb (ix3 k d e) (0 : Fin 3) : Nat) = k.val :=
    (((cfg0).win 17).rect_emb_val t (ix3 k d e) (0 : Fin 3)).trans (by show 0 * 32 + k.val = k.val; omega)
  have e1 : ((((cfg0).win 17).rect t).emb (ix3 k d e) (1 : Fin 3) : Nat) = d.val :=
    (((cfg0).win 17).rect_emb_val t (ix3 k d e) (1 : Fin 3)).trans (by show 0 * 128 + d.val = d.val; omega)
  have e2 : ((((cfg0).win 17).rect t).emb (ix3 k d e) (2 : Fin 3) : Nat) = e.val :=
    (((cfg0).win 17).rect_emb_val t (ix3 k d e) (2 : Fin 3)).trans (by show 0 * 128 + e.val = e.val; omega)
  exact congrArg _ (idx3_ext _ k d e e0 e1 e2)

/-- The block of the second matrix. -/
theorem second_blk (c : Dev nD) (t : Fin cfg0.N) (e q : Fin 128) :
    (iblk m c 18 t : Vec Ideal S128x128 .bf16) (ix2 e q) = (m ((c : Thread nD τ).loc main_arg3) : S128x128.Idx → EReal) (ix2 e q) := by
  show V m c main_v6 ((((cfg0).win 18).rect t).emb (ix2 e q)) = _
  refine (congrFun (V_second m c) _).trans ?_
  have e0 : ((((cfg0).win 18).rect t).emb (ix2 e q) (0 : Fin 2) : Nat) = e.val :=
    (((cfg0).win 18).rect_emb_val t (ix2 e q) (0 : Fin 2)).trans (by show 0 * 128 + e.val = e.val; omega)
  have e1 : ((((cfg0).win 18).rect t).emb (ix2 e q) (1 : Fin 2) : Nat) = q.val :=
    (((cfg0).win 18).rect_emb_val t (ix2 e q) (1 : Fin 2)).trans (by show 0 * 128 + q.val = q.val; omega)
  exact congrArg _ (idx2_ext _ e q e0 e1)

/-- The array the kernel leaves. -/
def result (c : Dev nD) : S2x512x512.Idx → EReal := fun i =>
  valueAt (m ((c : Thread nD τ).loc main_arg0)) (m ((c : Thread nD τ).loc main_arg1)) (m ((c : Thread nD τ).loc main_arg2)) (m ((c : Thread nD τ).loc main_arg3)) (i 0) (i 1)
    ⟨(i 2).val / 128, by have h : (i 2).val < 512 := (i 2).isLt; omega⟩ ⟨(i 2).val % 128, Nat.mod_lt _ (by decide)⟩

theorem result_apply (c : Dev nD) (i : S2x512x512.Idx) (b : Fin 2) (p : Fin 512) (g : Fin 4) (q : Fin 128)
    (h0 : (i 0).val = b.val) (h1 : (i 1).val = p.val) (h2 : (i 2).val = g.val * 128 + q.val) :
    result m c i = valueAt (m ((c : Thread nD τ).loc main_arg0)) (m ((c : Thread nD τ).loc main_arg1)) (m ((c : Thread nD τ).loc main_arg2)) (m ((c : Thread nD τ).loc main_arg3)) b p g q := by
  unfold result
  have e0 : i 0 = b := Fin.ext h0
  have e1 : i 1 = p := Fin.ext h1
  have eg : (⟨(i 2).val / 128, by have h : (i 2).val < 512 := (i 2).isLt; omega⟩ : Fin 4) = g := Fin.ext (by show (i 2).val / 128 = g.val; omega)
  have eq : (⟨(i 2).val % 128, Nat.mod_lt _ (by decide)⟩ : Fin 128) = q := Fin.ext (by show (i 2).val % 128 = q.val; omega)
  rw [e0, e1, eg, eq]

/-- One token's share, from the blocks and from the arrays. -/
theorem token_eq (c : Dev nD) (t : Fin cfg0.N) (l : Fin 16) (k : Fin 32) (g : Fin 4) (p : Fin 512) (e : Fin 128) :
    tokenAt (tokenWins m c t l) (iblk m c 16 t) (iblk m c 17 t) k g p e
      = termAt (m ((c : Thread nD τ).loc main_arg0)) (m ((c : Thread nD τ).loc main_arg1)) (m ((c : Thread nD τ).loc main_arg2)) (seqOf t) p l k g e :=
  Finset.sum_congr rfl fun d _ => congrArg₂ _ (congrArg₂ _ (tokens_blk m c t l p g d) (positions_blk m c t k g d)) (first_blk m c t k d e)

/-- The block that point `t` leaves, from the arrays. -/
theorem block_eq (c : Dev nD) (t : Fin cfg0.N) (g : Fin 4) (p : Fin 512) (q : Fin 128) :
    blockAt (tokenWins m c t) (iblk m c 16 t) (iblk m c 17 t) (iblk m c 18 t) g p q
      = valueAt (m ((c : Thread nD τ).loc main_arg0)) (m ((c : Thread nD τ).loc main_arg1)) (m ((c : Thread nD τ).loc main_arg2)) (m ((c : Thread nD τ).loc main_arg3)) (seqOf t) p g q := by
  unfold blockAt valueAt preAt sumAt
  refine Finset.sum_congr rfl fun e _ => congrArg₂ _ (congrArg actOf (congrArg₂ _ ?_ ?_)) (second_blk m c t e q)
  · exact Finset.sum_congr rfl fun l _ => token_eq m c t l _ g p e
  · exact Finset.sum_congr rfl fun l _ => token_eq m c t l _ g (nextRow p) e

/-- What point `t` writes back is its block of that array. -/
theorem flushed_eq (c : Dev nD) (t : Fin cfg0.N) :
    (dats m 0 c).flushed 19 t = ((cfg0.win 19).blk t).view.read (Elt Ideal) (result m c) := by
  rw [Cert.Kernel11Ideal.Value.flushed19]
  funext y
  revert y
  show ∀ y : S1x512x512.Idx, (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) : Vec Ideal S1x512x512 .bf16) y = result m c (((cfg0.win 19).rect t).emb y)
  intro y
  have h2 : (y 2).val < 512 := (y 2).isLt
  obtain ⟨g, q, hgq⟩ : ∃ (g : Fin 4) (q : Fin 128), (y 2).val = g.val * 128 + q.val :=
    ⟨⟨(y 2).val / 128, by omega⟩, ⟨(y 2).val % 128, Nat.mod_lt _ (by decide)⟩, by show (y 2).val = (y 2).val / 128 * 128 + (y 2).val % 128; omega⟩
  refine (out_apply (tokenWins m c t) (iblk m c 16 t) (iblk m c 17 t) (iblk m c 18 t) y).trans ?_
  refine (blockFn_apply _ _ _ _ y g (y 1) q rfl hgq).trans ?_
  refine (block_eq m c t g (y 1) q).trans (result_apply m c _ (seqOf t) (y 1) g q ?_ ?_ ?_).symm
  · refine ((cfg0.win 19).rect_emb_val t y (0 : Fin 3)).trans ?_
    have h0 : (y 0).val < 1 := (y 0).isLt
    show (BitVec.ofNat 32 (grid0.coords t 0).val).toNat * 1 + (y 0).val = (grid0.coords t 0).val
    rw [seq_word]; omega
  · refine ((cfg0.win 19).rect_emb_val t y (1 : Fin 3)).trans ?_
    show 0 * 512 + (y 1).val = (y 1).val
    omega
  · refine ((cfg0.win 19).rect_emb_val t y (2 : Fin 3)).trans ?_
    show 0 * 512 + (y 2).val = _
    omega

/-- The blocks tile the array. -/
theorem cover (i : S2x512x512.Idx) : ∃ t : Fin cfg0.N, (cfg0.win 19).flush t = true ∧ i ∈ ((cfg0.win 19).blk t).view.set := by
  have h0 : (i 0).val < 2 := (i 0).isLt
  have h1 : (i 1).val < 512 := (i 1).isLt
  have h2 : (i 2).val < 512 := (i 2).isLt
  obtain ⟨t, ht⟩ := grid0.coords_surjective (fun a => match a with
    | ⟨0, _⟩ => ⟨(i 0).val, h0⟩)
  have c0 : (grid0.coords t 0).val = (i 0).val := congrArg Fin.val (congrFun ht 0)
  refine ⟨t, flush0_19 t, ?_⟩
  show i ∈ ((View.whole main_v7).slice ((cfg0.win 19).rect t)).set
  erw [View.set_slice_whole]
  refine (Pipeline.Window.mem_rect_iff (cfg0.win 19) t i (by rfl)).mpr fun a => ?_
  match a with
  | ⟨0, _⟩ =>
    show (BitVec.ofNat 32 (grid0.coords t 0).val).toNat * 1 ≤ (i 0).val ∧ (i 0).val < (BitVec.ofNat 32 (grid0.coords t 0).val).toNat * 1 + 1
    rw [seq_word t, c0]; omega
  | ⟨1, _⟩ =>
    show 0 * 512 ≤ (i 1).val ∧ (i 1).val < 0 * 512 + 512
    omega
  | ⟨2, _⟩ =>
    show 0 * 512 ≤ (i 2).val ∧ (i 2).val < 0 * 512 + 512
    omega

/-- So the array ends holding it. -/
theorem final (c : Dev nD) : (dats m 0 c).arrAt 19 cfg0.N = result m c :=
  (dats m 0 c).arrAt_eq_of_cover 19 (result m c) (fun t _ => flushed_eq m c t) cover

end Cert.Kernel11Ideal.Compress

end
-- ==== Proof.CompressValuesClaims.lean ====
/- The values of the first attention, compressed: the reference at an index, and the claims. -/
module

public import proofs.«01_k».proof.Defs
public import proofs.«01_k».proof.Proof.Gen.Kernel11.Frame
public import proofs.«01_k».proof.Proof.Gen.Reference11Ideal.Read
public import proofs.«01_k».proof.Proof.Gen.On_whole_blocks
public import proofs.«01_k».proof.Proof.CompressValues
public import Idealize.ShloMosaic.Lib.TwoAxisContraction
public import Idealize.ShloMosaic.Lib.StableHlo.Predicate

@[expose] public section

set_option maxRecDepth 16384

noncomputable section

namespace Cert.Proof.CompressValues

open Idealize.ShloMosaic Idealize.SL.Sem Cert.Reference11Ideal Cert.Reference11Ideal.Read
open Cert.Kernel11Ideal.Compress (tokenRow valueCol termAt sumAt valueAt actOf nextRow headCol)

theorem frame_kernel : Cert.quiescent_Kernel11 := fun m ρ _ => Cert.Kernel11.Gen.frame m ρ
theorem frame_kernelIdeal : Cert.quiescent_Kernel11Ideal := fun m ρ _ => Cert.Kernel11Ideal.Gen.frame m ρ

/-- The reference ends for every launch memory, with its arguments unchanged and every semaphore at zero. -/
theorem frame_reference : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)

/-- A word below 8192 is not negative, so the wrap leaves it. -/
theorem wrap_keeps (n : Nat) (h : n < 8192) :
    (Scalar.select (IntOp.cmpi .slt (BitVec.ofNat 32 n) 0#32) (IntOp.addi (BitVec.ofNat 32 n) 8192#32) (BitVec.ofNat 32 n)).toInt.toNat = n := by
  have ht : (BitVec.ofNat 32 n).toInt = (n : Int) := by
    rw [BitVec.toInt_ofNat']
    exact Int.bmod_eq_of_le (by omega) (by omega)
  have hs : (BitVec.ofNat 32 n).slt 0#32 = false := by
    rw [BitVec.slt, ht]
    simp
  have hc : IntOp.cmpi .slt (BitVec.ofNat 32 n) 0#32 = 0#1 := by
    show BitVec.ofBool ((BitVec.ofNat 32 n).slt 0#32) = 0#1
    rw [hs]; rfl
  rw [hc]
  show (BitVec.ofNat 32 n).toInt.toNat = n
  rw [ht]; rfl

/-- The token that position `l` of block `i` names. -/
theorem position (i : Fin 511) (l : Fin 32) : (val_main_v16 (F := Ideal) (ix3 i l (0 : Fin 1))).toInt.toNat = i.val * 16 + l.val := by
  rw [val_main_v16_apply, val_main_v15_apply, val_main_v12_apply, val_main_v14_apply, val_main_v11_apply, val_main_c_0_apply, val_main_v13_apply, val_main_c_1_apply]
  have e : val_main_v10 (F := Ideal) (idx_main_v16 (ix3 i l (0 : Fin 1))) = BitVec.ofNat 32 (i.val * 16 + l.val) := by
    rw [val_main_v10_apply, val_main_v8_apply, val_main_v9_apply, val_main_v5_apply, val_main_v7_apply, val_main_v6_apply, val_main_v3_apply, val_main_v2_apply, val_main_v4_apply, val_main_c_apply]
    show BitVec.ofNat 32 i.val * BitVec.ofNat 32 16 + BitVec.ofNat 32 l.val = _
    rw [← BitVec.ofNat_mul, ← BitVec.ofNat_add]
  rw [e]
  exact wrap_keeps _ (by omega)

/-- The token `l` of block `i` in sequence `b`. -/
abbrev takenRow (i : Fin 511) (l : Fin 32) : Fin 8192 := ⟨i.val * 16 + l.val, by omega⟩

/-- The tokens that the reference takes for its blocks. -/
theorem taken (x0 : (⟨S16384x5120, .f32⟩ : BufTy).Contents (Elt Ideal)) (b : Fin 2) (i : Fin 511) (l : Fin 32) (g : Fin 4) (d : Fin 128) :
    val_main_v17 (F := Ideal) x0 (ix5 b i l g d) = val_main_v1 (F := Ideal) x0 (ix4 b (takenRow i l) g d) := by
  unfold val_main_v17 Host.gather
  refine congrArg (val_main_v1 (F := Ideal) x0) (funext fun a => Fin.ext ?_)
  show gather_S2x8192x4x128_S511x32x1_S2x511x32x4x128_034_1_n_n_1_2_214128.start (ix5 b i l g d) (val_main_v16 (F := Ideal)) a
    + gather_S2x8192x4x128_S511x32x1_S2x511x32x4x128_034_1_n_n_1_2_214128.batchCoord (ix5 b i l g d) a
    + gather_S2x8192x4x128_S511x32x1_S2x511x32x4x128_034_1_n_n_1_2_214128.offCoord (ix5 b i l g d) a = _
  rw [GatherDims.batchCoord_eq_zero _ _ _ List.not_mem_nil, Nat.add_zero]
  have h0123 : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h0123 with rfl | rfl | rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : gather_S2x8192x4x128_S511x32x1_S2x511x32x4x128_034_1_n_n_1_2_214128.siIdx (ix5 b i l g d) ⟨List.idxOf (1 : Fin 4) gather_S2x8192x4x128_S511x32x1_S2x511x32x4x128_034_1_n_n_1_2_214128.startIndexMap,
        List.idxOf_lt_length_iff.2 (by decide)⟩ = ix3 i l (0 : Fin 1) := by
      funext c; refine Fin.ext ?_
      match c with
      | ⟨0, _⟩ => rfl
      | ⟨1, _⟩ => rfl
      | ⟨2, _⟩ => rfl
    rw [hsi, position]
    show min (i.val * 16 + l.val) (8192 - 1) = i.val * 16 + l.val
    omega
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-- A token with its position's row added. -/
theorem placed (x0 : (⟨S16384x5120, .f32⟩ : BufTy).Contents (Elt Ideal)) (x1 : (⟨S32x128, .f32⟩ : BufTy).Contents (Elt Ideal)) (b : Fin 2) (i : Fin 511) (l : Fin 32) (g : Fin 4) (d : Fin 128)
    (r : Fin 16384) (hr : r.val = b.val * 8192 + (i.val * 16 + l.val)) :
    val_main_v21 (F := Ideal) x0 x1 (ix5 b i l g d) = x0 (ix2 r (valueCol g d)) + x1 (ix2 l d) := by
  rw [val_main_v21_apply, taken, val_main_v1_apply, val_main_v0_apply, val_main_v20_apply, val_main_v19_apply, val_main_v18_apply]
  have e0 : idx_main_v0 (idx_main_v1 (ix4 b (takenRow i l) g d)) = ix2 r (valueCol g d) := funext fun a => Fin.ext (by
    match a with
    | ⟨0, _⟩ => show (((b.val * 8192 + (i.val * 16 + l.val)) * 4 + g.val) * 128 + d.val) / 512 = r.val; omega
    | ⟨1, _⟩ => show 2560 + (((b.val * 8192 + (i.val * 16 + l.val)) * 4 + g.val) * 128 + d.val) % 512 = 2560 + (g.val * 128 + d.val); omega)
  have e1 : idx_main_v18 (idx_main_v19 (idx_main_v20 (ix5 b i l g d))) = ix2 l d := funext fun a => Fin.ext (match a with
    | ⟨0, _⟩ => rfl
    | ⟨1, _⟩ => rfl)
  rw [e0, e1]
  rfl

/-- The product over positions and columns at once. -/
theorem product (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (b : Fin 2) (i : Fin 511) (g : Fin 4) (e : Fin 128) :
    val_main_v22 (F := Ideal) x0 x1 x2 (ix4 b i g e) = ∑ d : Fin 128, ∑ l : Fin 32, val_main_v21 (F := Ideal) x0 x1 (ix5 b i l g d) * x2 (ix3 l d e) := by
  unfold val_main_v22
  generalize val_main_v21 (F := Ideal) x0 x1 = y
  simp only [Host.dotGeneral]
  rw [Ideal.dotGeneral_apply, ValueIdx.sum_contr2 dot_S2x511x32x4x128_S32x128x128_S2x511x4x128_42_10_013_2_n_n 128 32 rfl rfl rfl]
  refine Finset.sum_congr rfl fun d _ => Finset.sum_congr rfl fun l _ => ?_
  have h0 := ValueIdx.contrEquiv2_symm_val0 dot_S2x511x32x4x128_S32x128x128_S2x511x4x128_42_10_013_2_n_n 128 32 rfl rfl rfl (d, l)
  have h1 := ValueIdx.contrEquiv2_symm_val1 dot_S2x511x32x4x128_S32x128x128_S2x511x4x128_42_10_013_2_n_n 128 32 rfl rfl rfl (d, l)
  have el : dot_S2x511x32x4x128_S32x128x128_S2x511x4x128_42_10_013_2_n_n.lhsIdx (ix4 b i g e) ((ValueIdx.contrEquiv2 dot_S2x511x32x4x128_S32x128x128_S2x511x4x128_42_10_013_2_n_n 128 32 rfl rfl rfl).symm (d, l)) = ix5 b i l g d := by
    funext a; apply Fin.ext
    match a with
    | ⟨0, _⟩ => rfl
    | ⟨1, _⟩ => rfl
    | ⟨2, _⟩ => exact h1
    | ⟨3, _⟩ => rfl
    | ⟨4, _⟩ => exact h0
  have er : dot_S2x511x32x4x128_S32x128x128_S2x511x4x128_42_10_013_2_n_n.rhsIdx (ix4 b i g e) ((ValueIdx.contrEquiv2 dot_S2x511x32x4x128_S32x128x128_S2x511x4x128_42_10_013_2_n_n 128 32 rfl rfl rfl).symm (d, l)) = ix3 l d e := by
    funext a; apply Fin.ext
    match a with
    | ⟨0, _⟩ => exact h1
    | ⟨1, _⟩ => exact h0
    | ⟨2, _⟩ => rfl
  rw [el, er]

/-- A block's sum: sixteen tokens of its own, sixteen of the next. -/
theorem ref_sum (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (b : Fin 2) (i : Fin 511) (g : Fin 4) (e : Fin 128) :
    val_main_v22 (F := Ideal) x0 x1 x2 (ix4 b i g e) = sumAt x0 x1 x2 b ⟨i.val, by omega⟩ g e := by
  rw [product, Finset.sum_comm]
  unfold sumAt termAt
  refine (Fin.sum_univ_add (a := 16) (b := 16) (fun l : Fin 32 => ∑ d : Fin 128, val_main_v21 (F := Ideal) x0 x1 (ix5 b i l g d) * x2 (ix3 l d e))).trans ?_
  refine congrArg₂ _ (Finset.sum_congr rfl fun l _ => Finset.sum_congr rfl fun d _ => congrArg₂ _ ?_ rfl) (Finset.sum_congr rfl fun l _ => Finset.sum_congr rfl fun d _ => congrArg₂ _ ?_ rfl)
  · exact placed x0 x1 b i _ g d (tokenRow b ⟨i.val, by omega⟩ l) (by show (b.val * 512 + i.val) * 16 + l.val = b.val * 8192 + (i.val * 16 + l.val); omega)
  · exact placed x0 x1 b i _ g d (tokenRow b (nextRow ⟨i.val, by omega⟩) l) (by show (b.val * 512 + (i.val + 1) % 512) * 16 + l.val = b.val * 8192 + (i.val * 16 + (16 + l.val)); omega)

/-- The activation of a sum. -/
theorem ref_act (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (j : S2x511x4x128.Idx) :
    val_main_v35 (F := Ideal) x0 x1 x2 j = actOf (val_main_v22 (F := Ideal) x0 x1 x2 j) := by
  rw [val_main_v35_apply, val_main_v34_apply, val_main_v33_apply, val_main_cst_4_apply, val_main_v32_apply, val_main_v31_apply, val_main_cst_3_apply, val_main_v30_apply, val_main_v29_apply, val_main_v28_apply,
    val_main_cst_2_apply, val_main_v27_apply, val_main_v26_apply, val_main_v25_apply, val_main_cst_apply, val_main_v24_apply, val_main_v23_apply]
  generalize val_main_v22 (F := Ideal) x0 x1 x2 j = v
  unfold actOf
  rw [mul_comm _ v, mul_assoc]
  rfl

/-- The reference's result in a row that holds a whole block. -/
theorem ref_apply (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (x3 : (⟨S128x128, .f32⟩ : BufTy).Contents (Elt Ideal))
    (b : Fin 2) (p : Fin 512) (hp : p.val < 511) (g : Fin 4) (q : Fin 128) :
    val_main_v39 (F := Ideal) x0 x1 x2 x3 (ix3 b p (headCol g q)) = valueAt x0 x1 x2 x3 b p g q := by
  rw [val_main_v39_apply]
  show val_main_v38 (F := Ideal) x0 x1 x2 x3 (ix3 b p (headCol g q)) = _
  unfold val_main_v38
  refine (pad_apply_of_inside _ _ _ _ _ _ _ (ix3 b p (headCol g q)) (ix3 b (⟨p.val, hp⟩ : Fin 511) (headCol g q)) (fun a => match a with
    | ⟨0, _⟩ => by show b.val = 0 + b.val * (0 + 1); omega
    | ⟨1, _⟩ => by show p.val = 0 + p.val * (0 + 1); omega
    | ⟨2, _⟩ => by show (headCol g q).val = 0 + (headCol g q).val * (0 + 1); omega)).trans ?_
  have e : idx_main_v37 (ix3 b (⟨p.val, hp⟩ : Fin 511) (headCol g q)) = ix4 b (⟨p.val, hp⟩ : Fin 511) g q := funext fun a => Fin.ext (by
    match a with
    | ⟨0, _⟩ => show ((b.val * 511 + p.val) * 512 + (g.val * 128 + q.val)) / 261632 = b.val; omega
    | ⟨1, _⟩ => show ((b.val * 511 + p.val) * 512 + (g.val * 128 + q.val)) / 512 % 511 = p.val; omega
    | ⟨2, _⟩ => show ((b.val * 511 + p.val) * 512 + (g.val * 128 + q.val)) / 128 % 4 = g.val; omega
    | ⟨3, _⟩ => show ((b.val * 511 + p.val) * 512 + (g.val * 128 + q.val)) % 128 = q.val; omega)
  rw [val_main_v37_apply, e, val_main_v36_apply]
  unfold valueAt
  refine Finset.sum_congr rfl fun k _ => congrArg₂ _ ?_ ?_
  · have el : lidx_main_v36 (ix4 b (⟨p.val, hp⟩ : Fin 511) g q) k = ix4 b (⟨p.val, hp⟩ : Fin 511) g k := funext fun a => Fin.ext (match a with | ⟨0, _⟩ => rfl | ⟨1, _⟩ => rfl | ⟨2, _⟩ => rfl | ⟨3, _⟩ => rfl)
    rw [el, ref_act, ref_sum]
  · exact congrArg x3 (funext fun a => Fin.ext (match a with | ⟨0, _⟩ => rfl | ⟨1, _⟩ => rfl))

/-- The mask is set exactly in the rows before the last. -/
theorem mask_iff (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (x3 : (⟨S128x128, .f32⟩ : BufTy).Contents (Elt Ideal)) (i : S2x512x512.Idx) :
    Cert.On_whole_blocks.fn (F := Ideal) x0 x1 x2 x3 i = 1#1 ↔ (i 1).val < 511 := by
  have key : ∀ r : Fin 512, IntOp.cmpi .slt (BitVec.ofNat 32 r.val) 511#32 = 1#1 ↔ r.val < 511 := by decide
  exact key (i 1)

/-- Both leave the same values in every row that holds a whole block. -/
theorem algebraic : Cert.algebraic_Kernel11Ideal_Reference11Ideal_on_whole_blocks := by
  intro m ρ m' ρ' _ hagree
  refine ⟨fun c => Cert.Kernel11Ideal.Compress.result m c,
    (θ_run Cert.Kernel11Ideal.defs _ _).mono (fun _ h c => ⟨fun i _ => congrFun (((h c).1).trans (Cert.Kernel11Ideal.Compress.final m c)) i, (h c).2⟩) (Cert.Kernel11Ideal.Value.run_blocks (F := Ideal) m ρ),
    (θ_run Cert.Reference11Ideal.defs _ _).mono (fun _ h c => ⟨fun i hi => (congrFun ((h c).1) i).trans ?_, (h c).2⟩) (Cert.Reference11Ideal.Value.run (F := Ideal) m' ρ')⟩
  rw [Cert.Reference11Ideal.Read.val_main_v39_eq]
  obtain ⟨h0, h1, h2, h3⟩ := hagree c
  have hp := (mask_iff _ _ _ _ i).mp hi
  have h2' : (i 2).val < 512 := (i 2).isLt
  obtain ⟨g, q, hgq⟩ : ∃ (g : Fin 4) (q : Fin 128), (i 2).val = g.val * 128 + q.val :=
    ⟨⟨(i 2).val / 128, by omega⟩, ⟨(i 2).val % 128, Nat.mod_lt _ (by decide)⟩, by show (i 2).val = (i 2).val / 128 * 128 + (i 2).val % 128; omega⟩
  obtain ⟨b, p, rfl⟩ : ∃ (b : Fin 2) (p : Fin 512), i = ix3 b p (headCol g q) := ⟨i 0, i 1, Cert.Kernel11Ideal.Compress.idx3_ext i (i 0) (i 1) (headCol g q) rfl rfl hgq⟩
  refine (ref_apply _ _ _ _ b p hp g q).trans ?_
  rw [h0, h1, h2, h3]
  exact (Cert.Kernel11Ideal.Compress.result_apply m c (ix3 b p (headCol g q)) b p g q rfl rfl rfl).symm

end Cert.Proof.CompressValues

end
-- ==== Proof.Gate.lean ====
/- The logits of the first attention's gates: what a block of the result holds, and then the whole array. -/
module

public import proofs.«01_k».proof.Proof.Gen.Kernel12Ideal.Value
public import Idealize.ShloMosaic.Lib.Pointwise
public import Idealize.ShloMosaic.Lib.KernelVsHost
public import Idealize.ShloMosaic.Lib.Pipeline.ValueKit.Basic
public import Idealize.ShloMosaic.Lib.Pipeline.Covers
public import Idealize.ShloMosaic.Lib.StableHlo.Predicate

@[expose] public section

set_option maxRecDepth 16384

noncomputable section

namespace Cert.Kernel12Ideal.Gate

open Cert.Kernel12Ideal Cert.Kernel12Ideal.Gen
open Idealize.ShloMosaic Idealize.ShloMosaic.TcCoe
open Idealize.ShloMosaic.Pipeline (Dat Cfg Window)

/-- Column `q` of the matrix that the launch multiplies by: in each key head's 128 columns first the logits, one branch after the
    other, then zeros. -/
def colAt (w : S2048x5168.Idx → EReal) (k : Fin 2048) (q : Fin 512) : EReal :=
  if h : q.val % 128 < 12 then w (ix2 k ⟨5120 + (q.val / 128 * 12 + q.val % 128 % 4 * 3 + q.val % 128 / 4), by omega⟩) else 0

/-- The product's column. -/
def logitAt (x : S16384x2048.Idx → EReal) (w : S2048x5168.Idx → EReal) (r : Fin 16384) (q : Fin 512) : EReal :=
  ∑ k : Fin 2048, x (ix2 r k) * colAt w k q

/-- One block from its three operands. -/
theorem pay_apply (x0 : Vec Ideal S512x2048 .bf16) (x1 : Vec Ideal S2048x512 .bf16) (x2 : Vec Ideal S1x512 .f32) (p : Fin 512) (q : Fin 512) :
    k0_pay1 (F := Ideal) x0 x1 x2 (ix2 p q) = (∑ k : Fin 2048, x0 (ix2 p k) * x1 (ix2 k q)) * x2 (ix2 0 q) := by
  pointwise [k0_pay1]

/-- The same where the operands are known to be rows and columns of arrays, and the scale to be one. -/
theorem pay_of (x0 : Vec Ideal S512x2048 .bf16) (x1 : Vec Ideal S2048x512 .bf16) (x2 : Vec Ideal S1x512 .f32)
    (x : S16384x2048.Idx → EReal) (w : S2048x5168.Idx → EReal) (p : Fin 512) (q : Fin 512) (r : Fin 16384) (q' : Fin 512)
    (h0 : ∀ k, x0 (ix2 p k) = x (ix2 r k)) (h1 : ∀ k, x1 (ix2 k q) = colAt w k q') (h2 : x2 (ix2 0 q) = (1 : EReal)) :
    k0_pay1 (F := Ideal) x0 x1 x2 (ix2 p q) = logitAt x w r q' := by
  refine (pay_apply x0 x1 x2 p q).trans ?_
  rw [h2, mul_one]
  unfold logitAt
  exact Finset.sum_congr rfl fun k _ => congrArg₂ _ (h0 k) (h1 k)

/-- What the body stores is that block. -/
theorem out_eq (x0 : Vec Ideal S512x2048 .bf16) (x1 : Vec Ideal S2048x512 .bf16) (x2 : Vec Ideal S1x512 .f32) : out0_3 (F := Ideal) x0 x1 x2 = k0_pay1 x0 x1 x2 := by
  unfold out0_3
  refine (View.canon_unit_zero (by decide) _ _).trans ?_
  exact congr (congrArg₂ k0_pay1 (View.ld_unit_zero (by decide) _ x0) (View.ld_unit_zero (by decide) _ x1)) (View.ld_unit_zero (by decide) _ x2)

variable (m : (ℓ : Loc nD τ sig) → Buf (Elt Ideal) ℓ)

theorem V_rows (c : Dev nD) : (V m c main_v8 : S16384x2048.Idx → EReal) = m ((c : Thread nD τ).loc main_arg0) := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.ternary, StableHlo.TRef.toBuf, StableHlo.TRef.ofBuf, cast_eq]
  after_results_simp <;> rfl

/-- The marks of the columns that hold a logit, -/
abbrev marks : S512.Idx → BitVec 1 := fun i => lit0 (S512.rowMajor i)
/-- and the columns that they come from. -/
abbrev places : S512.Idx → BitVec 32 := fun i => lit1 (S512.rowMajor i)

theorem mark_iff : ∀ q : Fin 512, lit0 q = 1 ↔ q.val % 128 < 12 := by decide +kernel
theorem place_eq : ∀ q : Fin 512, q.val % 128 < 12 → (lit1 q).toInt.toNat = q.val / 128 * 12 + q.val % 128 % 4 * 3 + q.val % 128 / 4 := by decide +kernel

theorem at_column (q : Fin 512) : (S512.rowMajor (ix1 q) : Fin 512) = q := Fin.ext (Shape.rowMajor_val_one _)

/-- The columns that the gather takes, at an index. -/
theorem taken (x : S2048x48.Idx → EReal) (e : S512x1.Idx → BitVec 32) (k : Fin 2048) (q : Fin 512) (n : Fin 48) (hn : (e (ix2 q (0 : Fin 1))).toInt.toNat = n.val) :
    (Host.gather gather_S2048x48_S512x1_S2048x512_0_1_n_n_1_1_20481 x e : S2048x512.Idx → EReal) (ix2 k q) = x (ix2 k n) := by
  unfold Host.gather
  refine congrArg x (funext fun a => Fin.ext ?_)
  show gather_S2048x48_S512x1_S2048x512_0_1_n_n_1_1_20481.start (ix2 k q) e a
    + gather_S2048x48_S512x1_S2048x512_0_1_n_n_1_1_20481.batchCoord (ix2 k q) a
    + gather_S2048x48_S512x1_S2048x512_0_1_n_n_1_1_20481.offCoord (ix2 k q) a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : gather_S2048x48_S512x1_S2048x512_0_1_n_n_1_1_20481.siIdx (ix2 k q) ⟨List.idxOf (1 : Fin 2) gather_S2048x48_S512x1_S2048x512_0_1_n_n_1_1_20481.startIndexMap,
        List.idxOf_lt_length_iff.2 (by decide)⟩ = ix2 q (0 : Fin 1) := by
      funext c; refine Fin.ext ?_
      match c with
      | ⟨0, _⟩ => rfl
      | ⟨1, _⟩ => rfl
    rw [hsi, hn]
    show min n.val (48 - 1) = n.val
    omega

/-- The matrix that the host code makes, at an index. -/
theorem cols_apply (w : S2048x5168.Idx → EReal) (k : Fin 2048) (q : Fin 512) :
    (select (broadcastInDim S2048x512 ![1] bcast_S512_S2048x512_1 marks)
      (Host.gather gather_S2048x48_S512x1_S2048x512_0_1_n_n_1_1_20481 (extractStridedSlice S2048x48 ![0, 5120] w slices_S2048x5168_S2048x48_0_5120)
        (broadcastInDim S512x1 ![0] bcast_S512_S512x1_0 (select (constantI S512 1 0#1) (addi places (broadcastInDim S512 ![] bcast_S_S512 (constantI S_ 32 48#32))) places)))
      (broadcastInDim S2048x512 ![] bcast_S_S2048x512 (constant (F := Ideal) S_ .f32 0x00000000#32)) : S2048x512.Idx → EReal) (ix2 k q) = colAt w k q := by
  have hm : broadcastInDim S2048x512 ![1] bcast_S512_S2048x512_1 marks (ix2 k q) = lit0 q :=
    (broadcastInDim_apply _ bcast_S512_S2048x512_1 marks (ix2 k q) (ix1 q) (fun a => match a with
      | ⟨0, _⟩ => by show q.val = if (512 : Nat) = 1 then 0 else q.val; rw [if_neg (by decide)])).trans (congrArg lit0 (at_column q))
  have hp : broadcastInDim S512x1 ![0] bcast_S512_S512x1_0 (select (constantI S512 1 0#1) (addi places (broadcastInDim S512 ![] bcast_S_S512 (constantI S_ 32 48#32))) places) (ix2 q (0 : Fin 1)) = lit1 q := by
    refine (broadcastInDim_apply _ bcast_S512_S512x1_0 _ (ix2 q (0 : Fin 1)) (ix1 q) (fun a => match a with
      | ⟨0, _⟩ => by show q.val = if (512 : Nat) = 1 then 0 else q.val; rw [if_neg (by decide)])).trans ?_
    show Scalar.select (0#1) _ (lit1 (S512.rowMajor (ix1 q))) = lit1 q
    exact congrArg lit1 (at_column q)
  show Scalar.select (broadcastInDim S2048x512 ![1] bcast_S512_S2048x512_1 marks (ix2 k q)) _ _ = _
  rw [hm]
  unfold colAt Scalar.select
  by_cases h : q.val % 128 < 12
  · rw [dif_pos h, if_pos ((mark_iff q).mpr h)]
    refine (taken _ _ k q ⟨q.val / 128 * 12 + q.val % 128 % 4 * 3 + q.val % 128 / 4, by omega⟩ ((congrArg (fun z : BitVec 32 => z.toInt.toNat) hp).trans (place_eq q h))).trans ?_
    exact congrArg w (funext fun a => Fin.ext (match a with
      | ⟨0, _⟩ => Nat.zero_add _
      | ⟨1, _⟩ => rfl))
  · rw [dif_neg h, if_neg (fun hc => h ((mark_iff q).mp hc))]
    exact Ideal.ofBits_zero_f32

theorem V_cols (c : Dev nD) (k : Fin 2048) (q : Fin 512) : (V m c main_v7 : S2048x512.Idx → EReal) (ix2 k q) = colAt (m ((c : Thread nD τ).loc main_arg1)) k q := by
  have e : (V m c main_v7 : S2048x512.Idx → EReal) = select (broadcastInDim S2048x512 ![1] bcast_S512_S2048x512_1 marks)
      (Host.gather gather_S2048x48_S512x1_S2048x512_0_1_n_n_1_1_20481 (extractStridedSlice S2048x48 ![0, 5120] (m ((c : Thread nD τ).loc main_arg1) : S2048x5168.Idx → EReal) slices_S2048x5168_S2048x48_0_5120)
        (broadcastInDim S512x1 ![0] bcast_S512_S512x1_0 (select (constantI S512 1 0#1) (addi places (broadcastInDim S512 ![] bcast_S_S512 (constantI S_ 32 48#32))) places)))
      (broadcastInDim S2048x512 ![] bcast_S_S2048x512 (constant (F := Ideal) S_ .f32 0x00000000#32)) := by
    show StableHlo.after _ _ _ = _
    simp only [hostOps0, hostOps0_1, hostOps0_2, List.flatten_cons, List.flatten_nil, List.append_nil, List.cons_append, List.nil_append,
      StableHlo.TRef.unary, StableHlo.TRef.binary, StableHlo.TRef.ternary, StableHlo.TRef.toBuf, StableHlo.TRef.ofBuf, cast_eq]
    after_results_simp <;> rfl
  exact (congrFun e _).trans (cols_apply _ k q)

/-- The row of scales that the launch finds: ones. -/
theorem V_scale (c : Dev nD) (q : Fin 512) : (V m c main_v10 : S1x512.Idx → EReal) (ix2 0 q) = (1 : EReal) := by
  have e : (V m c main_v10 : S1x512.Idx → EReal) = shapeCast S1x512 (broadcastInDim S512 ![] bcast_S_S512 (constant (F := Ideal) S_ .f32 0x3F800000#32)) shapeCasts_S512_S1x512 := by
    show StableHlo.after _ _ _ = _
    simp only [hostOps0, hostOps0_1, hostOps0_2, List.flatten_cons, List.flatten_nil, List.append_nil, List.cons_append, List.nil_append,
      StableHlo.TRef.unary, StableHlo.TRef.binary, StableHlo.TRef.ternary, StableHlo.TRef.toBuf, StableHlo.TRef.ofBuf, cast_eq]
    after_results_simp <;> rfl
  exact (congrFun e _).trans Ideal.ofBits_one_f32

/-- The row of the array at row `p` of point `t`'s block, -/
abbrev outRow (t : Fin cfg0.N) (p : Fin 512) : Fin 16384 := ⟨(grid0.coords t 0).val * 512 + p.val, by have h : (grid0.coords t 0).val < 32 := (grid0.coords t 0).isLt; omega⟩
/-- and the column of the array at column `q`. -/
abbrev outCol (t : Fin cfg0.N) (q : Fin 512) : Fin 512 := ⟨(grid0.coords t 1).val * 512 + q.val, by have h : (grid0.coords t 1).val < 1 := (grid0.coords t 1).isLt; omega⟩

theorem row_word (t : Fin cfg0.N) : (BitVec.ofNat 32 (grid0.coords t 0).val).toNat = (grid0.coords t 0).val := by
  have h : (grid0.coords t 0).val < 32 := (grid0.coords t 0).isLt
  rw [BitVec.toNat_ofNat, Nat.mod_eq_of_lt (by omega)]
theorem col_word (t : Fin cfg0.N) : (BitVec.ofNat 32 (grid0.coords t 1).val).toNat = (grid0.coords t 1).val := by
  have h : (grid0.coords t 1).val < 1 := (grid0.coords t 1).isLt
  rw [BitVec.toNat_ofNat, Nat.mod_eq_of_lt (by omega)]

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)

/-- The block of rows that point `t` reads. -/
theorem rows_blk (c : Dev nD) (t : Fin cfg0.N) (p : Fin 512) (k : Fin 2048) :
    (iblk m c 0 t : Vec Ideal S512x2048 .bf16) (ix2 p k) = (m ((c : Thread nD τ).loc main_arg0) : S16384x2048.Idx → EReal) (ix2 (outRow t p) k) := by
  show V m c main_v8 ((((cfg0).win 0).rect t).emb (ix2 p k)) = _
  refine (congrFun (V_rows m c) _).trans ?_
  have e0 : ((((cfg0).win 0).rect t).emb (ix2 p k) (0 : Fin 2) : Nat) = (outRow t p).val :=
    (((cfg0).win 0).rect_emb_val t (ix2 p k) (0 : Fin 2)).trans (by show (BitVec.ofNat 32 (grid0.coords t 0).val).toNat * 512 + p.val = (grid0.coords t 0).val * 512 + p.val; rw [row_word])
  have e1 : ((((cfg0).win 0).rect t).emb (ix2 p k) (1 : Fin 2) : Nat) = k.val :=
    (((cfg0).win 0).rect_emb_val t (ix2 p k) (1 : Fin 2)).trans (by show 0 * 2048 + k.val = k.val; omega)
  exact congrArg _ (idx2_ext _ _ _ e0 e1)

/-- The block of columns. -/
theorem cols_blk (c : Dev nD) (t : Fin cfg0.N) (k : Fin 2048) (q : Fin 512) :
    (iblk m c 1 t : Vec Ideal S2048x512 .bf16) (ix2 k q) = colAt (m ((c : Thread nD τ).loc main_arg1)) k (outCol t q) := by
  show V m c main_v7 ((((cfg0).win 1).rect t).emb (ix2 k q)) = _
  have e0 : ((((cfg0).win 1).rect t).emb (ix2 k q) (0 : Fin 2) : Nat) = k.val :=
    (((cfg0).win 1).rect_emb_val t (ix2 k q) (0 : Fin 2)).trans (by show 0 * 2048 + k.val = k.val; omega)
  have e1 : ((((cfg0).win 1).rect t).emb (ix2 k q) (1 : Fin 2) : Nat) = (outCol t q).val :=
    (((cfg0).win 1).rect_emb_val t (ix2 k q) (1 : Fin 2)).trans (by show (BitVec.ofNat 32 (grid0.coords t 1).val).toNat * 512 + q.val = (grid0.coords t 1).val * 512 + q.val; rw [col_word])
  exact (congrArg (V m c main_v7 : S2048x512.Idx → EReal) (idx2_ext _ k (outCol t q) e0 e1)).trans (V_cols m c k (outCol t q))

/-- The block of the scale. -/
theorem scale_blk (c : Dev nD) (t : Fin cfg0.N) (q : Fin 512) :
    (iblk m c 2 t : Vec Ideal S1x512 .f32) (ix2 0 q) = (1 : EReal) := by
  show V m c main_v10 ((((cfg0).win 2).rect t).emb (ix2 (0 : Fin 1) q)) = _
  have e0 : ((((cfg0).win 2).rect t).emb (ix2 (0 : Fin 1) q) (0 : Fin 2) : Nat) = (0 : Fin 1).val :=
    (((cfg0).win 2).rect_emb_val t (ix2 (0 : Fin 1) q) (0 : Fin 2)).trans rfl
  have e1 : ((((cfg0).win 2).rect t).emb (ix2 (0 : Fin 1) q) (1 : Fin 2) : Nat) = (outCol t q).val :=
    (((cfg0).win 2).rect_emb_val t (ix2 (0 : Fin 1) q) (1 : Fin 2)).trans (by show (BitVec.ofNat 32 (grid0.coords t 1).val).toNat * 512 + q.val = (grid0.coords t 1).val * 512 + q.val; rw [col_word])
  exact (congrArg (V m c main_v10 : S1x512.Idx → EReal) (idx2_ext _ (0 : Fin 1) (outCol t q) e0 e1)).trans (V_scale m c (outCol t q))

/-- The array the kernel leaves. -/
def result (c : Dev nD) : S16384x512.Idx → EReal := fun i =>
  logitAt (m ((c : Thread nD τ).loc main_arg0)) (m ((c : Thread nD τ).loc main_arg1)) (i 0) (i 1)

/-- What point `t` stores, at an index of its block. -/
theorem out_apply (c : Dev nD) (t : Fin cfg0.N) (p : Fin 512) (q : Fin 512) :
    (out0_3 (F := Ideal) (iblk m c 0 t) (iblk m c 1 t) (iblk m c 2 t) : Vec Ideal S512x512 .f32) (ix2 p q)
      = logitAt (m ((c : Thread nD τ).loc main_arg0)) (m ((c : Thread nD τ).loc main_arg1)) (outRow t p) (outCol t q) := by
  refine (congrFun (out_eq (iblk m c 0 t) (iblk m c 1 t) (iblk m c 2 t)) _).trans ?_
  exact pay_of (iblk m c 0 t) (iblk m c 1 t) (iblk m c 2 t) _ _ p q _ _ (rows_blk m c t p) (fun k => cols_blk m c t k q) (scale_blk m c t q)

/-- What point `t` writes back is its block of that array. -/
theorem flushed_eq (c : Dev nD) (t : Fin cfg0.N) :
    (dats m 0 c).flushed 3 t = ((cfg0.win 3).blk t).view.read (Elt Ideal) (result m c) := by
  rw [Cert.Kernel12Ideal.Value.flushed3]
  funext y
  revert y
  show ∀ y : S512x512.Idx, (out0_3 (F := Ideal) (iblk m c 0 t) (iblk m c 1 t) (iblk m c 2 t) : Vec Ideal S512x512 .f32) y = result m c (((cfg0.win 3).rect t).emb y)
  intro y
  obtain ⟨p, q, rfl⟩ : ∃ (p : Fin 512) (q : Fin 512), y = ix2 p q := ⟨y 0, y 1, eq_ix2 y⟩
  refine (out_apply m c t p q).trans ?_
  unfold result
  refine congrArg₂ _ (Fin.ext ?_) (Fin.ext ?_)
  · refine Eq.symm (((cfg0.win 3).rect_emb_val t (ix2 p q) (0 : Fin 2)).trans ?_)
    show (BitVec.ofNat 32 (grid0.coords t 0).val).toNat * 512 + p.val = (grid0.coords t 0).val * 512 + p.val
    rw [row_word]
  · refine Eq.symm (((cfg0.win 3).rect_emb_val t (ix2 p q) (1 : Fin 2)).trans ?_)
    show (BitVec.ofNat 32 (grid0.coords t 1).val).toNat * 512 + q.val = (grid0.coords t 1).val * 512 + q.val
    rw [col_word]

/-- The blocks tile the array. -/
theorem cover (i : S16384x512.Idx) : ∃ t : Fin cfg0.N, (cfg0.win 3).flush t = true ∧ i ∈ ((cfg0.win 3).blk t).view.set := by
  have h0 : (i 0).val < 16384 := (i 0).isLt
  have h1 : (i 1).val < 512 := (i 1).isLt
  obtain ⟨t, ht⟩ := grid0.coords_surjective (fun a => match a with
    | ⟨0, _⟩ => ⟨(i 0).val / 512, by show (i 0).val / 512 < 32; omega⟩
    | ⟨1, _⟩ => ⟨(i 1).val / 512, by show (i 1).val / 512 < 1; omega⟩)
  have c0 : (grid0.coords t 0).val = (i 0).val / 512 := congrArg Fin.val (congrFun ht 0)
  have c1 : (grid0.coords t 1).val = (i 1).val / 512 := congrArg Fin.val (congrFun ht 1)
  refine ⟨t, flush0_3 t, ?_⟩
  show i ∈ ((View.whole main_v11).slice ((cfg0.win 3).rect t)).set
  erw [View.set_slice_whole]
  refine (Pipeline.Window.mem_rect_iff (cfg0.win 3) t i (by rfl)).mpr fun a => ?_
  match a with
  | ⟨0, _⟩ =>
    show (BitVec.ofNat 32 (grid0.coords t 0).val).toNat * 512 ≤ (i 0).val ∧ (i 0).val < (BitVec.ofNat 32 (grid0.coords t 0).val).toNat * 512 + 512
    rw [row_word t, c0]; omega
  | ⟨1, _⟩ =>
    show (BitVec.ofNat 32 (grid0.coords t 1).val).toNat * 512 ≤ (i 1).val ∧ (i 1).val < (BitVec.ofNat 32 (grid0.coords t 1).val).toNat * 512 + 512
    rw [col_word t, c1]; omega

/-- So the array ends holding it. -/
theorem final (c : Dev nD) : (dats m 0 c).arrAt 3 cfg0.N = result m c :=
  (dats m 0 c).arrAt_eq_of_cover 3 (result m c) (fun t _ => flushed_eq m c t) cover

end Cert.Kernel12Ideal.Gate

end
-- ==== Proof.GateClaims.lean ====
/- The logits of the first attention's gates: the claims. -/
module

public import proofs.«01_k».proof.Defs
public import proofs.«01_k».proof.Proof.Gen.Kernel12.Frame
public import proofs.«01_k».proof.Proof.Gen.Reference12Ideal.Read
public import proofs.«01_k».proof.Proof.Gate

@[expose] public section

set_option maxRecDepth 16384

noncomputable section

namespace Cert.Proof.Gate

open Idealize.ShloMosaic Idealize.SL.Sem Cert.Reference12Ideal Cert.Reference12Ideal.Read

theorem frame_kernel : Cert.quiescent_Kernel12 := fun m ρ _ => Cert.Kernel12.Gen.frame m ρ
theorem frame_kernelIdeal : Cert.quiescent_Kernel12Ideal := fun m ρ _ => Cert.Kernel12Ideal.Gen.frame m ρ

/-- The reference ends for every launch memory, with its arguments unchanged and every semaphore at zero. -/
theorem frame_reference : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)

/-- The integer zero as a real. -/
theorem zero_apply (i : S_.Idx) : sitofp (F := Ideal) .f32 (constantI S_ 32 0#32) i = (0 : EReal) := by
  show (((0#32 : BitVec 32).toInt : ℝ) : EReal) = 0
  simp

/-- The logits in the order of the branches: head `g`, place `s`. -/
theorem ref_ordered (x0 : (⟨S16384x2048, .f32⟩ : BufTy).Contents (Elt Ideal)) (x1 : (⟨S2048x5168, .f32⟩ : BufTy).Contents (Elt Ideal)) (r : Fin 16384) (g : Fin 4) (s : Fin 12) (n : Fin 5168)
    (hn : n.val = 5120 + (g.val * 12 + s.val % 4 * 3 + s.val / 4)) :
    val_main_v4 (F := Ideal) x0 x1 (ix3 r g s) = ∑ k : Fin 2048, x0 (ix2 r k) * x1 (ix2 k n) := by
  have e4 : idx_main_v4 (ix3 r g s) = ix4 r g (⟨s.val / 4, by omega⟩ : Fin 3) (⟨s.val % 4, by omega⟩ : Fin 4) := funext fun a => Fin.ext (by
    match a with
    | ⟨0, _⟩ => show ((r.val * 4 + g.val) * 12 + s.val) / 48 = r.val; omega
    | ⟨1, _⟩ => show ((r.val * 4 + g.val) * 12 + s.val) / 12 % 4 = g.val; have t : ((r.val * 4 + g.val) * 12 + s.val) / 12 = r.val * 4 + g.val := by omega
                rw [t]; omega
    | ⟨2, _⟩ => show ((r.val * 4 + g.val) * 12 + s.val) / 4 % 3 = s.val / 4; have t : ((r.val * 4 + g.val) * 12 + s.val) / 4 = (r.val * 4 + g.val) * 3 + s.val / 4 := by omega
                rw [t]; omega
    | ⟨3, _⟩ => show ((r.val * 4 + g.val) * 12 + s.val) % 4 = s.val % 4; omega)
  have e3 : idx_main_v3 (ix4 r g (⟨s.val / 4, by omega⟩ : Fin 3) (⟨s.val % 4, by omega⟩ : Fin 4)) = ix4 r g (⟨s.val % 4, by omega⟩ : Fin 4) (⟨s.val / 4, by omega⟩ : Fin 3) := funext fun a => Fin.ext (match a with
    | ⟨0, _⟩ => rfl
    | ⟨1, _⟩ => rfl
    | ⟨2, _⟩ => rfl
    | ⟨3, _⟩ => rfl)
  have e2 : idx_main_v1 (idx_main_v2 (ix4 r g (⟨s.val % 4, by omega⟩ : Fin 4) (⟨s.val / 4, by omega⟩ : Fin 3))) = ix2 r n := funext fun a => Fin.ext (by
    match a with
    | ⟨0, _⟩ => show (((r.val * 4 + g.val) * 4 + s.val % 4) * 3 + s.val / 4) / 48 = r.val; omega
    | ⟨1, _⟩ => show 5120 + (((r.val * 4 + g.val) * 4 + s.val % 4) * 3 + s.val / 4) % 48 = n.val; omega)
  have el : ∀ k, lidx_main_v0 (ix2 r n) k = ix2 r k := fun k => funext fun a => Fin.ext (match a with | ⟨0, _⟩ => rfl | ⟨1, _⟩ => rfl)
  have er : ∀ k, ridx_main_v0 (ix2 r n) k = ix2 k n := fun k => funext fun a => Fin.ext (match a with | ⟨0, _⟩ => rfl | ⟨1, _⟩ => rfl)
  rw [val_main_v4_apply, e4, val_main_v3_apply, e3, val_main_v2_apply, val_main_v1_apply, e2, val_main_v0_apply]
  simp only [el, er]

/-- The reference's result at an index. -/
theorem ref_apply (x0 : (⟨S16384x2048, .f32⟩ : BufTy).Contents (Elt Ideal)) (x1 : (⟨S2048x5168, .f32⟩ : BufTy).Contents (Elt Ideal)) (r : Fin 16384) (q : Fin 512) :
    val_main_v6 (F := Ideal) x0 x1 (ix2 r q) = Cert.Kernel12Ideal.Gate.logitAt x0 x1 r q := by
  have e6 : idx_main_v6 (ix2 r q) = ix3 r (⟨q.val / 128, by omega⟩ : Fin 4) (⟨q.val % 128, by omega⟩ : Fin 128) := funext fun a => Fin.ext (by
    match a with
    | ⟨0, _⟩ => show (r.val * 512 + q.val) / 512 = r.val; omega
    | ⟨1, _⟩ => show (r.val * 512 + q.val) / 128 % 4 = q.val / 128; omega
    | ⟨2, _⟩ => show (r.val * 512 + q.val) % 128 = q.val % 128; omega)
  rw [val_main_v6_apply, e6]
  unfold val_main_v5 Cert.Kernel12Ideal.Gate.logitAt Cert.Kernel12Ideal.Gate.colAt
  by_cases h : q.val % 128 < 12
  · simp only [dif_pos h]
    refine (pad_apply_of_inside _ _ _ _ _ _ _ _ (ix3 r (⟨q.val / 128, by omega⟩ : Fin 4) (⟨q.val % 128, h⟩ : Fin 12)) (fun a => match a with
      | ⟨0, _⟩ => by show r.val = 0 + r.val * (0 + 1); omega
      | ⟨1, _⟩ => by show q.val / 128 = 0 + q.val / 128 * (0 + 1); omega
      | ⟨2, _⟩ => by show q.val % 128 = 0 + q.val % 128 * (0 + 1); omega)).trans ?_
    exact ref_ordered x0 x1 r _ _ ⟨5120 + (q.val / 128 * 12 + q.val % 128 % 4 * 3 + q.val % 128 / 4), by omega⟩ rfl
  · simp only [dif_neg h]
    refine (pad_apply_of_not_inside _ _ _ _ _ _ _ _ (2 : Fin 3) (fun hin => h ?_)).trans ?_
    · have h3 : (q.val % 128 - 0) / (0 + 1) < 12 := hin.2.2
      omega
    · refine (zero_apply _).trans ?_
      simp only [mul_zero, Finset.sum_const_zero]

/-- Both leave the same array. -/
theorem algebraic : Cert.algebraic_Kernel12Ideal_Reference12Ideal := by
  intro m ρ m' ρ' _ hagree
  refine ⟨fun c => Cert.Kernel12Ideal.Gate.result m c,
    (θ_run Cert.Kernel12Ideal.defs _ _).mono (fun _ h c => ⟨((h c).1).trans (Cert.Kernel12Ideal.Gate.final m c), (h c).2⟩) (Cert.Kernel12Ideal.Value.run_blocks (F := Ideal) m ρ),
    (θ_run Cert.Reference12Ideal.defs _ _).mono (fun _ h c => ⟨((h c).1).trans ?_, (h c).2⟩) (Cert.Reference12Ideal.Value.run (F := Ideal) m' ρ')⟩
  rw [Cert.Reference12Ideal.Read.val_main_v6_eq]
  obtain ⟨h0, h1⟩ := hagree c
  funext i
  obtain ⟨r, q, rfl⟩ : ∃ r q, i = ix2 r q := ⟨i 0, i 1, eq_ix2 i⟩
  refine (ref_apply _ _ r q).trans ?_
  rw [h0, h1]
  rfl

end Cert.Proof.Gate

end
-- ==== Proof.CompressBlock.lean ====
/- The keys of the first attention, compressed: one block of the result, from the blocks that the body reads. -/
module

public import proofs.«01_k».proof.Proof.Gen.Kernel10Ideal.Value
public import Idealize.ShloMosaic.Lib.Pointwise
public import Idealize.ShloMosaic.Lib.KernelVsHost
public import Idealize.ShloMosaic.Lib.Pipeline.ValueKit

@[expose] public section

set_option maxRecDepth 65536

noncomputable section

namespace Cert.Kernel10Ideal.Compress

open Cert.Kernel10Ideal Cert.Kernel10Ideal.Gen
open Idealize.ShloMosaic Idealize.ShloMosaic.TcCoe

section Pieces
variable {F : FTy → Type} [FloatOps F]

/-- One token of every block of sixteen, with its position's row added. -/
def tapIn (x : Vec F S1x512x512 .bf16) (pe : Vec F S1x512 .f32) : FVec F S512x512 .bf16 :=
  truncf .bf16 (addf (extf .f32 (shapeCast S512x512 x shapeCasts_S1x512x512_S512x512) bitsLt_bf16_f32) (broadcastTo S512x512 pe broadcasts_S1x512_S512x512)) bitsLt_bf16_f32

/-- One key head's share of that token, multiplied by its matrix and added to the sum so far. -/
def tap (o : Nat) (h : S512x512.Slices ![0, o] S512x128) (a : FVec F S512x128 .f32) (x : Vec F S1x512x512 .bf16) (pe : Vec F S1x512 .f32) (w : Vec F S1x128x128 .bf16) : FVec F S512x128 .f32 :=
  addf a (matmul dot_S512x128_S128x128_S512x128_1_0_0_1_n_n none (extractStridedSlice S512x128 ![0, o] (tapIn x pe) h) (shapeCast S128x128 w shapeCasts_S1x128x128_S128x128) (constant S512x128 .f32 0x00000000#32))

/-- The sum before the first token. -/
def none_yet : FVec F S512x128 .f32 := broadcast S512x128 (Scalar.ofBits .f32 0x00000000#32 : F .f32)

/-- The two halves of a block's sum, put together. -/
def joined (a b : FVec F S512x128 .f32) : FVec F S512x128 .f32 := addf a (dynamicRotate 0 511#32 none b rotates_S512x128_d0)

/-- The activation of the sum, times the second matrix. -/
def finish (v : FVec F S512x128 .f32) (w2 : Vec F S128x128 .bf16) : FVec F S1x512x128 .bf16 :=
  shapeCast S1x512x128 (truncf .bf16 (matmul dot_S512x128_S128x128_S512x128_1_0_0_1_n_n none
    (truncf .bf16 (mulf (mulf (broadcast S512x128 (Scalar.ofBits .f32 0x3F000000#32 : F .f32)) v)
      (addf (broadcast S512x128 (Scalar.ofBits .f32 0x3F800000#32 : F .f32))
        (tanh (mulf (broadcast S512x128 (Scalar.ofBits .f32 0x3F4C422A#32 : F .f32))
          (addf v (mulf (broadcast S512x128 (Scalar.ofBits .f32 0x3D372713#32 : F .f32)) (mulf (mulf v v) v))))))) bitsLt_bf16_f32)
    (shapeCast S128x128 w2 shapeCasts_S128x128_S128x128) (constant S512x128 .f32 0x00000000#32)) bitsLt_bf16_f32) shapeCasts_S512x128_S1x512x128

/-- The sum over the first sixteen positions, from sixteen tokens of the block itself. -/
def firstHalf (o : Nat) (h : S512x512.Slices ![0, o] S512x128) (x0 x1 x2 x3 x4 x5 x6 x7 x8 x9 x10 x11 x12 x13 x14 x15 : Vec F S1x512x512 .bf16) (x16 : Vec F S32x512 .f32) (x17 : Vec F S32x128x128 .bf16) : FVec F S512x128 .f32 :=
  (tap o h (tap o h (tap o h (tap o h (tap o h (tap o h (tap o h (tap o h (tap o h (tap o h (tap o h (tap o h (tap o h (tap o h (tap o h (tap o h none_yet (View.ld x0 r0_0) (View.ld x16 r0_1) (View.ld x17 r0_3)) (View.ld x1 r0_0) (View.ld x16 r0_5) (View.ld x17 r0_7)) (View.ld x2 r0_0) (View.ld x16 r0_9) (View.ld x17 r0_11)) (View.ld x3 r0_0) (View.ld x16 r0_13) (View.ld x17 r0_15)) (View.ld x4 r0_0) (View.ld x16 r0_17) (View.ld x17 r0_19)) (View.ld x5 r0_0) (View.ld x16 r0_21) (View.ld x17 r0_23)) (View.ld x6 r0_0) (View.ld x16 r0_25) (View.ld x17 r0_27)) (View.ld x7 r0_0) (View.ld x16 r0_29) (View.ld x17 r0_31)) (View.ld x8 r0_0) (View.ld x16 r0_33) (View.ld x17 r0_35)) (View.ld x9 r0_0) (View.ld x16 r0_37) (View.ld x17 r0_39)) (View.ld x10 r0_0) (View.ld x16 r0_41) (View.ld x17 r0_43)) (View.ld x11 r0_0) (View.ld x16 r0_45) (View.ld x17 r0_47)) (View.ld x12 r0_0) (View.ld x16 r0_49) (View.ld x17 r0_51)) (View.ld x13 r0_0) (View.ld x16 r0_53) (View.ld x17 r0_55)) (View.ld x14 r0_0) (View.ld x16 r0_57) (View.ld x17 r0_59)) (View.ld x15 r0_0) (View.ld x16 r0_61) (View.ld x17 r0_63))

/-- The sum over the other sixteen, whose tokens belong to the next block. -/
def otherHalf (o : Nat) (h : S512x512.Slices ![0, o] S512x128) (x0 x1 x2 x3 x4 x5 x6 x7 x8 x9 x10 x11 x12 x13 x14 x15 : Vec F S1x512x512 .bf16) (x16 : Vec F S32x512 .f32) (x17 : Vec F S32x128x128 .bf16) : FVec F S512x128 .f32 :=
  (tap o h (tap o h (tap o h (tap o h (tap o h (tap o h (tap o h (tap o h (tap o h (tap o h (tap o h (tap o h (tap o h (tap o h (tap o h (tap o h none_yet (View.ld x0 r0_0) (View.ld x16 r0_2) (View.ld x17 r0_4)) (View.ld x1 r0_0) (View.ld x16 r0_6) (View.ld x17 r0_8)) (View.ld x2 r0_0) (View.ld x16 r0_10) (View.ld x17 r0_12)) (View.ld x3 r0_0) (View.ld x16 r0_14) (View.ld x17 r0_16)) (View.ld x4 r0_0) (View.ld x16 r0_18) (View.ld x17 r0_20)) (View.ld x5 r0_0) (View.ld x16 r0_22) (View.ld x17 r0_24)) (View.ld x6 r0_0) (View.ld x16 r0_26) (View.ld x17 r0_28)) (View.ld x7 r0_0) (View.ld x16 r0_30) (View.ld x17 r0_32)) (View.ld x8 r0_0) (View.ld x16 r0_34) (View.ld x17 r0_36)) (View.ld x9 r0_0) (View.ld x16 r0_38) (View.ld x17 r0_40)) (View.ld x10 r0_0) (View.ld x16 r0_42) (View.ld x17 r0_44)) (View.ld x11 r0_0) (View.ld x16 r0_46) (View.ld x17 r0_48)) (View.ld x12 r0_0) (View.ld x16 r0_50) (View.ld x17 r0_52)) (View.ld x13 r0_0) (View.ld x16 r0_54) (View.ld x17 r0_56)) (View.ld x14 r0_0) (View.ld x16 r0_58) (View.ld x17 r0_60)) (View.ld x15 r0_0) (View.ld x16 r0_62) (View.ld x17 r0_64))

/-- One key head's columns of the block. -/
def piece (o : Nat) (h : S512x512.Slices ![0, o] S512x128) (x0 x1 x2 x3 x4 x5 x6 x7 x8 x9 x10 x11 x12 x13 x14 x15 : Vec F S1x512x512 .bf16) (x16 : Vec F S32x512 .f32) (x17 : Vec F S32x128x128 .bf16) (x18 : Vec F S128x128 .bf16) : FVec F S1x512x128 .bf16 :=
  finish (joined (firstHalf o h x0 x1 x2 x3 x4 x5 x6 x7 x8 x9 x10 x11 x12 x13 x14 x15 x16 x17) (otherHalf o h x0 x1 x2 x3 x4 x5 x6 x7 x8 x9 x10 x11 x12 x13 x14 x15 x16 x17)) (View.ld x18 r0_65)

/-- What the body stores is the four key heads' columns. -/
theorem out_eq (x0 x1 x2 x3 x4 x5 x6 x7 x8 x9 x10 x11 x12 x13 x14 x15 : Vec F S1x512x512 .bf16) (x16 : Vec F S32x512 .f32) (x17 : Vec F S32x128x128 .bf16) (x18 : Vec F S128x128 .bf16) :
    out0_19 x0 x1 x2 x3 x4 x5 x6 x7 x8 x9 x10 x11 x12 x13 x14 x15 x16 x17 x18 = View.canon [⟨r0_69, piece 384 slices_S512x512_o0_384_S512x128 x0 x1 x2 x3 x4 x5 x6 x7 x8 x9 x10 x11 x12 x13 x14 x15 x16 x17 x18⟩, ⟨r0_68, piece 256 slices_S512x512_o0_256_S512x128 x0 x1 x2 x3 x4 x5 x6 x7 x8 x9 x10 x11 x12 x13 x14 x15 x16 x17 x18⟩,
      ⟨r0_67, piece 128 slices_S512x512_o0_128_S512x128 x0 x1 x2 x3 x4 x5 x6 x7 x8 x9 x10 x11 x12 x13 x14 x15 x16 x17 x18⟩, ⟨r0_66, piece 0 slices_S512x512_o0_0_S512x128 x0 x1 x2 x3 x4 x5 x6 x7 x8 x9 x10 x11 x12 x13 x14 x15 x16 x17 x18⟩] := rfl

end Pieces

/-- Column `d` of key head `g`. -/
abbrev headCol (g : Fin 4) (d : Fin 128) : Fin 512 := ⟨g.val * 128 + d.val, by omega⟩
/-- The row after row `p`, from the first again after the last. -/
abbrev nextRow (p : Fin 512) : Fin 512 := ⟨(p.val + 1) % 512, Nat.mod_lt _ (by decide)⟩

theorem tap_apply (g : Fin 4) (o : Nat) (ho : o = g.val * 128) (h : S512x512.Slices ![0, o] S512x128) (a : FVec Ideal S512x128 .f32) (x : Vec Ideal S1x512x512 .bf16) (pe : Vec Ideal S1x512 .f32) (w : Vec Ideal S1x128x128 .bf16) (p : Fin 512) (e : Fin 128) :
    tap o h a x pe w (ix2 p e) = a (ix2 p e) + ∑ d : Fin 128, (x (ix3 0 p (headCol g d)) + pe (ix2 0 (headCol g d))) * w (ix3 0 d e) := by
  subst ho
  fin_cases g <;> pointwise [tap, tapIn, headCol]

theorem joined_apply (a b : FVec Ideal S512x128 .f32) (p : Fin 512) (e : Fin 128) : joined a b (ix2 p e) = a (ix2 p e) + b (ix2 (nextRow p) e) := by
  pointwise [joined, nextRow]
  have e1 : p.val + 512 - 511 = p.val + 1 := by omega
  simp only [e1]

/-- The activation of a sum. -/
def actOf (v : EReal) : EReal :=
  (FloatOps.ofBits (F := Ideal) .f32 0x3F000000#32 * v) * (FloatOps.ofBits (F := Ideal) .f32 0x3F800000#32
    + FloatOps.tanh (F := Ideal) (φ := .f32) (FloatOps.ofBits (F := Ideal) .f32 0x3F4C422A#32 * (v + FloatOps.ofBits (F := Ideal) .f32 0x3D372713#32 * ((v * v) * v))))

theorem finish_apply (v : FVec Ideal S512x128 .f32) (w2 : Vec Ideal S128x128 .bf16) (p : Fin 512) (q : Fin 128) :
    finish v w2 (ix3 0 p q) = ∑ e : Fin 128, actOf (v (ix2 p e)) * w2 (ix2 e q) := by
  pointwise [finish, actOf]

/-- A whole window, read. -/
theorem whole_apply (X : Vec Ideal S1x512x512 .bf16) (p c : Fin 512) : (View.ld X r0_0 : Vec Ideal S1x512x512 .bf16) (ix3 0 p c) = X (ix3 0 p c) :=
  View.ld_unit_apply_of X _ _ _ _ _ fun a => match a with
    | ⟨0, _⟩ => rfl
    | ⟨1, _⟩ => (Nat.zero_add _).symm
    | ⟨2, _⟩ => (Nat.zero_add _).symm

/-- One row of the position embedding, read. -/
theorem row_apply (X : Vec Ideal S32x512 .f32) (k : Nat) (hk : k < 32) (inb) (c : Fin 512) :
    (View.ld X (Rect.unit (s := S32x512) ![k, 0] S1x512.size inb) : Vec Ideal S1x512 .f32) (ix2 0 c) = X (ix2 ⟨k, hk⟩ c) :=
  View.ld_unit_apply_of X _ _ _ _ _ fun a => match a with
    | ⟨0, _⟩ => rfl
    | ⟨1, _⟩ => (Nat.zero_add _).symm

/-- One matrix of the thirty-two, read. -/
theorem slab_apply (X : Vec Ideal S32x128x128 .bf16) (k : Nat) (hk : k < 32) (inb) (d e : Fin 128) :
    (View.ld X (Rect.unit (s := S32x128x128) ![k, 0, 0] S1x128x128.size inb) : Vec Ideal S1x128x128 .bf16) (ix3 0 d e) = X (ix3 ⟨k, hk⟩ d e) :=
  View.ld_unit_apply_of X _ _ _ _ _ fun a => match a with
    | ⟨0, _⟩ => rfl
    | ⟨1, _⟩ => (Nat.zero_add _).symm
    | ⟨2, _⟩ => (Nat.zero_add _).symm

/-- The second matrix, read. -/
theorem second_apply (X : Vec Ideal S128x128 .bf16) (e q : Fin 128) : (View.ld X r0_65 : Vec Ideal S128x128 .bf16) (ix2 e q) = X (ix2 e q) :=
  View.ld_unit_apply_of X _ _ _ _ _ fun a => match a with
    | ⟨0, _⟩ => (Nat.zero_add _).symm
    | ⟨1, _⟩ => (Nat.zero_add _).symm

/-- What one token adds to column `e` of key head `g`: position `k`'s row is added and position `k`'s matrix multiplies. -/
def tokenAt (x : Vec Ideal S1x512x512 .bf16) (x16 : Vec Ideal S32x512 .f32) (x17 : Vec Ideal S32x128x128 .bf16) (k : Fin 32) (g : Fin 4) (p : Fin 512) (e : Fin 128) : EReal :=
  ∑ d : Fin 128, (x (ix3 0 p (headCol g d)) + x16 (ix2 k (headCol g d))) * x17 (ix3 k d e)

/-- A token's step, from the windows. -/
theorem tap_of (g : Fin 4) (o : Nat) (ho : o = g.val * 128) (h : S512x512.Slices ![0, o] S512x128) (a : FVec Ideal S512x128 .f32) (x : Vec Ideal S1x512x512 .bf16) (x16 : Vec Ideal S32x512 .f32) (x17 : Vec Ideal S32x128x128 .bf16)
    (k : Nat) (hk : k < 32) (i1) (i2) (p : Fin 512) (e : Fin 128) :
    tap o h a (View.ld x r0_0) (View.ld x16 (Rect.unit (s := S32x512) ![k, 0] S1x512.size i1)) (View.ld x17 (Rect.unit (s := S32x128x128) ![k, 0, 0] S1x128x128.size i2)) (ix2 p e)
      = a (ix2 p e) + tokenAt x x16 x17 ⟨k, hk⟩ g p e := by
  refine (tap_apply g o ho h a _ _ _ p e).trans (congrArg (a (ix2 p e) + ·) (Finset.sum_congr rfl fun d _ => ?_))
  exact congrArg₂ _ (congrArg₂ _ (whole_apply x p _) (row_apply x16 k hk i1 _)) (slab_apply x17 k hk i2 d e)

theorem none_yet_apply (i : S512x128.Idx) : (none_yet : FVec Ideal S512x128 .f32) i = 0 := by
  show Ideal.ofBits .f32 0x00000000#32 = 0
  simp

/-- The first half, as a sum over the positions. -/
theorem firstHalf_apply (g : Fin 4) (o : Nat) (ho : o = g.val * 128) (h : S512x512.Slices ![0, o] S512x128) (X : Fin 16 → Vec Ideal S1x512x512 .bf16) (x16 : Vec Ideal S32x512 .f32) (x17 : Vec Ideal S32x128x128 .bf16) (p : Fin 512) (e : Fin 128) :
    firstHalf o h (X 0) (X 1) (X 2) (X 3) (X 4) (X 5) (X 6) (X 7) (X 8) (X 9) (X 10) (X 11) (X 12) (X 13) (X 14) (X 15) x16 x17 (ix2 p e) = ∑ l : Fin 16, tokenAt (X l) x16 x17 ⟨l.val, by omega⟩ g p e := by
  unfold firstHalf
  rw [tap_of g o ho h _ (X 15) x16 x17 15 (by decide) _ _ p e, tap_of g o ho h _ (X 14) x16 x17 14 (by decide) _ _ p e, tap_of g o ho h _ (X 13) x16 x17 13 (by decide) _ _ p e, tap_of g o ho h _ (X 12) x16 x17 12 (by decide) _ _ p e, tap_of g o ho h _ (X 11) x16 x17 11 (by decide) _ _ p e, tap_of g o ho h _ (X 10) x16 x17 10 (by decide) _ _ p e, tap_of g o ho h _ (X 9) x16 x17 9 (by decide) _ _ p e, tap_of g o ho h _ (X 8) x16 x17 8 (by decide) _ _ p e, tap_of g o ho h _ (X 7) x16 x17 7 (by decide) _ _ p e, tap_of g o ho h _ (X 6) x16 x17 6 (by decide) _ _ p e, tap_of g o ho h _ (X 5) x16 x17 5 (by decide) _ _ p e, tap_of g o ho h _ (X 4) x16 x17 4 (by decide) _ _ p e, tap_of g o ho h _ (X 3) x16 x17 3 (by decide) _ _ p e, tap_of g o ho h _ (X 2) x16 x17 2 (by decide) _ _ p e, tap_of g o ho h _ (X 1) x16 x17 1 (by decide) _ _ p e, tap_of g o ho h _ (X 0) x16 x17 0 (by decide) _ _ p e, none_yet_apply]
  simp only [Fin.sum_univ_castSucc, Fin.sum_univ_zero]
  rfl

/-- The other half likewise. -/
theorem otherHalf_apply (g : Fin 4) (o : Nat) (ho : o = g.val * 128) (h : S512x512.Slices ![0, o] S512x128) (X : Fin 16 → Vec Ideal S1x512x512 .bf16) (x16 : Vec Ideal S32x512 .f32) (x17 : Vec Ideal S32x128x128 .bf16) (p : Fin 512) (e : Fin 128) :
    otherHalf o h (X 0) (X 1) (X 2) (X 3) (X 4) (X 5) (X 6) (X 7) (X 8) (X 9) (X 10) (X 11) (X 12) (X 13) (X 14) (X 15) x16 x17 (ix2 p e) = ∑ l : Fin 16, tokenAt (X l) x16 x17 ⟨16 + l.val, by omega⟩ g p e := by
  unfold otherHalf
  rw [tap_of g o ho h _ (X 15) x16 x17 31 (by decide) _ _ p e, tap_of g o ho h _ (X 14) x16 x17 30 (by decide) _ _ p e, tap_of g o ho h _ (X 13) x16 x17 29 (by decide) _ _ p e, tap_of g o ho h _ (X 12) x16 x17 28 (by decide) _ _ p e, tap_of g o ho h _ (X 11) x16 x17 27 (by decide) _ _ p e, tap_of g o ho h _ (X 10) x16 x17 26 (by decide) _ _ p e, tap_of g o ho h _ (X 9) x16 x17 25 (by decide) _ _ p e, tap_of g o ho h _ (X 8) x16 x17 24 (by decide) _ _ p e, tap_of g o ho h _ (X 7) x16 x17 23 (by decide) _ _ p e, tap_of g o ho h _ (X 6) x16 x17 22 (by decide) _ _ p e, tap_of g o ho h _ (X 5) x16 x17 21 (by decide) _ _ p e, tap_of g o ho h _ (X 4) x16 x17 20 (by decide) _ _ p e, tap_of g o ho h _ (X 3) x16 x17 19 (by decide) _ _ p e, tap_of g o ho h _ (X 2) x16 x17 18 (by decide) _ _ p e, tap_of g o ho h _ (X 1) x16 x17 17 (by decide) _ _ p e, tap_of g o ho h _ (X 0) x16 x17 16 (by decide) _ _ p e, none_yet_apply]
  simp only [Fin.sum_univ_castSucc, Fin.sum_univ_zero]
  rfl

/-- The sum that column `e` of key head `g` reaches in row `p`. -/
def preAt (X : Fin 16 → Vec Ideal S1x512x512 .bf16) (x16 : Vec Ideal S32x512 .f32) (x17 : Vec Ideal S32x128x128 .bf16) (g : Fin 4) (p : Fin 512) (e : Fin 128) : EReal :=
  (∑ l : Fin 16, tokenAt (X l) x16 x17 ⟨l.val, by omega⟩ g p e) + ∑ l : Fin 16, tokenAt (X l) x16 x17 ⟨16 + l.val, by omega⟩ g (nextRow p) e

/-- The block, at row `p` and column `q` of key head `g`. -/
def blockAt (X : Fin 16 → Vec Ideal S1x512x512 .bf16) (x16 : Vec Ideal S32x512 .f32) (x17 : Vec Ideal S32x128x128 .bf16) (x18 : Vec Ideal S128x128 .bf16) (g : Fin 4) (p : Fin 512) (q : Fin 128) : EReal :=
  ∑ e : Fin 128, actOf (preAt X x16 x17 g p e) * x18 (ix2 e q)

theorem piece_apply (g : Fin 4) (o : Nat) (ho : o = g.val * 128) (h : S512x512.Slices ![0, o] S512x128) (X : Fin 16 → Vec Ideal S1x512x512 .bf16) (x16 : Vec Ideal S32x512 .f32) (x17 : Vec Ideal S32x128x128 .bf16) (x18 : Vec Ideal S128x128 .bf16) (p : Fin 512) (q : Fin 128) :
    piece o h (X 0) (X 1) (X 2) (X 3) (X 4) (X 5) (X 6) (X 7) (X 8) (X 9) (X 10) (X 11) (X 12) (X 13) (X 14) (X 15) x16 x17 x18 (ix3 0 p q) = blockAt X x16 x17 x18 g p q := by
  unfold piece blockAt preAt
  refine (finish_apply _ _ p q).trans (Finset.sum_congr rfl fun e _ => ?_)
  exact congrArg₂ _ (congrArg actOf ((joined_apply _ _ p e).trans (congrArg₂ _ (firstHalf_apply g o ho h X x16 x17 p e) (otherHalf_apply g o ho h X x16 x17 (nextRow p) e)))) (second_apply x18 e q)

/-- The same as one function of the block's index. -/
def blockFn (X : Fin 16 → Vec Ideal S1x512x512 .bf16) (x16 : Vec Ideal S32x512 .f32) (x17 : Vec Ideal S32x128x128 .bf16) (x18 : Vec Ideal S128x128 .bf16) : S1x512x512.Idx → EReal := fun i =>
  blockAt X x16 x17 x18 ⟨(i 2).val / 128, by have h : (i 2).val < 512 := (i 2).isLt; omega⟩ (i 1) ⟨(i 2).val % 128, Nat.mod_lt _ (by decide)⟩

theorem blockFn_apply (X : Fin 16 → Vec Ideal S1x512x512 .bf16) (x16 : Vec Ideal S32x512 .f32) (x17 : Vec Ideal S32x128x128 .bf16) (x18 : Vec Ideal S128x128 .bf16) (i : S1x512x512.Idx) (g : Fin 4) (p : Fin 512) (q : Fin 128)
    (h1 : (i 1).val = p.val) (h2 : (i 2).val = g.val * 128 + q.val) : blockFn X x16 x17 x18 i = blockAt X x16 x17 x18 g p q := by
  unfold blockFn
  have e1 : i 1 = p := Fin.ext h1
  have eg : (⟨(i 2).val / 128, by have h : (i 2).val < 512 := (i 2).isLt; omega⟩ : Fin 4) = g := Fin.ext (by show (i 2).val / 128 = g.val; omega)
  have eq : (⟨(i 2).val % 128, Nat.mod_lt _ (by decide)⟩ : Fin 128) = q := Fin.ext (by show (i 2).val % 128 = q.val; omega)
  rw [e1, eg, eq]

/-- One piece stored at its own columns holds that function's values. -/
theorem stored (g : Fin 4) (o : Nat) (ho : o = g.val * 128) (h : S512x512.Slices ![0, o] S512x128) (inb) (X : Fin 16 → Vec Ideal S1x512x512 .bf16) (x16 : Vec Ideal S32x512 .f32) (x17 : Vec Ideal S32x128x128 .bf16) (x18 : Vec Ideal S128x128 .bf16) (x : S1x512x128.Idx) :
    piece o h (X 0) (X 1) (X 2) (X 3) (X 4) (X 5) (X 6) (X 7) (X 8) (X 9) (X 10) (X 11) (X 12) (X 13) (X 14) (X 15) x16 x17 x18 x = blockFn X x16 x17 x18 ((Rect.unit (s := S1x512x512) ![0, 0, o] S1x512x128.size inb).emb x) := by
  obtain ⟨z, p, q, rfl⟩ : ∃ (z : Fin 1) (p : Fin 512) (q : Fin 128), x = ix3 z p q := ⟨x 0, x 1, x 2, eq_ix3 x⟩
  obtain rfl : z = 0 := Subsingleton.elim _ _
  refine (piece_apply g o ho h X x16 x17 x18 p q).trans (blockFn_apply X x16 x17 x18 _ g p q ?_ ?_).symm
  · exact (Rect.idx_unit_val (s := S1x512x512) ![0, 0, o] S1x512x128.size inb (ix3 0 p q) (1 : Fin 3)).trans (Nat.zero_add _)
  · exact (Rect.idx_unit_val (s := S1x512x512) ![0, 0, o] S1x512x128.size inb (ix3 0 p q) (2 : Fin 3)).trans (by show o + q.val = _; rw [ho])

/-- So the body leaves that block. -/
theorem out_apply (X : Fin 16 → Vec Ideal S1x512x512 .bf16) (x16 : Vec Ideal S32x512 .f32) (x17 : Vec Ideal S32x128x128 .bf16) (x18 : Vec Ideal S128x128 .bf16) (y : S1x512x512.Idx) :
    (out0_19 (F := Ideal) (X 0) (X 1) (X 2) (X 3) (X 4) (X 5) (X 6) (X 7) (X 8) (X 9) (X 10) (X 11) (X 12) (X 13) (X 14) (X 15) x16 x17 x18 : Vec Ideal S1x512x512 .bf16) y = blockFn X x16 x17 x18 y := by
  rw [out_eq]
  refine View.canon_apply_of_pieces (Val := Elt Ideal) (e := .bf16) (blockFn X x16 x17 x18) _ (fun p hp => ?_) y (cover0_19 _ _ _ _ y)
  simp only [List.mem_cons, List.not_mem_nil, or_false] at hp
  rcases hp with rfl | rfl | rfl | rfl
  · exact stored 3 384 rfl _ inb_S1x512x512_S1x512x128_0_0_384 X x16 x17 x18
  · exact stored 2 256 rfl _ inb_S1x512x512_S1x512x128_0_0_256 X x16 x17 x18
  · exact stored 1 128 rfl _ inb_S1x512x512_S1x512x128_0_0_128 X x16 x17 x18
  · exact stored 0 0 rfl _ inb_S1x512x512_S1x512x128_0_0_0 X x16 x17 x18

end Cert.Kernel10Ideal.Compress

end
-- ==== Proof.Compress.lean ====
/- The keys of the first attention, compressed: what the launch finds, and the whole array that it leaves. -/
module

public import proofs.«01_k».proof.Proof.CompressBlock
public import Idealize.ShloMosaic.Lib.Pipeline.Covers

@[expose] public section

set_option maxRecDepth 16384

noncomputable section

namespace Cert.Kernel10Ideal.Compress

open Cert.Kernel10Ideal Cert.Kernel10Ideal.Gen
open Idealize.ShloMosaic Idealize.ShloMosaic.TcCoe
open Idealize.ShloMosaic.Pipeline (Dat Cfg Window)

/-- The token `l` of block `p` of sequence `b`: its row of the activations. -/
abbrev tokenRow (b : Fin 2) (p : Fin 512) (l : Fin 16) : Fin 16384 := ⟨(b.val * 512 + p.val) * 16 + l.val, by omega⟩
/-- The column of the activations that holds column `d` of key head `g`. -/
abbrev keyCol (g : Fin 4) (d : Fin 128) : Fin 5120 := ⟨2048 + (g.val * 128 + d.val), by omega⟩

/-- What token `l` of block `p` adds at position `k`. -/
def termAt (y : S16384x5120.Idx → EReal) (pe : S32x128.Idx → EReal) (w : S32x128x128.Idx → EReal) (b : Fin 2) (p : Fin 512) (l : Fin 16) (k : Fin 32) (g : Fin 4) (e : Fin 128) : EReal :=
  ∑ d : Fin 128, (y (ix2 (tokenRow b p l) (keyCol g d)) + pe (ix2 k d)) * w (ix3 k d e)

/-- The sum of a block's thirty-two tokens: sixteen of its own and sixteen of the next. -/
def sumAt (y : S16384x5120.Idx → EReal) (pe : S32x128.Idx → EReal) (w : S32x128x128.Idx → EReal) (b : Fin 2) (p : Fin 512) (g : Fin 4) (e : Fin 128) : EReal :=
  (∑ l : Fin 16, termAt y pe w b p l ⟨l.val, by omega⟩ g e) + ∑ l : Fin 16, termAt y pe w b (nextRow p) l ⟨16 + l.val, by omega⟩ g e

/-- The compressed key. -/
def keyAt (y : S16384x5120.Idx → EReal) (pe : S32x128.Idx → EReal) (w : S32x128x128.Idx → EReal) (w2 : S128x128.Idx → EReal) (b : Fin 2) (p : Fin 512) (g : Fin 4) (q : Fin 128) : EReal :=
  ∑ e : Fin 128, actOf (sumAt y pe w b p g e) * w2 (ix2 e q)

variable (m : (ℓ : Loc nD τ sig) → Buf (Elt Ideal) ℓ)

/-- Sixteen rows laid end to end, read at a column. -/
theorem tokens_apply (y : Vec Ideal S16384x5120 .bf16) (b : Fin 2) (p : Fin 512) (l : Fin 16) (q : Fin 5120) (c : Fin 81920) (hc : c.val = l.val * 5120 + q.val) :
    (shapeCast S2x512x81920 y shapeCasts_S16384x5120_S2x512x81920 : S2x512x81920.Idx → EReal) (ix3 b p c) = y (ix2 (tokenRow b p l) q) :=
  shapeCast_apply y shapeCasts_S16384x5120_S2x512x81920 (ix3 b p c) (ix2 (tokenRow b p l) q)
    (by rewrite [Shape.rowMajor_val_two, Shape.rowMajor_val_three]; show ((b.val * 512 + p.val) * 16 + l.val) * 5120 + q.val = (b.val * 512 + p.val) * 81920 + c.val; omega)

theorem V_tokens (c : Dev nD) (b : Fin 2) (p : Fin 512) (l : Fin 16) (q : Fin 5120) (k : Fin 81920) (hk : k.val = l.val * 5120 + q.val) :
    (V m c main_v1 : S2x512x81920.Idx → EReal) (ix3 b p k) = (m ((c : Thread nD τ).loc main_arg0) : S16384x5120.Idx → EReal) (ix2 (tokenRow b p l) q) := by
  have e : (V m c main_v1 : S2x512x81920.Idx → EReal) = shapeCast S2x512x81920 (m ((c : Thread nD τ).loc main_arg0) : S16384x5120.Idx → EReal) shapeCasts_S16384x5120_S2x512x81920 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (tokens_apply _ b p l q k hk)

/-- The position rows, once for every key head. -/
theorem positions_apply (pe : Vec Ideal S32x128 .f32) (k : Fin 32) (g : Fin 4) (d : Fin 128) :
    (shapeCast S32x512 (broadcastInDim S1x32x4x128 ![0, 1, 2, 3] bcast_S1x32x1x128_S1x32x4x128_0_1_2_3 (shapeCast S1x32x1x128 pe shapeCasts_S32x128_S1x32x1x128)) shapeCasts_S1x32x4x128_S32x512 : S32x512.Idx → EReal) (ix2 k (headCol g d)) = pe (ix2 k d) := by
  refine (shapeCast_apply _ shapeCasts_S1x32x4x128_S32x512 (ix2 k (headCol g d)) (ix4 (0 : Fin 1) k g d)
    (by rewrite [Shape.rowMajor_val_four, Shape.rowMajor_val_two]; show ((0 * 32 + k.val) * 4 + g.val) * 128 + d.val = k.val * 512 + (g.val * 128 + d.val); omega)).trans ?_
  refine (broadcastInDim_apply _ bcast_S1x32x1x128_S1x32x4x128_0_1_2_3 _ (ix4 (0 : Fin 1) k g d) (ix4 (0 : Fin 1) k (0 : Fin 1) d) (fun a => match a with
    | ⟨0, _⟩ => by show 0 = if (1 : Nat) = 1 then 0 else 0; rw [if_pos rfl]
    | ⟨1, _⟩ => by show k.val = if (32 : Nat) = 1 then 0 else k.val; rw [if_neg (by decide)]
    | ⟨2, _⟩ => by show 0 = if (1 : Nat) = 1 then 0 else g.val; rw [if_pos rfl]
    | ⟨3, _⟩ => by show d.val = if (128 : Nat) = 1 then 0 else d.val; rw [if_neg (by decide)])).trans ?_
  exact shapeCast_apply _ shapeCasts_S32x128_S1x32x1x128 (ix4 (0 : Fin 1) k (0 : Fin 1) d) (ix2 k d)
    (by rewrite [Shape.rowMajor_val_two, Shape.rowMajor_val_four]; show k.val * 128 + d.val = ((0 * 32 + k.val) * 1 + 0) * 128 + d.val; omega)

theorem V_positions (c : Dev nD) (k : Fin 32) (g : Fin 4) (d : Fin 128) :
    (V m c main_v4 : S32x512.Idx → EReal) (ix2 k (headCol g d)) = (m ((c : Thread nD τ).loc main_arg1) : S32x128.Idx → EReal) (ix2 k d) := by
  have e : (V m c main_v4 : S32x512.Idx → EReal) = shapeCast S32x512 (broadcastInDim S1x32x4x128 ![0, 1, 2, 3] bcast_S1x32x1x128_S1x32x4x128_0_1_2_3 (shapeCast S1x32x1x128 (m ((c : Thread nD τ).loc main_arg1) : S32x128.Idx → EReal) shapeCasts_S32x128_S1x32x1x128)) shapeCasts_S1x32x4x128_S32x512 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (positions_apply _ k g d)

theorem V_first (c : Dev nD) : (V m c main_v5 : S32x128x128.Idx → EReal) = m ((c : Thread nD τ).loc main_arg2) := by
  show StableHlo.after _ _ _ = _
  simp only [hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_second (c : Dev nD) : (V m c main_v6 : S128x128.Idx → EReal) = m ((c : Thread nD τ).loc main_arg3) := by
  show StableHlo.after _ _ _ = _
  simp only [hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

/-- The sequence that point `t` works on. -/
abbrev seqOf (t : Fin cfg0.N) : Fin 2 := ⟨(grid0.coords t 0).val, (grid0.coords t 0).isLt⟩

theorem seq_word (t : Fin cfg0.N) : (BitVec.ofNat 32 (grid0.coords t 0).val).toNat = (grid0.coords t 0).val := by
  have h : (grid0.coords t 0).val < 2 := (grid0.coords t 0).isLt
  rw [BitVec.toNat_ofNat, Nat.mod_eq_of_lt (by omega)]

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)
/-- An index of three axes from its coordinates. -/
theorem idx3_ext {a b d : Nat} (i : (⟨3, ![a, b, d]⟩ : Shape).Idx) (r : Fin a) (k : Fin b) (q : Fin d) (h0 : (i 0).val = r.val) (h1 : (i 1).val = k.val) (h2 : (i 2).val = q.val) :
    i = ix3 r k q := funext fun x => Fin.ext (match x with
  | ⟨0, _⟩ => h0
  | ⟨1, _⟩ => h1
  | ⟨2, _⟩ => h2)

theorem tokens_blk0 (c : Dev nD) (t : Fin cfg0.N) (p : Fin 512) (g : Fin 4) (d : Fin 128) :
    (iblk m c 0 t : Vec Ideal S1x512x512 .bf16) (ix3 0 p (headCol g d)) = (m ((c : Thread nD τ).loc main_arg0) : S16384x5120.Idx → EReal) (ix2 (tokenRow (seqOf t) p 0) (keyCol g d)) := by
  show V m c main_v1 ((((cfg0).win 0).rect t).emb (ix3 (0 : Fin 1) p (headCol g d))) = _
  have e0 : ((((cfg0).win 0).rect t).emb (ix3 (0 : Fin 1) p (headCol g d)) (0 : Fin 3) : Nat) = (seqOf t).val :=
    (((cfg0).win 0).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 0).rect t).emb (ix3 (0 : Fin 1) p (headCol g d)) (1 : Fin 3) : Nat) = p.val :=
    (((cfg0).win 0).rect_emb_val t (ix3 (0 : Fin 1) p (headCol g d)) (1 : Fin 3)).trans (by show 0 * 512 + p.val = p.val; omega)
  have e2 : ((((cfg0).win 0).rect t).emb (ix3 (0 : Fin 1) p (headCol g d)) (2 : Fin 3) : Nat) = (⟨4 * 512 + (g.val * 128 + d.val), by omega⟩ : Fin 81920).val :=
    (((cfg0).win 0).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 0 (keyCol g d) _ (by show 4 * 512 + (g.val * 128 + d.val) = 0 * 5120 + (2048 + (g.val * 128 + d.val)); omega))
theorem tokens_blk1 (c : Dev nD) (t : Fin cfg0.N) (p : Fin 512) (g : Fin 4) (d : Fin 128) :
    (iblk m c 1 t : Vec Ideal S1x512x512 .bf16) (ix3 0 p (headCol g d)) = (m ((c : Thread nD τ).loc main_arg0) : S16384x5120.Idx → EReal) (ix2 (tokenRow (seqOf t) p 1) (keyCol g d)) := by
  show V m c main_v1 ((((cfg0).win 1).rect t).emb (ix3 (0 : Fin 1) p (headCol g d))) = _
  have e0 : ((((cfg0).win 1).rect t).emb (ix3 (0 : Fin 1) p (headCol g d)) (0 : Fin 3) : Nat) = (seqOf t).val :=
    (((cfg0).win 1).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 1).rect t).emb (ix3 (0 : Fin 1) p (headCol g d)) (1 : Fin 3) : Nat) = p.val :=
    (((cfg0).win 1).rect_emb_val t (ix3 (0 : Fin 1) p (headCol g d)) (1 : Fin 3)).trans (by show 0 * 512 + p.val = p.val; omega)
  have e2 : ((((cfg0).win 1).rect t).emb (ix3 (0 : Fin 1) p (headCol g d)) (2 : Fin 3) : Nat) = (⟨14 * 512 + (g.val * 128 + d.val), by omega⟩ : Fin 81920).val :=
    (((cfg0).win 1).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 1 (keyCol g d) _ (by show 14 * 512 + (g.val * 128 + d.val) = 1 * 5120 + (2048 + (g.val * 128 + d.val)); omega))
theorem tokens_blk2 (c : Dev nD) (t : Fin cfg0.N) (p : Fin 512) (g : Fin 4) (d : Fin 128) :
    (iblk m c 2 t : Vec Ideal S1x512x512 .bf16) (ix3 0 p (headCol g d)) = (m ((c : Thread nD τ).loc main_arg0) : S16384x5120.Idx → EReal) (ix2 (tokenRow (seqOf t) p 2) (keyCol g d)) := by
  show V m c main_v1 ((((cfg0).win 2).rect t).emb (ix3 (0 : Fin 1) p (headCol g d))) = _
  have e0 : ((((cfg0).win 2).rect t).emb (ix3 (0 : Fin 1) p (headCol g d)) (0 : Fin 3) : Nat) = (seqOf t).val :=
    (((cfg0).win 2).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 2).rect t).emb (ix3 (0 : Fin 1) p (headCol g d)) (1 : Fin 3) : Nat) = p.val :=
    (((cfg0).win 2).rect_emb_val t (ix3 (0 : Fin 1) p (headCol g d)) (1 : Fin 3)).trans (by show 0 * 512 + p.val = p.val; omega)
  have e2 : ((((cfg0).win 2).rect t).emb (ix3 (0 : Fin 1) p (headCol g d)) (2 : Fin 3) : Nat) = (⟨24 * 512 + (g.val * 128 + d.val), by omega⟩ : Fin 81920).val :=
    (((cfg0).win 2).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 2 (keyCol g d) _ (by show 24 * 512 + (g.val * 128 + d.val) = 2 * 5120 + (2048 + (g.val * 128 + d.val)); omega))
theorem tokens_blk3 (c : Dev nD) (t : Fin cfg0.N) (p : Fin 512) (g : Fin 4) (d : Fin 128) :
    (iblk m c 3 t : Vec Ideal S1x512x512 .bf16) (ix3 0 p (headCol g d)) = (m ((c : Thread nD τ).loc main_arg0) : S16384x5120.Idx → EReal) (ix2 (tokenRow (seqOf t) p 3) (keyCol g d)) := by
  show V m c main_v1 ((((cfg0).win 3).rect t).emb (ix3 (0 : Fin 1) p (headCol g d))) = _
  have e0 : ((((cfg0).win 3).rect t).emb (ix3 (0 : Fin 1) p (headCol g d)) (0 : Fin 3) : Nat) = (seqOf t).val :=
    (((cfg0).win 3).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 3).rect t).emb (ix3 (0 : Fin 1) p (headCol g d)) (1 : Fin 3) : Nat) = p.val :=
    (((cfg0).win 3).rect_emb_val t (ix3 (0 : Fin 1) p (headCol g d)) (1 : Fin 3)).trans (by show 0 * 512 + p.val = p.val; omega)
  have e2 : ((((cfg0).win 3).rect t).emb (ix3 (0 : Fin 1) p (headCol g d)) (2 : Fin 3) : Nat) = (⟨34 * 512 + (g.val * 128 + d.val), by omega⟩ : Fin 81920).val :=
    (((cfg0).win 3).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 3 (keyCol g d) _ (by show 34 * 512 + (g.val * 128 + d.val) = 3 * 5120 + (2048 + (g.val * 128 + d.val)); omega))
theorem tokens_blk4 (c : Dev nD) (t : Fin cfg0.N) (p : Fin 512) (g : Fin 4) (d : Fin 128) :
    (iblk m c 4 t : Vec Ideal S1x512x512 .bf16) (ix3 0 p (headCol g d)) = (m ((c : Thread nD τ).loc main_arg0) : S16384x5120.Idx → EReal) (ix2 (tokenRow (seqOf t) p 4) (keyCol g d)) := by
  show V m c main_v1 ((((cfg0).win 4).rect t).emb (ix3 (0 : Fin 1) p (headCol g d))) = _
  have e0 : ((((cfg0).win 4).rect t).emb (ix3 (0 : Fin 1) p (headCol g d)) (0 : Fin 3) : Nat) = (seqOf t).val :=
    (((cfg0).win 4).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 4).rect t).emb (ix3 (0 : Fin 1) p (headCol g d)) (1 : Fin 3) : Nat) = p.val :=
    (((cfg0).win 4).rect_emb_val t (ix3 (0 : Fin 1) p (headCol g d)) (1 : Fin 3)).trans (by show 0 * 512 + p.val = p.val; omega)
  have e2 : ((((cfg0).win 4).rect t).emb (ix3 (0 : Fin 1) p (headCol g d)) (2 : Fin 3) : Nat) = (⟨44 * 512 + (g.val * 128 + d.val), by omega⟩ : Fin 81920).val :=
    (((cfg0).win 4).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 4 (keyCol g d) _ (by show 44 * 512 + (g.val * 128 + d.val) = 4 * 5120 + (2048 + (g.val * 128 + d.val)); omega))
theorem tokens_blk5 (c : Dev nD) (t : Fin cfg0.N) (p : Fin 512) (g : Fin 4) (d : Fin 128) :
    (iblk m c 5 t : Vec Ideal S1x512x512 .bf16) (ix3 0 p (headCol g d)) = (m ((c : Thread nD τ).loc main_arg0) : S16384x5120.Idx → EReal) (ix2 (tokenRow (seqOf t) p 5) (keyCol g d)) := by
  show V m c main_v1 ((((cfg0).win 5).rect t).emb (ix3 (0 : Fin 1) p (headCol g d))) = _
  have e0 : ((((cfg0).win 5).rect t).emb (ix3 (0 : Fin 1) p (headCol g d)) (0 : Fin 3) : Nat) = (seqOf t).val :=
    (((cfg0).win 5).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 5).rect t).emb (ix3 (0 : Fin 1) p (headCol g d)) (1 : Fin 3) : Nat) = p.val :=
    (((cfg0).win 5).rect_emb_val t (ix3 (0 : Fin 1) p (headCol g d)) (1 : Fin 3)).trans (by show 0 * 512 + p.val = p.val; omega)
  have e2 : ((((cfg0).win 5).rect t).emb (ix3 (0 : Fin 1) p (headCol g d)) (2 : Fin 3) : Nat) = (⟨54 * 512 + (g.val * 128 + d.val), by omega⟩ : Fin 81920).val :=
    (((cfg0).win 5).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 5 (keyCol g d) _ (by show 54 * 512 + (g.val * 128 + d.val) = 5 * 5120 + (2048 + (g.val * 128 + d.val)); omega))
theorem tokens_blk6 (c : Dev nD) (t : Fin cfg0.N) (p : Fin 512) (g : Fin 4) (d : Fin 128) :
    (iblk m c 6 t : Vec Ideal S1x512x512 .bf16) (ix3 0 p (headCol g d)) = (m ((c : Thread nD τ).loc main_arg0) : S16384x5120.Idx → EReal) (ix2 (tokenRow (seqOf t) p 6) (keyCol g d)) := by
  show V m c main_v1 ((((cfg0).win 6).rect t).emb (ix3 (0 : Fin 1) p (headCol g d))) = _
  have e0 : ((((cfg0).win 6).rect t).emb (ix3 (0 : Fin 1) p (headCol g d)) (0 : Fin 3) : Nat) = (seqOf t).val :=
    (((cfg0).win 6).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 6).rect t).emb (ix3 (0 : Fin 1) p (headCol g d)) (1 : Fin 3) : Nat) = p.val :=
    (((cfg0).win 6).rect_emb_val t (ix3 (0 : Fin 1) p (headCol g d)) (1 : Fin 3)).trans (by show 0 * 512 + p.val = p.val; omega)
  have e2 : ((((cfg0).win 6).rect t).emb (ix3 (0 : Fin 1) p (headCol g d)) (2 : Fin 3) : Nat) = (⟨64 * 512 + (g.val * 128 + d.val), by omega⟩ : Fin 81920).val :=
    (((cfg0).win 6).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 6 (keyCol g d) _ (by show 64 * 512 + (g.val * 128 + d.val) = 6 * 5120 + (2048 + (g.val * 128 + d.val)); omega))
theorem tokens_blk7 (c : Dev nD) (t : Fin cfg0.N) (p : Fin 512) (g : Fin 4) (d : Fin 128) :
    (iblk m c 7 t : Vec Ideal S1x512x512 .bf16) (ix3 0 p (headCol g d)) = (m ((c : Thread nD τ).loc main_arg0) : S16384x5120.Idx → EReal) (ix2 (tokenRow (seqOf t) p 7) (keyCol g d)) := by
  show V m c main_v1 ((((cfg0).win 7).rect t).emb (ix3 (0 : Fin 1) p (headCol g d))) = _
  have e0 : ((((cfg0).win 7).rect t).emb (ix3 (0 : Fin 1) p (headCol g d)) (0 : Fin 3) : Nat) = (seqOf t).val :=
    (((cfg0).win 7).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 7).rect t).emb (ix3 (0 : Fin 1) p (headCol g d)) (1 : Fin 3) : Nat) = p.val :=
    (((cfg0).win 7).rect_emb_val t (ix3 (0 : Fin 1) p (headCol g d)) (1 : Fin 3)).trans (by show 0 * 512 + p.val = p.val; omega)
  have e2 : ((((cfg0).win 7).rect t).emb (ix3 (0 : Fin 1) p (headCol g d)) (2 : Fin 3) : Nat) = (⟨74 * 512 + (g.val * 128 + d.val), by omega⟩ : Fin 81920).val :=
    (((cfg0).win 7).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 7 (keyCol g d) _ (by show 74 * 512 + (g.val * 128 + d.val) = 7 * 5120 + (2048 + (g.val * 128 + d.val)); omega))
theorem tokens_blk8 (c : Dev nD) (t : Fin cfg0.N) (p : Fin 512) (g : Fin 4) (d : Fin 128) :
    (iblk m c 8 t : Vec Ideal S1x512x512 .bf16) (ix3 0 p (headCol g d)) = (m ((c : Thread nD τ).loc main_arg0) : S16384x5120.Idx → EReal) (ix2 (tokenRow (seqOf t) p 8) (keyCol g d)) := by
  show V m c main_v1 ((((cfg0).win 8).rect t).emb (ix3 (0 : Fin 1) p (headCol g d))) = _
  have e0 : ((((cfg0).win 8).rect t).emb (ix3 (0 : Fin 1) p (headCol g d)) (0 : Fin 3) : Nat) = (seqOf t).val :=
    (((cfg0).win 8).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 8).rect t).emb (ix3 (0 : Fin 1) p (headCol g d)) (1 : Fin 3) : Nat) = p.val :=
    (((cfg0).win 8).rect_emb_val t (ix3 (0 : Fin 1) p (headCol g d)) (1 : Fin 3)).trans (by show 0 * 512 + p.val = p.val; omega)
  have e2 : ((((cfg0).win 8).rect t).emb (ix3 (0 : Fin 1) p (headCol g d)) (2 : Fin 3) : Nat) = (⟨84 * 512 + (g.val * 128 + d.val), by omega⟩ : Fin 81920).val :=
    (((cfg0).win 8).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 8 (keyCol g d) _ (by show 84 * 512 + (g.val * 128 + d.val) = 8 * 5120 + (2048 + (g.val * 128 + d.val)); omega))
theorem tokens_blk9 (c : Dev nD) (t : Fin cfg0.N) (p : Fin 512) (g : Fin 4) (d : Fin 128) :
    (iblk m c 9 t : Vec Ideal S1x512x512 .bf16) (ix3 0 p (headCol g d)) = (m ((c : Thread nD τ).loc main_arg0) : S16384x5120.Idx → EReal) (ix2 (tokenRow (seqOf t) p 9) (keyCol g d)) := by
  show V m c main_v1 ((((cfg0).win 9).rect t).emb (ix3 (0 : Fin 1) p (headCol g d))) = _
  have e0 : ((((cfg0).win 9).rect t).emb (ix3 (0 : Fin 1) p (headCol g d)) (0 : Fin 3) : Nat) = (seqOf t).val :=
    (((cfg0).win 9).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 9).rect t).emb (ix3 (0 : Fin 1) p (headCol g d)) (1 : Fin 3) : Nat) = p.val :=
    (((cfg0).win 9).rect_emb_val t (ix3 (0 : Fin 1) p (headCol g d)) (1 : Fin 3)).trans (by show 0 * 512 + p.val = p.val; omega)
  have e2 : ((((cfg0).win 9).rect t).emb (ix3 (0 : Fin 1) p (headCol g d)) (2 : Fin 3) : Nat) = (⟨94 * 512 + (g.val * 128 + d.val), by omega⟩ : Fin 81920).val :=
    (((cfg0).win 9).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 9 (keyCol g d) _ (by show 94 * 512 + (g.val * 128 + d.val) = 9 * 5120 + (2048 + (g.val * 128 + d.val)); omega))
theorem tokens_blk10 (c : Dev nD) (t : Fin cfg0.N) (p : Fin 512) (g : Fin 4) (d : Fin 128) :
    (iblk m c 10 t : Vec Ideal S1x512x512 .bf16) (ix3 0 p (headCol g d)) = (m ((c : Thread nD τ).loc main_arg0) : S16384x5120.Idx → EReal) (ix2 (tokenRow (seqOf t) p 10) (keyCol g d)) := by
  show V m c main_v1 ((((cfg0).win 10).rect t).emb (ix3 (0 : Fin 1) p (headCol g d))) = _
  have e0 : ((((cfg0).win 10).rect t).emb (ix3 (0 : Fin 1) p (headCol g d)) (0 : Fin 3) : Nat) = (seqOf t).val :=
    (((cfg0).win 10).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 10).rect t).emb (ix3 (0 : Fin 1) p (headCol g d)) (1 : Fin 3) : Nat) = p.val :=
    (((cfg0).win 10).rect_emb_val t (ix3 (0 : Fin 1) p (headCol g d)) (1 : Fin 3)).trans (by show 0 * 512 + p.val = p.val; omega)
  have e2 : ((((cfg0).win 10).rect t).emb (ix3 (0 : Fin 1) p (headCol g d)) (2 : Fin 3) : Nat) = (⟨104 * 512 + (g.val * 128 + d.val), by omega⟩ : Fin 81920).val :=
    (((cfg0).win 10).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 10 (keyCol g d) _ (by show 104 * 512 + (g.val * 128 + d.val) = 10 * 5120 + (2048 + (g.val * 128 + d.val)); omega))
theorem tokens_blk11 (c : Dev nD) (t : Fin cfg0.N) (p : Fin 512) (g : Fin 4) (d : Fin 128) :
    (iblk m c 11 t : Vec Ideal S1x512x512 .bf16) (ix3 0 p (headCol g d)) = (m ((c : Thread nD τ).loc main_arg0) : S16384x5120.Idx → EReal) (ix2 (tokenRow (seqOf t) p 11) (keyCol g d)) := by
  show V m c main_v1 ((((cfg0).win 11).rect t).emb (ix3 (0 : Fin 1) p (headCol g d))) = _
  have e0 : ((((cfg0).win 11).rect t).emb (ix3 (0 : Fin 1) p (headCol g d)) (0 : Fin 3) : Nat) = (seqOf t).val :=
    (((cfg0).win 11).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 11).rect t).emb (ix3 (0 : Fin 1) p (headCol g d)) (1 : Fin 3) : Nat) = p.val :=
    (((cfg0).win 11).rect_emb_val t (ix3 (0 : Fin 1) p (headCol g d)) (1 : Fin 3)).trans (by show 0 * 512 + p.val = p.val; omega)
  have e2 : ((((cfg0).win 11).rect t).emb (ix3 (0 : Fin 1) p (headCol g d)) (2 : Fin 3) : Nat) = (⟨114 * 512 + (g.val * 128 + d.val), by omega⟩ : Fin 81920).val :=
    (((cfg0).win 11).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 11 (keyCol g d) _ (by show 114 * 512 + (g.val * 128 + d.val) = 11 * 5120 + (2048 + (g.val * 128 + d.val)); omega))
theorem tokens_blk12 (c : Dev nD) (t : Fin cfg0.N) (p : Fin 512) (g : Fin 4) (d : Fin 128) :
    (iblk m c 12 t : Vec Ideal S1x512x512 .bf16) (ix3 0 p (headCol g d)) = (m ((c : Thread nD τ).loc main_arg0) : S16384x5120.Idx → EReal) (ix2 (tokenRow (seqOf t) p 12) (keyCol g d)) := by
  show V m c main_v1 ((((cfg0).win 12).rect t).emb (ix3 (0 : Fin 1) p (headCol g d))) = _
  have e0 : ((((cfg0).win 12).rect t).emb (ix3 (0 : Fin 1) p (headCol g d)) (0 : Fin 3) : Nat) = (seqOf t).val :=
    (((cfg0).win 12).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 12).rect t).emb (ix3 (0 : Fin 1) p (headCol g d)) (1 : Fin 3) : Nat) = p.val :=
    (((cfg0).win 12).rect_emb_val t (ix3 (0 : Fin 1) p (headCol g d)) (1 : Fin 3)).trans (by show 0 * 512 + p.val = p.val; omega)
  have e2 : ((((cfg0).win 12).rect t).emb (ix3 (0 : Fin 1) p (headCol g d)) (2 : Fin 3) : Nat) = (⟨124 * 512 + (g.val * 128 + d.val), by omega⟩ : Fin 81920).val :=
    (((cfg0).win 12).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 12 (keyCol g d) _ (by show 124 * 512 + (g.val * 128 + d.val) = 12 * 5120 + (2048 + (g.val * 128 + d.val)); omega))
theorem tokens_blk13 (c : Dev nD) (t : Fin cfg0.N) (p : Fin 512) (g : Fin 4) (d : Fin 128) :
    (iblk m c 13 t : Vec Ideal S1x512x512 .bf16) (ix3 0 p (headCol g d)) = (m ((c : Thread nD τ).loc main_arg0) : S16384x5120.Idx → EReal) (ix2 (tokenRow (seqOf t) p 13) (keyCol g d)) := by
  show V m c main_v1 ((((cfg0).win 13).rect t).emb (ix3 (0 : Fin 1) p (headCol g d))) = _
  have e0 : ((((cfg0).win 13).rect t).emb (ix3 (0 : Fin 1) p (headCol g d)) (0 : Fin 3) : Nat) = (seqOf t).val :=
    (((cfg0).win 13).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 13).rect t).emb (ix3 (0 : Fin 1) p (headCol g d)) (1 : Fin 3) : Nat) = p.val :=
    (((cfg0).win 13).rect_emb_val t (ix3 (0 : Fin 1) p (headCol g d)) (1 : Fin 3)).trans (by show 0 * 512 + p.val = p.val; omega)
  have e2 : ((((cfg0).win 13).rect t).emb (ix3 (0 : Fin 1) p (headCol g d)) (2 : Fin 3) : Nat) = (⟨134 * 512 + (g.val * 128 + d.val), by omega⟩ : Fin 81920).val :=
    (((cfg0).win 13).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 13 (keyCol g d) _ (by show 134 * 512 + (g.val * 128 + d.val) = 13 * 5120 + (2048 + (g.val * 128 + d.val)); omega))
theorem tokens_blk14 (c : Dev nD) (t : Fin cfg0.N) (p : Fin 512) (g : Fin 4) (d : Fin 128) :
    (iblk m c 14 t : Vec Ideal S1x512x512 .bf16) (ix3 0 p (headCol g d)) = (m ((c : Thread nD τ).loc main_arg0) : S16384x5120.Idx → EReal) (ix2 (tokenRow (seqOf t) p 14) (keyCol g d)) := by
  show V m c main_v1 ((((cfg0).win 14).rect t).emb (ix3 (0 : Fin 1) p (headCol g d))) = _
  have e0 : ((((cfg0).win 14).rect t).emb (ix3 (0 : Fin 1) p (headCol g d)) (0 : Fin 3) : Nat) = (seqOf t).val :=
    (((cfg0).win 14).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 14).rect t).emb (ix3 (0 : Fin 1) p (headCol g d)) (1 : Fin 3) : Nat) = p.val :=
    (((cfg0).win 14).rect_emb_val t (ix3 (0 : Fin 1) p (headCol g d)) (1 : Fin 3)).trans (by show 0 * 512 + p.val = p.val; omega)
  have e2 : ((((cfg0).win 14).rect t).emb (ix3 (0 : Fin 1) p (headCol g d)) (2 : Fin 3) : Nat) = (⟨144 * 512 + (g.val * 128 + d.val), by omega⟩ : Fin 81920).val :=
    (((cfg0).win 14).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 14 (keyCol g d) _ (by show 144 * 512 + (g.val * 128 + d.val) = 14 * 5120 + (2048 + (g.val * 128 + d.val)); omega))
theorem tokens_blk15 (c : Dev nD) (t : Fin cfg0.N) (p : Fin 512) (g : Fin 4) (d : Fin 128) :
    (iblk m c 15 t : Vec Ideal S1x512x512 .bf16) (ix3 0 p (headCol g d)) = (m ((c : Thread nD τ).loc main_arg0) : S16384x5120.Idx → EReal) (ix2 (tokenRow (seqOf t) p 15) (keyCol g d)) := by
  show V m c main_v1 ((((cfg0).win 15).rect t).emb (ix3 (0 : Fin 1) p (headCol g d))) = _
  have e0 : ((((cfg0).win 15).rect t).emb (ix3 (0 : Fin 1) p (headCol g d)) (0 : Fin 3) : Nat) = (seqOf t).val :=
    (((cfg0).win 15).rect_emb_val t (ix3 (0 : Fin 1) p (headCol g d)) (0 : Fin 3)).trans (by show (BitVec.ofNat 32 (grid0.coords t 0).val).toNat * 1 + 0 = (grid0.coords t 0).val; rw [seq_word]; omega)
  have e1 : ((((cfg0).win 15).rect t).emb (ix3 (0 : Fin 1) p (headCol g d)) (1 : Fin 3) : Nat) = p.val :=
    (((cfg0).win 15).rect_emb_val t (ix3 (0 : Fin 1) p (headCol g d)) (1 : Fin 3)).trans (by show 0 * 512 + p.val = p.val; omega)
  have e2 : ((((cfg0).win 15).rect t).emb (ix3 (0 : Fin 1) p (headCol g d)) (2 : Fin 3) : Nat) = (⟨154 * 512 + (g.val * 128 + d.val), by omega⟩ : Fin 81920).val :=
    (((cfg0).win 15).rect_emb_val t (ix3 (0 : Fin 1) p (headCol g d)) (2 : Fin 3)).trans rfl
  exact (congrArg (V m c main_v1 : S2x512x81920.Idx → EReal) (idx3_ext _ (seqOf t) p _ e0 e1 e2)).trans (V_tokens m c (seqOf t) p 15 (keyCol g d) _ (by show 154 * 512 + (g.val * 128 + d.val) = 15 * 5120 + (2048 + (g.val * 128 + d.val)); omega))

/-- The sixteen windows on the tokens. -/
abbrev tokenWins (c : Dev nD) (t : Fin cfg0.N) : Fin 16 → Vec Ideal S1x512x512 .bf16 := ![iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t]

theorem tokens_blk (c : Dev nD) (t : Fin cfg0.N) (l : Fin 16) (p : Fin 512) (g : Fin 4) (d : Fin 128) :
    tokenWins m c t l (ix3 0 p (headCol g d)) = (m ((c : Thread nD τ).loc main_arg0) : S16384x5120.Idx → EReal) (ix2 (tokenRow (seqOf t) p l) (keyCol g d)) := by
  fin_cases l
  · exact tokens_blk0 m c t p g d
  · exact tokens_blk1 m c t p g d
  · exact tokens_blk2 m c t p g d
  · exact tokens_blk3 m c t p g d
  · exact tokens_blk4 m c t p g d
  · exact tokens_blk5 m c t p g d
  · exact tokens_blk6 m c t p g d
  · exact tokens_blk7 m c t p g d
  · exact tokens_blk8 m c t p g d
  · exact tokens_blk9 m c t p g d
  · exact tokens_blk10 m c t p g d
  · exact tokens_blk11 m c t p g d
  · exact tokens_blk12 m c t p g d
  · exact tokens_blk13 m c t p g d
  · exact tokens_blk14 m c t p g d
  · exact tokens_blk15 m c t p g d

/-- The block of the position rows. -/
theorem positions_blk (c : Dev nD) (t : Fin cfg0.N) (k : Fin 32) (g : Fin 4) (d : Fin 128) :
    (iblk m c 16 t : Vec Ideal S32x512 .f32) (ix2 k (headCol g d)) = (m ((c : Thread nD τ).loc main_arg1) : S32x128.Idx → EReal) (ix2 k d) := by
  show V m c main_v4 ((((cfg0).win 16).rect t).emb (ix2 k (headCol g d))) = _
  have e0 : ((((cfg0).win 16).rect t).emb (ix2 k (headCol g d)) (0 : Fin 2) : Nat) = k.val :=
    (((cfg0).win 16).rect_emb_val t (ix2 k (headCol g d)) (0 : Fin 2)).trans (by show 0 * 32 + k.val = k.val; omega)
  have e1 : ((((cfg0).win 16).rect t).emb (ix2 k (headCol g d)) (1 : Fin 2) : Nat) = (headCol g d).val :=
    (((cfg0).win 16).rect_emb_val t (ix2 k (headCol g d)) (1 : Fin 2)).trans (by show 0 * 512 + (headCol g d).val = (headCol g d).val; omega)
  exact (congrArg (V m c main_v4 : S32x512.Idx → EReal) (idx2_ext _ k (headCol g d) e0 e1)).trans (V_positions m c k g d)

/-- The block of the thirty-two matrices. -/
theorem first_blk (c : Dev nD) (t : Fin cfg0.N) (k : Fin 32) (d e : Fin 128) :
    (iblk m c 17 t : Vec Ideal S32x128x128 .bf16) (ix3 k d e) = (m ((c : Thread nD τ).loc main_arg2) : S32x128x128.Idx → EReal) (ix3 k d e) := by
  show V m c main_v5 ((((cfg0).win 17).rect t).emb (ix3 k d e)) = _
  refine (congrFun (V_first m c) _).trans ?_
  have e0 : ((((cfg0).win 17).rect t).emb (ix3 k d e) (0 : Fin 3) : Nat) = k.val :=
    (((cfg0).win 17).rect_emb_val t (ix3 k d e) (0 : Fin 3)).trans (by show 0 * 32 + k.val = k.val; omega)
  have e1 : ((((cfg0).win 17).rect t).emb (ix3 k d e) (1 : Fin 3) : Nat) = d.val :=
    (((cfg0).win 17).rect_emb_val t (ix3 k d e) (1 : Fin 3)).trans (by show 0 * 128 + d.val = d.val; omega)
  have e2 : ((((cfg0).win 17).rect t).emb (ix3 k d e) (2 : Fin 3) : Nat) = e.val :=
    (((cfg0).win 17).rect_emb_val t (ix3 k d e) (2 : Fin 3)).trans (by show 0 * 128 + e.val = e.val; omega)
  exact congrArg _ (idx3_ext _ k d e e0 e1 e2)

/-- The block of the second matrix. -/
theorem second_blk (c : Dev nD) (t : Fin cfg0.N) (e q : Fin 128) :
    (iblk m c 18 t : Vec Ideal S128x128 .bf16) (ix2 e q) = (m ((c : Thread nD τ).loc main_arg3) : S128x128.Idx → EReal) (ix2 e q) := by
  show V m c main_v6 ((((cfg0).win 18).rect t).emb (ix2 e q)) = _
  refine (congrFun (V_second m c) _).trans ?_
  have e0 : ((((cfg0).win 18).rect t).emb (ix2 e q) (0 : Fin 2) : Nat) = e.val :=
    (((cfg0).win 18).rect_emb_val t (ix2 e q) (0 : Fin 2)).trans (by show 0 * 128 + e.val = e.val; omega)
  have e1 : ((((cfg0).win 18).rect t).emb (ix2 e q) (1 : Fin 2) : Nat) = q.val :=
    (((cfg0).win 18).rect_emb_val t (ix2 e q) (1 : Fin 2)).trans (by show 0 * 128 + q.val = q.val; omega)
  exact congrArg _ (idx2_ext _ e q e0 e1)

/-- The array the kernel leaves. -/
def result (c : Dev nD) : S2x512x512.Idx → EReal := fun i =>
  keyAt (m ((c : Thread nD τ).loc main_arg0)) (m ((c : Thread nD τ).loc main_arg1)) (m ((c : Thread nD τ).loc main_arg2)) (m ((c : Thread nD τ).loc main_arg3)) (i 0) (i 1)
    ⟨(i 2).val / 128, by have h : (i 2).val < 512 := (i 2).isLt; omega⟩ ⟨(i 2).val % 128, Nat.mod_lt _ (by decide)⟩

theorem result_apply (c : Dev nD) (i : S2x512x512.Idx) (b : Fin 2) (p : Fin 512) (g : Fin 4) (q : Fin 128)
    (h0 : (i 0).val = b.val) (h1 : (i 1).val = p.val) (h2 : (i 2).val = g.val * 128 + q.val) :
    result m c i = keyAt (m ((c : Thread nD τ).loc main_arg0)) (m ((c : Thread nD τ).loc main_arg1)) (m ((c : Thread nD τ).loc main_arg2)) (m ((c : Thread nD τ).loc main_arg3)) b p g q := by
  unfold result
  have e0 : i 0 = b := Fin.ext h0
  have e1 : i 1 = p := Fin.ext h1
  have eg : (⟨(i 2).val / 128, by have h : (i 2).val < 512 := (i 2).isLt; omega⟩ : Fin 4) = g := Fin.ext (by show (i 2).val / 128 = g.val; omega)
  have eq : (⟨(i 2).val % 128, Nat.mod_lt _ (by decide)⟩ : Fin 128) = q := Fin.ext (by show (i 2).val % 128 = q.val; omega)
  rw [e0, e1, eg, eq]

/-- One token's share, from the blocks and from the arrays. -/
theorem token_eq (c : Dev nD) (t : Fin cfg0.N) (l : Fin 16) (k : Fin 32) (g : Fin 4) (p : Fin 512) (e : Fin 128) :
    tokenAt (tokenWins m c t l) (iblk m c 16 t) (iblk m c 17 t) k g p e
      = termAt (m ((c : Thread nD τ).loc main_arg0)) (m ((c : Thread nD τ).loc main_arg1)) (m ((c : Thread nD τ).loc main_arg2)) (seqOf t) p l k g e :=
  Finset.sum_congr rfl fun d _ => congrArg₂ _ (congrArg₂ _ (tokens_blk m c t l p g d) (positions_blk m c t k g d)) (first_blk m c t k d e)

/-- The block that point `t` leaves, from the arrays. -/
theorem block_eq (c : Dev nD) (t : Fin cfg0.N) (g : Fin 4) (p : Fin 512) (q : Fin 128) :
    blockAt (tokenWins m c t) (iblk m c 16 t) (iblk m c 17 t) (iblk m c 18 t) g p q
      = keyAt (m ((c : Thread nD τ).loc main_arg0)) (m ((c : Thread nD τ).loc main_arg1)) (m ((c : Thread nD τ).loc main_arg2)) (m ((c : Thread nD τ).loc main_arg3)) (seqOf t) p g q := by
  unfold blockAt keyAt preAt sumAt
  refine Finset.sum_congr rfl fun e _ => congrArg₂ _ (congrArg actOf (congrArg₂ _ ?_ ?_)) (second_blk m c t e q)
  · exact Finset.sum_congr rfl fun l _ => token_eq m c t l _ g p e
  · exact Finset.sum_congr rfl fun l _ => token_eq m c t l _ g (nextRow p) e

/-- What point `t` writes back is its block of that array. -/
theorem flushed_eq (c : Dev nD) (t : Fin cfg0.N) :
    (dats m 0 c).flushed 19 t = ((cfg0.win 19).blk t).view.read (Elt Ideal) (result m c) := by
  rw [Cert.Kernel10Ideal.Value.flushed19]
  funext y
  revert y
  show ∀ y : S1x512x512.Idx, (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) : Vec Ideal S1x512x512 .bf16) y = result m c (((cfg0.win 19).rect t).emb y)
  intro y
  have h2 : (y 2).val < 512 := (y 2).isLt
  obtain ⟨g, q, hgq⟩ : ∃ (g : Fin 4) (q : Fin 128), (y 2).val = g.val * 128 + q.val :=
    ⟨⟨(y 2).val / 128, by omega⟩, ⟨(y 2).val % 128, Nat.mod_lt _ (by decide)⟩, by show (y 2).val = (y 2).val / 128 * 128 + (y 2).val % 128; omega⟩
  refine (out_apply (tokenWins m c t) (iblk m c 16 t) (iblk m c 17 t) (iblk m c 18 t) y).trans ?_
  refine (blockFn_apply _ _ _ _ y g (y 1) q rfl hgq).trans ?_
  refine (block_eq m c t g (y 1) q).trans (result_apply m c _ (seqOf t) (y 1) g q ?_ ?_ ?_).symm
  · refine ((cfg0.win 19).rect_emb_val t y (0 : Fin 3)).trans ?_
    have h0 : (y 0).val < 1 := (y 0).isLt
    show (BitVec.ofNat 32 (grid0.coords t 0).val).toNat * 1 + (y 0).val = (grid0.coords t 0).val
    rw [seq_word]; omega
  · refine ((cfg0.win 19).rect_emb_val t y (1 : Fin 3)).trans ?_
    show 0 * 512 + (y 1).val = (y 1).val
    omega
  · refine ((cfg0.win 19).rect_emb_val t y (2 : Fin 3)).trans ?_
    show 0 * 512 + (y 2).val = _
    omega

/-- The blocks tile the array. -/
theorem cover (i : S2x512x512.Idx) : ∃ t : Fin cfg0.N, (cfg0.win 19).flush t = true ∧ i ∈ ((cfg0.win 19).blk t).view.set := by
  have h0 : (i 0).val < 2 := (i 0).isLt
  have h1 : (i 1).val < 512 := (i 1).isLt
  have h2 : (i 2).val < 512 := (i 2).isLt
  obtain ⟨t, ht⟩ := grid0.coords_surjective (fun a => match a with
    | ⟨0, _⟩ => ⟨(i 0).val, h0⟩)
  have c0 : (grid0.coords t 0).val = (i 0).val := congrArg Fin.val (congrFun ht 0)
  refine ⟨t, flush0_19 t, ?_⟩
  show i ∈ ((View.whole main_v7).slice ((cfg0.win 19).rect t)).set
  erw [View.set_slice_whole]
  refine (Pipeline.Window.mem_rect_iff (cfg0.win 19) t i (by rfl)).mpr fun a => ?_
  match a with
  | ⟨0, _⟩ =>
    show (BitVec.ofNat 32 (grid0.coords t 0).val).toNat * 1 ≤ (i 0).val ∧ (i 0).val < (BitVec.ofNat 32 (grid0.coords t 0).val).toNat * 1 + 1
    rw [seq_word t, c0]; omega
  | ⟨1, _⟩ =>
    show 0 * 512 ≤ (i 1).val ∧ (i 1).val < 0 * 512 + 512
    omega
  | ⟨2, _⟩ =>
    show 0 * 512 ≤ (i 2).val ∧ (i 2).val < 0 * 512 + 512
    omega

/-- So the array ends holding it. -/
theorem final (c : Dev nD) : (dats m 0 c).arrAt 19 cfg0.N = result m c :=
  (dats m 0 c).arrAt_eq_of_cover 19 (result m c) (fun t _ => flushed_eq m c t) cover

end Cert.Kernel10Ideal.Compress

end
-- ==== Proof.CompressClaims.lean ====
/- The keys of the first attention, compressed: the reference at an index, and the claims. -/
module

public import proofs.«01_k».proof.Defs
public import proofs.«01_k».proof.Proof.Gen.Kernel10.Frame
public import proofs.«01_k».proof.Proof.Gen.Reference10Ideal.Read
public import proofs.«01_k».proof.Proof.Gen.On_whole_blocks
public import proofs.«01_k».proof.Proof.Compress
public import Idealize.ShloMosaic.Lib.TwoAxisContraction
public import Idealize.ShloMosaic.Lib.StableHlo.Predicate

@[expose] public section

set_option maxRecDepth 16384

noncomputable section

namespace Cert.Proof.Compress

open Idealize.ShloMosaic Idealize.SL.Sem Cert.Reference10Ideal Cert.Reference10Ideal.Read
open Cert.Kernel10Ideal.Compress (tokenRow keyCol termAt sumAt keyAt actOf nextRow headCol)

theorem frame_kernel : Cert.quiescent_Kernel10 := fun m ρ _ => Cert.Kernel10.Gen.frame m ρ
theorem frame_kernelIdeal : Cert.quiescent_Kernel10Ideal := fun m ρ _ => Cert.Kernel10Ideal.Gen.frame m ρ

/-- The reference ends for every launch memory, with its arguments unchanged and every semaphore at zero. -/
theorem frame_reference : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)

/-- A word below 8192 is not negative, so the wrap leaves it. -/
theorem wrap_keeps (n : Nat) (h : n < 8192) :
    (Scalar.select (IntOp.cmpi .slt (BitVec.ofNat 32 n) 0#32) (IntOp.addi (BitVec.ofNat 32 n) 8192#32) (BitVec.ofNat 32 n)).toInt.toNat = n := by
  have ht : (BitVec.ofNat 32 n).toInt = (n : Int) := by
    rw [BitVec.toInt_ofNat']
    exact Int.bmod_eq_of_le (by omega) (by omega)
  have hs : (BitVec.ofNat 32 n).slt 0#32 = false := by
    rw [BitVec.slt, ht]
    simp
  have hc : IntOp.cmpi .slt (BitVec.ofNat 32 n) 0#32 = 0#1 := by
    show BitVec.ofBool ((BitVec.ofNat 32 n).slt 0#32) = 0#1
    rw [hs]; rfl
  rw [hc]
  show (BitVec.ofNat 32 n).toInt.toNat = n
  rw [ht]; rfl

/-- The token that position `l` of block `i` names. -/
theorem position (i : Fin 511) (l : Fin 32) : (val_main_v16 (F := Ideal) (ix3 i l (0 : Fin 1))).toInt.toNat = i.val * 16 + l.val := by
  rw [val_main_v16_apply, val_main_v15_apply, val_main_v12_apply, val_main_v14_apply, val_main_v11_apply, val_main_c_0_apply, val_main_v13_apply, val_main_c_1_apply]
  have e : val_main_v10 (F := Ideal) (idx_main_v16 (ix3 i l (0 : Fin 1))) = BitVec.ofNat 32 (i.val * 16 + l.val) := by
    rw [val_main_v10_apply, val_main_v8_apply, val_main_v9_apply, val_main_v5_apply, val_main_v7_apply, val_main_v6_apply, val_main_v3_apply, val_main_v2_apply, val_main_v4_apply, val_main_c_apply]
    show BitVec.ofNat 32 i.val * BitVec.ofNat 32 16 + BitVec.ofNat 32 l.val = _
    rw [← BitVec.ofNat_mul, ← BitVec.ofNat_add]
  rw [e]
  exact wrap_keeps _ (by omega)

/-- The token `l` of block `i` in sequence `b`. -/
abbrev takenRow (i : Fin 511) (l : Fin 32) : Fin 8192 := ⟨i.val * 16 + l.val, by omega⟩

/-- The tokens that the reference takes for its blocks. -/
theorem taken (x0 : (⟨S16384x5120, .f32⟩ : BufTy).Contents (Elt Ideal)) (b : Fin 2) (i : Fin 511) (l : Fin 32) (g : Fin 4) (d : Fin 128) :
    val_main_v17 (F := Ideal) x0 (ix5 b i l g d) = val_main_v1 (F := Ideal) x0 (ix4 b (takenRow i l) g d) := by
  unfold val_main_v17 Host.gather
  refine congrArg (val_main_v1 (F := Ideal) x0) (funext fun a => Fin.ext ?_)
  show gather_S2x8192x4x128_S511x32x1_S2x511x32x4x128_034_1_n_n_1_2_214128.start (ix5 b i l g d) (val_main_v16 (F := Ideal)) a
    + gather_S2x8192x4x128_S511x32x1_S2x511x32x4x128_034_1_n_n_1_2_214128.batchCoord (ix5 b i l g d) a
    + gather_S2x8192x4x128_S511x32x1_S2x511x32x4x128_034_1_n_n_1_2_214128.offCoord (ix5 b i l g d) a = _
  rw [GatherDims.batchCoord_eq_zero _ _ _ List.not_mem_nil, Nat.add_zero]
  have h0123 : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h0123 with rfl | rfl | rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    have hsi : gather_S2x8192x4x128_S511x32x1_S2x511x32x4x128_034_1_n_n_1_2_214128.siIdx (ix5 b i l g d) ⟨List.idxOf (1 : Fin 4) gather_S2x8192x4x128_S511x32x1_S2x511x32x4x128_034_1_n_n_1_2_214128.startIndexMap,
        List.idxOf_lt_length_iff.2 (by decide)⟩ = ix3 i l (0 : Fin 1) := by
      funext c; refine Fin.ext ?_
      match c with
      | ⟨0, _⟩ => rfl
      | ⟨1, _⟩ => rfl
      | ⟨2, _⟩ => rfl
    rw [hsi, position]
    show min (i.val * 16 + l.val) (8192 - 1) = i.val * 16 + l.val
    omega
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-- A token with its position's row added. -/
theorem placed (x0 : (⟨S16384x5120, .f32⟩ : BufTy).Contents (Elt Ideal)) (x1 : (⟨S32x128, .f32⟩ : BufTy).Contents (Elt Ideal)) (b : Fin 2) (i : Fin 511) (l : Fin 32) (g : Fin 4) (d : Fin 128)
    (r : Fin 16384) (hr : r.val = b.val * 8192 + (i.val * 16 + l.val)) :
    val_main_v21 (F := Ideal) x0 x1 (ix5 b i l g d) = x0 (ix2 r (keyCol g d)) + x1 (ix2 l d) := by
  rw [val_main_v21_apply, taken, val_main_v1_apply, val_main_v0_apply, val_main_v20_apply, val_main_v19_apply, val_main_v18_apply]
  have e0 : idx_main_v0 (idx_main_v1 (ix4 b (takenRow i l) g d)) = ix2 r (keyCol g d) := funext fun a => Fin.ext (by
    match a with
    | ⟨0, _⟩ => show (((b.val * 8192 + (i.val * 16 + l.val)) * 4 + g.val) * 128 + d.val) / 512 = r.val; omega
    | ⟨1, _⟩ => show 2048 + (((b.val * 8192 + (i.val * 16 + l.val)) * 4 + g.val) * 128 + d.val) % 512 = 2048 + (g.val * 128 + d.val); omega)
  have e1 : idx_main_v18 (idx_main_v19 (idx_main_v20 (ix5 b i l g d))) = ix2 l d := funext fun a => Fin.ext (match a with
    | ⟨0, _⟩ => rfl
    | ⟨1, _⟩ => rfl)
  rw [e0, e1]
  rfl

/-- The product over positions and columns at once. -/
theorem product (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (b : Fin 2) (i : Fin 511) (g : Fin 4) (e : Fin 128) :
    val_main_v22 (F := Ideal) x0 x1 x2 (ix4 b i g e) = ∑ d : Fin 128, ∑ l : Fin 32, val_main_v21 (F := Ideal) x0 x1 (ix5 b i l g d) * x2 (ix3 l d e) := by
  unfold val_main_v22
  generalize val_main_v21 (F := Ideal) x0 x1 = y
  simp only [Host.dotGeneral]
  rw [Ideal.dotGeneral_apply, ValueIdx.sum_contr2 dot_S2x511x32x4x128_S32x128x128_S2x511x4x128_42_10_013_2_n_n 128 32 rfl rfl rfl]
  refine Finset.sum_congr rfl fun d _ => Finset.sum_congr rfl fun l _ => ?_
  have h0 := ValueIdx.contrEquiv2_symm_val0 dot_S2x511x32x4x128_S32x128x128_S2x511x4x128_42_10_013_2_n_n 128 32 rfl rfl rfl (d, l)
  have h1 := ValueIdx.contrEquiv2_symm_val1 dot_S2x511x32x4x128_S32x128x128_S2x511x4x128_42_10_013_2_n_n 128 32 rfl rfl rfl (d, l)
  have el : dot_S2x511x32x4x128_S32x128x128_S2x511x4x128_42_10_013_2_n_n.lhsIdx (ix4 b i g e) ((ValueIdx.contrEquiv2 dot_S2x511x32x4x128_S32x128x128_S2x511x4x128_42_10_013_2_n_n 128 32 rfl rfl rfl).symm (d, l)) = ix5 b i l g d := by
    funext a; apply Fin.ext
    match a with
    | ⟨0, _⟩ => rfl
    | ⟨1, _⟩ => rfl
    | ⟨2, _⟩ => exact h1
    | ⟨3, _⟩ => rfl
    | ⟨4, _⟩ => exact h0
  have er : dot_S2x511x32x4x128_S32x128x128_S2x511x4x128_42_10_013_2_n_n.rhsIdx (ix4 b i g e) ((ValueIdx.contrEquiv2 dot_S2x511x32x4x128_S32x128x128_S2x511x4x128_42_10_013_2_n_n 128 32 rfl rfl rfl).symm (d, l)) = ix3 l d e := by
    funext a; apply Fin.ext
    match a with
    | ⟨0, _⟩ => exact h1
    | ⟨1, _⟩ => exact h0
    | ⟨2, _⟩ => rfl
  rw [el, er]

/-- A block's sum: sixteen tokens of its own, sixteen of the next. -/
theorem ref_sum (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (b : Fin 2) (i : Fin 511) (g : Fin 4) (e : Fin 128) :
    val_main_v22 (F := Ideal) x0 x1 x2 (ix4 b i g e) = sumAt x0 x1 x2 b ⟨i.val, by omega⟩ g e := by
  rw [product, Finset.sum_comm]
  unfold sumAt termAt
  refine (Fin.sum_univ_add (a := 16) (b := 16) (fun l : Fin 32 => ∑ d : Fin 128, val_main_v21 (F := Ideal) x0 x1 (ix5 b i l g d) * x2 (ix3 l d e))).trans ?_
  refine congrArg₂ _ (Finset.sum_congr rfl fun l _ => Finset.sum_congr rfl fun d _ => congrArg₂ _ ?_ rfl) (Finset.sum_congr rfl fun l _ => Finset.sum_congr rfl fun d _ => congrArg₂ _ ?_ rfl)
  · exact placed x0 x1 b i _ g d (tokenRow b ⟨i.val, by omega⟩ l) (by show (b.val * 512 + i.val) * 16 + l.val = b.val * 8192 + (i.val * 16 + l.val); omega)
  · exact placed x0 x1 b i _ g d (tokenRow b (nextRow ⟨i.val, by omega⟩) l) (by show (b.val * 512 + (i.val + 1) % 512) * 16 + l.val = b.val * 8192 + (i.val * 16 + (16 + l.val)); omega)

/-- The activation of a sum. -/
theorem ref_act (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (j : S2x511x4x128.Idx) :
    val_main_v35 (F := Ideal) x0 x1 x2 j = actOf (val_main_v22 (F := Ideal) x0 x1 x2 j) := by
  rw [val_main_v35_apply, val_main_v34_apply, val_main_v33_apply, val_main_cst_4_apply, val_main_v32_apply, val_main_v31_apply, val_main_cst_3_apply, val_main_v30_apply, val_main_v29_apply, val_main_v28_apply,
    val_main_cst_2_apply, val_main_v27_apply, val_main_v26_apply, val_main_v25_apply, val_main_cst_apply, val_main_v24_apply, val_main_v23_apply]
  generalize val_main_v22 (F := Ideal) x0 x1 x2 j = v
  unfold actOf
  rw [mul_comm _ v, mul_assoc]
  rfl

/-- The reference's result in a row that holds a whole block. -/
theorem ref_apply (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (x3 : (⟨S128x128, .f32⟩ : BufTy).Contents (Elt Ideal))
    (b : Fin 2) (p : Fin 512) (hp : p.val < 511) (g : Fin 4) (q : Fin 128) :
    val_main_v39 (F := Ideal) x0 x1 x2 x3 (ix3 b p (headCol g q)) = keyAt x0 x1 x2 x3 b p g q := by
  rw [val_main_v39_apply]
  show val_main_v38 (F := Ideal) x0 x1 x2 x3 (ix3 b p (headCol g q)) = _
  unfold val_main_v38
  refine (pad_apply_of_inside _ _ _ _ _ _ _ (ix3 b p (headCol g q)) (ix3 b (⟨p.val, hp⟩ : Fin 511) (headCol g q)) (fun a => match a with
    | ⟨0, _⟩ => by show b.val = 0 + b.val * (0 + 1); omega
    | ⟨1, _⟩ => by show p.val = 0 + p.val * (0 + 1); omega
    | ⟨2, _⟩ => by show (headCol g q).val = 0 + (headCol g q).val * (0 + 1); omega)).trans ?_
  have e : idx_main_v37 (ix3 b (⟨p.val, hp⟩ : Fin 511) (headCol g q)) = ix4 b (⟨p.val, hp⟩ : Fin 511) g q := funext fun a => Fin.ext (by
    match a with
    | ⟨0, _⟩ => show ((b.val * 511 + p.val) * 512 + (g.val * 128 + q.val)) / 261632 = b.val; omega
    | ⟨1, _⟩ => show ((b.val * 511 + p.val) * 512 + (g.val * 128 + q.val)) / 512 % 511 = p.val; omega
    | ⟨2, _⟩ => show ((b.val * 511 + p.val) * 512 + (g.val * 128 + q.val)) / 128 % 4 = g.val; omega
    | ⟨3, _⟩ => show ((b.val * 511 + p.val) * 512 + (g.val * 128 + q.val)) % 128 = q.val; omega)
  rw [val_main_v37_apply, e, val_main_v36_apply]
  unfold keyAt
  refine Finset.sum_congr rfl fun k _ => congrArg₂ _ ?_ ?_
  · have el : lidx_main_v36 (ix4 b (⟨p.val, hp⟩ : Fin 511) g q) k = ix4 b (⟨p.val, hp⟩ : Fin 511) g k := funext fun a => Fin.ext (match a with | ⟨0, _⟩ => rfl | ⟨1, _⟩ => rfl | ⟨2, _⟩ => rfl | ⟨3, _⟩ => rfl)
    rw [el, ref_act, ref_sum]
  · exact congrArg x3 (funext fun a => Fin.ext (match a with | ⟨0, _⟩ => rfl | ⟨1, _⟩ => rfl))

/-- The mask is set exactly in the rows before the last. -/
theorem mask_iff (x0 : (⟨S16384x5120, .f32⟩ : BufTy).Contents (Elt Ideal)) (x1 : (⟨S32x128, .f32⟩ : BufTy).Contents (Elt Ideal)) (x2 : (⟨S32x128x128, .f32⟩ : BufTy).Contents (Elt Ideal)) (x3 : (⟨S128x128, .f32⟩ : BufTy).Contents (Elt Ideal)) (i : S2x512x512.Idx) :
    Cert.On_whole_blocks.fn (F := Ideal) x0 x1 x2 x3 i = 1#1 ↔ (i 1).val < 511 := by
  have key : ∀ r : Fin 512, IntOp.cmpi .slt (BitVec.ofNat 32 r.val) 511#32 = 1#1 ↔ r.val < 511 := by decide
  exact key (i 1)

/-- Both leave the same keys in every row that holds a whole block. -/
theorem algebraic : Cert.algebraic_Kernel10Ideal_Reference10Ideal_on_whole_blocks := by
  intro m ρ m' ρ' _ hagree
  refine ⟨fun c => Cert.Kernel10Ideal.Compress.result m c,
    (θ_run Cert.Kernel10Ideal.defs _ _).mono (fun _ h c => ⟨fun i _ => congrFun (((h c).1).trans (Cert.Kernel10Ideal.Compress.final m c)) i, (h c).2⟩) (Cert.Kernel10Ideal.Value.run_blocks (F := Ideal) m ρ),
    (θ_run Cert.Reference10Ideal.defs _ _).mono (fun _ h c => ⟨fun i hi => (congrFun ((h c).1) i).trans ?_, (h c).2⟩) (Cert.Reference10Ideal.Value.run (F := Ideal) m' ρ')⟩
  rw [Cert.Reference10Ideal.Read.val_main_v39_eq]
  obtain ⟨h0, h1, h2, h3⟩ := hagree c
  have hp := (mask_iff _ _ _ _ i).mp hi
  have h2' : (i 2).val < 512 := (i 2).isLt
  obtain ⟨g, q, hgq⟩ : ∃ (g : Fin 4) (q : Fin 128), (i 2).val = g.val * 128 + q.val :=
    ⟨⟨(i 2).val / 128, by omega⟩, ⟨(i 2).val % 128, Nat.mod_lt _ (by decide)⟩, by show (i 2).val = (i 2).val / 128 * 128 + (i 2).val % 128; omega⟩
  obtain ⟨b, p, rfl⟩ : ∃ (b : Fin 2) (p : Fin 512), i = ix3 b p (headCol g q) := ⟨i 0, i 1, Cert.Kernel10Ideal.Compress.idx3_ext i (i 0) (i 1) (headCol g q) rfl rfl hgq⟩
  refine (ref_apply _ _ _ _ b p hp g q).trans ?_
  rw [h0, h1, h2, h3]
  exact (Cert.Kernel10Ideal.Compress.result_apply m c (ix3 b p (headCol g q)) b p g q rfl rfl rfl).symm

end Cert.Proof.Compress

end
-- ==== Proof.AttnOutBlock.lean ====
/- An attention's output product with the residual and the layer norm: what one block of the result holds. -/
module

public import proofs.«01_k».proof.Proof.Gen.Kernel5Ideal.Value
public import Idealize.ShloMosaic.Lib.Pipeline.ValueKit.Acc
public import proofs.«01_k».proof.Proof.DenseDownBlock
public import Idealize.ShloMosaic.Lib.Pointwise

@[expose] public section

set_option maxRecDepth 16384

noncomputable section

namespace Cert.Kernel5Ideal.AttnOut

open Cert.Kernel5Ideal Cert.Kernel5Ideal.Gen
open Idealize.ShloMosaic Idealize.ShloMosaic.TcCoe
open Cert.Kernel4Ideal.Dense (mean normed)

theorem hz : (![0, 0] : Fin 2 → Nat) = fun _ => 0 := by decide

section named
variable {F : FTy → Type} [FloatOps F]

/-- A point adds its product to zeros and stores the normed rows, -/
theorem out_last (c : Dev nD) (i : grid0.Coords) (a2 : Memref sig .tc .vmem S256x2048 .bf16) (h2 : a2.IsWhole) (a3 : Memref sig .tc .vmem S2048x2048 .bf16) (h3 : a3.IsWhole)
    (a4 : Memref sig .tc .vmem S256x2048 .f32) (h4 : a4.IsWhole) (a5 : Memref sig .tc .vmem S1x2048 .f32) (h5 : a5.IsWhole) (a6 : Memref sig .tc .vmem S1x2048 .f32) (h6 : a6.IsWhole)
    (a7 : Memref sig .tc .vmem S256x2048 .f32) (h7 : a7.IsWhole) (a8 : Memref sig .tc .vmem S256x2048 .bf16) (h8 : a8.IsWhole) (a9 : Memref sig .tc .vmem S256x2048 .f32) (h9 : a9.IsWhole) (hc0 : cond0_0 i) (hc1 : cond0_1 i)
    (x0 : Vec F S256x2048 .bf16) (x1 : Vec F S2048x2048 .bf16) (x2 : Vec F S256x2048 .f32) (x3 x4 : Vec F S1x2048 .f32) :
    out0_A_5 c i a2 h2 a3 h3 a4 h4 a5 h5 a6 h6 a7 h7 a8 h8 a9 h9 hc0 hc1 x0 x1 x2 x3 x4 = k0_pay3 x2 (k0_pay2 k0_pay1 x0 x1) x3 x4 := by
  unfold out0_A_5
  rw [View.read_writes_eq_canon _ _ _ (cover0_A_5 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, View.readCov_cons_unit_lit' (S := S256x2048) _ _ _ _ _ (fun a => congrFun hz a) (fun a => congrFun hz a), View.readCov_unit_zero (S := S256x2048) _ hz, h2.read_unread, h3.read_unread, h4.read_unread, h5.read_unread, h6.read_unread, h9.read_unread, View.ld_unit_zero (S := S256x2048) hz, View.ld_unit_zero (S := S2048x2048) hz, View.ld_unit_zero (S := S1x2048) hz]

/-- once as they are and once rounded. -/
theorem out_last_rounded (c : Dev nD) (i : grid0.Coords) (a2 : Memref sig .tc .vmem S256x2048 .bf16) (h2 : a2.IsWhole) (a3 : Memref sig .tc .vmem S2048x2048 .bf16) (h3 : a3.IsWhole)
    (a4 : Memref sig .tc .vmem S256x2048 .f32) (h4 : a4.IsWhole) (a5 : Memref sig .tc .vmem S1x2048 .f32) (h5 : a5.IsWhole) (a6 : Memref sig .tc .vmem S1x2048 .f32) (h6 : a6.IsWhole)
    (a7 : Memref sig .tc .vmem S256x2048 .f32) (h7 : a7.IsWhole) (a8 : Memref sig .tc .vmem S256x2048 .bf16) (h8 : a8.IsWhole) (a9 : Memref sig .tc .vmem S256x2048 .f32) (h9 : a9.IsWhole) (hc0 : cond0_0 i) (hc1 : cond0_1 i)
    (x0 : Vec F S256x2048 .bf16) (x1 : Vec F S2048x2048 .bf16) (x2 : Vec F S256x2048 .f32) (x3 x4 : Vec F S1x2048 .f32) :
    out0_A_6 c i a2 h2 a3 h3 a4 h4 a5 h5 a6 h6 a7 h7 a8 h8 a9 h9 hc0 hc1 x0 x1 x2 x3 x4 = k0_pay4 x2 (k0_pay2 k0_pay1 x0 x1) x3 x4 := by
  unfold out0_A_6
  rw [View.read_writes_eq_canon _ _ _ (cover0_A_6 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, View.readCov_cons_unit_lit' (S := S256x2048) _ _ _ _ _ (fun a => congrFun hz a) (fun a => congrFun hz a), View.readCov_unit_zero (S := S256x2048) _ hz, h2.read_unread, h3.read_unread, h4.read_unread, h5.read_unread, h6.read_unread, h9.read_unread, View.ld_unit_zero (S := S256x2048) hz, View.ld_unit_zero (S := S2048x2048) hz, View.ld_unit_zero (S := S1x2048) hz]

end named

/-- The accumulator with a product added. -/
theorem pay_acc (a : Vec Ideal S256x2048 .f32) (x0 : Vec Ideal S256x2048 .bf16) (x1 : Vec Ideal S2048x2048 .bf16) (p : Fin 256) (s : Fin 2048) :
    k0_pay2 (F := Ideal) a x0 x1 (ix2 p s) = a (ix2 p s) + ∑ k : Fin 2048, x0 (ix2 p k) * x1 (ix2 k s) := by
  pointwise [k0_pay2]

/-- The accumulator's start: zeros. -/
theorem pay_zero (j : S256x2048.Idx) : k0_pay1 (F := Ideal) j = 0 := by
  pointwise [k0_pay1]

/-- The rows that are stored. -/
theorem pay_norm (x2 a : Vec Ideal S256x2048 .f32) (x3 x4 : Vec Ideal S1x2048 .f32) (p : Fin 256) (s : Fin 2048) :
    k0_pay3 (F := Ideal) x2 a x3 x4 (ix2 p s) = normed (fun j => Ideal.ofBits .f32 0x3FB504F3#32 * x2 (ix2 p j) + a (ix2 p j)) (x3 (ix2 0 s)) (x4 (ix2 0 s)) s := by
  unfold normed mean
  pointwise [k0_pay3]

/-- Rounding changes nothing over the reals. -/
theorem pay_norm_rounded (x2 a : Vec Ideal S256x2048 .f32) (x3 x4 : Vec Ideal S1x2048 .f32) : (k0_pay4 (F := Ideal) x2 a x3 x4 : S256x2048.Idx → EReal) = k0_pay3 (F := Ideal) x2 a x3 x4 := rfl

end Cert.Kernel5Ideal.AttnOut

end
-- ==== Proof.AttnOut.lean ====
/- An attention's output product with the residual and the layer norm: the whole arrays of the result. -/
module

public import proofs.«01_k».proof.Proof.AttnOutBlock
public import Idealize.ShloMosaic.Lib.Pipeline.ValueKit.Basic
public import Idealize.ShloMosaic.Lib.Pipeline.Covers

@[expose] public section

set_option maxRecDepth 16384

noncomputable section

namespace Cert.Kernel5Ideal.AttnOut

open Cert.Kernel5Ideal Cert.Kernel5Ideal.Gen
open Idealize.ShloMosaic Idealize.ShloMosaic.TcCoe
open Cert.Kernel4Ideal.Dense (mean normed)
open Idealize.ShloMosaic.Pipeline (Dat Cfg Window)

/-- Row `r`, column `s` of the result: the layer norm of the scaled residual plus the product. -/
def lnAt (h : S16384x2048.Idx → EReal) (w : S2048x2048.Idx → EReal) (x : S16384x2048.Idx → EReal) (g b : S2048.Idx → EReal) (r : Fin 16384) (s : Fin 2048) : EReal :=
  normed (fun j => Ideal.ofBits .f32 0x3FB504F3#32 * x (ix2 r j) + ∑ k : Fin 2048, h (ix2 r k) * w (ix2 k j)) (g (ix1 s)) (b (ix1 s)) s

/-- The stored block where the operands are known to be blocks of arrays. -/
theorem norm_of (x2 : Vec Ideal S256x2048 .f32) (a0 : Vec Ideal S256x2048 .bf16) (b0 : Vec Ideal S2048x2048 .bf16) (x3 x4 : Vec Ideal S1x2048 .f32)
    (h : S16384x2048.Idx → EReal) (w : S2048x2048.Idx → EReal) (x : S16384x2048.Idx → EReal) (g b : S2048.Idx → EReal) (r : Fin 16384) (p : Fin 256) (s : Fin 2048)
    (h2 : ∀ j, x2 (ix2 p j) = x (ix2 r j)) (ha0 : ∀ k, a0 (ix2 p k) = h (ix2 r k)) (hb0 : ∀ k j, b0 (ix2 k j) = w (ix2 k j))
    (h3 : x3 (ix2 0 s) = g (ix1 s)) (h4 : x4 (ix2 0 s) = b (ix1 s)) :
    k0_pay3 (F := Ideal) x2 (k0_pay2 (F := Ideal) (k0_pay1 (F := Ideal)) a0 b0) x3 x4 (ix2 p s) = lnAt h w x g b r s := by
  refine (pay_norm x2 _ x3 x4 p s).trans ?_
  unfold lnAt
  rw [h3, h4]
  refine congrArg (fun z => normed z (g (ix1 s)) (b (ix1 s)) s) (funext fun j => ?_)
  rw [h2]
  refine congrArg _ ?_
  rw [pay_acc, pay_zero, zero_add]
  exact Finset.sum_congr rfl fun k _ => congrArg₂ _ (ha0 k) (hb0 k j)

variable (m : (ℓ : Loc nD τ sig) → Buf (Elt Ideal) ℓ)

theorem V_rows (c : Dev nD) : (V m c main_v0 : S16384x2048.Idx → EReal) = m ((c : Thread nD τ).loc main_arg0) := by
  show StableHlo.after _ _ _ = _
  simp only [hostOps0, List.flatten_cons, List.flatten_nil, List.append_nil, List.cons_append, List.nil_append,
    StableHlo.TRef.unary, StableHlo.TRef.toBuf, StableHlo.TRef.ofBuf, cast_eq]
  after_results_simp <;> rfl
theorem V_down (c : Dev nD) : (V m c main_v1 : S2048x2048.Idx → EReal) = m ((c : Thread nD τ).loc main_arg1) := by
  show StableHlo.after _ _ _ = _
  simp only [hostOps0, List.flatten_cons, List.flatten_nil, List.append_nil, List.cons_append, List.nil_append,
    StableHlo.TRef.unary, StableHlo.TRef.toBuf, StableHlo.TRef.ofBuf, cast_eq]
  after_results_simp <;> rfl

/-- A vector laid out as one row, read at a column. -/
theorem row_apply (v : Vec Ideal S2048 .f32) (s : Fin 2048) : shapeCast S1x2048 v shapeCasts_S2048_S1x2048 (ix2 0 s) = v (ix1 s) := by
  pointwise []

theorem V_scale (c : Dev nD) (s : Fin 2048) : (V m c main_v2 : S1x2048.Idx → EReal) (ix2 0 s) = (m ((c : Thread nD τ).loc main_arg3) : S2048.Idx → EReal) (ix1 s) := by
  have e : (V m c main_v2 : S1x2048.Idx → EReal) = shapeCast S1x2048 (m ((c : Thread nD τ).loc main_arg3) : S2048.Idx → EReal) shapeCasts_S2048_S1x2048 := by
    show StableHlo.after _ _ _ = _
    simp only [hostOps0, List.flatten_cons, List.flatten_nil, List.append_nil, List.cons_append, List.nil_append,
      StableHlo.TRef.unary, StableHlo.TRef.toBuf, StableHlo.TRef.ofBuf, cast_eq]
    after_results_simp <;> rfl
  exact (congrFun e _).trans (row_apply _ s)
theorem V_shift (c : Dev nD) (s : Fin 2048) : (V m c main_v3 : S1x2048.Idx → EReal) (ix2 0 s) = (m ((c : Thread nD τ).loc main_arg4) : S2048.Idx → EReal) (ix1 s) := by
  have e : (V m c main_v3 : S1x2048.Idx → EReal) = shapeCast S1x2048 (m ((c : Thread nD τ).loc main_arg4) : S2048.Idx → EReal) shapeCasts_S2048_S1x2048 := by
    show StableHlo.after _ _ _ = _
    simp only [hostOps0, List.flatten_cons, List.flatten_nil, List.append_nil, List.cons_append, List.nil_append,
      StableHlo.TRef.unary, StableHlo.TRef.toBuf, StableHlo.TRef.ofBuf, cast_eq]
    after_results_simp <;> rfl
  exact (congrFun e _).trans (row_apply _ s)

theorem N_eq : cfg0.N = 64 := N_0

/-- The row of the array at row `p` of point `t`'s block. -/
abbrev outRow (t : Fin cfg0.N) (p : Fin 256) : Fin 16384 := ⟨t.val * 256 + p.val, by have h := t.isLt; have e := N_eq; omega⟩
theorem row_word (t : Fin cfg0.N) : (BitVec.ofNat 32 (grid0.coords t 0).val).toNat = t.val := by
  have ht : t.val < 64 := Nat.lt_of_lt_of_eq t.isLt N_0
  have e0 : (grid0.coords t 0).val = t.val / 1 % 64 := Pipeline.Grid.coords_val t 0 (by decide) rfl
  rw [BitVec.toNat_ofNat, e0]
  omega
theorem zero_word (t : Fin cfg0.N) : (BitVec.ofNat 32 (grid0.coords t 1).val).toNat = 0 := by
  have h : (grid0.coords t 1).val < 1 := (grid0.coords t 1).isLt
  rw [BitVec.toNat_ofNat]
  omega

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)

/-- The block of rows that point `t` reads. -/
theorem rows_blk (c : Dev nD) (t : Fin cfg0.N) (p : Fin 256) (k : Fin 2048) :
    (iblk m c 0 t : Vec Ideal S256x2048 .bf16) (ix2 p k) = (m ((c : Thread nD τ).loc main_arg0) : S16384x2048.Idx → EReal) (ix2 (outRow t p) (k)) := by
  show V m c main_v0 ((((cfg0).win 0).rect t).emb (ix2 p k)) = _
  refine (congrFun (V_rows m c) _).trans ?_
  have e0 : ((((cfg0).win 0).rect t).emb (ix2 p k) (0 : Fin 2) : Nat) = (outRow t p).val :=
    (((cfg0).win 0).rect_emb_val t (ix2 p k) (0 : Fin 2)).trans (by show (BitVec.ofNat 32 (grid0.coords t 0).val).toNat * 256 + p.val = t.val * 256 + p.val; rw [row_word])
  have e1 : ((((cfg0).win 0).rect t).emb (ix2 p k) (1 : Fin 2) : Nat) = k.val :=
    (((cfg0).win 0).rect_emb_val t (ix2 p k) (1 : Fin 2)).trans (by show (BitVec.ofNat 32 (grid0.coords t 1).val).toNat * 2048 + k.val = k.val; rw [zero_word]; omega)
  exact congrArg _ (idx2_ext _ _ _ e0 e1)

/-- The block of the matrix. -/
theorem down_blk (c : Dev nD) (t : Fin cfg0.N) (k : Fin 2048) (j : Fin 2048) :
    (iblk m c 1 t : Vec Ideal S2048x2048 .bf16) (ix2 k j) = (m ((c : Thread nD τ).loc main_arg1) : S2048x2048.Idx → EReal) (ix2 (k) j) := by
  show V m c main_v1 ((((cfg0).win 1).rect t).emb (ix2 k j)) = _
  refine (congrFun (V_down m c) _).trans ?_
  have e0 : ((((cfg0).win 1).rect t).emb (ix2 k j) (0 : Fin 2) : Nat) = k.val :=
    (((cfg0).win 1).rect_emb_val t (ix2 k j) (0 : Fin 2)).trans (by show (BitVec.ofNat 32 (grid0.coords t 1).val).toNat * 2048 + k.val = k.val; rw [zero_word]; omega)
  have e1 : ((((cfg0).win 1).rect t).emb (ix2 k j) (1 : Fin 2) : Nat) = j.val :=
    (((cfg0).win 1).rect_emb_val t (ix2 k j) (1 : Fin 2)).trans (by show 0 * 2048 + j.val = j.val; omega)
  exact congrArg _ (idx2_ext _ _ _ e0 e1)

/-- The block of the residual. -/
theorem res_blk (c : Dev nD) (t : Fin cfg0.N) (p : Fin 256) (j : Fin 2048) :
    (iblk m c 2 t : Vec Ideal S256x2048 .f32) (ix2 p j) = (m ((c : Thread nD τ).loc main_arg2) : S16384x2048.Idx → EReal) (ix2 (outRow t p) j) := by
  show V m c main_arg2 ((((cfg0).win 2).rect t).emb (ix2 p j)) = _
  refine (congrFun (V_main_arg2 m c) _).trans ?_
  have e0 : ((((cfg0).win 2).rect t).emb (ix2 p j) (0 : Fin 2) : Nat) = (outRow t p).val :=
    (((cfg0).win 2).rect_emb_val t (ix2 p j) (0 : Fin 2)).trans (by show (BitVec.ofNat 32 (grid0.coords t 0).val).toNat * 256 + p.val = t.val * 256 + p.val; rw [row_word])
  have e1 : ((((cfg0).win 2).rect t).emb (ix2 p j) (1 : Fin 2) : Nat) = j.val :=
    (((cfg0).win 2).rect_emb_val t (ix2 p j) (1 : Fin 2)).trans (by show 0 * 2048 + j.val = j.val; omega)
  exact congrArg _ (idx2_ext _ _ _ e0 e1)

/-- The norm's scale -/
theorem scale_blk (c : Dev nD) (t : Fin cfg0.N) (s : Fin 2048) :
    (iblk m c 3 t : Vec Ideal S1x2048 .f32) (ix2 0 s) = (m ((c : Thread nD τ).loc main_arg3) : S2048.Idx → EReal) (ix1 s) := by
  show V m c main_v2 ((((cfg0).win 3).rect t).emb (ix2 (0 : Fin 1) s)) = _
  have e0 : ((((cfg0).win 3).rect t).emb (ix2 (0 : Fin 1) s) (0 : Fin 2) : Nat) = (0 : Fin 1).val :=
    (((cfg0).win 3).rect_emb_val t (ix2 (0 : Fin 1) s) (0 : Fin 2)).trans rfl
  have e1 : ((((cfg0).win 3).rect t).emb (ix2 (0 : Fin 1) s) (1 : Fin 2) : Nat) = s.val :=
    (((cfg0).win 3).rect_emb_val t (ix2 (0 : Fin 1) s) (1 : Fin 2)).trans (by show 0 * 2048 + s.val = s.val; omega)
  exact (congrArg (V m c main_v2 : S1x2048.Idx → EReal) (idx2_ext _ (0 : Fin 1) s e0 e1)).trans (V_scale m c s)

/-- and its shift. -/
theorem shift_blk (c : Dev nD) (t : Fin cfg0.N) (s : Fin 2048) :
    (iblk m c 4 t : Vec Ideal S1x2048 .f32) (ix2 0 s) = (m ((c : Thread nD τ).loc main_arg4) : S2048.Idx → EReal) (ix1 s) := by
  show V m c main_v3 ((((cfg0).win 4).rect t).emb (ix2 (0 : Fin 1) s)) = _
  have e0 : ((((cfg0).win 4).rect t).emb (ix2 (0 : Fin 1) s) (0 : Fin 2) : Nat) = (0 : Fin 1).val :=
    (((cfg0).win 4).rect_emb_val t (ix2 (0 : Fin 1) s) (0 : Fin 2)).trans rfl
  have e1 : ((((cfg0).win 4).rect t).emb (ix2 (0 : Fin 1) s) (1 : Fin 2) : Nat) = s.val :=
    (((cfg0).win 4).rect_emb_val t (ix2 (0 : Fin 1) s) (1 : Fin 2)).trans (by show 0 * 2048 + s.val = s.val; omega)
  exact (congrArg (V m c main_v3 : S1x2048.Idx → EReal) (idx2_ext _ (0 : Fin 1) s e0 e1)).trans (V_shift m c s)

/-- The array the kernel leaves. -/
def result (c : Dev nD) : S16384x2048.Idx → EReal := fun i =>
  lnAt (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

/-- What a point stores in the first result, -/
theorem stored_eq (c : Dev nD) (t : Fin cfg0.N) : (outsAt0 m c t).1 = k0_pay3 (F := Ideal) (iblk m c 2 t) (k0_pay2 (F := Ideal) (k0_pay1 (F := Ideal)) (iblk m c 0 t) (iblk m c 1 t)) (iblk m c 3 t) (iblk m c 4 t) := by
  unfold outsAt0
  dsimp only
  rw [out_last]

/-- and in the rounded one. -/
theorem stored_rounded_eq (c : Dev nD) (t : Fin cfg0.N) : (outsAt0 m c t).2 = k0_pay4 (F := Ideal) (iblk m c 2 t) (k0_pay2 (F := Ideal) (k0_pay1 (F := Ideal)) (iblk m c 0 t) (iblk m c 1 t)) (iblk m c 3 t) (iblk m c 4 t) := by
  unfold outsAt0
  dsimp only
  rw [out_last_rounded]

/-- That block at an index. -/
theorem block_apply (c : Dev nD) (t : Fin cfg0.N) (p : Fin 256) (s : Fin 2048) :
    (k0_pay3 (F := Ideal) (iblk m c 2 t) (k0_pay2 (F := Ideal) (k0_pay1 (F := Ideal)) (iblk m c 0 t) (iblk m c 1 t)) (iblk m c 3 t) (iblk m c 4 t) : Vec Ideal S256x2048 .f32) (ix2 p s)
      = lnAt (m ((c : Thread nD τ).loc main_arg0)) (m ((c : Thread nD τ).loc main_arg1)) (m ((c : Thread nD τ).loc main_arg2)) (m ((c : Thread nD τ).loc main_arg3)) (m ((c : Thread nD τ).loc main_arg4)) (outRow t p) s :=
  norm_of _ _ _ _ _ _ _ _ _ _ _ p s (res_blk m c t p) (rows_blk m c t p) (down_blk m c t) (scale_blk m c t s) (shift_blk m c t s)

/-- What is written back to the first result is its block of that array, -/
theorem flushed_eq (c : Dev nD) (t : Fin cfg0.N) :
    (dats m 0 c).flushed 5 t = ((cfg0.win 5).blk t).view.read (Elt Ideal) (result m c) := by
  rw [Cert.Kernel5Ideal.Value.flushed5, stored_eq m c t]
  funext y
  revert y
  show ∀ y : S256x2048.Idx, (k0_pay3 (F := Ideal) (iblk m c 2 t) (k0_pay2 (F := Ideal) (k0_pay1 (F := Ideal)) (iblk m c 0 t) (iblk m c 1 t)) (iblk m c 3 t) (iblk m c 4 t) : Vec Ideal S256x2048 .f32) y = result m c (((cfg0.win 5).rect t).emb y)
  intro y
  obtain ⟨p, s, rfl⟩ : ∃ (p : Fin 256) (s : Fin 2048), y = ix2 p s := ⟨y 0, y 1, eq_ix2 y⟩
  refine (block_apply m c t p s).trans ?_
  unfold result
  refine congrArg₂ _ (Fin.ext ?_) (Fin.ext ?_)
  · refine Eq.symm (((cfg0.win 5).rect_emb_val t (ix2 p s) (0 : Fin 2)).trans ?_)
    show (BitVec.ofNat 32 (grid0.coords t 0).val).toNat * 256 + p.val = t.val * 256 + p.val
    rw [row_word]
  · refine Eq.symm (((cfg0.win 5).rect_emb_val t (ix2 p s) (1 : Fin 2)).trans ?_)
    show 0 * 2048 + s.val = s.val
    omega

/-- and likewise to the rounded one. -/
theorem flushed_rounded_eq (c : Dev nD) (t : Fin cfg0.N) :
    (dats m 0 c).flushed 6 t = ((cfg0.win 6).blk t).view.read (Elt Ideal) (result m c) := by
  rw [Cert.Kernel5Ideal.Value.flushed6, stored_rounded_eq m c t]
  funext y
  revert y
  show ∀ y : S256x2048.Idx, (k0_pay3 (F := Ideal) (iblk m c 2 t) (k0_pay2 (F := Ideal) (k0_pay1 (F := Ideal)) (iblk m c 0 t) (iblk m c 1 t)) (iblk m c 3 t) (iblk m c 4 t) : Vec Ideal S256x2048 .f32) y = result m c (((cfg0.win 6).rect t).emb y)
  intro y
  obtain ⟨p, s, rfl⟩ : ∃ (p : Fin 256) (s : Fin 2048), y = ix2 p s := ⟨y 0, y 1, eq_ix2 y⟩
  refine (block_apply m c t p s).trans ?_
  unfold result
  refine congrArg₂ _ (Fin.ext ?_) (Fin.ext ?_)
  · refine Eq.symm (((cfg0.win 6).rect_emb_val t (ix2 p s) (0 : Fin 2)).trans ?_)
    show (BitVec.ofNat 32 (grid0.coords t 0).val).toNat * 256 + p.val = t.val * 256 + p.val
    rw [row_word]
  · refine Eq.symm (((cfg0.win 6).rect_emb_val t (ix2 p s) (1 : Fin 2)).trans ?_)
    show 0 * 2048 + s.val = s.val
    omega

/-- The blocks tile each array. -/
theorem cover_5 (i : S16384x2048.Idx) : ∃ t : Fin cfg0.N, (cfg0.win 5).flush t = true ∧ i ∈ ((cfg0.win 5).blk t).view.set := by
  have h0 : (i 0).val < 16384 := (i 0).isLt
  have h1 : (i 1).val < 2048 := (i 1).isLt
  have hN : (i 0).val / 256 < cfg0.N := by rw [N_eq]; omega
  refine ⟨⟨(i 0).val / 256, hN⟩, flush0_5 _, ?_⟩
  show i ∈ ((View.whole main_v4_0).slice ((cfg0.win 5).rect ⟨(i 0).val / 256, hN⟩)).set
  erw [View.set_slice_whole]
  refine (Pipeline.Window.mem_rect_iff (cfg0.win 5) ⟨(i 0).val / 256, hN⟩ i (by rfl)).mpr fun a => ?_
  match a with
  | ⟨0, _⟩ =>
    show (BitVec.ofNat 32 (grid0.coords (⟨(i 0).val / 256, hN⟩ : Fin cfg0.N) 0).val).toNat * 256 ≤ (i 0).val ∧ (i 0).val < (BitVec.ofNat 32 (grid0.coords (⟨(i 0).val / 256, hN⟩ : Fin cfg0.N) 0).val).toNat * 256 + 256
    rw [row_word (⟨(i 0).val / 256, hN⟩ : Fin cfg0.N)]
    dsimp only
    omega
  | ⟨1, _⟩ =>
    show 0 * 2048 ≤ (i 1).val ∧ (i 1).val < 0 * 2048 + 2048
    omega
theorem cover_6 (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : (i 0).val / 256 < cfg0.N := by rw [N_eq]; omega
  refine ⟨⟨(i 0).val / 256, hN⟩, flush0_6 _, ?_⟩
  show i ∈ ((View.whole main_v4_1).slice ((cfg0.win 6).rect ⟨(i 0).val / 256, hN⟩)).set
  erw [View.set_slice_whole]
  refine (Pipeline.Window.mem_rect_iff (cfg0.win 6) ⟨(i 0).val / 256, hN⟩ i (by rfl)).mpr fun a => ?_
  match a with
  | ⟨0, _⟩ =>
    show (BitVec.ofNat 32 (grid0.coords (⟨(i 0).val / 256, hN⟩ : Fin cfg0.N) 0).val).toNat * 256 ≤ (i 0).val ∧ (i 0).val < (BitVec.ofNat 32 (grid0.coords (⟨(i 0).val / 256, hN⟩ : Fin cfg0.N) 0).val).toNat * 256 + 256
    rw [row_word (⟨(i 0).val / 256, hN⟩ : Fin cfg0.N)]
    dsimp only
    omega
  | ⟨1, _⟩ =>
    show 0 * 2048 ≤ (i 1).val ∧ (i 1).val < 0 * 2048 + 2048
    omega

/-- So both arrays end holding it. -/
theorem final (c : Dev nD) : (dats m 0 c).arrAt 5 cfg0.N = result m c :=
  (dats m 0 c).arrAt_eq_of_cover 5 (result m c) (fun t _ => flushed_eq m c t) cover_5
theorem final_rounded (c : Dev nD) : (dats m 0 c).arrAt 6 cfg0.N = result m c :=
  (dats m 0 c).arrAt_eq_of_cover 6 (result m c) (fun t _ => flushed_rounded_eq m c t) cover_6

end Cert.Kernel5Ideal.AttnOut

end
-- ==== Proof.AttnOutClaims.lean ====
/- An attention's output product with the residual and the layer norm: the claims. -/
module

public import proofs.«01_k».proof.Defs
public import proofs.«01_k».proof.Proof.Gen.Kernel5.Frame
public import proofs.«01_k».proof.Proof.Gen.Reference5Ideal.Read
public import proofs.«01_k».proof.Proof.AttnOut

@[expose] public section

set_option maxRecDepth 16384

noncomputable section

namespace Cert.Proof.AttnOut

open Idealize.ShloMosaic Idealize.SL.Sem Cert.Reference5Ideal Cert.Reference5Ideal.Read
open Cert.Kernel4Ideal.Dense (mean normed)
open Cert.Kernel5Ideal.AttnOut (lnAt)

theorem frame_kernel : Cert.quiescent_Kernel5 := fun m ρ _ => Cert.Kernel5.Gen.frame m ρ
theorem frame_kernelIdeal : Cert.quiescent_Kernel5Ideal := fun m ρ _ => Cert.Kernel5Ideal.Gen.frame m ρ

/-- The reference ends for every launch memory, with its arguments unchanged and every semaphore at zero. -/
theorem frame_reference : Cert.quiescent_Reference5Ideal := fun m ρ _ =>
  (θ_run Cert.Reference5Ideal.defs _ _).mono (fun r h => ⟨fun c => (h c).2.2, sem_eq_zero_of_no_sems (by decide) r.2⟩) (Cert.Reference5Ideal.Value.run (F := Ideal) m ρ)

section reference
variable (x0 : (⟨S16384x2048, .f32⟩ : BufTy).Contents (Elt Ideal)) (x1 : (⟨S2048x2048, .f32⟩ : BufTy).Contents (Elt Ideal)) (x2 : (⟨S16384x2048, .f32⟩ : BufTy).Contents (Elt Ideal)) (x3 x4 : (⟨S2048, .f32⟩ : BufTy).Contents (Elt Ideal))

/-- The scaled residual plus the product. -/
abbrev sumAt (r : Fin 16384) (j : Fin 2048) : EReal := Ideal.ofBits .f32 0x3FB504F3#32 * x2 (ix2 r j) + ∑ k : Fin 2048, x0 (ix2 r k) * x1 (ix2 k j)

theorem ref_sum (r : Fin 16384) (j : Fin 2048) : val_main_v3 (F := Ideal) x0 x1 x2 (ix2 r j) = sumAt x0 x1 x2 r j := by
  have el : ∀ k, lidx_main_v2 (ix2 r j) k = ix2 r k := fun k => funext fun a => Fin.ext (match a with | ⟨0, _⟩ => rfl | ⟨1, _⟩ => rfl)
  have er : ∀ k, ridx_main_v2 (ix2 r j) k = ix2 k j := fun k => funext fun a => Fin.ext (match a with | ⟨0, _⟩ => rfl | ⟨1, _⟩ => rfl)
  rw [val_main_v3_apply, val_main_v1_apply, val_main_v0_apply, val_main_cst_apply, val_main_v2_apply]
  simp only [el, er]
  rfl

/-- Its row's mean, -/
theorem ref_mean (r : Fin 16384) : val_main_v7 (F := Ideal) x0 x1 x2 (ix2 r 0) = mean (sumAt x0 x1 x2 r) := by
  have e5 : idx_main_v5 (ix2 r 0) = ix1 r := funext fun a => Fin.ext (match a with | ⟨0, _⟩ => rfl)
  have e4 : ∀ k, idx_main_v4 (ix1 r) k = ix2 r k := fun k => funext fun a => Fin.ext (match a with | ⟨0, _⟩ => rfl | ⟨1, _⟩ => rfl)
  rw [val_main_v7_apply, val_main_v5_apply, val_main_v6_apply, val_main_cst_1_apply, e5, val_main_v4_apply, val_main_cst_0_apply]
  simp only [e4, ref_sum]
  unfold mean
  show Ideal.div (Ideal.ofBits .f32 0x00000000#32 + _) _ = _
  rw [Ideal.ofBits_zero_f32, zero_add]
  rfl

/-- and the reciprocal of its spread. -/
theorem ref_spread (r : Fin 16384) : val_main_v19 (F := Ideal) x0 x1 x2 (ix2 r 0)
    = Ideal.rsqrt (Ideal.div (∑ j : Fin 2048, (sumAt x0 x1 x2 r j - mean (sumAt x0 x1 x2 r)) * (sumAt x0 x1 x2 r j - mean (sumAt x0 x1 x2 r))) (Ideal.ofBits .f32 0x45000000#32) + Ideal.ofBits .f32 0x3727C5AC#32) := by
  have e12 : idx_main_v12 (ix2 r 0) = ix1 r := funext fun a => Fin.ext (match a with | ⟨0, _⟩ => rfl)
  have e11 : ∀ k, idx_main_v11 (ix1 r) k = ix2 r k := fun k => funext fun a => Fin.ext (match a with | ⟨0, _⟩ => rfl | ⟨1, _⟩ => rfl)
  have e8 : ∀ k : Fin 2048, idx_main_v8 (ix2 r k) = ix2 r 0 := fun k => funext fun a => Fin.ext (match a with | ⟨0, _⟩ => rfl | ⟨1, _⟩ => rfl)
  rw [val_main_v19_apply, val_main_v18_apply, val_main_v14_apply, val_main_v12_apply, val_main_v13_apply, val_main_cst_3_apply, val_main_v17_apply, val_main_cst_4_apply, e12, val_main_v11_apply, val_main_cst_2_apply]
  simp only [e11, val_main_v10_apply, val_main_v9_apply, val_main_v8_apply, e8, ref_mean, ref_sum]
  show Ideal.rsqrt (Ideal.div (Ideal.ofBits .f32 0x00000000#32 + _) _ + _) = _
  rw [Ideal.ofBits_zero_f32, zero_add]
  rfl

/-- The reference's result at an index. -/
theorem ref_apply (r : Fin 16384) (s : Fin 2048) : val_main_v27 (F := Ideal) x0 x1 x2 x3 x4 (ix2 r s) = lnAt x0 x1 x2 x3 x4 r s := by
  have e15 : idx_main_v15 (ix2 r s) = ix2 r 0 := funext fun a => Fin.ext (match a with | ⟨0, _⟩ => rfl | ⟨1, _⟩ => rfl)
  have e20 : idx_main_v20 (ix2 r s) = ix2 r 0 := funext fun a => Fin.ext (match a with | ⟨0, _⟩ => rfl | ⟨1, _⟩ => rfl)
  have e22 : idx_main_v22 (idx_main_v23 (ix2 r s)) = ix1 s := funext fun a => Fin.ext (match a with | ⟨0, _⟩ => rfl)
  have e25 : idx_main_v25 (idx_main_v26 (ix2 r s)) = ix1 s := funext fun a => Fin.ext (match a with | ⟨0, _⟩ => rfl)
  rw [val_main_v27_apply, val_main_v24_apply, val_main_v21_apply, val_main_v16_apply, val_main_v15_apply, val_main_v20_apply, val_main_v23_apply, val_main_v22_apply,
    val_main_v26_apply, val_main_v25_apply, e15, e20, e22, e25, ref_mean, ref_spread, ref_sum]
  rfl

end reference

/-- Both leave the same two arrays. -/
theorem algebraic : Cert.algebraic_Kernel5Ideal_Reference5Ideal := by
  intro m ρ m' ρ' _ hagree
  refine ⟨fun c => Cert.Kernel5Ideal.AttnOut.result m c, fun c => Cert.Kernel5Ideal.AttnOut.result m c,
    (θ_run Cert.Kernel5Ideal.defs _ _).mono (fun _ h c => ⟨((h c).1).trans (Cert.Kernel5Ideal.AttnOut.final m c), ((h c).2.1).trans (Cert.Kernel5Ideal.AttnOut.final_rounded m c), (h c).2.2⟩) (Cert.Kernel5Ideal.Value.run_blocks (F := Ideal) m ρ),
    (θ_run Cert.Reference5Ideal.defs _ _).mono (fun _ h c => ⟨((h c).1).trans ?_, ((h c).2.1).trans ?_, (h c).2.2⟩) (Cert.Reference5Ideal.Value.run (F := Ideal) m' ρ')⟩
  · refine (Cert.Reference5Ideal.Read.val_main_v27_eq _ _ _ _ _).trans ?_
    obtain ⟨h0, h1, h2, h3, h4⟩ := hagree c
    funext i
    obtain ⟨r, s, rfl⟩ : ∃ r s, i = ix2 r s := ⟨i 0, i 1, eq_ix2 i⟩
    refine (ref_apply _ _ _ _ _ r s).trans ?_
    rw [h0, h1, h2, h3, h4]
    rfl
  · refine (Cert.Reference5Ideal.Read.val_main_v28_eq _ _ _ _ _).trans ?_
    obtain ⟨h0, h1, h2, h3, h4⟩ := hagree c
    funext i
    obtain ⟨r, s, rfl⟩ : ∃ r s, i = ix2 r s := ⟨i 0, i 1, eq_ix2 i⟩
    refine (ref_apply _ _ _ _ _ r s).trans ?_
    rw [h0, h1, h2, h3, h4]
    rfl

end Cert.Proof.AttnOut

end
-- ==== Proof.NsaProj.lean ====
/- The first attention's input product: what a block of the result holds, and then the whole array. -/
module

public import proofs.«01_k».proof.Proof.Gen.Kernel6Ideal.Value
public import Idealize.ShloMosaic.Lib.Pointwise
public import Idealize.ShloMosaic.Lib.Pipeline.ValueKit.Basic
public import Idealize.ShloMosaic.Lib.Pipeline.Covers

@[expose] public section

set_option maxRecDepth 16384

noncomputable section

namespace Cert.Kernel6Ideal.Proj

open Cert.Kernel6Ideal Cert.Kernel6Ideal.Gen
open Idealize.ShloMosaic Idealize.ShloMosaic.TcCoe
open Idealize.ShloMosaic.Pipeline (Dat Cfg Window)

/-- The matrix's column that column `q` of the result is taken from. -/
def srcCol (q : Fin 5120) : Fin 5168 := ⟨q.val, by omega⟩

/-- The product's column, scaled. -/
def scaledAt (x : S16384x2048.Idx → EReal) (w : S2048x5168.Idx → EReal) (s : S5120.Idx → EReal) (r : Fin 16384) (q : Fin 5120) : EReal :=
  (∑ k : Fin 2048, x (ix2 r k) * w (ix2 k (srcCol q))) * s (ix1 q)

/-- One block from its three operands. -/
theorem pay_apply (x0 : Vec Ideal S512x2048 .bf16) (x1 : Vec Ideal S2048x1280 .bf16) (x2 : Vec Ideal S1x1280 .f32) (p : Fin 512) (q : Fin 1280) :
    k0_pay1 (F := Ideal) x0 x1 x2 (ix2 p q) = (∑ k : Fin 2048, x0 (ix2 p k) * x1 (ix2 k q)) * x2 (ix2 0 q) := by
  pointwise [k0_pay1]

/-- The same where the operands are known to be rows and columns of arrays. -/
theorem pay_of (x0 : Vec Ideal S512x2048 .bf16) (x1 : Vec Ideal S2048x1280 .bf16) (x2 : Vec Ideal S1x1280 .f32)
    (x : S16384x2048.Idx → EReal) (w : S2048x5168.Idx → EReal) (s : S5120.Idx → EReal) (p : Fin 512) (q : Fin 1280) (r : Fin 16384) (q' : Fin 5120)
    (h0 : ∀ k, x0 (ix2 p k) = x (ix2 r k)) (h1 : ∀ k, x1 (ix2 k q) = w (ix2 k (srcCol q'))) (h2 : x2 (ix2 0 q) = s (ix1 q')) :
    k0_pay1 (F := Ideal) x0 x1 x2 (ix2 p q) = scaledAt x w s r q' := by
  refine (pay_apply x0 x1 x2 p q).trans ?_
  unfold scaledAt
  exact congrArg₂ _ (Finset.sum_congr rfl fun k _ => congrArg₂ _ (h0 k) (h1 k)) h2

/-- What the body stores is that block. -/
theorem out_eq (x0 : Vec Ideal S512x2048 .bf16) (x1 : Vec Ideal S2048x1280 .bf16) (x2 : Vec Ideal S1x1280 .f32) : out0_3 (F := Ideal) x0 x1 x2 = k0_pay1 x0 x1 x2 := by
  unfold out0_3
  refine (View.canon_unit_zero (by decide) _ _).trans ?_
  exact congr (congrArg₂ k0_pay1 (View.ld_unit_zero (by decide) _ x0) (View.ld_unit_zero (by decide) _ x1)) (View.ld_unit_zero (by decide) _ x2)

variable (m : (ℓ : Loc nD τ sig) → Buf (Elt Ideal) ℓ)

theorem V_rows (c : Dev nD) : (V m c main_v0 : S16384x2048.Idx → EReal) = m ((c : Thread nD τ).loc main_arg0) := by
  show StableHlo.after _ _ _ = _
  simp only [hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

/-- The columns taken of the matrix, at an index. -/
theorem cols_apply (w : Vec Ideal S2048x5168 .f32) (k : Fin 2048) (q : Fin 5120) :
    extractStridedSlice S2048x5120 ![0, 0] w slices_S2048x5168_S2048x5120_0_0 (ix2 k q) = w (ix2 k (srcCol q)) := by
  unfold srcCol
  pointwise []

theorem V_cols (c : Dev nD) (k : Fin 2048) (q : Fin 5120) : (V m c main_v2 : S2048x5120.Idx → EReal) (ix2 k q) = (m ((c : Thread nD τ).loc main_arg1) : S2048x5168.Idx → EReal) (ix2 k (srcCol q)) := by
  have e : (V m c main_v2 : S2048x5120.Idx → EReal) = extractStridedSlice S2048x5120 ![0, 0] (m ((c : Thread nD τ).loc main_arg1) : S2048x5168.Idx → EReal) slices_S2048x5168_S2048x5120_0_0 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (cols_apply _ k q)

/-- A vector laid out as one row, read at a column. -/
theorem row_apply (v : Vec Ideal S5120 .f32) (q : Fin 5120) : shapeCast S1x5120 v shapeCasts_S5120_S1x5120 (ix2 0 q) = v (ix1 q) := by
  pointwise []

/-- The row of scales that the launch finds. -/
theorem V_scale (c : Dev nD) (q : Fin 5120) : (V m c main_v3 : S1x5120.Idx → EReal) (ix2 0 q) = (m ((c : Thread nD τ).loc main_arg2) : S5120.Idx → EReal) (ix1 q) := by
  have e : (V m c main_v3 : S1x5120.Idx → EReal) = shapeCast S1x5120 (m ((c : Thread nD τ).loc main_arg2) : S5120.Idx → EReal) shapeCasts_S5120_S1x5120 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (row_apply _ q)

/-- The row of the array at row `p` of point `t`'s block, -/
abbrev outRow (t : Fin cfg0.N) (p : Fin 512) : Fin 16384 := ⟨(grid0.coords t 0).val * 512 + p.val, by have h : (grid0.coords t 0).val < 32 := (grid0.coords t 0).isLt; omega⟩
/-- and the column of the array at column `q`. -/
abbrev outCol (t : Fin cfg0.N) (q : Fin 1280) : Fin 5120 := ⟨(grid0.coords t 1).val * 1280 + q.val, by have h : (grid0.coords t 1).val < 4 := (grid0.coords t 1).isLt; omega⟩

theorem row_word (t : Fin cfg0.N) : (BitVec.ofNat 32 (grid0.coords t 0).val).toNat = (grid0.coords t 0).val := by
  have h : (grid0.coords t 0).val < 32 := (grid0.coords t 0).isLt
  rw [BitVec.toNat_ofNat, Nat.mod_eq_of_lt (by omega)]
theorem col_word (t : Fin cfg0.N) : (BitVec.ofNat 32 (grid0.coords t 1).val).toNat = (grid0.coords t 1).val := by
  have h : (grid0.coords t 1).val < 4 := (grid0.coords t 1).isLt
  rw [BitVec.toNat_ofNat, Nat.mod_eq_of_lt (by omega)]

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)

/-- The block of rows that point `t` reads. -/
theorem rows_blk (c : Dev nD) (t : Fin cfg0.N) (p : Fin 512) (k : Fin 2048) :
    (iblk m c 0 t : Vec Ideal S512x2048 .bf16) (ix2 p k) = (m ((c : Thread nD τ).loc main_arg0) : S16384x2048.Idx → EReal) (ix2 (outRow t p) k) := by
  show V m c main_v0 ((((cfg0).win 0).rect t).emb (ix2 p k)) = _
  refine (congrFun (V_rows m c) _).trans ?_
  have e0 : ((((cfg0).win 0).rect t).emb (ix2 p k) (0 : Fin 2) : Nat) = (outRow t p).val :=
    (((cfg0).win 0).rect_emb_val t (ix2 p k) (0 : Fin 2)).trans (by show (BitVec.ofNat 32 (grid0.coords t 0).val).toNat * 512 + p.val = (grid0.coords t 0).val * 512 + p.val; rw [row_word])
  have e1 : ((((cfg0).win 0).rect t).emb (ix2 p k) (1 : Fin 2) : Nat) = k.val :=
    (((cfg0).win 0).rect_emb_val t (ix2 p k) (1 : Fin 2)).trans (by show 0 * 2048 + k.val = k.val; omega)
  exact congrArg _ (idx2_ext _ _ _ e0 e1)

/-- The block of columns. -/
theorem cols_blk (c : Dev nD) (t : Fin cfg0.N) (k : Fin 2048) (q : Fin 1280) :
    (iblk m c 1 t : Vec Ideal S2048x1280 .bf16) (ix2 k q) = (m ((c : Thread nD τ).loc main_arg1) : S2048x5168.Idx → EReal) (ix2 k (srcCol (outCol t q))) := by
  show V m c main_v2 ((((cfg0).win 1).rect t).emb (ix2 k q)) = _
  have e0 : ((((cfg0).win 1).rect t).emb (ix2 k q) (0 : Fin 2) : Nat) = k.val :=
    (((cfg0).win 1).rect_emb_val t (ix2 k q) (0 : Fin 2)).trans (by show 0 * 2048 + k.val = k.val; omega)
  have e1 : ((((cfg0).win 1).rect t).emb (ix2 k q) (1 : Fin 2) : Nat) = (outCol t q).val :=
    (((cfg0).win 1).rect_emb_val t (ix2 k q) (1 : Fin 2)).trans (by show (BitVec.ofNat 32 (grid0.coords t 1).val).toNat * 1280 + q.val = (grid0.coords t 1).val * 1280 + q.val; rw [col_word])
  exact (congrArg (V m c main_v2 : S2048x5120.Idx → EReal) (idx2_ext _ k (outCol t q) e0 e1)).trans (V_cols m c k (outCol t q))

/-- The block of the scale. -/
theorem scale_blk (c : Dev nD) (t : Fin cfg0.N) (q : Fin 1280) :
    (iblk m c 2 t : Vec Ideal S1x1280 .f32) (ix2 0 q) = (m ((c : Thread nD τ).loc main_arg2) : S5120.Idx → EReal) (ix1 (outCol t q)) := by
  show V m c main_v3 ((((cfg0).win 2).rect t).emb (ix2 (0 : Fin 1) q)) = _
  have e0 : ((((cfg0).win 2).rect t).emb (ix2 (0 : Fin 1) q) (0 : Fin 2) : Nat) = (0 : Fin 1).val :=
    (((cfg0).win 2).rect_emb_val t (ix2 (0 : Fin 1) q) (0 : Fin 2)).trans rfl
  have e1 : ((((cfg0).win 2).rect t).emb (ix2 (0 : Fin 1) q) (1 : Fin 2) : Nat) = (outCol t q).val :=
    (((cfg0).win 2).rect_emb_val t (ix2 (0 : Fin 1) q) (1 : Fin 2)).trans (by show (BitVec.ofNat 32 (grid0.coords t 1).val).toNat * 1280 + q.val = (grid0.coords t 1).val * 1280 + q.val; rw [col_word])
  exact (congrArg (V m c main_v3 : S1x5120.Idx → EReal) (idx2_ext _ (0 : Fin 1) (outCol t q) e0 e1)).trans (V_scale m c (outCol t q))

/-- The array the kernel leaves. -/
def result (c : Dev nD) : S16384x5120.Idx → EReal := fun i =>
  scaledAt (m ((c : Thread nD τ).loc main_arg0)) (m ((c : Thread nD τ).loc main_arg1)) (m ((c : Thread nD τ).loc main_arg2)) (i 0) (i 1)

/-- What point `t` stores, at an index of its block. -/
theorem out_apply (c : Dev nD) (t : Fin cfg0.N) (p : Fin 512) (q : Fin 1280) :
    (out0_3 (F := Ideal) (iblk m c 0 t) (iblk m c 1 t) (iblk m c 2 t) : Vec Ideal S512x1280 .bf16) (ix2 p q)
      = scaledAt (m ((c : Thread nD τ).loc main_arg0)) (m ((c : Thread nD τ).loc main_arg1)) (m ((c : Thread nD τ).loc main_arg2)) (outRow t p) (outCol t q) := by
  refine (congrFun (out_eq (iblk m c 0 t) (iblk m c 1 t) (iblk m c 2 t)) _).trans ?_
  exact pay_of (iblk m c 0 t) (iblk m c 1 t) (iblk m c 2 t) _ _ _ p q _ _ (rows_blk m c t p) (fun k => cols_blk m c t k q) (scale_blk m c t q)

/-- What point `t` writes back is its block of that array. -/
theorem flushed_eq (c : Dev nD) (t : Fin cfg0.N) :
    (dats m 0 c).flushed 3 t = ((cfg0.win 3).blk t).view.read (Elt Ideal) (result m c) := by
  rw [Cert.Kernel6Ideal.Value.flushed3]
  funext y
  revert y
  show ∀ y : S512x1280.Idx, (out0_3 (F := Ideal) (iblk m c 0 t) (iblk m c 1 t) (iblk m c 2 t) : Vec Ideal S512x1280 .bf16) y = result m c (((cfg0.win 3).rect t).emb y)
  intro y
  obtain ⟨p, q, rfl⟩ : ∃ (p : Fin 512) (q : Fin 1280), y = ix2 p q := ⟨y 0, y 1, eq_ix2 y⟩
  refine (out_apply m c t p q).trans ?_
  unfold result
  refine congrArg₂ _ (Fin.ext ?_) (Fin.ext ?_)
  · refine Eq.symm (((cfg0.win 3).rect_emb_val t (ix2 p q) (0 : Fin 2)).trans ?_)
    show (BitVec.ofNat 32 (grid0.coords t 0).val).toNat * 512 + p.val = (grid0.coords t 0).val * 512 + p.val
    rw [row_word]
  · refine Eq.symm (((cfg0.win 3).rect_emb_val t (ix2 p q) (1 : Fin 2)).trans ?_)
    show (BitVec.ofNat 32 (grid0.coords t 1).val).toNat * 1280 + q.val = (grid0.coords t 1).val * 1280 + q.val
    rw [col_word]

/-- The blocks tile the array. -/
theorem cover (i : S16384x5120.Idx) : ∃ t : Fin cfg0.N, (cfg0.win 3).flush t = true ∧ i ∈ ((cfg0.win 3).blk t).view.set := by
  have h0 : (i 0).val < 16384 := (i 0).isLt
  have h1 : (i 1).val < 5120 := (i 1).isLt
  obtain ⟨t, ht⟩ := grid0.coords_surjective (fun a => match a with
    | ⟨0, _⟩ => ⟨(i 0).val / 512, by show (i 0).val / 512 < 32; omega⟩
    | ⟨1, _⟩ => ⟨(i 1).val / 1280, by show (i 1).val / 1280 < 4; omega⟩)
  have c0 : (grid0.coords t 0).val = (i 0).val / 512 := congrArg Fin.val (congrFun ht 0)
  have c1 : (grid0.coords t 1).val = (i 1).val / 1280 := congrArg Fin.val (congrFun ht 1)
  refine ⟨t, flush0_3 t, ?_⟩
  show i ∈ ((View.whole main_v4).slice ((cfg0.win 3).rect t)).set
  erw [View.set_slice_whole]
  refine (Pipeline.Window.mem_rect_iff (cfg0.win 3) t i (by rfl)).mpr fun a => ?_
  match a with
  | ⟨0, _⟩ =>
    show (BitVec.ofNat 32 (grid0.coords t 0).val).toNat * 512 ≤ (i 0).val ∧ (i 0).val < (BitVec.ofNat 32 (grid0.coords t 0).val).toNat * 512 + 512
    rw [row_word t, c0]; omega
  | ⟨1, _⟩ =>
    show (BitVec.ofNat 32 (grid0.coords t 1).val).toNat * 1280 ≤ (i 1).val ∧ (i 1).val < (BitVec.ofNat 32 (grid0.coords t 1).val).toNat * 1280 + 1280
    rw [col_word t, c1]; omega

/-- So the array ends holding it. -/
theorem final (c : Dev nD) : (dats m 0 c).arrAt 3 cfg0.N = result m c :=
  (dats m 0 c).arrAt_eq_of_cover 3 (result m c) (fun t _ => flushed_eq m c t) cover

end Cert.Kernel6Ideal.Proj

end
-- ==== Proof.NsaProjClaims.lean ====
/- The first attention's input product: the claims. -/
module

public import proofs.«01_k».proof.Defs
public import proofs.«01_k».proof.Proof.Gen.Kernel6.Frame
public import proofs.«01_k».proof.Proof.Gen.Reference6Ideal.Read
public import proofs.«01_k».proof.Proof.NsaProj

@[expose] public section

set_option maxRecDepth 16384

noncomputable section

namespace Cert.Proof.NsaProj

open Idealize.ShloMosaic Idealize.SL.Sem Cert.Reference6Ideal Cert.Reference6Ideal.Read

theorem frame_kernel : Cert.quiescent_Kernel6 := fun m ρ _ => Cert.Kernel6.Gen.frame m ρ
theorem frame_kernelIdeal : Cert.quiescent_Kernel6Ideal := fun m ρ _ => Cert.Kernel6Ideal.Gen.frame m ρ

/-- The reference ends for every launch memory, with its arguments unchanged and every semaphore at zero. -/
theorem frame_reference : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The reference's result at an index. -/
theorem ref_apply (x0 : (⟨S16384x2048, .f32⟩ : BufTy).Contents (Elt Ideal)) (x1 : (⟨S2048x5168, .f32⟩ : BufTy).Contents (Elt Ideal)) (x2 : (⟨S5120, .f32⟩ : BufTy).Contents (Elt Ideal)) (r : Fin 16384) (q : Fin 5120) :
    val_main_v5 (F := Ideal) x0 x1 x2 (ix2 r q) = Cert.Kernel6Ideal.Proj.scaledAt x0 x1 x2 r q := by
  have e1 : idx_main_v1 (ix2 r q) = ix2 r (Cert.Kernel6Ideal.Proj.srcCol q) := funext fun a => Fin.ext (match a with | ⟨0, _⟩ => rfl | ⟨1, _⟩ => rfl)
  have el : ∀ k, lidx_main_v0 (ix2 r (Cert.Kernel6Ideal.Proj.srcCol q)) k = ix2 r k := fun k => funext fun a => Fin.ext (match a with | ⟨0, _⟩ => rfl | ⟨1, _⟩ => rfl)
  have er : ∀ k, ridx_main_v0 (ix2 r (Cert.Kernel6Ideal.Proj.srcCol q)) k = ix2 k (Cert.Kernel6Ideal.Proj.srcCol q) := fun k => funext fun a => Fin.ext (match a with | ⟨0, _⟩ => rfl | ⟨1, _⟩ => rfl)
  have e2 : idx_main_v2 (idx_main_v3 (ix2 r q)) = ix1 q := funext fun a => Fin.ext (match a with | ⟨0, _⟩ => rfl)
  rw [val_main_v5_apply, val_main_v4_apply, val_main_v3_apply, val_main_v2_apply, val_main_v1_apply, e1, e2, val_main_v0_apply]
  simp only [el, er]
  rfl

/-- Both leave the same array. -/
theorem algebraic : Cert.algebraic_Kernel6Ideal_Reference6Ideal := by
  intro m ρ m' ρ' _ hagree
  refine ⟨fun c => Cert.Kernel6Ideal.Proj.result m c,
    (θ_run Cert.Kernel6Ideal.defs _ _).mono (fun _ h c => ⟨((h c).1).trans (Cert.Kernel6Ideal.Proj.final m c), (h c).2⟩) (Cert.Kernel6Ideal.Value.run_blocks (F := Ideal) m ρ),
    (θ_run Cert.Reference6Ideal.defs _ _).mono (fun _ h c => ⟨((h c).1).trans ?_, (h c).2⟩) (Cert.Reference6Ideal.Value.run (F := Ideal) m' ρ')⟩
  rw [Cert.Reference6Ideal.Read.val_main_v5_eq]
  obtain ⟨h0, h1, h2⟩ := hagree c
  funext i
  obtain ⟨r, q, rfl⟩ : ∃ r q, i = ix2 r q := ⟨i 0, i 1, eq_ix2 i⟩
  refine (ref_apply _ _ _ r q).trans ?_
  rw [h0, h1, h2]
  rfl

end Cert.Proof.NsaProj

end
-- ==== Proof.DsaProj.lean ====
/- The second attention's query product: what a block of the result holds, and then the whole array. -/
module

public import proofs.«01_k».proof.Proof.Gen.Kernel7Ideal.Value
public import Idealize.ShloMosaic.Lib.Pointwise
public import Idealize.ShloMosaic.Lib.Pipeline.ValueKit.Basic
public import Idealize.ShloMosaic.Lib.Pipeline.Covers

@[expose] public section

set_option maxRecDepth 16384

noncomputable section

namespace Cert.Kernel7Ideal.Proj

open Cert.Kernel7Ideal Cert.Kernel7Ideal.Gen
open Idealize.ShloMosaic Idealize.ShloMosaic.TcCoe
open Idealize.ShloMosaic.Pipeline (Dat Cfg Window)

/-- The matrix's column that column `q` of the result is taken from: the queries', then the indexer's queries'. -/
def srcCol (q : Fin 2560) : Fin 2888 := if h : q.val < 2048 then ⟨q.val, by omega⟩ else ⟨2304 + (q.val - 2048), by omega⟩

/-- The product's column, scaled. -/
def scaledAt (x : S16384x2048.Idx → EReal) (w : S2048x2888.Idx → EReal) (s : S2560.Idx → EReal) (r : Fin 16384) (q : Fin 2560) : EReal :=
  (∑ k : Fin 2048, x (ix2 r k) * w (ix2 k (srcCol q))) * s (ix1 q)

/-- One block from its three operands. -/
theorem pay_apply (x0 : Vec Ideal S512x2048 .bf16) (x1 : Vec Ideal S2048x1280 .bf16) (x2 : Vec Ideal S1x1280 .f32) (p : Fin 512) (q : Fin 1280) :
    k0_pay1 (F := Ideal) x0 x1 x2 (ix2 p q) = (∑ k : Fin 2048, x0 (ix2 p k) * x1 (ix2 k q)) * x2 (ix2 0 q) := by
  pointwise [k0_pay1]

/-- The same where the operands are known to be rows and columns of arrays. -/
theorem pay_of (x0 : Vec Ideal S512x2048 .bf16) (x1 : Vec Ideal S2048x1280 .bf16) (x2 : Vec Ideal S1x1280 .f32)
    (x : S16384x2048.Idx → EReal) (w : S2048x2888.Idx → EReal) (s : S2560.Idx → EReal) (p : Fin 512) (q : Fin 1280) (r : Fin 16384) (q' : Fin 2560)
    (h0 : ∀ k, x0 (ix2 p k) = x (ix2 r k)) (h1 : ∀ k, x1 (ix2 k q) = w (ix2 k (srcCol q'))) (h2 : x2 (ix2 0 q) = s (ix1 q')) :
    k0_pay1 (F := Ideal) x0 x1 x2 (ix2 p q) = scaledAt x w s r q' := by
  refine (pay_apply x0 x1 x2 p q).trans ?_
  unfold scaledAt
  exact congrArg₂ _ (Finset.sum_congr rfl fun k _ => congrArg₂ _ (h0 k) (h1 k)) h2

/-- What the body stores is that block. -/
theorem out_eq (x0 : Vec Ideal S512x2048 .bf16) (x1 : Vec Ideal S2048x1280 .bf16) (x2 : Vec Ideal S1x1280 .f32) : out0_3 (F := Ideal) x0 x1 x2 = k0_pay1 x0 x1 x2 := by
  unfold out0_3
  refine (View.canon_unit_zero (by decide) _ _).trans ?_
  exact congr (congrArg₂ k0_pay1 (View.ld_unit_zero (by decide) _ x0) (View.ld_unit_zero (by decide) _ x1)) (View.ld_unit_zero (by decide) _ x2)

variable (m : (ℓ : Loc nD τ sig) → Buf (Elt Ideal) ℓ)

theorem V_rows (c : Dev nD) : (V m c main_v4 : S16384x2048.Idx → EReal) = m ((c : Thread nD τ).loc main_arg0) := by
  show StableHlo.after _ _ _ = _
  simp only [hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

/-- The columns taken of the matrix, at an index. -/
theorem cols_apply (w : Vec Ideal S2048x2888 .f32) (k : Fin 2048) (q : Fin 2560) :
    concatenate S2048x2560 1 [⟨S2048x2048, extractStridedSlice S2048x2048 ![0, 0] w slices_S2048x2888_S2048x2048_0_0⟩, ⟨S2048x512, extractStridedSlice S2048x512 ![0, 2304] w slices_S2048x2888_S2048x512_0_2304⟩] concatenates_S2048x2048_S2048x512_S2048x2560_d1 (ix2 k q) = w (ix2 k (srcCol q)) := by
  unfold srcCol
  have hq := q.isLt
  by_cases h : q.val < 2048
  · rw [dif_pos h]
    pointwise []
    all_goals (try simp only [h, if_true, dif_pos])
  · rw [dif_neg h]
    pointwise []
    all_goals (try simp only [h, if_false, dif_neg, not_false_iff])

theorem V_cols (c : Dev nD) (k : Fin 2048) (q : Fin 2560) : (V m c main_v3 : S2048x2560.Idx → EReal) (ix2 k q) = (m ((c : Thread nD τ).loc main_arg1) : S2048x2888.Idx → EReal) (ix2 k (srcCol q)) := by
  have e : (V m c main_v3 : S2048x2560.Idx → EReal) = concatenate S2048x2560 1 [⟨S2048x2048, extractStridedSlice S2048x2048 ![0, 0] (m ((c : Thread nD τ).loc main_arg1) : S2048x2888.Idx → EReal) slices_S2048x2888_S2048x2048_0_0⟩, ⟨S2048x512, extractStridedSlice S2048x512 ![0, 2304] (m ((c : Thread nD τ).loc main_arg1) : S2048x2888.Idx → EReal) slices_S2048x2888_S2048x512_0_2304⟩] concatenates_S2048x2048_S2048x512_S2048x2560_d1 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (cols_apply _ k q)

/-- A vector laid out as one row, read at a column. -/
theorem row_apply (v : Vec Ideal S2560 .f32) (q : Fin 2560) : shapeCast S1x2560 v shapeCasts_S2560_S1x2560 (ix2 0 q) = v (ix1 q) := by
  pointwise []

/-- The row of scales that the launch finds. -/
theorem V_scale (c : Dev nD) (q : Fin 2560) : (V m c main_v5 : S1x2560.Idx → EReal) (ix2 0 q) = (m ((c : Thread nD τ).loc main_arg2) : S2560.Idx → EReal) (ix1 q) := by
  have e : (V m c main_v5 : S1x2560.Idx → EReal) = shapeCast S1x2560 (m ((c : Thread nD τ).loc main_arg2) : S2560.Idx → EReal) shapeCasts_S2560_S1x2560 := by
    show StableHlo.after _ _ _ = _
    simp only [hostOps0, List.flatten_cons, List.flatten_nil, List.append_nil, List.cons_append, List.nil_append,
      StableHlo.TRef.unary, StableHlo.TRef.binary, StableHlo.TRef.toBuf, StableHlo.TRef.ofBuf, cast_eq]
    after_results_simp <;> rfl
  exact (congrFun e _).trans (row_apply _ q)

/-- The row of the array at row `p` of point `t`'s block, -/
abbrev outRow (t : Fin cfg0.N) (p : Fin 512) : Fin 16384 := ⟨(grid0.coords t 0).val * 512 + p.val, by have h : (grid0.coords t 0).val < 32 := (grid0.coords t 0).isLt; omega⟩
/-- and the column of the array at column `q`. -/
abbrev outCol (t : Fin cfg0.N) (q : Fin 1280) : Fin 2560 := ⟨(grid0.coords t 1).val * 1280 + q.val, by have h : (grid0.coords t 1).val < 2 := (grid0.coords t 1).isLt; omega⟩

theorem row_word (t : Fin cfg0.N) : (BitVec.ofNat 32 (grid0.coords t 0).val).toNat = (grid0.coords t 0).val := by
  have h : (grid0.coords t 0).val < 32 := (grid0.coords t 0).isLt
  rw [BitVec.toNat_ofNat, Nat.mod_eq_of_lt (by omega)]
theorem col_word (t : Fin cfg0.N) : (BitVec.ofNat 32 (grid0.coords t 1).val).toNat = (grid0.coords t 1).val := by
  have h : (grid0.coords t 1).val < 2 := (grid0.coords t 1).isLt
  rw [BitVec.toNat_ofNat, Nat.mod_eq_of_lt (by omega)]

/-- An index of two axes from its coordinates. -/
theorem idx2_ext {a b : Nat} (i : (⟨2, ![a, b]⟩ : Shape).Idx) (r : Fin a) (k : Fin b) (h0 : (i 0).val = r.val) (h1 : (i 1).val = k.val) :
    i = ix2 r k := funext fun x => Fin.ext (match x with
  | ⟨0, _⟩ => h0
  | ⟨1, _⟩ => h1)

/-- The block of rows that point `t` reads. -/
theorem rows_blk (c : Dev nD) (t : Fin cfg0.N) (p : Fin 512) (k : Fin 2048) :
    (iblk m c 0 t : Vec Ideal S512x2048 .bf16) (ix2 p k) = (m ((c : Thread nD τ).loc main_arg0) : S16384x2048.Idx → EReal) (ix2 (outRow t p) k) := by
  show V m c main_v4 ((((cfg0).win 0).rect t).emb (ix2 p k)) = _
  refine (congrFun (V_rows m c) _).trans ?_
  have e0 : ((((cfg0).win 0).rect t).emb (ix2 p k) (0 : Fin 2) : Nat) = (outRow t p).val :=
    (((cfg0).win 0).rect_emb_val t (ix2 p k) (0 : Fin 2)).trans (by show (BitVec.ofNat 32 (grid0.coords t 0).val).toNat * 512 + p.val = (grid0.coords t 0).val * 512 + p.val; rw [row_word])
  have e1 : ((((cfg0).win 0).rect t).emb (ix2 p k) (1 : Fin 2) : Nat) = k.val :=
    (((cfg0).win 0).rect_emb_val t (ix2 p k) (1 : Fin 2)).trans (by show 0 * 2048 + k.val = k.val; omega)
  exact congrArg _ (idx2_ext _ _ _ e0 e1)

/-- The block of columns. -/
theorem cols_blk (c : Dev nD) (t : Fin cfg0.N) (k : Fin 2048) (q : Fin 1280) :
    (iblk m c 1 t : Vec Ideal S2048x1280 .bf16) (ix2 k q) = (m ((c : Thread nD τ).loc main_arg1) : S2048x2888.Idx → EReal) (ix2 k (srcCol (outCol t q))) := by
  show V m c main_v3 ((((cfg0).win 1).rect t).emb (ix2 k q)) = _
  have e0 : ((((cfg0).win 1).rect t).emb (ix2 k q) (0 : Fin 2) : Nat) = k.val :=
    (((cfg0).win 1).rect_emb_val t (ix2 k q) (0 : Fin 2)).trans (by show 0 * 2048 + k.val = k.val; omega)
  have e1 : ((((cfg0).win 1).rect t).emb (ix2 k q) (1 : Fin 2) : Nat) = (outCol t q).val :=
    (((cfg0).win 1).rect_emb_val t (ix2 k q) (1 : Fin 2)).trans (by show (BitVec.ofNat 32 (grid0.coords t 1).val).toNat * 1280 + q.val = (grid0.coords t 1).val * 1280 + q.val; rw [col_word])
  exact (congrArg (V m c main_v3 : S2048x2560.Idx → EReal) (idx2_ext _ k (outCol t q) e0 e1)).trans (V_cols m c k (outCol t q))

/-- The block of the scale. -/
theorem scale_blk (c : Dev nD) (t : Fin cfg0.N) (q : Fin 1280) :
    (iblk m c 2 t : Vec Ideal S1x1280 .f32) (ix2 0 q) = (m ((c : Thread nD τ).loc main_arg2) : S2560.Idx → EReal) (ix1 (outCol t q)) := by
  show V m c main_v5 ((((cfg0).win 2).rect t).emb (ix2 (0 : Fin 1) q)) = _
  have e0 : ((((cfg0).win 2).rect t).emb (ix2 (0 : Fin 1) q) (0 : Fin 2) : Nat) = (0 : Fin 1).val :=
    (((cfg0).win 2).rect_emb_val t (ix2 (0 : Fin 1) q) (0 : Fin 2)).trans rfl
  have e1 : ((((cfg0).win 2).rect t).emb (ix2 (0 : Fin 1) q) (1 : Fin 2) : Nat) = (outCol t q).val :=
    (((cfg0).win 2).rect_emb_val t (ix2 (0 : Fin 1) q) (1 : Fin 2)).trans (by show (BitVec.ofNat 32 (grid0.coords t 1).val).toNat * 1280 + q.val = (grid0.coords t 1).val * 1280 + q.val; rw [col_word])
  exact (congrArg (V m c main_v5 : S1x2560.Idx → EReal) (idx2_ext _ (0 : Fin 1) (outCol t q) e0 e1)).trans (V_scale m c (outCol t q))

/-- The array the kernel leaves. -/
def result (c : Dev nD) : S16384x2560.Idx → EReal := fun i =>
  scaledAt (m ((c : Thread nD τ).loc main_arg0)) (m ((c : Thread nD τ).loc main_arg1)) (m ((c : Thread nD τ).loc main_arg2)) (i 0) (i 1)

/-- What point `t` stores, at an index of its block. -/
theorem out_apply (c : Dev nD) (t : Fin cfg0.N) (p : Fin 512) (q : Fin 1280) :
    (out0_3 (F := Ideal) (iblk m c 0 t) (iblk m c 1 t) (iblk m c 2 t) : Vec Ideal S512x1280 .bf16) (ix2 p q)
      = scaledAt (m ((c : Thread nD τ).loc main_arg0)) (m ((c : Thread nD τ).loc main_arg1)) (m ((c : Thread nD τ).loc main_arg2)) (outRow t p) (outCol t q) := by
  refine (congrFun (out_eq (iblk m c 0 t) (iblk m c 1 t) (iblk m c 2 t)) _).trans ?_
  exact pay_of (iblk m c 0 t) (iblk m c 1 t) (iblk m c 2 t) _ _ _ p q _ _ (rows_blk m c t p) (fun k => cols_blk m c t k q) (scale_blk m c t q)

/-- What point `t` writes back is its block of that array. -/
theorem flushed_eq (c : Dev nD) (t : Fin cfg0.N) :
    (dats m 0 c).flushed 3 t = ((cfg0.win 3).blk t).view.read (Elt Ideal) (result m c) := by
  rw [Cert.Kernel7Ideal.Value.flushed3]
  funext y
  revert y
  show ∀ y : S512x1280.Idx, (out0_3 (F := Ideal) (iblk m c 0 t) (iblk m c 1 t) (iblk m c 2 t) : Vec Ideal S512x1280 .bf16) y = result m c (((cfg0.win 3).rect t).emb y)
  intro y
  obtain ⟨p, q, rfl⟩ : ∃ (p : Fin 512) (q : Fin 1280), y = ix2 p q := ⟨y 0, y 1, eq_ix2 y⟩
  refine (out_apply m c t p q).trans ?_
  unfold result
  refine congrArg₂ _ (Fin.ext ?_) (Fin.ext ?_)
  · refine Eq.symm (((cfg0.win 3).rect_emb_val t (ix2 p q) (0 : Fin 2)).trans ?_)
    show (BitVec.ofNat 32 (grid0.coords t 0).val).toNat * 512 + p.val = (grid0.coords t 0).val * 512 + p.val
    rw [row_word]
  · refine Eq.symm (((cfg0.win 3).rect_emb_val t (ix2 p q) (1 : Fin 2)).trans ?_)
    show (BitVec.ofNat 32 (grid0.coords t 1).val).toNat * 1280 + q.val = (grid0.coords t 1).val * 1280 + q.val
    rw [col_word]

/-- The blocks tile the array. -/
theorem cover (i : S16384x2560.Idx) : ∃ t : Fin cfg0.N, (cfg0.win 3).flush t = true ∧ i ∈ ((cfg0.win 3).blk t).view.set := by
  have h0 : (i 0).val < 16384 := (i 0).isLt
  have h1 : (i 1).val < 2560 := (i 1).isLt
  obtain ⟨t, ht⟩ := grid0.coords_surjective (fun a => match a with
    | ⟨0, _⟩ => ⟨(i 0).val / 512, by show (i 0).val / 512 < 32; omega⟩
    | ⟨1, _⟩ => ⟨(i 1).val / 1280, by show (i 1).val / 1280 < 2; omega⟩)
  have c0 : (grid0.coords t 0).val = (i 0).val / 512 := congrArg Fin.val (congrFun ht 0)
  have c1 : (grid0.coords t 1).val = (i 1).val / 1280 := congrArg Fin.val (congrFun ht 1)
  refine ⟨t, flush0_3 t, ?_⟩
  show i ∈ ((View.whole main_v6).slice ((cfg0.win 3).rect t)).set
  erw [View.set_slice_whole]
  refine (Pipeline.Window.mem_rect_iff (cfg0.win 3) t i (by rfl)).mpr fun a => ?_
  match a with
  | ⟨0, _⟩ =>
    show (BitVec.ofNat 32 (grid0.coords t 0).val).toNat * 512 ≤ (i 0).val ∧ (i 0).val < (BitVec.ofNat 32 (grid0.coords t 0).val).toNat * 512 + 512
    rw [row_word t, c0]; omega
  | ⟨1, _⟩ =>
    show (BitVec.ofNat 32 (grid0.coords t 1).val).toNat * 1280 ≤ (i 1).val ∧ (i 1).val < (BitVec.ofNat 32 (grid0.coords t 1).val).toNat * 1280 + 1280
    rw [col_word t, c1]; omega

/-- So the array ends holding it. -/
theorem final (c : Dev nD) : (dats m 0 c).arrAt 3 cfg0.N = result m c :=
  (dats m 0 c).arrAt_eq_of_cover 3 (result m c) (fun t _ => flushed_eq m c t) cover

end Cert.Kernel7Ideal.Proj

end
-- ==== Proof.DsaProjClaims.lean ====
/- The second attention's query product: the claims. -/
module

public import proofs.«01_k».proof.Defs
public import proofs.«01_k».proof.Proof.Gen.Kernel7.Frame
public import proofs.«01_k».proof.Proof.Gen.Reference7Ideal.Read
public import proofs.«01_k».proof.Proof.DsaProj

@[expose] public section

set_option maxRecDepth 16384

noncomputable section

namespace Cert.Proof.DsaProj

open Idealize.ShloMosaic Idealize.SL.Sem Cert.Reference7Ideal Cert.Reference7Ideal.Read

theorem frame_kernel : Cert.quiescent_Kernel7 := fun m ρ _ => Cert.Kernel7.Gen.frame m ρ
theorem frame_kernelIdeal : Cert.quiescent_Kernel7Ideal := fun m ρ _ => Cert.Kernel7Ideal.Gen.frame m ρ

/-- The reference ends for every launch memory, with its arguments unchanged and every semaphore at zero. -/
theorem frame_reference : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

/-- The reference's result at an index. -/
theorem ref_apply (x0 : (⟨S16384x2048, .f32⟩ : BufTy).Contents (Elt Ideal)) (x1 : (⟨S2048x2888, .f32⟩ : BufTy).Contents (Elt Ideal)) (x2 : (⟨S2560, .f32⟩ : BufTy).Contents (Elt Ideal)) (r : Fin 16384) (q : Fin 2560) :
    val_main_v7 (F := Ideal) x0 x1 x2 (ix2 r q) = Cert.Kernel7Ideal.Proj.scaledAt x0 x1 x2 r q := by
  have e4 : idx_main_v4 (idx_main_v5 (ix2 r q)) = ix1 q := funext fun a => Fin.ext (match a with | ⟨0, _⟩ => rfl)
  have e3 : val_main_v3 (F := Ideal) x0 x1 (ix2 r q) = val_main_v0 (F := Ideal) x0 x1 (ix2 r (Cert.Kernel7Ideal.Proj.srcCol q)) := by
    unfold Cert.Kernel7Ideal.Proj.srcCol val_main_v3 val_main_v2 val_main_v1
    generalize val_main_v0 (F := Ideal) x0 x1 = y
    by_cases h : q.val < 2048
    · rw [dif_pos h]
      pointwise []
      all_goals (try simp only [h, if_true, dif_pos])
    · rw [dif_neg h]
      pointwise []
      all_goals (try simp only [h, if_false, dif_neg, not_false_iff])
  have el : ∀ k, lidx_main_v0 (ix2 r (Cert.Kernel7Ideal.Proj.srcCol q)) k = ix2 r k := fun k => funext fun a => Fin.ext (match a with | ⟨0, _⟩ => rfl | ⟨1, _⟩ => rfl)
  have er : ∀ k, ridx_main_v0 (ix2 r (Cert.Kernel7Ideal.Proj.srcCol q)) k = ix2 k (Cert.Kernel7Ideal.Proj.srcCol q) := fun k => funext fun a => Fin.ext (match a with | ⟨0, _⟩ => rfl | ⟨1, _⟩ => rfl)
  rw [val_main_v7_apply, val_main_v6_apply, val_main_v5_apply, val_main_v4_apply, e3, e4, val_main_v0_apply]
  simp only [el, er]
  rfl

/-- Both leave the same array. -/
theorem algebraic : Cert.algebraic_Kernel7Ideal_Reference7Ideal := by
  intro m ρ m' ρ' _ hagree
  refine ⟨fun c => Cert.Kernel7Ideal.Proj.result m c,
    (θ_run Cert.Kernel7Ideal.defs _ _).mono (fun _ h c => ⟨((h c).1).trans (Cert.Kernel7Ideal.Proj.final m c), (h c).2⟩) (Cert.Kernel7Ideal.Value.run_blocks (F := Ideal) m ρ),
    (θ_run Cert.Reference7Ideal.defs _ _).mono (fun _ h c => ⟨((h c).1).trans ?_, (h c).2⟩) (Cert.Reference7Ideal.Value.run (F := Ideal) m' ρ')⟩
  rw [Cert.Reference7Ideal.Read.val_main_v7_eq]
  obtain ⟨h0, h1, h2⟩ := hagree c
  funext i
  obtain ⟨r, q, rfl⟩ : ∃ r q, i = ix2 r q := ⟨i 0, i 1, eq_ix2 i⟩
  refine (ref_apply _ _ _ r q).trans ?_
  rw [h0, h1, h2]
  rfl

end Cert.Proof.DsaProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3Ideal.Value
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.On_whole_blocks
public import proofs.«01_k».proof.Proof.UpClaims
public import proofs.«01_k».proof.Proof.DownClaims
public import proofs.«01_k».proof.Proof.DenseUpClaims
public import proofs.«01_k».proof.Proof.DenseDownClaims
public import proofs.«01_k».proof.Proof.DsaLatentClaims
public import proofs.«01_k».proof.Proof.IndexKeyClaims
public import proofs.«01_k».proof.Proof.CompressValuesClaims
public import proofs.«01_k».proof.Proof.GateClaims
public import proofs.«01_k».proof.Proof.CompressClaims
public import proofs.«01_k».proof.Proof.AttnOutClaims
public import proofs.«01_k».proof.Proof.NsaProjClaims
public import proofs.«01_k».proof.Proof.DsaProjClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.On_whole_blocks.Gen.facts,
  Up.frame_kernel, Up.frame_kernelIdeal, Up.frame_reference, Down.frame_kernel, Down.frame_kernelIdeal, Down.frame_reference, DenseUp.frame_kernel, DenseUp.frame_kernelIdeal, DenseUp.frame_reference, DenseDown.frame_kernel, DenseDown.frame_kernelIdeal, DenseDown.frame_reference, AttnOut.frame_kernel, AttnOut.frame_kernelIdeal, AttnOut.frame_reference, NsaProj.frame_kernel, NsaProj.frame_kernelIdeal, NsaProj.frame_reference, DsaProj.frame_kernel, DsaProj.frame_kernelIdeal, DsaProj.frame_reference, DsaLatent.frame_kernel, DsaLatent.frame_kernelIdeal, DsaLatent.frame_reference, IndexKey.frame_kernel, IndexKey.frame_kernelIdeal, IndexKey.frame_reference, Compress.frame_kernel, Compress.frame_kernelIdeal, Compress.frame_reference, CompressValues.frame_kernel, CompressValues.frame_kernelIdeal, CompressValues.frame_reference, Gate.frame_kernel, Gate.frame_kernelIdeal, Gate.frame_reference,
  trivial, Up.algebraic, trivial, Down.algebraic, trivial, DenseUp.algebraic, trivial, DenseDown.algebraic, trivial, AttnOut.algebraic, trivial, NsaProj.algebraic, trivial, DsaProj.algebraic, trivial, DsaLatent.algebraic, trivial, IndexKey.algebraic, trivial, Compress.algebraic, trivial, CompressValues.algebraic, trivial, Gate.algebraic⟩

end Cert.Proof

end
